-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Tail0 (m : (ℓ : Loc Cert.Tail0.nD Cert.Tail0.τ Cert.Tail0.sig) → Buf (Elt Bits) ℓ) : Prop :=
  True

def Pre_Tail0Ideal (m : (ℓ : Loc Cert.Tail0Ideal.nD Cert.Tail0Ideal.τ Cert.Tail0Ideal.sig) → Buf (Elt Ideal) ℓ) : Prop :=
  True

def Pre_TailRef0Ideal (m : (ℓ : Loc Cert.TailRef0Ideal.nD Cert.TailRef0Ideal.τ Cert.TailRef0Ideal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Proj0 (m : (ℓ : Loc Cert.Proj0.nD Cert.Proj0.τ Cert.Proj0.sig) → Buf (Elt Bits) ℓ) : Prop :=
  True

def Pre_Proj0Ideal (m : (ℓ : Loc Cert.Proj0Ideal.nD Cert.Proj0Ideal.τ Cert.Proj0Ideal.sig) → Buf (Elt Ideal) ℓ) : Prop :=
  True

def Pre_ProjRef0Ideal (m : (ℓ : Loc Cert.ProjRef0Ideal.nD Cert.ProjRef0Ideal.τ Cert.ProjRef0Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_Tail0 [hTail0 : Cert.Tail0.Facts] : Prop :=
  ∀ (m : (ℓ : Loc Cert.Tail0.nD Cert.Tail0.τ Cert.Tail0.sig) → Buf (Elt Bits) ℓ) (g : Dev Cert.Tail0.nD → PrngReg), Pre_Tail0 m →
    θ_run (Cert.Tail0.defs (F := Bits)) (onTc (τ := Cert.Tail0.τ) (Cert.Tail0.main (F := Bits))) ⟨m, fun _ => 0, g⟩ (fun r => (∀ c : Dev Cert.Tail0.nD,
      r.2.mem ((c.tc : Thread Cert.Tail0.nD Cert.Tail0.τ).loc Cert.Tail0.main_arg0) = m ((c.tc : Thread Cert.Tail0.nD Cert.Tail0.τ).loc Cert.Tail0.main_arg0)
      ∧ r.2.mem ((c.tc : Thread Cert.Tail0.nD Cert.Tail0.τ).loc Cert.Tail0.main_arg1) = m ((c.tc : Thread Cert.Tail0.nD Cert.Tail0.τ).loc Cert.Tail0.main_arg1)
      ∧ r.2.mem ((c.tc : Thread Cert.Tail0.nD Cert.Tail0.τ).loc Cert.Tail0.main_arg2) = m ((c.tc : Thread Cert.Tail0.nD Cert.Tail0.τ).loc Cert.Tail0.main_arg2)
      ∧ r.2.mem ((c.tc : Thread Cert.Tail0.nD Cert.Tail0.τ).loc Cert.Tail0.main_arg3) = m ((c.tc : Thread Cert.Tail0.nD Cert.Tail0.τ).loc Cert.Tail0.main_arg3)
      ∧ r.2.mem ((c.tc : Thread Cert.Tail0.nD Cert.Tail0.τ).loc Cert.Tail0.main_arg4) = m ((c.tc : Thread Cert.Tail0.nD Cert.Tail0.τ).loc Cert.Tail0.main_arg4)
      ∧ r.2.mem ((c.tc : Thread Cert.Tail0.nD Cert.Tail0.τ).loc Cert.Tail0.main_arg5) = m ((c.tc : Thread Cert.Tail0.nD Cert.Tail0.τ).loc Cert.Tail0.main_arg5)
      ∧ r.2.mem ((c.tc : Thread Cert.Tail0.nD Cert.Tail0.τ).loc Cert.Tail0.main_arg6) = m ((c.tc : Thread Cert.Tail0.nD Cert.Tail0.τ).loc Cert.Tail0.main_arg6)
      ∧ r.2.mem ((c.tc : Thread Cert.Tail0.nD Cert.Tail0.τ).loc Cert.Tail0.main_arg7) = m ((c.tc : Thread Cert.Tail0.nD Cert.Tail0.τ).loc Cert.Tail0.main_arg7)
      ∧ r.2.mem ((c.tc : Thread Cert.Tail0.nD Cert.Tail0.τ).loc Cert.Tail0.main_arg8) = m ((c.tc : Thread Cert.Tail0.nD Cert.Tail0.τ).loc Cert.Tail0.main_arg8))
      ∧ r.2.sem = fun _ => 0)

def quiescent_Tail0Ideal [hTail0Ideal : Cert.Tail0Ideal.Facts] : Prop :=
  ∀ (m : (ℓ : Loc Cert.Tail0Ideal.nD Cert.Tail0Ideal.τ Cert.Tail0Ideal.sig) → Buf (Elt Ideal) ℓ) (g : Dev Cert.Tail0Ideal.nD → PrngReg), Pre_Tail0Ideal m →
    θ_run (Cert.Tail0Ideal.defs (F := Ideal)) (onTc (τ := Cert.Tail0Ideal.τ) (Cert.Tail0Ideal.main (F := Ideal))) ⟨m, fun _ => 0, g⟩ (fun r => (∀ c : Dev Cert.Tail0Ideal.nD,
      r.2.mem ((c.tc : Thread Cert.Tail0Ideal.nD Cert.Tail0Ideal.τ).loc Cert.Tail0Ideal.main_arg0) = m ((c.tc : Thread Cert.Tail0Ideal.nD Cert.Tail0Ideal.τ).loc Cert.Tail0Ideal.main_arg0)
      ∧ r.2.mem ((c.tc : Thread Cert.Tail0Ideal.nD Cert.Tail0Ideal.τ).loc Cert.Tail0Ideal.main_arg1) = m ((c.tc : Thread Cert.Tail0Ideal.nD Cert.Tail0Ideal.τ).loc Cert.Tail0Ideal.main_arg1)
      ∧ r.2.mem ((c.tc : Thread Cert.Tail0Ideal.nD Cert.Tail0Ideal.τ).loc Cert.Tail0Ideal.main_arg2) = m ((c.tc : Thread Cert.Tail0Ideal.nD Cert.Tail0Ideal.τ).loc Cert.Tail0Ideal.main_arg2)
      ∧ r.2.mem ((c.tc : Thread Cert.Tail0Ideal.nD Cert.Tail0Ideal.τ).loc Cert.Tail0Ideal.main_arg3) = m ((c.tc : Thread Cert.Tail0Ideal.nD Cert.Tail0Ideal.τ).loc Cert.Tail0Ideal.main_arg3)
      ∧ r.2.mem ((c.tc : Thread Cert.Tail0Ideal.nD Cert.Tail0Ideal.τ).loc Cert.Tail0Ideal.main_arg4) = m ((c.tc : Thread Cert.Tail0Ideal.nD Cert.Tail0Ideal.τ).loc Cert.Tail0Ideal.main_arg4)
      ∧ r.2.mem ((c.tc : Thread Cert.Tail0Ideal.nD Cert.Tail0Ideal.τ).loc Cert.Tail0Ideal.main_arg5) = m ((c.tc : Thread Cert.Tail0Ideal.nD Cert.Tail0Ideal.τ).loc Cert.Tail0Ideal.main_arg5)
      ∧ r.2.mem ((c.tc : Thread Cert.Tail0Ideal.nD Cert.Tail0Ideal.τ).loc Cert.Tail0Ideal.main_arg6) = m ((c.tc : Thread Cert.Tail0Ideal.nD Cert.Tail0Ideal.τ).loc Cert.Tail0Ideal.main_arg6)
      ∧ r.2.mem ((c.tc : Thread Cert.Tail0Ideal.nD Cert.Tail0Ideal.τ).loc Cert.Tail0Ideal.main_arg7) = m ((c.tc : Thread Cert.Tail0Ideal.nD Cert.Tail0Ideal.τ).loc Cert.Tail0Ideal.main_arg7)
      ∧ r.2.mem ((c.tc : Thread Cert.Tail0Ideal.nD Cert.Tail0Ideal.τ).loc Cert.Tail0Ideal.main_arg8) = m ((c.tc : Thread Cert.Tail0Ideal.nD Cert.Tail0Ideal.τ).loc Cert.Tail0Ideal.main_arg8))
      ∧ r.2.sem = fun _ => 0)

def quiescent_TailRef0Ideal [hTailRef0Ideal : Cert.TailRef0Ideal.Facts] : Prop :=
  ∀ (m : (ℓ : Loc Cert.TailRef0Ideal.nD Cert.TailRef0Ideal.τ Cert.TailRef0Ideal.sig) → Buf (Elt Ideal) ℓ) (g : Dev Cert.TailRef0Ideal.nD → PrngReg), Pre_TailRef0Ideal m →
    θ_run (Cert.TailRef0Ideal.defs (F := Ideal)) (onTc (τ := Cert.TailRef0Ideal.τ) (Cert.TailRef0Ideal.main (F := Ideal))) ⟨m, fun _ => 0, g⟩ (fun r => (∀ c : Dev Cert.TailRef0Ideal.nD,
      r.2.mem ((c.tc : Thread Cert.TailRef0Ideal.nD Cert.TailRef0Ideal.τ).loc Cert.TailRef0Ideal.main_arg0) = m ((c.tc : Thread Cert.TailRef0Ideal.nD Cert.TailRef0Ideal.τ).loc Cert.TailRef0Ideal.main_arg0)
      ∧ r.2.mem ((c.tc : Thread Cert.TailRef0Ideal.nD Cert.TailRef0Ideal.τ).loc Cert.TailRef0Ideal.main_arg1) = m ((c.tc : Thread Cert.TailRef0Ideal.nD Cert.TailRef0Ideal.τ).loc Cert.TailRef0Ideal.main_arg1)
      ∧ r.2.mem ((c.tc : Thread Cert.TailRef0Ideal.nD Cert.TailRef0Ideal.τ).loc Cert.TailRef0Ideal.main_arg2) = m ((c.tc : Thread Cert.TailRef0Ideal.nD Cert.TailRef0Ideal.τ).loc Cert.TailRef0Ideal.main_arg2)
      ∧ r.2.mem ((c.tc : Thread Cert.TailRef0Ideal.nD Cert.TailRef0Ideal.τ).loc Cert.TailRef0Ideal.main_arg3) = m ((c.tc : Thread Cert.TailRef0Ideal.nD Cert.TailRef0Ideal.τ).loc Cert.TailRef0Ideal.main_arg3)
      ∧ r.2.mem ((c.tc : Thread Cert.TailRef0Ideal.nD Cert.TailRef0Ideal.τ).loc Cert.TailRef0Ideal.main_arg4) = m ((c.tc : Thread Cert.TailRef0Ideal.nD Cert.TailRef0Ideal.τ).loc Cert.TailRef0Ideal.main_arg4)
      ∧ r.2.mem ((c.tc : Thread Cert.TailRef0Ideal.nD Cert.TailRef0Ideal.τ).loc Cert.TailRef0Ideal.main_arg5) = m ((c.tc : Thread Cert.TailRef0Ideal.nD Cert.TailRef0Ideal.τ).loc Cert.TailRef0Ideal.main_arg5)
      ∧ r.2.mem ((c.tc : Thread Cert.TailRef0Ideal.nD Cert.TailRef0Ideal.τ).loc Cert.TailRef0Ideal.main_arg6) = m ((c.tc : Thread Cert.TailRef0Ideal.nD Cert.TailRef0Ideal.τ).loc Cert.TailRef0Ideal.main_arg6)
      ∧ r.2.mem ((c.tc : Thread Cert.TailRef0Ideal.nD Cert.TailRef0Ideal.τ).loc Cert.TailRef0Ideal.main_arg7) = m ((c.tc : Thread Cert.TailRef0Ideal.nD Cert.TailRef0Ideal.τ).loc Cert.TailRef0Ideal.main_arg7)
      ∧ r.2.mem ((c.tc : Thread Cert.TailRef0Ideal.nD Cert.TailRef0Ideal.τ).loc Cert.TailRef0Ideal.main_arg8) = m ((c.tc : Thread Cert.TailRef0Ideal.nD Cert.TailRef0Ideal.τ).loc Cert.TailRef0Ideal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Proj0 [hProj0 : Cert.Proj0.Facts] : Prop :=
  ∀ (m : (ℓ : Loc Cert.Proj0.nD Cert.Proj0.τ Cert.Proj0.sig) → Buf (Elt Bits) ℓ) (g : Dev Cert.Proj0.nD → PrngReg), Pre_Proj0 m →
    θ_run (Cert.Proj0.defs (F := Bits)) (onTc (τ := Cert.Proj0.τ) (Cert.Proj0.main (F := Bits))) ⟨m, fun _ => 0, g⟩ (fun r => (∀ c : Dev Cert.Proj0.nD,
      r.2.mem ((c.tc : Thread Cert.Proj0.nD Cert.Proj0.τ).loc Cert.Proj0.main_arg0) = m ((c.tc : Thread Cert.Proj0.nD Cert.Proj0.τ).loc Cert.Proj0.main_arg0)
      ∧ r.2.mem ((c.tc : Thread Cert.Proj0.nD Cert.Proj0.τ).loc Cert.Proj0.main_arg1) = m ((c.tc : Thread Cert.Proj0.nD Cert.Proj0.τ).loc Cert.Proj0.main_arg1)
      ∧ r.2.mem ((c.tc : Thread Cert.Proj0.nD Cert.Proj0.τ).loc Cert.Proj0.main_arg2) = m ((c.tc : Thread Cert.Proj0.nD Cert.Proj0.τ).loc Cert.Proj0.main_arg2)
      ∧ r.2.mem ((c.tc : Thread Cert.Proj0.nD Cert.Proj0.τ).loc Cert.Proj0.main_arg3) = m ((c.tc : Thread Cert.Proj0.nD Cert.Proj0.τ).loc Cert.Proj0.main_arg3))
      ∧ r.2.sem = fun _ => 0)

def quiescent_Proj0Ideal [hProj0Ideal : Cert.Proj0Ideal.Facts] : Prop :=
  ∀ (m : (ℓ : Loc Cert.Proj0Ideal.nD Cert.Proj0Ideal.τ Cert.Proj0Ideal.sig) → Buf (Elt Ideal) ℓ) (g : Dev Cert.Proj0Ideal.nD → PrngReg), Pre_Proj0Ideal m →
    θ_run (Cert.Proj0Ideal.defs (F := Ideal)) (onTc (τ := Cert.Proj0Ideal.τ) (Cert.Proj0Ideal.main (F := Ideal))) ⟨m, fun _ => 0, g⟩ (fun r => (∀ c : Dev Cert.Proj0Ideal.nD,
      r.2.mem ((c.tc : Thread Cert.Proj0Ideal.nD Cert.Proj0Ideal.τ).loc Cert.Proj0Ideal.main_arg0) = m ((c.tc : Thread Cert.Proj0Ideal.nD Cert.Proj0Ideal.τ).loc Cert.Proj0Ideal.main_arg0)
      ∧ r.2.mem ((c.tc : Thread Cert.Proj0Ideal.nD Cert.Proj0Ideal.τ).loc Cert.Proj0Ideal.main_arg1) = m ((c.tc : Thread Cert.Proj0Ideal.nD Cert.Proj0Ideal.τ).loc Cert.Proj0Ideal.main_arg1)
      ∧ r.2.mem ((c.tc : Thread Cert.Proj0Ideal.nD Cert.Proj0Ideal.τ).loc Cert.Proj0Ideal.main_arg2) = m ((c.tc : Thread Cert.Proj0Ideal.nD Cert.Proj0Ideal.τ).loc Cert.Proj0Ideal.main_arg2)
      ∧ r.2.mem ((c.tc : Thread Cert.Proj0Ideal.nD Cert.Proj0Ideal.τ).loc Cert.Proj0Ideal.main_arg3) = m ((c.tc : Thread Cert.Proj0Ideal.nD Cert.Proj0Ideal.τ).loc Cert.Proj0Ideal.main_arg3))
      ∧ r.2.sem = fun _ => 0)

def quiescent_ProjRef0Ideal [hProjRef0Ideal : Cert.ProjRef0Ideal.Facts] : Prop :=
  ∀ (m : (ℓ : Loc Cert.ProjRef0Ideal.nD Cert.ProjRef0Ideal.τ Cert.ProjRef0Ideal.sig) → Buf (Elt Ideal) ℓ) (g : Dev Cert.ProjRef0Ideal.nD → PrngReg), Pre_ProjRef0Ideal m →
    θ_run (Cert.ProjRef0Ideal.defs (F := Ideal)) (onTc (τ := Cert.ProjRef0Ideal.τ) (Cert.ProjRef0Ideal.main (F := Ideal))) ⟨m, fun _ => 0, g⟩ (fun r => (∀ c : Dev Cert.ProjRef0Ideal.nD,
      r.2.mem ((c.tc : Thread Cert.ProjRef0Ideal.nD Cert.ProjRef0Ideal.τ).loc Cert.ProjRef0Ideal.main_arg0) = m ((c.tc : Thread Cert.ProjRef0Ideal.nD Cert.ProjRef0Ideal.τ).loc Cert.ProjRef0Ideal.main_arg0)
      ∧ r.2.mem ((c.tc : Thread Cert.ProjRef0Ideal.nD Cert.ProjRef0Ideal.τ).loc Cert.ProjRef0Ideal.main_arg1) = m ((c.tc : Thread Cert.ProjRef0Ideal.nD Cert.ProjRef0Ideal.τ).loc Cert.ProjRef0Ideal.main_arg1)
      ∧ r.2.mem ((c.tc : Thread Cert.ProjRef0Ideal.nD Cert.ProjRef0Ideal.τ).loc Cert.ProjRef0Ideal.main_arg2) = m ((c.tc : Thread Cert.ProjRef0Ideal.nD Cert.ProjRef0Ideal.τ).loc Cert.ProjRef0Ideal.main_arg2)
      ∧ r.2.mem ((c.tc : Thread Cert.ProjRef0Ideal.nD Cert.ProjRef0Ideal.τ).loc Cert.ProjRef0Ideal.main_arg3) = m ((c.tc : Thread Cert.ProjRef0Ideal.nD Cert.ProjRef0Ideal.τ).loc Cert.ProjRef0Ideal.main_arg3))
      ∧ r.2.sem = fun _ => 0)

def preserves_Kernel_KernelIdeal : Prop :=
  IdealRules.named_const.Statement Cert.KernelIdeal.κ "scale2" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v5)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v5) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v32) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8))

def preserves_Tail0_Tail0Ideal : Prop :=
  True

def algebraic_Tail0Ideal_TailRef0Ideal [hTail0Ideal : Cert.Tail0Ideal.Facts] [hTailRef0Ideal : Cert.TailRef0Ideal.Facts] : Prop :=
  ∀ (m : (ℓ : Loc Cert.Tail0Ideal.nD Cert.Tail0Ideal.τ Cert.Tail0Ideal.sig) → Buf (Elt Ideal) ℓ) (g : Dev Cert.Tail0Ideal.nD → PrngReg)
    (m' : (ℓ : Loc Cert.TailRef0Ideal.nD Cert.TailRef0Ideal.τ Cert.TailRef0Ideal.sig) → Buf (Elt Ideal) ℓ) (g' : Dev Cert.TailRef0Ideal.nD → PrngReg), Pre_Tail0Ideal m →
    (∀ c : Dev Cert.Tail0Ideal.nD,
      m' ((c.tc : Thread Cert.TailRef0Ideal.nD Cert.TailRef0Ideal.τ).loc Cert.TailRef0Ideal.main_arg0) = m ((c.tc : Thread Cert.Tail0Ideal.nD Cert.Tail0Ideal.τ).loc Cert.Tail0Ideal.main_arg0)
      ∧ m' ((c.tc : Thread Cert.TailRef0Ideal.nD Cert.TailRef0Ideal.τ).loc Cert.TailRef0Ideal.main_arg1) = m ((c.tc : Thread Cert.Tail0Ideal.nD Cert.Tail0Ideal.τ).loc Cert.Tail0Ideal.main_arg1)
      ∧ m' ((c.tc : Thread Cert.TailRef0Ideal.nD Cert.TailRef0Ideal.τ).loc Cert.TailRef0Ideal.main_arg2) = m ((c.tc : Thread Cert.Tail0Ideal.nD Cert.Tail0Ideal.τ).loc Cert.Tail0Ideal.main_arg2)
      ∧ m' ((c.tc : Thread Cert.TailRef0Ideal.nD Cert.TailRef0Ideal.τ).loc Cert.TailRef0Ideal.main_arg3) = m ((c.tc : Thread Cert.Tail0Ideal.nD Cert.Tail0Ideal.τ).loc Cert.Tail0Ideal.main_arg3)
      ∧ m' ((c.tc : Thread Cert.TailRef0Ideal.nD Cert.TailRef0Ideal.τ).loc Cert.TailRef0Ideal.main_arg4) = m ((c.tc : Thread Cert.Tail0Ideal.nD Cert.Tail0Ideal.τ).loc Cert.Tail0Ideal.main_arg4)
      ∧ m' ((c.tc : Thread Cert.TailRef0Ideal.nD Cert.TailRef0Ideal.τ).loc Cert.TailRef0Ideal.main_arg5) = m ((c.tc : Thread Cert.Tail0Ideal.nD Cert.Tail0Ideal.τ).loc Cert.Tail0Ideal.main_arg5)
      ∧ m' ((c.tc : Thread Cert.TailRef0Ideal.nD Cert.TailRef0Ideal.τ).loc Cert.TailRef0Ideal.main_arg6) = m ((c.tc : Thread Cert.Tail0Ideal.nD Cert.Tail0Ideal.τ).loc Cert.Tail0Ideal.main_arg6)
      ∧ m' ((c.tc : Thread Cert.TailRef0Ideal.nD Cert.TailRef0Ideal.τ).loc Cert.TailRef0Ideal.main_arg7) = m ((c.tc : Thread Cert.Tail0Ideal.nD Cert.Tail0Ideal.τ).loc Cert.Tail0Ideal.main_arg7)
      ∧ m' ((c.tc : Thread Cert.TailRef0Ideal.nD Cert.TailRef0Ideal.τ).loc Cert.TailRef0Ideal.main_arg8) = m ((c.tc : Thread Cert.Tail0Ideal.nD Cert.Tail0Ideal.τ).loc Cert.Tail0Ideal.main_arg8)) →
    ∃ (v0 : (c : Dev Cert.Tail0Ideal.nD) → Buf (Elt Ideal) ((c.tc : Thread Cert.Tail0Ideal.nD Cert.Tail0Ideal.τ).loc Cert.Tail0Ideal.main_v5)),
      θ_run (Cert.Tail0Ideal.defs (F := Ideal)) (onTc (τ := Cert.Tail0Ideal.τ) (Cert.Tail0Ideal.main (F := Ideal))) ⟨m, fun _ => 0, g⟩ (fun r => ∀ c : Dev Cert.Tail0Ideal.nD,
          r.2.mem ((c.tc : Thread Cert.Tail0Ideal.nD Cert.Tail0Ideal.τ).loc Cert.Tail0Ideal.main_v5) = v0 c
          ∧ r.2.mem ((c.tc : Thread Cert.Tail0Ideal.nD Cert.Tail0Ideal.τ).loc Cert.Tail0Ideal.main_arg0) = m ((c.tc : Thread Cert.Tail0Ideal.nD Cert.Tail0Ideal.τ).loc Cert.Tail0Ideal.main_arg0)
          ∧ r.2.mem ((c.tc : Thread Cert.Tail0Ideal.nD Cert.Tail0Ideal.τ).loc Cert.Tail0Ideal.main_arg1) = m ((c.tc : Thread Cert.Tail0Ideal.nD Cert.Tail0Ideal.τ).loc Cert.Tail0Ideal.main_arg1)
          ∧ r.2.mem ((c.tc : Thread Cert.Tail0Ideal.nD Cert.Tail0Ideal.τ).loc Cert.Tail0Ideal.main_arg2) = m ((c.tc : Thread Cert.Tail0Ideal.nD Cert.Tail0Ideal.τ).loc Cert.Tail0Ideal.main_arg2)
          ∧ r.2.mem ((c.tc : Thread Cert.Tail0Ideal.nD Cert.Tail0Ideal.τ).loc Cert.Tail0Ideal.main_arg3) = m ((c.tc : Thread Cert.Tail0Ideal.nD Cert.Tail0Ideal.τ).loc Cert.Tail0Ideal.main_arg3)
          ∧ r.2.mem ((c.tc : Thread Cert.Tail0Ideal.nD Cert.Tail0Ideal.τ).loc Cert.Tail0Ideal.main_arg4) = m ((c.tc : Thread Cert.Tail0Ideal.nD Cert.Tail0Ideal.τ).loc Cert.Tail0Ideal.main_arg4)
          ∧ r.2.mem ((c.tc : Thread Cert.Tail0Ideal.nD Cert.Tail0Ideal.τ).loc Cert.Tail0Ideal.main_arg5) = m ((c.tc : Thread Cert.Tail0Ideal.nD Cert.Tail0Ideal.τ).loc Cert.Tail0Ideal.main_arg5)
          ∧ r.2.mem ((c.tc : Thread Cert.Tail0Ideal.nD Cert.Tail0Ideal.τ).loc Cert.Tail0Ideal.main_arg6) = m ((c.tc : Thread Cert.Tail0Ideal.nD Cert.Tail0Ideal.τ).loc Cert.Tail0Ideal.main_arg6)
          ∧ r.2.mem ((c.tc : Thread Cert.Tail0Ideal.nD Cert.Tail0Ideal.τ).loc Cert.Tail0Ideal.main_arg7) = m ((c.tc : Thread Cert.Tail0Ideal.nD Cert.Tail0Ideal.τ).loc Cert.Tail0Ideal.main_arg7)
          ∧ r.2.mem ((c.tc : Thread Cert.Tail0Ideal.nD Cert.Tail0Ideal.τ).loc Cert.Tail0Ideal.main_arg8) = m ((c.tc : Thread Cert.Tail0Ideal.nD Cert.Tail0Ideal.τ).loc Cert.Tail0Ideal.main_arg8))
      ∧ θ_run (Cert.TailRef0Ideal.defs (F := Ideal)) (onTc (τ := Cert.TailRef0Ideal.τ) (Cert.TailRef0Ideal.main (F := Ideal))) ⟨m', fun _ => 0, g'⟩ (fun r => ∀ c : Dev Cert.TailRef0Ideal.nD,
          r.2.mem ((c.tc : Thread Cert.TailRef0Ideal.nD Cert.TailRef0Ideal.τ).loc Cert.TailRef0Ideal.main_v32) = v0 c
          ∧ r.2.mem ((c.tc : Thread Cert.TailRef0Ideal.nD Cert.TailRef0Ideal.τ).loc Cert.TailRef0Ideal.main_arg0) = m' ((c.tc : Thread Cert.TailRef0Ideal.nD Cert.TailRef0Ideal.τ).loc Cert.TailRef0Ideal.main_arg0)
          ∧ r.2.mem ((c.tc : Thread Cert.TailRef0Ideal.nD Cert.TailRef0Ideal.τ).loc Cert.TailRef0Ideal.main_arg1) = m' ((c.tc : Thread Cert.TailRef0Ideal.nD Cert.TailRef0Ideal.τ).loc Cert.TailRef0Ideal.main_arg1)
          ∧ r.2.mem ((c.tc : Thread Cert.TailRef0Ideal.nD Cert.TailRef0Ideal.τ).loc Cert.TailRef0Ideal.main_arg2) = m' ((c.tc : Thread Cert.TailRef0Ideal.nD Cert.TailRef0Ideal.τ).loc Cert.TailRef0Ideal.main_arg2)
          ∧ r.2.mem ((c.tc : Thread Cert.TailRef0Ideal.nD Cert.TailRef0Ideal.τ).loc Cert.TailRef0Ideal.main_arg3) = m' ((c.tc : Thread Cert.TailRef0Ideal.nD Cert.TailRef0Ideal.τ).loc Cert.TailRef0Ideal.main_arg3)
          ∧ r.2.mem ((c.tc : Thread Cert.TailRef0Ideal.nD Cert.TailRef0Ideal.τ).loc Cert.TailRef0Ideal.main_arg4) = m' ((c.tc : Thread Cert.TailRef0Ideal.nD Cert.TailRef0Ideal.τ).loc Cert.TailRef0Ideal.main_arg4)
          ∧ r.2.mem ((c.tc : Thread Cert.TailRef0Ideal.nD Cert.TailRef0Ideal.τ).loc Cert.TailRef0Ideal.main_arg5) = m' ((c.tc : Thread Cert.TailRef0Ideal.nD Cert.TailRef0Ideal.τ).loc Cert.TailRef0Ideal.main_arg5)
          ∧ r.2.mem ((c.tc : Thread Cert.TailRef0Ideal.nD Cert.TailRef0Ideal.τ).loc Cert.TailRef0Ideal.main_arg6) = m' ((c.tc : Thread Cert.TailRef0Ideal.nD Cert.TailRef0Ideal.τ).loc Cert.TailRef0Ideal.main_arg6)
          ∧ r.2.mem ((c.tc : Thread Cert.TailRef0Ideal.nD Cert.TailRef0Ideal.τ).loc Cert.TailRef0Ideal.main_arg7) = m' ((c.tc : Thread Cert.TailRef0Ideal.nD Cert.TailRef0Ideal.τ).loc Cert.TailRef0Ideal.main_arg7)
          ∧ r.2.mem ((c.tc : Thread Cert.TailRef0Ideal.nD Cert.TailRef0Ideal.τ).loc Cert.TailRef0Ideal.main_arg8) = m' ((c.tc : Thread Cert.TailRef0Ideal.nD Cert.TailRef0Ideal.τ).loc Cert.TailRef0Ideal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v37_0)) (v1 : (c : Dev Cert.ProjIdeal.nD) → Buf (Elt Ideal) ((c.tc : Thread Cert.ProjIdeal.nD Cert.ProjIdeal.τ).loc Cert.ProjIdeal.main_v37_1)) (v2 : (c : Dev Cert.ProjIdeal.nD) → Buf (Elt Ideal) ((c.tc : Thread Cert.ProjIdeal.nD Cert.ProjIdeal.τ).loc Cert.ProjIdeal.main_v37_2)) (v3 : (c : Dev Cert.ProjIdeal.nD) → Buf (Elt Ideal) ((c.tc : Thread Cert.ProjIdeal.nD Cert.ProjIdeal.τ).loc Cert.ProjIdeal.main_v37_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v37_0) = v0 c
          ∧ r.2.mem ((c.tc : Thread Cert.ProjIdeal.nD Cert.ProjIdeal.τ).loc Cert.ProjIdeal.main_v37_1) = v1 c
          ∧ r.2.mem ((c.tc : Thread Cert.ProjIdeal.nD Cert.ProjIdeal.τ).loc Cert.ProjIdeal.main_v37_2) = v2 c
          ∧ r.2.mem ((c.tc : Thread Cert.ProjIdeal.nD Cert.ProjIdeal.τ).loc Cert.ProjIdeal.main_v37_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v116) = v0 c
          ∧ r.2.mem ((c.tc : Thread Cert.ProjRefIdeal.nD Cert.ProjRefIdeal.τ).loc Cert.ProjRefIdeal.main_v113) = v1 c
          ∧ r.2.mem ((c.tc : Thread Cert.ProjRefIdeal.nD Cert.ProjRefIdeal.τ).loc Cert.ProjRefIdeal.main_v117) = v2 c
          ∧ r.2.mem ((c.tc : Thread Cert.ProjRefIdeal.nD Cert.ProjRefIdeal.τ).loc Cert.ProjRefIdeal.main_v115) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Proj0_Proj0Ideal : Prop :=
  True

def algebraic_Proj0Ideal_ProjRef0Ideal [hProj0Ideal : Cert.Proj0Ideal.Facts] [hProjRef0Ideal : Cert.ProjRef0Ideal.Facts] : Prop :=
  ∀ (m : (ℓ : Loc Cert.Proj0Ideal.nD Cert.Proj0Ideal.τ Cert.Proj0Ideal.sig) → Buf (Elt Ideal) ℓ) (g : Dev Cert.Proj0Ideal.nD → PrngReg)
    (m' : (ℓ : Loc Cert.ProjRef0Ideal.nD Cert.ProjRef0Ideal.τ Cert.ProjRef0Ideal.sig) → Buf (Elt Ideal) ℓ) (g' : Dev Cert.ProjRef0Ideal.nD → PrngReg), Pre_Proj0Ideal m →
    (∀ c : Dev Cert.Proj0Ideal.nD,
      m' ((c.tc : Thread Cert.ProjRef0Ideal.nD Cert.ProjRef0Ideal.τ).loc Cert.ProjRef0Ideal.main_arg0) = m ((c.tc : Thread Cert.Proj0Ideal.nD Cert.Proj0Ideal.τ).loc Cert.Proj0Ideal.main_arg0)
      ∧ m' ((c.tc : Thread Cert.ProjRef0Ideal.nD Cert.ProjRef0Ideal.τ).loc Cert.ProjRef0Ideal.main_arg1) = m ((c.tc : Thread Cert.Proj0Ideal.nD Cert.Proj0Ideal.τ).loc Cert.Proj0Ideal.main_arg1)
      ∧ m' ((c.tc : Thread Cert.ProjRef0Ideal.nD Cert.ProjRef0Ideal.τ).loc Cert.ProjRef0Ideal.main_arg2) = m ((c.tc : Thread Cert.Proj0Ideal.nD Cert.Proj0Ideal.τ).loc Cert.Proj0Ideal.main_arg2)
      ∧ m' ((c.tc : Thread Cert.ProjRef0Ideal.nD Cert.ProjRef0Ideal.τ).loc Cert.ProjRef0Ideal.main_arg3) = m ((c.tc : Thread Cert.Proj0Ideal.nD Cert.Proj0Ideal.τ).loc Cert.Proj0Ideal.main_arg3)) →
    ∃ (v0 : (c : Dev Cert.Proj0Ideal.nD) → Buf (Elt Ideal) ((c.tc : Thread Cert.Proj0Ideal.nD Cert.Proj0Ideal.τ).loc Cert.Proj0Ideal.main_v37_0)) (v1 : (c : Dev Cert.Proj0Ideal.nD) → Buf (Elt Ideal) ((c.tc : Thread Cert.Proj0Ideal.nD Cert.Proj0Ideal.τ).loc Cert.Proj0Ideal.main_v37_1)) (v2 : (c : Dev Cert.Proj0Ideal.nD) → Buf (Elt Ideal) ((c.tc : Thread Cert.Proj0Ideal.nD Cert.Proj0Ideal.τ).loc Cert.Proj0Ideal.main_v37_2)) (v3 : (c : Dev Cert.Proj0Ideal.nD) → Buf (Elt Ideal) ((c.tc : Thread Cert.Proj0Ideal.nD Cert.Proj0Ideal.τ).loc Cert.Proj0Ideal.main_v37_3)),
      θ_run (Cert.Proj0Ideal.defs (F := Ideal)) (onTc (τ := Cert.Proj0Ideal.τ) (Cert.Proj0Ideal.main (F := Ideal))) ⟨m, fun _ => 0, g⟩ (fun r => ∀ c : Dev Cert.Proj0Ideal.nD,
          r.2.mem ((c.tc : Thread Cert.Proj0Ideal.nD Cert.Proj0Ideal.τ).loc Cert.Proj0Ideal.main_v37_0) = v0 c
          ∧ r.2.mem ((c.tc : Thread Cert.Proj0Ideal.nD Cert.Proj0Ideal.τ).loc Cert.Proj0Ideal.main_v37_1) = v1 c
          ∧ r.2.mem ((c.tc : Thread Cert.Proj0Ideal.nD Cert.Proj0Ideal.τ).loc Cert.Proj0Ideal.main_v37_2) = v2 c
          ∧ r.2.mem ((c.tc : Thread Cert.Proj0Ideal.nD Cert.Proj0Ideal.τ).loc Cert.Proj0Ideal.main_v37_3) = v3 c
          ∧ r.2.mem ((c.tc : Thread Cert.Proj0Ideal.nD Cert.Proj0Ideal.τ).loc Cert.Proj0Ideal.main_arg0) = m ((c.tc : Thread Cert.Proj0Ideal.nD Cert.Proj0Ideal.τ).loc Cert.Proj0Ideal.main_arg0)
          ∧ r.2.mem ((c.tc : Thread Cert.Proj0Ideal.nD Cert.Proj0Ideal.τ).loc Cert.Proj0Ideal.main_arg1) = m ((c.tc : Thread Cert.Proj0Ideal.nD Cert.Proj0Ideal.τ).loc Cert.Proj0Ideal.main_arg1)
          ∧ r.2.mem ((c.tc : Thread Cert.Proj0Ideal.nD Cert.Proj0Ideal.τ).loc Cert.Proj0Ideal.main_arg2) = m ((c.tc : Thread Cert.Proj0Ideal.nD Cert.Proj0Ideal.τ).loc Cert.Proj0Ideal.main_arg2)
          ∧ r.2.mem ((c.tc : Thread Cert.Proj0Ideal.nD Cert.Proj0Ideal.τ).loc Cert.Proj0Ideal.main_arg3) = m ((c.tc : Thread Cert.Proj0Ideal.nD Cert.Proj0Ideal.τ).loc Cert.Proj0Ideal.main_arg3))
      ∧ θ_run (Cert.ProjRef0Ideal.defs (F := Ideal)) (onTc (τ := Cert.ProjRef0Ideal.τ) (Cert.ProjRef0Ideal.main (F := Ideal))) ⟨m', fun _ => 0, g'⟩ (fun r => ∀ c : Dev Cert.ProjRef0Ideal.nD,
          r.2.mem ((c.tc : Thread Cert.ProjRef0Ideal.nD Cert.ProjRef0Ideal.τ).loc Cert.ProjRef0Ideal.main_v116) = v0 c
          ∧ r.2.mem ((c.tc : Thread Cert.ProjRef0Ideal.nD Cert.ProjRef0Ideal.τ).loc Cert.ProjRef0Ideal.main_v113) = v1 c
          ∧ r.2.mem ((c.tc : Thread Cert.ProjRef0Ideal.nD Cert.ProjRef0Ideal.τ).loc Cert.ProjRef0Ideal.main_v117) = v2 c
          ∧ r.2.mem ((c.tc : Thread Cert.ProjRef0Ideal.nD Cert.ProjRef0Ideal.τ).loc Cert.ProjRef0Ideal.main_v115) = v3 c
          ∧ r.2.mem ((c.tc : Thread Cert.ProjRef0Ideal.nD Cert.ProjRef0Ideal.τ).loc Cert.ProjRef0Ideal.main_arg0) = m' ((c.tc : Thread Cert.ProjRef0Ideal.nD Cert.ProjRef0Ideal.τ).loc Cert.ProjRef0Ideal.main_arg0)
          ∧ r.2.mem ((c.tc : Thread Cert.ProjRef0Ideal.nD Cert.ProjRef0Ideal.τ).loc Cert.ProjRef0Ideal.main_arg1) = m' ((c.tc : Thread Cert.ProjRef0Ideal.nD Cert.ProjRef0Ideal.τ).loc Cert.ProjRef0Ideal.main_arg1)
          ∧ r.2.mem ((c.tc : Thread Cert.ProjRef0Ideal.nD Cert.ProjRef0Ideal.τ).loc Cert.ProjRef0Ideal.main_arg2) = m' ((c.tc : Thread Cert.ProjRef0Ideal.nD Cert.ProjRef0Ideal.τ).loc Cert.ProjRef0Ideal.main_arg2)
          ∧ r.2.mem ((c.tc : Thread Cert.ProjRef0Ideal.nD Cert.ProjRef0Ideal.τ).loc Cert.ProjRef0Ideal.main_arg3) = m' ((c.tc : Thread Cert.ProjRef0Ideal.nD Cert.ProjRef0Ideal.τ).loc Cert.ProjRef0Ideal.main_arg3))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailRefIdeal : Cert.TailRefIdeal.Facts) (hTail0 : Cert.Tail0.Facts) (hTail0Ideal : Cert.Tail0Ideal.Facts) (hTailRef0Ideal : Cert.TailRef0Ideal.Facts) (hProj : Cert.Proj.Facts) (hProjIdeal : Cert.ProjIdeal.Facts) (hProjRefIdeal : Cert.ProjRefIdeal.Facts) (hProj0 : Cert.Proj0.Facts) (hProj0Ideal : Cert.Proj0Ideal.Facts) (hProjRef0Ideal : Cert.ProjRef0Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Tail (hTail := hTail)
    ∧ quiescent_TailIdeal (hTailIdeal := hTailIdeal)
    ∧ quiescent_TailRefIdeal (hTailRefIdeal := hTailRefIdeal)
    ∧ quiescent_Tail0 (hTail0 := hTail0)
    ∧ quiescent_Tail0Ideal (hTail0Ideal := hTail0Ideal)
    ∧ quiescent_TailRef0Ideal (hTailRef0Ideal := hTailRef0Ideal)
    ∧ quiescent_Proj (hProj := hProj)
    ∧ quiescent_ProjIdeal (hProjIdeal := hProjIdeal)
    ∧ quiescent_ProjRefIdeal (hProjRefIdeal := hProjRefIdeal)
    ∧ quiescent_Proj0 (hProj0 := hProj0)
    ∧ quiescent_Proj0Ideal (hProj0Ideal := hProj0Ideal)
    ∧ quiescent_ProjRef0Ideal (hProjRef0Ideal := hProjRef0Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Tail_TailIdeal
    ∧ algebraic_TailIdeal_TailRefIdeal (hTailIdeal := hTailIdeal) (hTailRefIdeal := hTailRefIdeal)
    ∧ preserves_Tail0_Tail0Ideal
    ∧ algebraic_Tail0Ideal_TailRef0Ideal (hTail0Ideal := hTail0Ideal) (hTailRef0Ideal := hTailRef0Ideal)
    ∧ preserves_Proj_ProjIdeal
    ∧ algebraic_ProjIdeal_ProjRefIdeal (hProjIdeal := hProjIdeal) (hProjRefIdeal := hProjRefIdeal)
    ∧ preserves_Proj0_Proj0Ideal
    ∧ algebraic_Proj0Ideal_ProjRef0Ideal (hProj0Ideal := hProj0Ideal) (hProjRef0Ideal := hProjRef0Ideal)
-- ==== Pre_finite_logits.lean ====
abbrev S2x16384x4608 : Shape := ⟨3, ![2, 16384, 4608]⟩
abbrev S4x257 : Shape := ⟨2, ![4, 257]⟩
abbrev S2x16384x1536 : Shape := ⟨3, ![2, 16384, 1536]⟩
abbrev S2x16384x1024 : Shape := ⟨3, ![2, 16384, 1024]⟩
abbrev S_ : Shape := ⟨0, ![]⟩

class Facts : Prop where
  slices_S2x16384x4608_S2x16384x1024_0_0_1536 : S2x16384x4608.Slices ![0, 0, 1536] S2x16384x1024
  bitsLt_bf16_f32 : FTy.bits .bf16 < FTy.bits .f32
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S4x257 : S_.BroadcastsInDim S4x257 (![] : Fin 0 → Fin S4x257.rank)
  reducesTo_S4x257_S_d0_1 : S4x257.ReducesTo [0, 1] S_

variable [Facts]

def fn {F : FTy → Type} [FloatOps F] (main_arg0 : FVec F S2x16384x4608 .bf16) (main_arg1 : FVec F S4x257 .f32) (main_arg2 : FVec F S2x16384x1536 .f32) : IVec S_ 1 :=
  let main_v0 : FVec F S2x16384x1024 .bf16 := (extractStridedSlice S2x16384x1024 ![0, 0, 1536] · slices_S2x16384x4608_S2x16384x1024_0_0_1536) main_arg0
  let main_v1 : FVec F S2x16384x1024 .f32 := (extf .f32 · bitsLt_bf16_f32) main_v0
  let main_v2 : FVec F S2x16384x1024 .f32 := Host.absf main_v1
  let main_cst : FVec F S_ .f32 := constant S_ .f32 0x7F800000#32
  let main_v3 : FVec F S2x16384x1024 .f32 := broadcastInDim S2x16384x1024 ![] bcast_S_S2x16384x1024 main_cst
  let main_v4 : IVec S2x16384x1024 1 := cmpf .olt main_v2 main_v3
  let main_c : IVec S_ 1 := constantI S_ 1 1#1
  let main_v5 : IVec S_ 1 := (fun x v => Host.reduce IntOp.andi x v reducesTo_S2x16384x1024_S_d0_1_2 h_S_) main_v4 main_c
  let main_v6 : FVec F S4x257 .f32 := Host.absf main_arg1
  let main_cst_0 : FVec F S_ .f32 := constant S_ .f32 0x7F800000#32
  let main_v7 : FVec F S4x257 .f32 := broadcastInDim S4x257 ![] bcast_S_S4x257 main_cst_0
  let main_v8 : IVec S4x257 1 := cmpf .olt main_v6 main_v7
  let main_c_1 : IVec S_ 1 := constantI S_ 1 1#1
  let main_v9 : IVec S_ 1 := (fun x v => Host.reduce IntOp.andi x v reducesTo_S4x257_S_d0_1 h_S_) main_v8 main_c_1
  let main_v10 : IVec S_ 1 := andi main_v5 main_v9
  main_v10
-- ==== Kernel.lean ====
abbrev S2x16384x4608 : Shape := ⟨3, ![2, 16384, 4608]⟩
abbrev S4x257 : Shape := ⟨2, ![4, 257]⟩
abbrev S2x16384x1536 : Shape := ⟨3, ![2, 16384, 1536]⟩
abbrev S4x192 : Shape := ⟨2, ![4, 192]⟩
abbrev S4x1 : Shape := ⟨2, ![4, 1]⟩
abbrev S4x447 : Shape := ⟨2, ![4, 447]⟩
abbrev S4x639 : Shape := ⟨2, ![4, 639]⟩
abbrev S4x576 : Shape := ⟨2, ![4, 576]⟩
abbrev S4x1x576 : Shape := ⟨3, ![4, 1, 576]⟩
abbrev S4x16x576 : Shape := ⟨3, ![4, 16, 576]⟩
abbrev S4x64x576 : Shape := ⟨3, ![4, 64, 576]⟩
abbrev S_ : Shape := ⟨0, ![]⟩
abbrev S4x64x1024 : Shape := ⟨3, ![4, 64, 1024]⟩
abbrev S4x512x1024 : Shape := ⟨3, ![4, 512, 1024]⟩
abbrev S2x16384x512 : Shape := ⟨3, ![2, 16384, 512]⟩
abbrev S1x2048x128 : Shape := ⟨3, ![1, 2048, 128]⟩
abbrev S1x512x128 : Shape := ⟨3, ![1, 512, 128]⟩
abbrev S1x512x1024 : Shape := ⟨3, ![1, 512, 1024]⟩
abbrev S1x256x128 : Shape := ⟨3, ![1, 256, 128]⟩
abbrev S256x128 : Shape := ⟨2, ![256, 128]⟩
abbrev S512x128 : Shape := ⟨2, ![512, 128]⟩
abbrev S256x512 : Shape := ⟨2, ![256, 512]⟩
abbrev S1x256x512 : Shape := ⟨3, ![1, 256, 512]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 167
  | .vmem => 16
  | .smem => 0
  | _ => 0

abbrev hbmTy0_0 (i : Nat) : BufTy := match i % 128 with
  | 0 => ⟨S2x16384x4608, .bf16⟩
  | 1 => ⟨S4x257, .f32⟩
  | 2 => ⟨S2x16384x1536, .f32⟩
  | 3 => ⟨S4x192, .f32⟩
  | 4 => ⟨S4x1, .f32⟩
  | 5 => ⟨S4x447, .f32⟩
  | 6 => ⟨S4x639, .f32⟩
  | 7 => ⟨S4x639, .f32⟩
  | 8 => ⟨S4x576, .f32⟩
  | 9 => ⟨S4x576, .f32⟩
  | 10 => ⟨S4x576, .f32⟩
  | 11 => ⟨S4x576, .f32⟩
  | 12 => ⟨S4x576, .f32⟩
  | 13 => ⟨S4x576, .f32⟩
  | 14 => ⟨S4x576, .f32⟩
  | 15 => ⟨S4x576, .f32⟩
  | 16 => ⟨S4x576, .f32⟩
  | 17 => ⟨S4x576, .f32⟩
  | 18 => ⟨S4x576, .f32⟩
  | 19 => ⟨S4x576, .f32⟩
  | 20 => ⟨S4x576, .f32⟩
  | 21 => ⟨S4x576, .f32⟩
  | 22 => ⟨S4x576, .f32⟩
  | 23 => ⟨S4x576, .f32⟩
  | 24 => ⟨S4x576, .f32⟩
  | 25 => ⟨S4x576, .f32⟩
  | 26 => ⟨S4x576, .f32⟩
  | 27 => ⟨S4x576, .f32⟩
  | 28 => ⟨S4x576, .f32⟩
  | 29 => ⟨S4x576, .f32⟩
  | 30 => ⟨S4x576, .f32⟩
  | 31 => ⟨S4x576, .f32⟩
  | 32 => ⟨S4x576, .f32⟩
  | 33 => ⟨S4x576, .f32⟩
  | 34 => ⟨S4x576, .f32⟩
  | 35 => ⟨S4x576, .f32⟩
  | 36 => ⟨S4x576, .f32⟩
  | 37 => ⟨S4x576, .f32⟩
  | 38 => ⟨S4x576, .f32⟩
  | 39 => ⟨S4x576, .f32⟩
  | 40 => ⟨S4x576, .f32⟩
  | 41 => ⟨S4x576, .f32⟩
  | 42 => ⟨S4x576, .f32⟩
  | 43 => ⟨S4x576, .f32⟩
  | 44 => ⟨S4x576, .f32⟩
  | 45 => ⟨S4x576, .f32⟩
  | 46 => ⟨S4x576, .f32⟩
  | 47 => ⟨S4x576, .f32⟩
  | 48 => ⟨S4x576, .f32⟩
  | 49 => ⟨S4x576, .f32⟩
  | 50 => ⟨S4x576, .f32⟩
  | 51 => ⟨S4x576, .f32⟩
  | 52 => ⟨S4x576, .f32⟩
  | 53 => ⟨S4x576, .f32⟩
  | 54 => ⟨S4x576, .f32⟩
  | 55 => ⟨S4x576, .f32⟩
  | 56 => ⟨S4x576, .f32⟩
  | 57 => ⟨S4x576, .f32⟩
  | 58 => ⟨S4x576, .f32⟩
  | 59 => ⟨S4x576, .f32⟩
  | 60 => ⟨S4x576, .f32⟩
  | 61 => ⟨S4x576, .f32⟩
  | 62 => ⟨S4x576, .f32⟩
  | 63 => ⟨S4x576, .f32⟩
  | 64 => ⟨S4x576, .f32⟩
  | 65 => ⟨S4x576, .f32⟩
  | 66 => ⟨S4x576, .f32⟩
  | 67 => ⟨S4x576, .f32⟩
  | 68 => ⟨S4x576, .f32⟩
  | 69 => ⟨S4x576, .f32⟩
  | 70 => ⟨S4x576, .f32⟩
  | 71 => ⟨S4x576, .f32⟩
  | 72 => ⟨S4x1x576, .f32⟩
  | 73 => ⟨S4x1x576, .f32⟩
  | 74 => ⟨S4x1x576, .f32⟩
  | 75 => ⟨S4x1x576, .f32⟩
  | 76 => ⟨S4x1x576, .f32⟩
  | 77 => ⟨S4x1x576, .f32⟩
  | 78 => ⟨S4x1x576, .f32⟩
  | 79 => ⟨S4x1x576, .f32⟩
  | 80 => ⟨S4x1x576, .f32⟩
  | 81 => ⟨S4x1x576, .f32⟩
  | 82 => ⟨S4x1x576, .f32⟩
  | 83 => ⟨S4x1x576, .f32⟩
  | 84 => ⟨S4x1x576, .f32⟩
  | 85 => ⟨S4x1x576, .f32⟩
  | 86 => ⟨S4x1x576, .f32⟩
  | 87 => ⟨S4x1x576, .f32⟩
  | 88 => ⟨S4x1x576, .f32⟩
  | 89 => ⟨S4x1x576, .f32⟩
  | 90 => ⟨S4x1x576, .f32⟩
  | 91 => ⟨S4x1x576, .f32⟩
  | 92 => ⟨S4x1x576, .f32⟩
  | 93 => ⟨S4x1x576, .f32⟩
  | 94 => ⟨S4x1x576, .f32⟩
  | 95 => ⟨S4x1x576, .f32⟩
  | 96 => ⟨S4x1x576, .f32⟩
  | 97 => ⟨S4x1x576, .f32⟩
  | 98 => ⟨S4x1x576, .f32⟩
  | 99 => ⟨S4x1x576, .f32⟩
  | 100 => ⟨S4x1x576, .f32⟩
  | 101 => ⟨S4x1x576, .f32⟩
  | 102 => ⟨S4x1x576, .f32⟩
  | 103 => ⟨S4x1x576, .f32⟩
  | 104 => ⟨S4x1x576, .f32⟩
  | 105 => ⟨S4x1x576, .f32⟩
  | 106 => ⟨S4x1x576, .f32⟩
  | 107 => ⟨S4x1x576, .f32⟩
  | 108 => ⟨S4x1x576, .f32⟩
  | 109 => ⟨S4x1x576, .f32⟩
  | 110 => ⟨S4x1x576, .f32⟩
  | 111 => ⟨S4x1x576, .f32⟩
  | 112 => ⟨S4x1x576, .f32⟩
  | 113 => ⟨S4x1x576, .f32⟩
  | 114 => ⟨S4x1x576, .f32⟩
  | 115 => ⟨S4x1x576, .f32⟩
  | 116 => ⟨S4x1x576, .f32⟩
  | 117 => ⟨S4x1x576, .f32⟩
  | 118 => ⟨S4x1x576, .f32⟩
  | 119 => ⟨S4x1x576, .f32⟩
  | 120 => ⟨S4x1x576, .f32⟩
  | 121 => ⟨S4x1x576, .f32⟩
  | 122 => ⟨S4x1x576, .f32⟩
  | 123 => ⟨S4x1x576, .f32⟩
  | 124 => ⟨S4x1x576, .f32⟩
  | 125 => ⟨S4x1x576, .f32⟩
  | 126 => ⟨S4x1x576, .f32⟩
  | 127 => ⟨S4x1x576, .f32⟩
  | _ => ⟨S2x16384x4608, .bf16⟩

abbrev hbmTy0_1 (i : Nat) : BufTy := match i % 128 with
  | 0 => ⟨S4x1x576, .f32⟩
  | 1 => ⟨S4x1x576, .f32⟩
  | 2 => ⟨S4x1x576, .f32⟩
  | 3 => ⟨S4x1x576, .f32⟩
  | 4 => ⟨S4x1x576, .f32⟩
  | 5 => ⟨S4x1x576, .f32⟩
  | 6 => ⟨S4x1x576, .f32⟩
  | 7 => ⟨S4x1x576, .f32⟩
  | 8 => ⟨S4x16x576, .f32⟩
  | 9 => ⟨S4x16x576, .f32⟩
  | 10 => ⟨S4x16x576, .f32⟩
  | 11 => ⟨S4x16x576, .f32⟩
  | 12 => ⟨S4x64x576, .f32⟩
  | 13 => ⟨S_, .f32⟩
  | 14 => ⟨S_, .f32⟩
  | 15 => ⟨S4x64x1024, .f32⟩
  | 16 => ⟨S_, .f32⟩
  | 17 => ⟨S_, .f32⟩
  | 18 => ⟨S4x64x1024, .f32⟩
  | 19 => ⟨S_, .f32⟩
  | 20 => ⟨S_, .f32⟩
  | 21 => ⟨S4x64x1024, .f32⟩
  | 22 => ⟨S_, .f32⟩
  | 23 => ⟨S_, .f32⟩
  | 24 => ⟨S4x64x1024, .f32⟩
  | 25 => ⟨S_, .f32⟩
  | 26 => ⟨S_, .f32⟩
  | 27 => ⟨S4x64x1024, .f32⟩
  | 28 => ⟨S_, .f32⟩
  | 29 => ⟨S_, .f32⟩
  | 30 => ⟨S4x64x1024, .f32⟩
  | 31 => ⟨S_, .f32⟩
  | 32 => ⟨S_, .f32⟩
  | 33 => ⟨S4x64x1024, .f32⟩
  | 34 => ⟨S_, .f32⟩
  | 35 => ⟨S_, .f32⟩
  | 36 => ⟨S4x64x1024, .f32⟩
  | 37 => ⟨S4x512x1024, .f32⟩
  | 38 => ⟨S2x16384x512, .bf16⟩
  | _ => ⟨S2x16384x4608, .bf16⟩

abbrev hbmTy (i : Nat) : BufTy := match i / 128 with
  | 0 => hbmTy0_0 i
  | 1 => hbmTy0_1 i
  | _ => ⟨S2x16384x4608, .bf16⟩

abbrev bufTy : (tb : Table) → Fin (tcTables nBuf tb) → BufTy
  | .hbm, ⟨i, _⟩ => hbmTy i
  | .local _ .vmem, ⟨0, _⟩ => ⟨S1x2048x128, .bf16⟩
  | .local _ .vmem, ⟨1, _⟩ => ⟨S1x2048x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x512x1024, .f32⟩
  | .local _ .vmem, ⟨11, _⟩ => ⟨S1x512x1024, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .bf16⟩
  | .local _ .vmem, ⟨15, _⟩ => ⟨S1x2048x128, .bf16⟩
  | _, _ => ⟨S2x16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_cst : Ref sig .tc := ⟨.hbm, 141, rfl⟩
abbrev main_call0_v0 : Ref sig .tc := ⟨.hbm, 142, rfl⟩
abbrev main_v138 : Ref sig .tc := ⟨.hbm, 143, rfl⟩
abbrev main_cst_0 : Ref sig .tc := ⟨.hbm, 144, rfl⟩
abbrev main_call1_v0 : Ref sig .tc := ⟨.hbm, 145, rfl⟩
abbrev main_v139 : Ref sig .tc := ⟨.hbm, 146, rfl⟩
abbrev main_cst_1 : Ref sig .tc := ⟨.hbm, 147, rfl⟩
abbrev main_call2_v0 : Ref sig .tc := ⟨.hbm, 148, rfl⟩
abbrev main_v140 : Ref sig .tc := ⟨.hbm, 149, rfl⟩
abbrev main_cst_2 : Ref sig .tc := ⟨.hbm, 150, rfl⟩
abbrev main_call3_v0 : Ref sig .tc := ⟨.hbm, 151, rfl⟩
abbrev main_v141 : Ref sig .tc := ⟨.hbm, 152, rfl⟩
abbrev main_cst_3 : Ref sig .tc := ⟨.hbm, 153, rfl⟩
abbrev main_call4_v0 : Ref sig .tc := ⟨.hbm, 154, rfl⟩
abbrev main_v142 : Ref sig .tc := ⟨.hbm, 155, rfl⟩
abbrev main_cst_4 : Ref sig .tc := ⟨.hbm, 156, rfl⟩
abbrev main_call5_v0 : Ref sig .tc := ⟨.hbm, 157, rfl⟩
abbrev main_v143 : Ref sig .tc := ⟨.hbm, 158, rfl⟩
abbrev main_cst_5 : Ref sig .tc := ⟨.hbm, 159, rfl⟩
abbrev main_call6_v0 : Ref sig .tc := ⟨.hbm, 160, rfl⟩
abbrev main_v144 : Ref sig .tc := ⟨.hbm, 161, rfl⟩
abbrev main_cst_6 : Ref sig .tc := ⟨.hbm, 162, rfl⟩
abbrev main_call7_v0 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi c16_i32 arg1
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let v3 : BitVec 32 := Scalar.addi c20_i32 arg1
  let c0_i32_0 : BitVec 32 := 0#32
  ![arg0.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "scale2" => some (((Real.sqrt 128)⁻¹ * (Real.log 2)⁻¹ : ℝ) : EReal)
  | _ => none
-- ==== ReferenceIdeal.lean ====
abbrev S2x16384x4608 : Shape := ⟨3, ![2, 16384, 4608]⟩
abbrev S4x257 : Shape := ⟨2, ![4, 257]⟩
abbrev S2x16384x1536 : Shape := ⟨3, ![2, 16384, 1536]⟩
abbrev S2x16384x3x3x512 : Shape := ⟨5, ![2, 16384, 3, 3, 512]⟩
abbrev S2x16384x3x512 : Shape := ⟨4, ![2, 16384, 3, 512]⟩
abbrev S2x16384x1x512 : Shape := ⟨4, ![2, 16384, 1, 512]⟩
abbrev S2x16384x512 : Shape := ⟨3, ![2, 16384, 512]⟩
abbrev S2x16384x1x1x512 : Shape := ⟨5, ![2, 16384, 1, 1, 512]⟩
abbrev S2x16384x4x128 : Shape := ⟨4, ![2, 16384, 4, 128]⟩
abbrev S2x4x16384x128 : Shape := ⟨4, ![2, 4, 16384, 128]⟩
abbrev S_ : Shape := ⟨0, ![]⟩
abbrev S2x4x16896x128 : Shape := ⟨4, ![2, 4, 16896, 128]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S4x64x576 : Shape := ⟨3, ![4, 64, 576]⟩
abbrev S256 : Shape := ⟨1, ![256]⟩
abbrev S256x1 : Shape := ⟨2, ![256, 1]⟩
abbrev S256x576 : Shape := ⟨2, ![256, 576]⟩
abbrev S256x576x1 : Shape := ⟨3, ![256, 576, 1]⟩
abbrev S2x4x256x576x128 : Shape := ⟨5, ![2, 4, 256, 576, 128]⟩
abbrev S2x4x256x64x128 : Shape := ⟨5, ![2, 4, 256, 64, 128]⟩
abbrev S2x4x256x64x576 : Shape := ⟨5, ![2, 4, 256, 64, 576]⟩
abbrev S1x4x1x64x576 : Shape := ⟨5, ![1, 4, 1, 64, 576]⟩
abbrev S1x1x256x1x576 : Shape := ⟨5, ![1, 1, 256, 1, 576]⟩
abbrev S2x4x256x64 : Shape := ⟨4, ![2, 4, 256, 64]⟩
abbrev S2x4x256x64x1 : Shape := ⟨5, ![2, 4, 256, 64, 1]⟩

abbrev nBuf : Space → Nat
  | .hbm => 103
  | .vmem => 0
  | .smem => 0
  | _ => 0

abbrev bufTy : (tb : Table) → Fin (tcTables nBuf tb) → BufTy
  | .hbm, ⟨0, _⟩ => ⟨S2x16384x4608, .bf16⟩
  | .hbm, ⟨1, _⟩ => ⟨S4x257, .f32⟩
  | .hbm, ⟨2, _⟩ => ⟨S2x16384x1536, .f32⟩
  | .hbm, ⟨3, _⟩ => ⟨S2x16384x4608, .f32⟩
  | .hbm, ⟨4, _⟩ => ⟨S2x16384x3x3x512, .f32⟩
  | .hbm, ⟨5, _⟩ => ⟨S2x16384x3x512, .f32⟩
  | .hbm, ⟨6, _⟩ => ⟨S2x16384x1x512, .f32⟩
  | .hbm, ⟨7, _⟩ => ⟨S2x16384x512, .f32⟩
  | .hbm, ⟨8, _⟩ => ⟨S2x16384x1x1x512, .f32⟩
  | .hbm, ⟨9, _⟩ => ⟨S2x16384x512, .f32⟩
  | .hbm, ⟨10, _⟩ => ⟨S2x16384x4x128, .f32⟩
  | .hbm, ⟨11, _⟩ => ⟨S2x4x16384x128, .f32⟩
  | .hbm, ⟨12, _⟩ => ⟨S2x16384x1x1x512, .f32⟩
  | .hbm, ⟨13, _⟩ => ⟨S2x16384x512, .f32⟩
  | .hbm, ⟨14, _⟩ => ⟨S2x16384x4x128, .f32⟩
  | .hbm, ⟨15, _⟩ => ⟨S2x4x16384x128, .f32⟩
  | .hbm, ⟨16, _⟩ => ⟨S2x16384x1x1x512, .f32⟩
  | .hbm, ⟨17, _⟩ => ⟨S2x16384x512, .f32⟩
  | .hbm, ⟨18, _⟩ => ⟨S2x16384x4x128, .f32⟩
  | .hbm, ⟨19, _⟩ => ⟨S2x4x16384x128, .f32⟩
  | .hbm, ⟨20, _⟩ => ⟨S_, .i32⟩
  | .hbm, ⟨21, _⟩ => ⟨S_, .f32⟩
  | .hbm, ⟨22, _⟩ => ⟨S2x4x16896x128, .f32⟩
  | .hbm, ⟨23, _⟩ => ⟨S_, .i32⟩
  | .hbm, ⟨24, _⟩ => ⟨S_, .f32⟩
  | .hbm, ⟨25, _⟩ => ⟨S2x4x16896x128, .f32⟩
  | .hbm, ⟨26, _⟩ => ⟨S64, .i32⟩
  | .hbm, ⟨27, _⟩ => ⟨S576, .i32⟩
  | .hbm, ⟨28, _⟩ => ⟨S64x1, .i32⟩
  | .hbm, ⟨29, _⟩ => ⟨S_, .i32⟩
  | .hbm, ⟨30, _⟩ => ⟨S64x1, .i32⟩
  | .hbm, ⟨31, _⟩ => ⟨S64x1, .i32⟩
  | .hbm, ⟨32, _⟩ => ⟨S1x576, .i32⟩
  | .hbm, ⟨33, _⟩ => ⟨S64x576, .i32⟩
  | .hbm, ⟨34, _⟩ => ⟨S64x576, .i32⟩
  | .hbm, ⟨35, _⟩ => ⟨S64x576, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S64x576, .i32⟩
  | .hbm, ⟨40, _⟩ => ⟨S64x576, .i32⟩
  | .hbm, ⟨41, _⟩ => ⟨S_, .i32⟩
  | .hbm, ⟨42, _⟩ => ⟨S64x576, .i32⟩
  | .hbm, ⟨43, _⟩ => ⟨S64x576, .i32⟩
  | .hbm, ⟨44, _⟩ => ⟨S_, .i32⟩
  | .hbm, ⟨45, _⟩ => ⟨S64x576, .i32⟩
  | .hbm, ⟨46, _⟩ => ⟨S64x576, .i32⟩
  | .hbm, ⟨47, _⟩ => ⟨S64x576x1, .i32⟩
  | .hbm, ⟨48, _⟩ => ⟨S4x64x576, .f32⟩
  | .hbm, ⟨49, _⟩ => ⟨S256, .i32⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256x1, .i32⟩
  | .hbm, ⟨54, _⟩ => ⟨S1x576, .i32⟩
  | .hbm, ⟨55, _⟩ => ⟨S256x576, .i32⟩
  | .hbm, ⟨56, _⟩ => ⟨S256x576, .i32⟩
  | .hbm, ⟨57, _⟩ => ⟨S256x576, .i32⟩
  | .hbm, ⟨58, _⟩ => ⟨S256x576x1, .i32⟩
  | .hbm, ⟨59, _⟩ => ⟨S2x4x256x576x128, .f32⟩
  | .hbm, ⟨60, _⟩ => ⟨S256x576x1, .i32⟩
  | .hbm, ⟨61, _⟩ => ⟨S2x4x256x576x128, .f32⟩
  | .hbm, ⟨62, _⟩ => ⟨S2x4x256x64x128, .f32⟩
  | .hbm, ⟨63, _⟩ => ⟨S2x4x256x64x576, .f32⟩
  | .hbm, ⟨64, _⟩ => ⟨S_, .f32⟩
  | .hbm, ⟨65, _⟩ => ⟨S_, .f32⟩
  | .hbm, ⟨66, _⟩ => ⟨S2x4x256x64x576, .f32⟩
  | .hbm, ⟨67, _⟩ => ⟨S2x4x256x64x576, .f32⟩
  | .hbm, ⟨68, _⟩ => ⟨S1x4x1x64x576, .f32⟩
  | .hbm, ⟨69, _⟩ => ⟨S2x4x256x64x576, .f32⟩
  | .hbm, ⟨70, _⟩ => ⟨S2x4x256x64x576, .f32⟩
  | .hbm, ⟨71, _⟩ => ⟨S_, .i32⟩
  | .hbm, ⟨72, _⟩ => ⟨S256x576, .i32⟩
  | .hbm, ⟨73, _⟩ => ⟨S256x576, .i32⟩
  | .hbm, ⟨74, _⟩ => ⟨S_, .i32⟩
  | .hbm, ⟨75, _⟩ => ⟨S256x576, .i32⟩
  | .hbm, ⟨76, _⟩ => ⟨S256x576, .i1⟩
  | .hbm, ⟨77, _⟩ => ⟨S1x1x256x1x576, .i1⟩
  | .hbm, ⟨78, _⟩ => ⟨S_, .f32⟩
  | .hbm, ⟨79, _⟩ => ⟨S_, .f32⟩
  | .hbm, ⟨80, _⟩ => ⟨S2x4x256x64x576, .i1⟩
  | .hbm, ⟨81, _⟩ => ⟨S2x4x256x64x576, .f32⟩
  | .hbm, ⟨82, _⟩ => ⟨S2x4x256x64x576, .f32⟩
  | .hbm, ⟨83, _⟩ => ⟨S_, .f32⟩
  | .hbm, ⟨84, _⟩ => ⟨S2x4x256x64, .f32⟩
  | .hbm, ⟨85, _⟩ => ⟨S_, .f32⟩
  | .hbm, ⟨86, _⟩ => ⟨S2x4x256x64, .f32⟩
  | .hbm, ⟨87, _⟩ => ⟨S2x4x256x64, .f32⟩
  | .hbm, ⟨88, _⟩ => ⟨S2x4x256x64x1, .f32⟩
  | .hbm, ⟨89, _⟩ => ⟨S2x4x256x64x576, .f32⟩
  | .hbm, ⟨90, _⟩ => ⟨S2x4x256x64x576, .f32⟩
  | .hbm, ⟨91, _⟩ => ⟨S2x4x256x64x576, .f32⟩
  | .hbm, ⟨92, _⟩ => ⟨S_, .f32⟩
  | .hbm, ⟨93, _⟩ => ⟨S2x4x256x64, .f32⟩
  | .hbm, ⟨94, _⟩ => ⟨S2x4x256x64x1, .f32⟩
  | .hbm, ⟨95, _⟩ => ⟨S2x4x256x64x576, .f32⟩
  | .hbm, ⟨96, _⟩ => ⟨S2x4x256x64x576, .f32⟩
  | .hbm, ⟨97, _⟩ => ⟨S2x4x256x64x128, .f32⟩
  | .hbm, ⟨98, _⟩ => ⟨S2x4x16384x128, .f32⟩
  | .hbm, ⟨99, _⟩ => ⟨S2x16384x4x128, .f32⟩
  | .hbm, ⟨100, _⟩ => ⟨S2x16384x512, .f32⟩
  | .hbm, ⟨101, _⟩ => ⟨S2x16384x512, .f32⟩
  | .hbm, ⟨102, _⟩ => ⟨S2x16384x512, .bf16⟩
  | _, _ => ⟨S2x16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_call0_v0 : Ref sig .tc := ⟨.hbm, 21, rfl⟩
abbrev main_v17 : Ref sig .tc := ⟨.hbm, 22, rfl⟩
abbrev main_c_0 : Ref sig .tc := ⟨.hbm, 23, rfl⟩
abbrev main_call1_v0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_call3_v0 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call4_v0 : Ref sig .tc := ⟨.hbm, 58, rfl⟩
abbrev main_v40 : Ref sig .tc := ⟨.hbm, 59, rfl⟩
abbrev main_call5_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_6 : Ref sig .tc := ⟨.hbm, 71, rfl⟩
abbrev main_v50 : Ref sig .tc := ⟨.hbm, 72, rfl⟩
abbrev main_v51 : Ref sig .tc := ⟨.hbm, 73, rfl⟩
abbrev main_c_7 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_8 : Ref sig .tc := ⟨.hbm, 78, rfl⟩
abbrev main_call6_v0 : Ref sig .tc := ⟨.hbm, 79, rfl⟩
abbrev main_call6_v1 : Ref sig .tc := ⟨.hbm, 80, rfl⟩
abbrev main_call6_v2 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩

abbrev nD : Nat := 1
abbrev τ : Topo := Topo.v7x

variable {F : FTy → Type} [FloatOps F]
-- ==== Tail.lean ====
abbrev S32768x2048 : Shape := ⟨2, ![32768, 2048]⟩
abbrev S32768x512 : Shape := ⟨2, ![32768, 512]⟩
abbrev S2x2048x12292 : Shape := ⟨3, ![2, 2048, 12292]⟩
abbrev S2x6144 : Shape := ⟨2, ![2, 6144]⟩
abbrev S2x3x512x2048 : Shape := ⟨4, ![2, 3, 512, 2048]⟩
abbrev S2x2048x2048 : Shape := ⟨3, ![2, 2048, 2048]⟩
abbrev S2x2048x6144 : Shape := ⟨3, ![2, 2048, 6144]⟩
abbrev S2x1x6144 : Shape := ⟨3, ![2, 1, 6144]⟩
abbrev S512x2048 : Shape := ⟨2, ![512, 2048]⟩
abbrev S512x512 : Shape := ⟨2, ![512, 512]⟩
abbrev S1x2048x512 : Shape := ⟨3, ![1, 2048, 512]⟩
abbrev S1x1x512 : Shape := ⟨3, ![1, 1, 512]⟩
abbrev S1x3x512x512 : Shape := ⟨4, ![1, 3, 512, 512]⟩
abbrev S1x512x2048 : Shape := ⟨3, ![1, 512, 2048]⟩
abbrev S2048x512 : Shape := ⟨2, ![2048, 512]⟩
abbrev S1x512 : Shape := ⟨2, ![1, 512]⟩
abbrev S1x1x512x512 : Shape := ⟨4, ![1, 1, 512, 512]⟩

abbrev nBuf : Space → Nat
  | .hbm => 15
  | .vmem => 28
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S2x2048x12292, .f32⟩
  | .hbm, ⟨6, _⟩ => ⟨S2x6144, .f32⟩
  | .hbm, ⟨7, _⟩ => ⟨S2x3x512x2048, .f32⟩
  | .hbm, ⟨8, _⟩ => ⟨S2x2048x2048, .f32⟩
  | .hbm, ⟨9, _⟩ => ⟨S2x2048x12292, .bf16⟩
  | .hbm, ⟨10, _⟩ => ⟨S2x2048x6144, .bf16⟩
  | .hbm, ⟨11, _⟩ => ⟨S2x1x6144, .f32⟩
  | .hbm, ⟨12, _⟩ => ⟨S2x3x512x2048, .bf16⟩
  | .hbm, ⟨13, _⟩ => ⟨S2x2048x2048, .bf16⟩
  | .hbm, ⟨14, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S1x3x512x512, .bf16⟩
  | .local _ .vmem, ⟨23, _⟩ => ⟨S1x3x512x512, .bf16⟩
  | .local _ .vmem, ⟨24, _⟩ => ⟨S1x512x2048, .bf16⟩
  | .local _ .vmem, ⟨25, _⟩ => ⟨S1x512x2048, .bf16⟩
  | .local _ .vmem, ⟨26, _⟩ => ⟨S512x2048, .f32⟩
  | .local _ .vmem, ⟨27, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let c0_i32 : BitVec 32 := 0#32
  let c0_i32_0 : BitVec 32 := 0#32
  ![c1_i32.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let c0_i32 : BitVec 32 := 0#32
  let c0_i32_0 : BitVec 32 := 0#32
  ![c1_i32.toNat, c0_i32.toNat, v0.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x3x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== TailRefIdeal.lean ====
abbrev S32768x2048 : Shape := ⟨2, ![32768, 2048]⟩
abbrev S32768x512 : Shape := ⟨2, ![32768, 512]⟩
abbrev S2x2048x12292 : Shape := ⟨3, ![2, 2048, 12292]⟩
abbrev S2x6144 : Shape := ⟨2, ![2, 6144]⟩
abbrev S2x3x512x2048 : Shape := ⟨4, ![2, 3, 512, 2048]⟩
abbrev S2x2048x2048 : Shape := ⟨3, ![2, 2048, 2048]⟩
abbrev S1x2048x6144 : Shape := ⟨3, ![1, 2048, 6144]⟩
abbrev S2048x6144 : Shape := ⟨2, ![2048, 6144]⟩
abbrev S32768x6144 : Shape := ⟨2, ![32768, 6144]⟩
abbrev S1x6144 : Shape := ⟨2, ![1, 6144]⟩
abbrev S6144 : Shape := ⟨1, ![6144]⟩
abbrev S_ : Shape := ⟨0, ![]⟩
abbrev S32768x3x2048 : Shape := ⟨3, ![32768, 3, 2048]⟩
abbrev S32768x1x512 : Shape := ⟨3, ![32768, 1, 512]⟩
abbrev S32768x3x512 : Shape := ⟨3, ![32768, 3, 512]⟩
abbrev S1x3x512x2048 : Shape := ⟨4, ![1, 3, 512, 2048]⟩
abbrev S3x512x2048 : Shape := ⟨3, ![3, 512, 2048]⟩
abbrev S3x2048x32768 : Shape := ⟨3, ![3, 2048, 32768]⟩
abbrev S1x2048x2048 : Shape := ⟨3, ![1, 2048, 2048]⟩
abbrev S2048x2048 : Shape := ⟨2, ![2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S2x2048x12292, .f32⟩
  | .hbm, ⟨6, _⟩ => ⟨S2x6144, .f32⟩
  | .hbm, ⟨7, _⟩ => ⟨S2x3x512x2048, .f32⟩
  | .hbm, ⟨8, _⟩ => ⟨S2x2048x2048, .f32⟩
  | .hbm, ⟨9, _⟩ => ⟨S32768x2048, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S1x2048x6144, .f32⟩
  | .hbm, ⟨14, _⟩ => ⟨S2048x6144, .f32⟩
  | .hbm, ⟨15, _⟩ => ⟨S32768x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S32768x6144, .f32⟩
  | .hbm, ⟨20, _⟩ => ⟨S32768x6144, .f32⟩
  | .hbm, ⟨21, _⟩ => ⟨S32768x6144, .f32⟩
  | .hbm, ⟨22, _⟩ => ⟨S32768x6144, .f32⟩
  | .hbm, ⟨23, _⟩ => ⟨S_, .f32⟩
  | .hbm, ⟨24, _⟩ => ⟨S32768x6144, .f32⟩
  | .hbm, ⟨25, _⟩ => ⟨S32768x6144, .f32⟩
  | .hbm, ⟨26, _⟩ => ⟨S_, .f32⟩
  | .hbm, ⟨27, _⟩ => ⟨S32768x6144, .f32⟩
  | .hbm, ⟨28, _⟩ => ⟨S32768x6144, .f32⟩
  | .hbm, ⟨29, _⟩ => ⟨S32768x3x2048, .f32⟩
  | .hbm, ⟨30, _⟩ => ⟨S32768x1x512, .f32⟩
  | .hbm, ⟨31, _⟩ => ⟨S32768x1x512, .f32⟩
  | .hbm, ⟨32, _⟩ => ⟨S32768x1x512, .f32⟩
  | .hbm, ⟨33, _⟩ => ⟨S32768x3x512, .f32⟩
  | .hbm, ⟨34, _⟩ => ⟨S1x3x512x2048, .f32⟩
  | .hbm, ⟨35, _⟩ => ⟨S3x512x2048, .f32⟩
  | .hbm, ⟨36, _⟩ => ⟨S3x2048x32768, .f32⟩
  | .hbm, ⟨37, _⟩ => ⟨S32768x3x2048, .f32⟩
  | .hbm, ⟨38, _⟩ => ⟨S32768x3x2048, .f32⟩
  | .hbm, ⟨39, _⟩ => ⟨S_, .f32⟩
  | .hbm, ⟨40, _⟩ => ⟨S32768x2048, .f32⟩
  | .hbm, ⟨41, _⟩ => ⟨S1x2048x2048, .f32⟩
  | .hbm, ⟨42, _⟩ => ⟨S2048x2048, .f32⟩
  | .hbm, ⟨43, _⟩ => ⟨S32768x2048, .f32⟩
  | .hbm, ⟨44, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Tail0.lean ====
abbrev S32768x2048 : Shape := ⟨2, ![32768, 2048]⟩
abbrev S32768x512 : Shape := ⟨2, ![32768, 512]⟩
abbrev S2x2048x12292 : Shape := ⟨3, ![2, 2048, 12292]⟩
abbrev S2x6144 : Shape := ⟨2, ![2, 6144]⟩
abbrev S2x3x512x2048 : Shape := ⟨4, ![2, 3, 512, 2048]⟩
abbrev S2x2048x2048 : Shape := ⟨3, ![2, 2048, 2048]⟩
abbrev S2x2048x6144 : Shape := ⟨3, ![2, 2048, 6144]⟩
abbrev S2x1x6144 : Shape := ⟨3, ![2, 1, 6144]⟩
abbrev S512x2048 : Shape := ⟨2, ![512, 2048]⟩
abbrev S512x512 : Shape := ⟨2, ![512, 512]⟩
abbrev S1x2048x512 : Shape := ⟨3, ![1, 2048, 512]⟩
abbrev S1x1x512 : Shape := ⟨3, ![1, 1, 512]⟩
abbrev S1x3x512x512 : Shape := ⟨4, ![1, 3, 512, 512]⟩
abbrev S1x512x2048 : Shape := ⟨3, ![1, 512, 2048]⟩
abbrev S2048x512 : Shape := ⟨2, ![2048, 512]⟩
abbrev S1x512 : Shape := ⟨2, ![1, 512]⟩
abbrev S1x1x512x512 : Shape := ⟨4, ![1, 1, 512, 512]⟩

abbrev nBuf : Space → Nat
  | .hbm => 15
  | .vmem => 28
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S2x2048x12292, .f32⟩
  | .hbm, ⟨6, _⟩ => ⟨S2x6144, .f32⟩
  | .hbm, ⟨7, _⟩ => ⟨S2x3x512x2048, .f32⟩
  | .hbm, ⟨8, _⟩ => ⟨S2x2048x2048, .f32⟩
  | .hbm, ⟨9, _⟩ => ⟨S2x2048x12292, .bf16⟩
  | .hbm, ⟨10, _⟩ => ⟨S2x2048x6144, .bf16⟩
  | .hbm, ⟨11, _⟩ => ⟨S2x1x6144, .f32⟩
  | .hbm, ⟨12, _⟩ => ⟨S2x3x512x2048, .bf16⟩
  | .hbm, ⟨13, _⟩ => ⟨S2x2048x2048, .bf16⟩
  | .hbm, ⟨14, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S1x3x512x512, .bf16⟩
  | .local _ .vmem, ⟨23, _⟩ => ⟨S1x3x512x512, .bf16⟩
  | .local _ .vmem, ⟨24, _⟩ => ⟨S1x512x2048, .bf16⟩
  | .local _ .vmem, ⟨25, _⟩ => ⟨S1x512x2048, .bf16⟩
  | .local _ .vmem, ⟨26, _⟩ => ⟨S512x2048, .f32⟩
  | .local _ .vmem, ⟨27, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x3x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== TailRef0Ideal.lean ====
abbrev S32768x2048 : Shape := ⟨2, ![32768, 2048]⟩
abbrev S32768x512 : Shape := ⟨2, ![32768, 512]⟩
abbrev S2x2048x12292 : Shape := ⟨3, ![2, 2048, 12292]⟩
abbrev S2x6144 : Shape := ⟨2, ![2, 6144]⟩
abbrev S2x3x512x2048 : Shape := ⟨4, ![2, 3, 512, 2048]⟩
abbrev S2x2048x2048 : Shape := ⟨3, ![2, 2048, 2048]⟩
abbrev S1x2048x6144 : Shape := ⟨3, ![1, 2048, 6144]⟩
abbrev S2048x6144 : Shape := ⟨2, ![2048, 6144]⟩
abbrev S32768x6144 : Shape := ⟨2, ![32768, 6144]⟩
abbrev S1x6144 : Shape := ⟨2, ![1, 6144]⟩
abbrev S6144 : Shape := ⟨1, ![6144]⟩
abbrev S_ : Shape := ⟨0, ![]⟩
abbrev S32768x3x2048 : Shape := ⟨3, ![32768, 3, 2048]⟩
abbrev S32768x1x512 : Shape := ⟨3, ![32768, 1, 512]⟩
abbrev S32768x3x512 : Shape := ⟨3, ![32768, 3, 512]⟩
abbrev S1x3x512x2048 : Shape := ⟨4, ![1, 3, 512, 2048]⟩
abbrev S3x512x2048 : Shape := ⟨3, ![3, 512, 2048]⟩
abbrev S3x2048x32768 : Shape := ⟨3, ![3, 2048, 32768]⟩
abbrev S1x2048x2048 : Shape := ⟨3, ![1, 2048, 2048]⟩
abbrev S2048x2048 : Shape := ⟨2, ![2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S2x2048x12292, .f32⟩
  | .hbm, ⟨6, _⟩ => ⟨S2x6144, .f32⟩
  | .hbm, ⟨7, _⟩ => ⟨S2x3x512x2048, .f32⟩
  | .hbm, ⟨8, _⟩ => ⟨S2x2048x2048, .f32⟩
  | .hbm, ⟨9, _⟩ => ⟨S32768x2048, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S1x2048x6144, .f32⟩
  | .hbm, ⟨14, _⟩ => ⟨S2048x6144, .f32⟩
  | .hbm, ⟨15, _⟩ => ⟨S32768x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S32768x6144, .f32⟩
  | .hbm, ⟨20, _⟩ => ⟨S32768x6144, .f32⟩
  | .hbm, ⟨21, _⟩ => ⟨S32768x6144, .f32⟩
  | .hbm, ⟨22, _⟩ => ⟨S32768x6144, .f32⟩
  | .hbm, ⟨23, _⟩ => ⟨S_, .f32⟩
  | .hbm, ⟨24, _⟩ => ⟨S32768x6144, .f32⟩
  | .hbm, ⟨25, _⟩ => ⟨S32768x6144, .f32⟩
  | .hbm, ⟨26, _⟩ => ⟨S_, .f32⟩
  | .hbm, ⟨27, _⟩ => ⟨S32768x6144, .f32⟩
  | .hbm, ⟨28, _⟩ => ⟨S32768x6144, .f32⟩
  | .hbm, ⟨29, _⟩ => ⟨S32768x3x2048, .f32⟩
  | .hbm, ⟨30, _⟩ => ⟨S32768x1x512, .f32⟩
  | .hbm, ⟨31, _⟩ => ⟨S32768x1x512, .f32⟩
  | .hbm, ⟨32, _⟩ => ⟨S32768x1x512, .f32⟩
  | .hbm, ⟨33, _⟩ => ⟨S32768x3x512, .f32⟩
  | .hbm, ⟨34, _⟩ => ⟨S1x3x512x2048, .f32⟩
  | .hbm, ⟨35, _⟩ => ⟨S3x512x2048, .f32⟩
  | .hbm, ⟨36, _⟩ => ⟨S3x2048x32768, .f32⟩
  | .hbm, ⟨37, _⟩ => ⟨S32768x3x2048, .f32⟩
  | .hbm, ⟨38, _⟩ => ⟨S32768x3x2048, .f32⟩
  | .hbm, ⟨39, _⟩ => ⟨S_, .f32⟩
  | .hbm, ⟨40, _⟩ => ⟨S32768x2048, .f32⟩
  | .hbm, ⟨41, _⟩ => ⟨S1x2048x2048, .f32⟩
  | .hbm, ⟨42, _⟩ => ⟨S2048x2048, .f32⟩
  | .hbm, ⟨43, _⟩ => ⟨S32768x2048, .f32⟩
  | .hbm, ⟨44, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proj.lean ====
abbrev S32768x2048 : Shape := ⟨2, ![32768, 2048]⟩
abbrev S2x2048 : Shape := ⟨2, ![2, 2048]⟩
abbrev S2x2048x12292 : Shape := ⟨3, ![2, 2048, 12292]⟩
abbrev S2x4x128 : Shape := ⟨3, ![2, 4, 128]⟩
abbrev S2x2048x4 : Shape := ⟨3, ![2, 2048, 4]⟩
abbrev S2x4x2048 : Shape := ⟨3, ![2, 4, 2048]⟩
abbrev S_ : Shape := ⟨0, ![]⟩
abbrev S2x8x2048 : Shape := ⟨3, ![2, 8, 2048]⟩
abbrev S2x1x2048 : Shape := ⟨3, ![2, 1, 2048]⟩
abbrev S1x4x128 : Shape := ⟨3, ![1, 4, 128]⟩
abbrev S4x128 : Shape := ⟨2, ![4, 128]⟩
abbrev S512 : Shape := ⟨1, ![512]⟩
abbrev S1x128 : Shape := ⟨2, ![1, 128]⟩
abbrev S128 : Shape := ⟨1, ![128]⟩
abbrev S1536 : Shape := ⟨1, ![1536]⟩
abbrev S1x1536 : Shape := ⟨2, ![1, 1536]⟩
abbrev S3x1536 : Shape := ⟨2, ![3, 1536]⟩
abbrev S3x1x1536 : Shape := ⟨3, ![3, 1, 1536]⟩
abbrev S32768x4608 : Shape := ⟨2, ![32768, 4608]⟩
abbrev S32768x1536 : Shape := ⟨2, ![32768, 1536]⟩
abbrev S8x32768 : Shape := ⟨2, ![8, 32768]⟩
abbrev S512x2048 : Shape := ⟨2, ![512, 2048]⟩
abbrev S1x1x2048 : Shape := ⟨3, ![1, 1, 2048]⟩
abbrev S1x2048x2048 : Shape := ⟨3, ![1, 2048, 2048]⟩
abbrev S1x8x2048 : Shape := ⟨3, ![1, 8, 2048]⟩
abbrev S1x1x1536 : Shape := ⟨3, ![1, 1, 1536]⟩
abbrev S512x1536 : Shape := ⟨2, ![512, 1536]⟩
abbrev S512x512 : Shape := ⟨2, ![512, 512]⟩
abbrev S8x512 : Shape := ⟨2, ![8, 512]⟩
abbrev S512x1 : Shape := ⟨2, ![512, 1]⟩
abbrev S1x2048 : Shape := ⟨2, ![1, 2048]⟩
abbrev S8x2048 : Shape := ⟨2, ![8, 2048]⟩
abbrev S2048x2048 : Shape := ⟨2, ![2048, 2048]⟩
abbrev S512x128 : Shape := ⟨2, ![512, 128]⟩

abbrev nBuf : Space → Nat
  | .hbm => 48
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x12292, .f32⟩
  | .hbm, ⟨3, _⟩ => ⟨S2x4x128, .f32⟩
  | .hbm, ⟨4, _⟩ => ⟨S2x2048x12292, .bf16⟩
  | .hbm, ⟨5, _⟩ => ⟨S2x2048x4, .f32⟩
  | .hbm, ⟨6, _⟩ => ⟨S2x4x2048, .f32⟩
  | .hbm, ⟨7, _⟩ => ⟨S_, .i32⟩
  | .hbm, ⟨8, _⟩ => ⟨S_, .f32⟩
  | .hbm, ⟨9, _⟩ => ⟨S2x8x2048, .f32⟩
  | .hbm, ⟨10, _⟩ => ⟨S2x8x2048, .bf16⟩
  | .hbm, ⟨11, _⟩ => ⟨S2x1x2048, .f32⟩
  | .hbm, ⟨12, _⟩ => ⟨S1x4x128, .f32⟩
  | .hbm, ⟨13, _⟩ => ⟨S4x128, .f32⟩
  | .hbm, ⟨14, _⟩ => ⟨S_, .f32⟩
  | .hbm, ⟨15, _⟩ => ⟨S512, .f32⟩
  | .hbm, ⟨16, _⟩ => ⟨S1x128, .f32⟩
  | .hbm, ⟨17, _⟩ => ⟨S128, .f32⟩
  | .hbm, ⟨18, _⟩ => ⟨S1x128, .f32⟩
  | .hbm, ⟨19, _⟩ => ⟨S4x128, .f32⟩
  | .hbm, ⟨20, _⟩ => ⟨S512, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S4x128, .f32⟩
  | .hbm, ⟨25, _⟩ => ⟨S512, .f32⟩
  | .hbm, ⟨26, _⟩ => ⟨S1536, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S4x128, .f32⟩
  | .hbm, ⟨31, _⟩ => ⟨S512, .f32⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S4x128, .f32⟩
  | .hbm, ⟨36, _⟩ => ⟨S512, .f32⟩
  | .hbm, ⟨37, _⟩ => ⟨S1536, .f32⟩
  | .hbm, ⟨38, _⟩ => ⟨S1536, .f32⟩
  | .hbm, ⟨39, _⟩ => ⟨S1x1536, .f32⟩
  | .hbm, ⟨40, _⟩ => ⟨S1x1536, .f32⟩
  | .hbm, ⟨41, _⟩ => ⟨S1x1536, .f32⟩
  | .hbm, ⟨42, _⟩ => ⟨S3x1536, .f32⟩
  | .hbm, ⟨43, _⟩ => ⟨S3x1x1536, .f32⟩
  | .hbm, ⟨44, _⟩ => ⟨S32768x4608, .bf16⟩
  | .hbm, ⟨45, _⟩ => ⟨S32768x1536, .f32⟩
  | .hbm, ⟨46, _⟩ => ⟨S32768x2048, .bf16⟩
  | .hbm, ⟨47, _⟩ => ⟨S8x32768, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1x8x2048, .bf16⟩
  | .local _ .vmem, ⟨6, _⟩ => ⟨S1x1x1536, .f32⟩
  | .local _ .vmem, ⟨7, _⟩ => ⟨S1x1x1536, .f32⟩
  | .local _ .vmem, ⟨8, _⟩ => ⟨S512x1536, .bf16⟩
  | .local _ .vmem, ⟨9, _⟩ => ⟨S512x1536, .bf16⟩
  | .local _ .vmem, ⟨10, _⟩ => ⟨S512x512, .f32⟩
  | .local _ .vmem, ⟨11, _⟩ => ⟨S512x512, .f32⟩
  | .local _ .vmem, ⟨12, _⟩ => ⟨S512x2048, .bf16⟩
  | .local _ .vmem, ⟨13, _⟩ => ⟨S512x2048, .bf16⟩
  | .local _ .vmem, ⟨14, _⟩ => ⟨S8x512, .f32⟩
  | .local _ .vmem, ⟨15, _⟩ => ⟨S8x512, .f32⟩
  | .local _ .vmem, ⟨16, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37_0 : Ref sig .tc := ⟨.hbm, 44, rfl⟩
abbrev main_v37_1 : Ref sig .tc := ⟨.hbm, 45, rfl⟩
abbrev main_v37_2 : Ref sig .tc := ⟨.hbm, 46, rfl⟩
abbrev main_v37_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x8x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ProjRefIdeal.lean ====
abbrev S32768x2048 : Shape := ⟨2, ![32768, 2048]⟩
abbrev S2x2048 : Shape := ⟨2, ![2, 2048]⟩
abbrev S2x2048x12292 : Shape := ⟨3, ![2, 2048, 12292]⟩
abbrev S2x4x128 : Shape := ⟨3, ![2, 4, 128]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x6148 : Shape := ⟨3, ![1, 2048, 6148]⟩
abbrev S2048x6148 : Shape := ⟨2, ![2048, 6148]⟩
abbrev S32768x6148 : Shape := ⟨2, ![32768, 6148]⟩
abbrev S32768x6144 : Shape := ⟨2, ![32768, 6144]⟩
abbrev S32768x3x4x512 : Shape := ⟨4, ![32768, 3, 4, 512]⟩
abbrev S32768x4 : Shape := ⟨2, ![32768, 4]⟩
abbrev S1x4x128 : Shape := ⟨3, ![1, 4, 128]⟩
abbrev S4x128 : Shape := ⟨2, ![4, 128]⟩
abbrev S1x128 : Shape := ⟨2, ![1, 128]⟩
abbrev S128 : Shape := ⟨1, ![128]⟩
abbrev S32768x1x1x512 : Shape := ⟨4, ![32768, 1, 1, 512]⟩
abbrev S32768x512 : Shape := ⟨2, ![32768, 512]⟩
abbrev S32768x4x128 : Shape := ⟨3, ![32768, 4, 128]⟩
abbrev S32768x4x1 : Shape := ⟨3, ![32768, 4, 1]⟩
abbrev S1x1x128 : Shape := ⟨3, ![1, 1, 128]⟩
abbrev S32768x4608 : Shape := ⟨2, ![32768, 4608]⟩
abbrev S32768x3x1x512 : Shape := ⟨4, ![32768, 3, 1, 512]⟩
abbrev S32768x3x512 : Shape := ⟨3, ![32768, 3, 512]⟩
abbrev S32768x1536 : Shape := ⟨2, ![32768, 1536]⟩
abbrev S4x32768 : Shape := ⟨2, ![4, 32768]⟩
abbrev S8x32768 : Shape := ⟨2, ![8, 32768]⟩

abbrev nBuf : Space → Nat
  | .hbm => 147
  | .vmem => 0
  | .smem => 0
  | _ => 0

abbrev hbmTy0_0 (i : Nat) : BufTy := match i % 128 with
  | 0 => ⟨S32768x2048, .f32⟩
  | 1 => ⟨S2x2048, .f32⟩
  | 2 => ⟨S2x2048x12292, .f32⟩
  | 3 => ⟨S2x4x128, .f32⟩
  | 4 => ⟨S1x2048, .f32⟩
  | 5 => ⟨S2048, .f32⟩
  | 6 => ⟨S32768x2048, .f32⟩
  | 7 => ⟨S_, .f32⟩
  | 8 => ⟨S32768, .f32⟩
  | 9 => ⟨S32768x1, .f32⟩
  | 10 => ⟨S_, .f32⟩
  | 11 => ⟨S32768x1, .f32⟩
  | 12 => ⟨S32768x1, .f32⟩
  | 13 => ⟨S_, .f32⟩
  | 14 => ⟨S32768x1, .f32⟩
  | 15 => ⟨S32768x1, .f32⟩
  | 16 => ⟨S32768x1, .f32⟩
  | 17 => ⟨S32768x2048, .f32⟩
  | 18 => ⟨S32768x2048, .f32⟩
  | 19 => ⟨S1x2048, .f32⟩
  | 20 => ⟨S32768x2048, .f32⟩
  | 21 => ⟨S32768x2048, .f32⟩
  | 22 => ⟨S1x2048x6148, .f32⟩
  | 23 => ⟨S2048x6148, .f32⟩
  | 24 => ⟨S32768x6148, .f32⟩
  | 25 => ⟨S32768x6144, .f32⟩
  | 26 => ⟨S32768x3x4x512, .f32⟩
  | 27 => ⟨S32768x4, .f32⟩
  | 28 => ⟨S1x4x128, .f32⟩
  | 29 => ⟨S4x128, .f32⟩
  | 30 => ⟨S1x128, .f32⟩
  | 31 => ⟨S128, .f32⟩
  | 32 => ⟨S32768x1x1x512, .f32⟩
  | 33 => ⟨S32768x512, .f32⟩
  | 34 => ⟨S32768x4x128, .f32⟩
  | 35 => ⟨S32768x4x128, .f32⟩
  | 36 => ⟨S_, .f32⟩
  | 37 => ⟨S32768x4, .f32⟩
  | 38 => ⟨S32768x4x1, .f32⟩
  | 39 => ⟨S_, .f32⟩
  | 40 => ⟨S32768x4x1, .f32⟩
  | 41 => ⟨S32768x4x1, .f32⟩
  | 42 => ⟨S_, .f32⟩
  | 43 => ⟨S32768x4x1, .f32⟩
  | 44 => ⟨S32768x4x1, .f32⟩
  | 45 => ⟨S32768x4x1, .f32⟩
  | 46 => ⟨S32768x4x128, .f32⟩
  | 47 => ⟨S32768x4x128, .f32⟩
  | 48 => ⟨S1x1x128, .f32⟩
  | 49 => ⟨S32768x4x128, .f32⟩
  | 50 => ⟨S32768x4x128, .f32⟩
  | 51 => ⟨S32768x512, .f32⟩
  | 52 => ⟨S1x128, .f32⟩
  | 53 => ⟨S128, .f32⟩
  | 54 => ⟨S32768x1x1x512, .f32⟩
  | 55 => ⟨S32768x512, .f32⟩
  | 56 => ⟨S32768x4x128, .f32⟩
  | 57 => ⟨S32768x4x128, .f32⟩
  | 58 => ⟨S_, .f32⟩
  | 59 => ⟨S32768x4, .f32⟩
  | 60 => ⟨S32768x4x1, .f32⟩
  | 61 => ⟨S_, .f32⟩
  | 62 => ⟨S32768x4x1, .f32⟩
  | 63 => ⟨S32768x4x1, .f32⟩
  | 64 => ⟨S_, .f32⟩
  | 65 => ⟨S32768x4x1, .f32⟩
  | 66 => ⟨S32768x4x1, .f32⟩
  | 67 => ⟨S32768x4x1, .f32⟩
  | 68 => ⟨S32768x4x128, .f32⟩
  | 69 => ⟨S32768x4x128, .f32⟩
  | 70 => ⟨S1x1x128, .f32⟩
  | 71 => ⟨S32768x4x128, .f32⟩
  | 72 => ⟨S32768x4x128, .f32⟩
  | 73 => ⟨S32768x512, .f32⟩
  | 74 => ⟨S32768x1x1x512, .f32⟩
  | 75 => ⟨S32768x512, .f32⟩
  | 76 => ⟨S1x128, .f32⟩
  | 77 => ⟨S128, .f32⟩
  | 78 => ⟨S32768x1x1x512, .f32⟩
  | 79 => ⟨S32768x512, .f32⟩
  | 80 => ⟨S32768x4x128, .f32⟩
  | 81 => ⟨S32768x4x128, .f32⟩
  | 82 => ⟨S_, .f32⟩
  | 83 => ⟨S32768x4, .f32⟩
  | 84 => ⟨S32768x4x1, .f32⟩
  | 85 => ⟨S_, .f32⟩
  | 86 => ⟨S32768x4x1, .f32⟩
  | 87 => ⟨S32768x4x1, .f32⟩
  | 88 => ⟨S_, .f32⟩
  | 89 => ⟨S32768x4x1, .f32⟩
  | 90 => ⟨S32768x4x1, .f32⟩
  | 91 => ⟨S32768x4x1, .f32⟩
  | 92 => ⟨S32768x4x128, .f32⟩
  | 93 => ⟨S32768x4x128, .f32⟩
  | 94 => ⟨S1x1x128, .f32⟩
  | 95 => ⟨S32768x4x128, .f32⟩
  | 96 => ⟨S32768x4x128, .f32⟩
  | 97 => ⟨S32768x512, .f32⟩
  | 98 => ⟨S1x128, .f32⟩
  | 99 => ⟨S128, .f32⟩
  | 100 => ⟨S32768x1x1x512, .f32⟩
  | 101 => ⟨S32768x512, .f32⟩
  | 102 => ⟨S32768x4x128, .f32⟩
  | 103 => ⟨S32768x4x128, .f32⟩
  | 104 => ⟨S_, .f32⟩
  | 105 => ⟨S32768x4, .f32⟩
  | 106 => ⟨S32768x4x1, .f32⟩
  | 107 => ⟨S_, .f32⟩
  | 108 => ⟨S32768x4x1, .f32⟩
  | 109 => ⟨S32768x4x1, .f32⟩
  | 110 => ⟨S_, .f32⟩
  | 111 => ⟨S32768x4x1, .f32⟩
  | 112 => ⟨S32768x4x1, .f32⟩
  | 113 => ⟨S32768x4x1, .f32⟩
  | 114 => ⟨S32768x4x128, .f32⟩
  | 115 => ⟨S32768x4x128, .f32⟩
  | 116 => ⟨S1x1x128, .f32⟩
  | 117 => ⟨S32768x4x128, .f32⟩
  | 118 => ⟨S32768x4x128, .f32⟩
  | 119 => ⟨S32768x512, .f32⟩
  | 120 => ⟨S32768x1x1x512, .f32⟩
  | 121 => ⟨S32768x512, .f32⟩
  | 122 => ⟨S32768x1x1x512, .f32⟩
  | 123 => ⟨S32768x512, .f32⟩
  | 124 => ⟨S32768x1x1x512, .f32⟩
  | 125 => ⟨S32768x512, .f32⟩
  | 126 => ⟨S32768x1x1x512, .f32⟩
  | 127 => ⟨S32768x512, .f32⟩
  | _ => ⟨S32768x2048, .f32⟩

abbrev hbmTy0_1 (i : Nat) : BufTy := match i % 128 with
  | 0 => ⟨S32768x4608, .f32⟩
  | 1 => ⟨S32768x3x1x512, .f32⟩
  | 2 => ⟨S32768x3x512, .f32⟩
  | 3 => ⟨S32768x3x512, .f32⟩
  | 4 => ⟨S32768x3x512, .f32⟩
  | 5 => ⟨S_, .f32⟩
  | 6 => ⟨S32768x3x512, .f32⟩
  | 7 => ⟨S32768x3x512, .f32⟩
  | 8 => ⟨S_, .f32⟩
  | 9 => ⟨S32768x3x512, .f32⟩
  | 10 => ⟨S32768x3x512, .f32⟩
  | 11 => ⟨S32768x3x512, .f32⟩
  | 12 => ⟨S32768x1536, .f32⟩
  | 13 => ⟨S4x32768, .f32⟩
  | 14 => ⟨S_, .i32⟩
  | 15 => ⟨S_, .f32⟩
  | 16 => ⟨S8x32768, .f32⟩
  | 17 => ⟨S32768x4608, .bf16⟩
  | 18 => ⟨S32768x2048, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_8 : Ref sig .tc := ⟨.hbm, 82, rfl⟩
abbrev main_v69 : Ref sig .tc := ⟨.hbm, 83, rfl⟩
abbrev main_v70 : Ref sig .tc := ⟨.hbm, 84, rfl⟩
abbrev main_cst_9 : Ref sig .tc := ⟨.hbm, 85, rfl⟩
abbrev main_v71 : Ref sig .tc := ⟨.hbm, 86, rfl⟩
abbrev main_v72 : Ref sig .tc := ⟨.hbm, 87, rfl⟩
abbrev main_cst_10 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_11 : Ref sig .tc := ⟨.hbm, 104, rfl⟩
abbrev main_v88 : Ref sig .tc := ⟨.hbm, 105, rfl⟩
abbrev main_v89 : Ref sig .tc := ⟨.hbm, 106, rfl⟩
abbrev main_cst_12 : Ref sig .tc := ⟨.hbm, 107, rfl⟩
abbrev main_v90 : Ref sig .tc := ⟨.hbm, 108, rfl⟩
abbrev main_v91 : Ref sig .tc := ⟨.hbm, 109, rfl⟩
abbrev main_cst_13 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_call0_v0 : Ref sig .tc := ⟨.hbm, 131, rfl⟩
abbrev main_call0_v1 : Ref sig .tc := ⟨.hbm, 132, rfl⟩
abbrev main_call0_cst : Ref sig .tc := ⟨.hbm, 133, rfl⟩
abbrev main_call0_v2 : Ref sig .tc := ⟨.hbm, 134, rfl⟩
abbrev main_call0_v3 : Ref sig .tc := ⟨.hbm, 135, rfl⟩
abbrev main_call0_cst_0 : Ref sig .tc := ⟨.hbm, 136, rfl⟩
abbrev main_call0_v4 : Ref sig .tc := ⟨.hbm, 137, rfl⟩
abbrev main_call0_v5 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_c : Ref sig .tc := ⟨.hbm, 142, rfl⟩
abbrev main_call1_v0 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩

abbrev nD : Nat := 1
abbrev τ : Topo := Topo.v7x

variable {F : FTy → Type} [FloatOps F]
-- ==== Proj0.lean ====
abbrev S32768x2048 : Shape := ⟨2, ![32768, 2048]⟩
abbrev S2x2048 : Shape := ⟨2, ![2, 2048]⟩
abbrev S2x2048x12292 : Shape := ⟨3, ![2, 2048, 12292]⟩
abbrev S2x4x128 : Shape := ⟨3, ![2, 4, 128]⟩
abbrev S2x2048x4 : Shape := ⟨3, ![2, 2048, 4]⟩
abbrev S2x4x2048 : Shape := ⟨3, ![2, 4, 2048]⟩
abbrev S_ : Shape := ⟨0, ![]⟩
abbrev S2x8x2048 : Shape := ⟨3, ![2, 8, 2048]⟩
abbrev S2x1x2048 : Shape := ⟨3, ![2, 1, 2048]⟩
abbrev S1x4x128 : Shape := ⟨3, ![1, 4, 128]⟩
abbrev S4x128 : Shape := ⟨2, ![4, 128]⟩
abbrev S512 : Shape := ⟨1, ![512]⟩
abbrev S1x128 : Shape := ⟨2, ![1, 128]⟩
abbrev S128 : Shape := ⟨1, ![128]⟩
abbrev S1536 : Shape := ⟨1, ![1536]⟩
abbrev S1x1536 : Shape := ⟨2, ![1, 1536]⟩
abbrev S3x1536 : Shape := ⟨2, ![3, 1536]⟩
abbrev S3x1x1536 : Shape := ⟨3, ![3, 1, 1536]⟩
abbrev S32768x4608 : Shape := ⟨2, ![32768, 4608]⟩
abbrev S32768x1536 : Shape := ⟨2, ![32768, 1536]⟩
abbrev S8x32768 : Shape := ⟨2, ![8, 32768]⟩
abbrev S512x2048 : Shape := ⟨2, ![512, 2048]⟩
abbrev S1x1x2048 : Shape := ⟨3, ![1, 1, 2048]⟩
abbrev S1x2048x2048 : Shape := ⟨3, ![1, 2048, 2048]⟩
abbrev S1x8x2048 : Shape := ⟨3, ![1, 8, 2048]⟩
abbrev S1x1x1536 : Shape := ⟨3, ![1, 1, 1536]⟩
abbrev S512x1536 : Shape := ⟨2, ![512, 1536]⟩
abbrev S512x512 : Shape := ⟨2, ![512, 512]⟩
abbrev S8x512 : Shape := ⟨2, ![8, 512]⟩
abbrev S512x1 : Shape := ⟨2, ![512, 1]⟩
abbrev S1x2048 : Shape := ⟨2, ![1, 2048]⟩
abbrev S8x2048 : Shape := ⟨2, ![8, 2048]⟩
abbrev S2048x2048 : Shape := ⟨2, ![2048, 2048]⟩
abbrev S512x128 : Shape := ⟨2, ![512, 128]⟩

abbrev nBuf : Space → Nat
  | .hbm => 48
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x12292, .f32⟩
  | .hbm, ⟨3, _⟩ => ⟨S2x4x128, .f32⟩
  | .hbm, ⟨4, _⟩ => ⟨S2x2048x12292, .bf16⟩
  | .hbm, ⟨5, _⟩ => ⟨S2x2048x4, .f32⟩
  | .hbm, ⟨6, _⟩ => ⟨S2x4x2048, .f32⟩
  | .hbm, ⟨7, _⟩ => ⟨S_, .i32⟩
  | .hbm, ⟨8, _⟩ => ⟨S_, .f32⟩
  | .hbm, ⟨9, _⟩ => ⟨S2x8x2048, .f32⟩
  | .hbm, ⟨10, _⟩ => ⟨S2x8x2048, .bf16⟩
  | .hbm, ⟨11, _⟩ => ⟨S2x1x2048, .f32⟩
  | .hbm, ⟨12, _⟩ => ⟨S1x4x128, .f32⟩
  | .hbm, ⟨13, _⟩ => ⟨S4x128, .f32⟩
  | .hbm, ⟨14, _⟩ => ⟨S_, .f32⟩
  | .hbm, ⟨15, _⟩ => ⟨S512, .f32⟩
  | .hbm, ⟨16, _⟩ => ⟨S1x128, .f32⟩
  | .hbm, ⟨17, _⟩ => ⟨S128, .f32⟩
  | .hbm, ⟨18, _⟩ => ⟨S1x128, .f32⟩
  | .hbm, ⟨19, _⟩ => ⟨S4x128, .f32⟩
  | .hbm, ⟨20, _⟩ => ⟨S512, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S4x128, .f32⟩
  | .hbm, ⟨25, _⟩ => ⟨S512, .f32⟩
  | .hbm, ⟨26, _⟩ => ⟨S1536, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S4x128, .f32⟩
  | .hbm, ⟨31, _⟩ => ⟨S512, .f32⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S4x128, .f32⟩
  | .hbm, ⟨36, _⟩ => ⟨S512, .f32⟩
  | .hbm, ⟨37, _⟩ => ⟨S1536, .f32⟩
  | .hbm, ⟨38, _⟩ => ⟨S1536, .f32⟩
  | .hbm, ⟨39, _⟩ => ⟨S1x1536, .f32⟩
  | .hbm, ⟨40, _⟩ => ⟨S1x1536, .f32⟩
  | .hbm, ⟨41, _⟩ => ⟨S1x1536, .f32⟩
  | .hbm, ⟨42, _⟩ => ⟨S3x1536, .f32⟩
  | .hbm, ⟨43, _⟩ => ⟨S3x1x1536, .f32⟩
  | .hbm, ⟨44, _⟩ => ⟨S32768x4608, .bf16⟩
  | .hbm, ⟨45, _⟩ => ⟨S32768x1536, .f32⟩
  | .hbm, ⟨46, _⟩ => ⟨S32768x2048, .bf16⟩
  | .hbm, ⟨47, _⟩ => ⟨S8x32768, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1x8x2048, .bf16⟩
  | .local _ .vmem, ⟨6, _⟩ => ⟨S1x1x1536, .f32⟩
  | .local _ .vmem, ⟨7, _⟩ => ⟨S1x1x1536, .f32⟩
  | .local _ .vmem, ⟨8, _⟩ => ⟨S512x1536, .bf16⟩
  | .local _ .vmem, ⟨9, _⟩ => ⟨S512x1536, .bf16⟩
  | .local _ .vmem, ⟨10, _⟩ => ⟨S512x512, .f32⟩
  | .local _ .vmem, ⟨11, _⟩ => ⟨S512x512, .f32⟩
  | .local _ .vmem, ⟨12, _⟩ => ⟨S512x2048, .bf16⟩
  | .local _ .vmem, ⟨13, _⟩ => ⟨S512x2048, .bf16⟩
  | .local _ .vmem, ⟨14, _⟩ => ⟨S8x512, .f32⟩
  | .local _ .vmem, ⟨15, _⟩ => ⟨S8x512, .f32⟩
  | .local _ .vmem, ⟨16, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37_0 : Ref sig .tc := ⟨.hbm, 44, rfl⟩
abbrev main_v37_1 : Ref sig .tc := ⟨.hbm, 45, rfl⟩
abbrev main_v37_2 : Ref sig .tc := ⟨.hbm, 46, rfl⟩
abbrev main_v37_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x8x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ProjRef0Ideal.lean ====
abbrev S32768x2048 : Shape := ⟨2, ![32768, 2048]⟩
abbrev S2x2048 : Shape := ⟨2, ![2, 2048]⟩
abbrev S2x2048x12292 : Shape := ⟨3, ![2, 2048, 12292]⟩
abbrev S2x4x128 : Shape := ⟨3, ![2, 4, 128]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x6148 : Shape := ⟨3, ![1, 2048, 6148]⟩
abbrev S2048x6148 : Shape := ⟨2, ![2048, 6148]⟩
abbrev S32768x6148 : Shape := ⟨2, ![32768, 6148]⟩
abbrev S32768x6144 : Shape := ⟨2, ![32768, 6144]⟩
abbrev S32768x3x4x512 : Shape := ⟨4, ![32768, 3, 4, 512]⟩
abbrev S32768x4 : Shape := ⟨2, ![32768, 4]⟩
abbrev S1x4x128 : Shape := ⟨3, ![1, 4, 128]⟩
abbrev S4x128 : Shape := ⟨2, ![4, 128]⟩
abbrev S1x128 : Shape := ⟨2, ![1, 128]⟩
abbrev S128 : Shape := ⟨1, ![128]⟩
abbrev S32768x1x1x512 : Shape := ⟨4, ![32768, 1, 1, 512]⟩
abbrev S32768x512 : Shape := ⟨2, ![32768, 512]⟩
abbrev S32768x4x128 : Shape := ⟨3, ![32768, 4, 128]⟩
abbrev S32768x4x1 : Shape := ⟨3, ![32768, 4, 1]⟩
abbrev S1x1x128 : Shape := ⟨3, ![1, 1, 128]⟩
abbrev S32768x4608 : Shape := ⟨2, ![32768, 4608]⟩
abbrev S32768x3x1x512 : Shape := ⟨4, ![32768, 3, 1, 512]⟩
abbrev S32768x3x512 : Shape := ⟨3, ![32768, 3, 512]⟩
abbrev S32768x1536 : Shape := ⟨2, ![32768, 1536]⟩
abbrev S4x32768 : Shape := ⟨2, ![4, 32768]⟩
abbrev S8x32768 : Shape := ⟨2, ![8, 32768]⟩

abbrev nBuf : Space → Nat
  | .hbm => 147
  | .vmem => 0
  | .smem => 0
  | _ => 0

abbrev hbmTy0_0 (i : Nat) : BufTy := match i % 128 with
  | 0 => ⟨S32768x2048, .f32⟩
  | 1 => ⟨S2x2048, .f32⟩
  | 2 => ⟨S2x2048x12292, .f32⟩
  | 3 => ⟨S2x4x128, .f32⟩
  | 4 => ⟨S1x2048, .f32⟩
  | 5 => ⟨S2048, .f32⟩
  | 6 => ⟨S32768x2048, .f32⟩
  | 7 => ⟨S_, .f32⟩
  | 8 => ⟨S32768, .f32⟩
  | 9 => ⟨S32768x1, .f32⟩
  | 10 => ⟨S_, .f32⟩
  | 11 => ⟨S32768x1, .f32⟩
  | 12 => ⟨S32768x1, .f32⟩
  | 13 => ⟨S_, .f32⟩
  | 14 => ⟨S32768x1, .f32⟩
  | 15 => ⟨S32768x1, .f32⟩
  | 16 => ⟨S32768x1, .f32⟩
  | 17 => ⟨S32768x2048, .f32⟩
  | 18 => ⟨S32768x2048, .f32⟩
  | 19 => ⟨S1x2048, .f32⟩
  | 20 => ⟨S32768x2048, .f32⟩
  | 21 => ⟨S32768x2048, .f32⟩
  | 22 => ⟨S1x2048x6148, .f32⟩
  | 23 => ⟨S2048x6148, .f32⟩
  | 24 => ⟨S32768x6148, .f32⟩
  | 25 => ⟨S32768x6144, .f32⟩
  | 26 => ⟨S32768x3x4x512, .f32⟩
  | 27 => ⟨S32768x4, .f32⟩
  | 28 => ⟨S1x4x128, .f32⟩
  | 29 => ⟨S4x128, .f32⟩
  | 30 => ⟨S1x128, .f32⟩
  | 31 => ⟨S128, .f32⟩
  | 32 => ⟨S32768x1x1x512, .f32⟩
  | 33 => ⟨S32768x512, .f32⟩
  | 34 => ⟨S32768x4x128, .f32⟩
  | 35 => ⟨S32768x4x128, .f32⟩
  | 36 => ⟨S_, .f32⟩
  | 37 => ⟨S32768x4, .f32⟩
  | 38 => ⟨S32768x4x1, .f32⟩
  | 39 => ⟨S_, .f32⟩
  | 40 => ⟨S32768x4x1, .f32⟩
  | 41 => ⟨S32768x4x1, .f32⟩
  | 42 => ⟨S_, .f32⟩
  | 43 => ⟨S32768x4x1, .f32⟩
  | 44 => ⟨S32768x4x1, .f32⟩
  | 45 => ⟨S32768x4x1, .f32⟩
  | 46 => ⟨S32768x4x128, .f32⟩
  | 47 => ⟨S32768x4x128, .f32⟩
  | 48 => ⟨S1x1x128, .f32⟩
  | 49 => ⟨S32768x4x128, .f32⟩
  | 50 => ⟨S32768x4x128, .f32⟩
  | 51 => ⟨S32768x512, .f32⟩
  | 52 => ⟨S1x128, .f32⟩
  | 53 => ⟨S128, .f32⟩
  | 54 => ⟨S32768x1x1x512, .f32⟩
  | 55 => ⟨S32768x512, .f32⟩
  | 56 => ⟨S32768x4x128, .f32⟩
  | 57 => ⟨S32768x4x128, .f32⟩
  | 58 => ⟨S_, .f32⟩
  | 59 => ⟨S32768x4, .f32⟩
  | 60 => ⟨S32768x4x1, .f32⟩
  | 61 => ⟨S_, .f32⟩
  | 62 => ⟨S32768x4x1, .f32⟩
  | 63 => ⟨S32768x4x1, .f32⟩
  | 64 => ⟨S_, .f32⟩
  | 65 => ⟨S32768x4x1, .f32⟩
  | 66 => ⟨S32768x4x1, .f32⟩
  | 67 => ⟨S32768x4x1, .f32⟩
  | 68 => ⟨S32768x4x128, .f32⟩
  | 69 => ⟨S32768x4x128, .f32⟩
  | 70 => ⟨S1x1x128, .f32⟩
  | 71 => ⟨S32768x4x128, .f32⟩
  | 72 => ⟨S32768x4x128, .f32⟩
  | 73 => ⟨S32768x512, .f32⟩
  | 74 => ⟨S32768x1x1x512, .f32⟩
  | 75 => ⟨S32768x512, .f32⟩
  | 76 => ⟨S1x128, .f32⟩
  | 77 => ⟨S128, .f32⟩
  | 78 => ⟨S32768x1x1x512, .f32⟩
  | 79 => ⟨S32768x512, .f32⟩
  | 80 => ⟨S32768x4x128, .f32⟩
  | 81 => ⟨S32768x4x128, .f32⟩
  | 82 => ⟨S_, .f32⟩
  | 83 => ⟨S32768x4, .f32⟩
  | 84 => ⟨S32768x4x1, .f32⟩
  | 85 => ⟨S_, .f32⟩
  | 86 => ⟨S32768x4x1, .f32⟩
  | 87 => ⟨S32768x4x1, .f32⟩
  | 88 => ⟨S_, .f32⟩
  | 89 => ⟨S32768x4x1, .f32⟩
  | 90 => ⟨S32768x4x1, .f32⟩
  | 91 => ⟨S32768x4x1, .f32⟩
  | 92 => ⟨S32768x4x128, .f32⟩
  | 93 => ⟨S32768x4x128, .f32⟩
  | 94 => ⟨S1x1x128, .f32⟩
  | 95 => ⟨S32768x4x128, .f32⟩
  | 96 => ⟨S32768x4x128, .f32⟩
  | 97 => ⟨S32768x512, .f32⟩
  | 98 => ⟨S1x128, .f32⟩
  | 99 => ⟨S128, .f32⟩
  | 100 => ⟨S32768x1x1x512, .f32⟩
  | 101 => ⟨S32768x512, .f32⟩
  | 102 => ⟨S32768x4x128, .f32⟩
  | 103 => ⟨S32768x4x128, .f32⟩
  | 104 => ⟨S_, .f32⟩
  | 105 => ⟨S32768x4, .f32⟩
  | 106 => ⟨S32768x4x1, .f32⟩
  | 107 => ⟨S_, .f32⟩
  | 108 => ⟨S32768x4x1, .f32⟩
  | 109 => ⟨S32768x4x1, .f32⟩
  | 110 => ⟨S_, .f32⟩
  | 111 => ⟨S32768x4x1, .f32⟩
  | 112 => ⟨S32768x4x1, .f32⟩
  | 113 => ⟨S32768x4x1, .f32⟩
  | 114 => ⟨S32768x4x128, .f32⟩
  | 115 => ⟨S32768x4x128, .f32⟩
  | 116 => ⟨S1x1x128, .f32⟩
  | 117 => ⟨S32768x4x128, .f32⟩
  | 118 => ⟨S32768x4x128, .f32⟩
  | 119 => ⟨S32768x512, .f32⟩
  | 120 => ⟨S32768x1x1x512, .f32⟩
  | 121 => ⟨S32768x512, .f32⟩
  | 122 => ⟨S32768x1x1x512, .f32⟩
  | 123 => ⟨S32768x512, .f32⟩
  | 124 => ⟨S32768x1x1x512, .f32⟩
  | 125 => ⟨S32768x512, .f32⟩
  | 126 => ⟨S32768x1x1x512, .f32⟩
  | 127 => ⟨S32768x512, .f32⟩
  | _ => ⟨S32768x2048, .f32⟩

abbrev hbmTy0_1 (i : Nat) : BufTy := match i % 128 with
  | 0 => ⟨S32768x4608, .f32⟩
  | 1 => ⟨S32768x3x1x512, .f32⟩
  | 2 => ⟨S32768x3x512, .f32⟩
  | 3 => ⟨S32768x3x512, .f32⟩
  | 4 => ⟨S32768x3x512, .f32⟩
  | 5 => ⟨S_, .f32⟩
  | 6 => ⟨S32768x3x512, .f32⟩
  | 7 => ⟨S32768x3x512, .f32⟩
  | 8 => ⟨S_, .f32⟩
  | 9 => ⟨S32768x3x512, .f32⟩
  | 10 => ⟨S32768x3x512, .f32⟩
  | 11 => ⟨S32768x3x512, .f32⟩
  | 12 => ⟨S32768x1536, .f32⟩
  | 13 => ⟨S4x32768, .f32⟩
  | 14 => ⟨S_, .i32⟩
  | 15 => ⟨S_, .f32⟩
  | 16 => ⟨S8x32768, .f32⟩
  | 17 => ⟨S32768x4608, .bf16⟩
  | 18 => ⟨S32768x2048, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_8 : Ref sig .tc := ⟨.hbm, 82, rfl⟩
abbrev main_v69 : Ref sig .tc := ⟨.hbm, 83, rfl⟩
abbrev main_v70 : Ref sig .tc := ⟨.hbm, 84, rfl⟩
abbrev main_cst_9 : Ref sig .tc := ⟨.hbm, 85, rfl⟩
abbrev main_v71 : Ref sig .tc := ⟨.hbm, 86, rfl⟩
abbrev main_v72 : Ref sig .tc := ⟨.hbm, 87, rfl⟩
abbrev main_cst_10 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_11 : Ref sig .tc := ⟨.hbm, 104, rfl⟩
abbrev main_v88 : Ref sig .tc := ⟨.hbm, 105, rfl⟩
abbrev main_v89 : Ref sig .tc := ⟨.hbm, 106, rfl⟩
abbrev main_cst_12 : Ref sig .tc := ⟨.hbm, 107, rfl⟩
abbrev main_v90 : Ref sig .tc := ⟨.hbm, 108, rfl⟩
abbrev main_v91 : Ref sig .tc := ⟨.hbm, 109, rfl⟩
abbrev main_cst_13 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_call0_v0 : Ref sig .tc := ⟨.hbm, 131, rfl⟩
abbrev main_call0_v1 : Ref sig .tc := ⟨.hbm, 132, rfl⟩
abbrev main_call0_cst : Ref sig .tc := ⟨.hbm, 133, rfl⟩
abbrev main_call0_v2 : Ref sig .tc := ⟨.hbm, 134, rfl⟩
abbrev main_call0_v3 : Ref sig .tc := ⟨.hbm, 135, rfl⟩
abbrev main_call0_cst_0 : Ref sig .tc := ⟨.hbm, 136, rfl⟩
abbrev main_call0_v4 : Ref sig .tc := ⟨.hbm, 137, rfl⟩
abbrev main_call0_v5 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_c : Ref sig .tc := ⟨.hbm, 142, rfl⟩
abbrev main_call1_v0 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩

abbrev nD : Nat := 1
abbrev τ : Topo := Topo.v7x

variable {F : FTy → Type} [FloatOps F]
-- ==== Proof.TailBody.lean ====
/-
  THE MERGE TAIL, one grid point. What a point leaves in the result's block: the block it found there (the residual
  stream's block at a row tile's first point, the point before's result otherwise) plus the product of the merged,
  gated branches of one column tile with that tile's rows of the output weights.
-/
module

public import proofs.«01_k».proof.Proof.Gen.TailIdeal.Value
public import Idealize.ShloMosaic.Lib.Pipeline.Value
public import Idealize.ShloMosaic.Lib.Pipeline.ValueKit.Tiles
public import Idealize.ShloMosaic.Lib.Tactic

@[expose] public section

noncomputable section

namespace Cert.TailIdeal.Body

open Cert.TailIdeal Cert.TailIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One point's result over what the block held: `acc` plus the product of the merged tile with its rows of the output
    weights. -/
def step (x1 : Vec F S512x2048 .bf16) (x2 x3 x4 : Vec F S512x512 .bf16) (x5 x6 x7 : Vec F S1x2048x512 .bf16)
    (x8 x9 x10 : Vec F S1x1x512 .f32) (x11 : Vec F S1x3x512x512 .bf16) (x12 : Vec F S1x512x2048 .bf16)
    (acc : Vec F S512x2048 .f32) : Vec F S512x2048 .f32 :=
  k0_pay1
    (k0_pay5
      (k0_pay2 x1 x5 x8 x2 (View.ld x11 (Rect.unit (s := S1x3x512x512) ![0, 0, 0, 0] S1x1x512x512.size inb_S1x3x512x512_S1x1x512x512_0_0_0_0)))
      (k0_pay3 x1 x6) (k0_pay4 x9) x3
      (View.ld x11 (Rect.unit (s := S1x3x512x512) ![0, 1, 0, 0] S1x1x512x512.size inb_S1x3x512x512_S1x1x512x512_0_1_0_0)))
    (k0_pay6 x1 x7 x10 x4 (View.ld x11 (Rect.unit (s := S1x3x512x512) ![0, 2, 0, 0] S1x1x512x512.size inb_S1x3x512x512_S1x1x512x512_0_2_0_0)))
    acc x12

/-- At a point that is not its row tile's first, the block's new contents are one step over its old ones. -/
theorem out_B (c : Dev nD) (i : grid0.Coords) (a0 : Memref sig .tc .vmem S512x2048 .f32) (h0 : a0.IsWhole) (a1 : Memref sig .tc .vmem S512x2048 .bf16) (h1 : a1.IsWhole) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S1x2048x512 .bf16) (h5 : a5.IsWhole) (a6 : Memref sig .tc .vmem S1x2048x512 .bf16) (h6 : a6.IsWhole) (a7 : Memref sig .tc .vmem S1x2048x512 .bf16) (h7 : a7.IsWhole) (a8 : Memref sig .tc .vmem S1x1x512 .f32) (h8 : a8.IsWhole) (a9 : Memref sig .tc .vmem S1x1x512 .f32) (h9 : a9.IsWhole) (a10 : Memref sig .tc .vmem S1x1x512 .f32) (h10 : a10.IsWhole) (a11 : Memref sig .tc .vmem S1x3x512x512 .bf16) (h11 : a11.IsWhole) (a12 : Memref sig .tc .vmem S1x512x2048 .bf16) (h12 : a12.IsWhole) (a13 : Memref sig .tc .vmem S512x2048 .f32) (h13 : a13.IsWhole) (hc : ¬cond0_0 i) (x0 : Vec F S512x2048 .f32) (x1 : Vec F S512x2048 .bf16) (x2 : Vec F S512x512 .bf16) (x3 : Vec F S512x512 .bf16) (x4 : Vec F S512x512 .bf16) (x5 : Vec F S1x2048x512 .bf16) (x6 : Vec F S1x2048x512 .bf16) (x7 : Vec F S1x2048x512 .bf16) (x8 : Vec F S1x1x512 .f32) (x9 : Vec F S1x1x512 .f32) (x10 : Vec F S1x1x512 .f32) (x11 : Vec F S1x3x512x512 .bf16) (x12 : Vec F S1x512x2048 .bf16) (xo : Vec F S512x2048 .f32) :
    out0_B_13 c i a0 h0 a1 h1 a2 h2 a3 h3 a4 h4 a5 h5 a6 h6 a7 h7 a8 h8 a9 h9 a10 h10 a11 h11 a12 h12 a13 h13 hc x0 x1 x2 x3 x4 x5 x6 x7 x8 x9 x10 x11 x12 xo = step x1 x2 x3 x4 x5 x6 x7 x8 x9 x10 x11 x12 xo := by
  unfold out0_B_13
  rw [View.read_writes_eq_canon _ _ _ (cover0_B_13 c i a0 h0 a1 h1 a2 h2 a3 h3 a4 h4 a5 h5 a6 h6 a7 h7 a8 h8 a9 h9 a10 h10 a11 h11 a12 h12 a13 h13 hc x0 x1 x2 x3 x4 x5 x6 x7 x8 x9 x10 x11 x12 xo)]
  unfold kernelRun0_B
  dsimp only
  sl_unfold_words
  rw [View.canon_unit_zero (S := S512x2048) hz2]
  unfold step
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S512x2048) hz2, View.ld_unit_zero (S := S512x512) hz2, View.ld_unit_zero (S := S1x2048x512) hz3, View.ld_unit_zero (S := S1x1x512) hz3, View.ld_unit_zero (S := S1x512x2048) hz3]

/-- At a row tile's first point, they are one step over the residual stream's block. -/
theorem out_A (c : Dev nD) (i : grid0.Coords) (a0 : Memref sig .tc .vmem S512x2048 .f32) (h0 : a0.IsWhole) (a1 : Memref sig .tc .vmem S512x2048 .bf16) (h1 : a1.IsWhole) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S1x2048x512 .bf16) (h5 : a5.IsWhole) (a6 : Memref sig .tc .vmem S1x2048x512 .bf16) (h6 : a6.IsWhole) (a7 : Memref sig .tc .vmem S1x2048x512 .bf16) (h7 : a7.IsWhole) (a8 : Memref sig .tc .vmem S1x1x512 .f32) (h8 : a8.IsWhole) (a9 : Memref sig .tc .vmem S1x1x512 .f32) (h9 : a9.IsWhole) (a10 : Memref sig .tc .vmem S1x1x512 .f32) (h10 : a10.IsWhole) (a11 : Memref sig .tc .vmem S1x3x512x512 .bf16) (h11 : a11.IsWhole) (a12 : Memref sig .tc .vmem S1x512x2048 .bf16) (h12 : a12.IsWhole) (a13 : Memref sig .tc .vmem S512x2048 .f32) (h13 : a13.IsWhole) (hc : cond0_0 i) (x0 : Vec F S512x2048 .f32) (x1 : Vec F S512x2048 .bf16) (x2 : Vec F S512x512 .bf16) (x3 : Vec F S512x512 .bf16) (x4 : Vec F S512x512 .bf16) (x5 : Vec F S1x2048x512 .bf16) (x6 : Vec F S1x2048x512 .bf16) (x7 : Vec F S1x2048x512 .bf16) (x8 : Vec F S1x1x512 .f32) (x9 : Vec F S1x1x512 .f32) (x10 : Vec F S1x1x512 .f32) (x11 : Vec F S1x3x512x512 .bf16) (x12 : Vec F S1x512x2048 .bf16) :
    out0_A_13 c i a0 h0 a1 h1 a2 h2 a3 h3 a4 h4 a5 h5 a6 h6 a7 h7 a8 h8 a9 h9 a10 h10 a11 h11 a12 h12 a13 h13 hc x0 x1 x2 x3 x4 x5 x6 x7 x8 x9 x10 x11 x12 = step x1 x2 x3 x4 x5 x6 x7 x8 x9 x10 x11 x12 x0 := by
  unfold out0_A_13
  rw [View.read_writes_eq_canon _ _ _ (cover0_A_13 c i a0 h0 a1 h1 a2 h2 a3 h3 a4 h4 a5 h5 a6 h6 a7 h7 a8 h8 a9 h9 a10 h10 a11 h11 a12 h12 a13 h13 hc x0 x1 x2 x3 x4 x5 x6 x7 x8 x9 x10 x11 x12)]
  unfold kernelRun0_A
  dsimp only
  sl_unfold_words
  rw [View.canon_cons_unit_zero (S := S512x2048) hz2, View.readCov_unit_zero (S := S512x2048) _ hz2]
  unfold step
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S512x2048) hz2, View.ld_unit_zero (S := S512x512) hz2, View.ld_unit_zero (S := S1x2048x512) hz3, View.ld_unit_zero (S := S1x1x512) hz3, View.ld_unit_zero (S := S1x512x2048) hz3]

end Cert.TailIdeal.Body

end
-- ==== Proof.TailStep.lean ====
/-
  THE MERGE TAIL, one point's step at an index: the accumulated block's element plus the sum over one column tile of the
  three gated branches times the tile's rows of the output weights.
-/
module

public import proofs.«01_k».proof.Proof.TailBody
public import Idealize.ShloMosaic.Lib.Pointwise

@[expose] public section

noncomputable section

namespace Cert.TailIdeal.Step

open Cert.TailIdeal Cert.TailIdeal.Gen Cert.TailIdeal.Body Idealize.ShloMosaic Idealize.ShloMosaic.TcCoe

/-- One gated branch at an element: the logistic function of a gate's logit times the branch's up-projection. -/
def gated (l u : EReal) : EReal := Ideal.div 1 (1 + Ideal.exp (-l)) * u

theorem step_apply (x1 : Vec Ideal S512x2048 .bf16) (x2 x3 x4 : Vec Ideal S512x512 .bf16) (x5 x6 x7 : Vec Ideal S1x2048x512 .bf16)
    (x8 x9 x10 : Vec Ideal S1x1x512 .f32) (x11 : Vec Ideal S1x3x512x512 .bf16) (x12 : Vec Ideal S1x512x2048 .bf16)
    (acc : Vec Ideal S512x2048 .f32) (r : Fin 512) (d : Fin 2048) :
    step x1 x2 x3 x4 x5 x6 x7 x8 x9 x10 x11 x12 acc (ix2 r d)
      = acc (ix2 r d) + ∑ n : Fin 512,
          (gated ((∑ k : Fin 2048, x1 (ix2 r k) * x5 (ix3 0 k n)) + x8 (ix3 0 0 n)) (∑ k : Fin 512, x2 (ix2 r k) * x11 (ix4 0 0 k n))
            + gated ((∑ k : Fin 2048, x1 (ix2 r k) * x6 (ix3 0 k n)) + x9 (ix3 0 0 n)) (∑ k : Fin 512, x3 (ix2 r k) * x11 (ix4 0 1 k n))
            + gated ((∑ k : Fin 2048, x1 (ix2 r k) * x7 (ix3 0 k n)) + x10 (ix3 0 0 n)) (∑ k : Fin 512, x4 (ix2 r k) * x11 (ix4 0 2 k n)))
          * x12 (ix3 0 n d) := by
  unfold gated
  pointwise [step, k0_pay1, k0_pay2, k0_pay3, k0_pay4, k0_pay5, k0_pay6]
  simp only [zero_sub]

end Cert.TailIdeal.Step

end
-- ==== Proof.TailBlocks.lean ====
/-
  THE MERGE TAIL, the windows' blocks read off the arguments: grid point `t` is column tile `t % 4` of row tile `t / 4`.
-/
module

public import proofs.«01_k».proof.Proof.TailStep

@[expose] public section

noncomputable section

namespace Cert.TailIdeal.Blocks

open Cert.TailIdeal Cert.TailIdeal.Gen Idealize.ShloMosaic Idealize.ShloMosaic.TcCoe

variable (m : (ℓ : Loc nD τ sig) → Buf (Elt Ideal) ℓ)

/-- The printed index maps, decided over the 256 points. -/
theorem idx_facts : ∀ t : Fin cfg0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = t.val / 4 ∧ win0_2.index t (1 : Fin 2) = 0)
    ∧ (win0_3.index t (0 : Fin 2) = t.val / 4 ∧ win0_3.index t (1 : Fin 2) = 0)
    ∧ (win0_4.index t (0 : Fin 2) = t.val / 4 ∧ win0_4.index t (1 : Fin 2) = 0)
    ∧ (win0_5.index t (0 : Fin 3) = 1 ∧ win0_5.index t (1 : Fin 3) = 0 ∧ win0_5.index t (2 : Fin 3) = t.val % 4)
    ∧ (win0_6.index t (0 : Fin 3) = 1 ∧ win0_6.index t (1 : Fin 3) = 0 ∧ win0_6.index t (2 : Fin 3) = 4 + t.val % 4)
    ∧ (win0_7.index t (0 : Fin 3) = 1 ∧ win0_7.index t (1 : Fin 3) = 0 ∧ win0_7.index t (2 : Fin 3) = 8 + t.val % 4)
    ∧ (win0_8.index t (0 : Fin 3) = 1 ∧ win0_8.index t (1 : Fin 3) = 0 ∧ win0_8.index t (2 : Fin 3) = t.val % 4)
    ∧ (win0_9.index t (0 : Fin 3) = 1 ∧ win0_9.index t (1 : Fin 3) = 0 ∧ win0_9.index t (2 : Fin 3) = 4 + t.val % 4)
    ∧ (win0_10.index t (0 : Fin 3) = 1 ∧ win0_10.index t (1 : Fin 3) = 0 ∧ win0_10.index t (2 : Fin 3) = 8 + t.val % 4)
    ∧ (win0_11.index t (0 : Fin 4) = 1 ∧ win0_11.index t (1 : Fin 4) = 0 ∧ win0_11.index t (2 : Fin 4) = 0 ∧ win0_11.index t (3 : Fin 4) = t.val % 4)
    ∧ (win0_12.index t (0 : Fin 3) = 1 ∧ win0_12.index t (1 : Fin 3) = t.val % 4 ∧ win0_12.index t (2 : Fin 3) = 0)
    ∧ (win0_13.index t (0 : Fin 2) = t.val / 4 ∧ win0_13.index t (1 : Fin 2) = 0) :=
  (by decide +kernel : ∀ t : Fin grid0.N, _)

theorem lt_N (t : Fin cfg0.N) : t.val < 256 := lt_of_lt_of_eq t.isLt N_0

/-- The gates' columns of the projection's weights, cast; -/
def gateCols (x : FVec Ideal S2x2048x12292 .f32) : FVec Ideal S2x2048x6144 .bf16 :=
  extractStridedSlice S2x2048x6144 ![0, 0, 6148] (truncf .bf16 x bitsLt_bf16_f32) slices_S2x2048x12292_S2x2048x6144_0_0_6148

/-- the gates' bias with an axis of extent 1. -/
def gateBias (x : FVec Ideal S2x6144 .f32) : FVec Ideal S2x1x6144 .f32 :=
  shapeCast S2x1x6144 x shapeCasts_S2x6144_S2x1x6144

theorem gateCols_apply (x : FVec Ideal S2x2048x12292 .f32) (a : Fin 2) (k : Fin 2048) (n : Fin 6144) :
    gateCols x (ix3 a k n) = x (ix3 a k ⟨6148 + n.val, by have := n.isLt; omega⟩) := by
  pointwise [gateCols]

theorem gateBias_apply (x : FVec Ideal S2x6144 .f32) (a : Fin 2) (n : Fin 6144) :
    gateBias x (ix3 a 0 n) = x (ix2 a n) := by
  pointwise [gateBias]

/-- What the host hands the kernel: the gates' columns of the projection's weights, cast; -/
theorem V_main_v1 (c : Dev nD) : @Eq (FVec Ideal S2x2048x6144 .bf16) (V m c main_v1) (gateCols (m ((c : Thread nD τ).loc main_arg5))) := by
  show StableHlo.after hostOps0 _ (Proc.devRef .tc main_v1) = _
  after_results
  rfl

/-- the gates' bias; -/
theorem V_main_v2 (c : Dev nD) : @Eq (FVec Ideal S2x1x6144 .f32) (V m c main_v2) (gateBias (m ((c : Thread nD τ).loc main_arg6))) := by
  show StableHlo.after hostOps0 _ (Proc.devRef .tc main_v2) = _
  after_results
  rfl

/-- the up-projections, whose cast is the identity over the extended reals; -/
theorem V_main_v3 (c : Dev nD) : @Eq (FVec Ideal S2x3x512x2048 .f32) (V m c main_v3) (m ((c : Thread nD τ).loc main_arg7)) := by
  show StableHlo.after hostOps0 _ (Proc.devRef .tc main_v3) = _
  after_results
  rfl

/-- the output weights. -/
theorem V_main_v4 (c : Dev nD) : @Eq (FVec Ideal S2x2048x2048 .f32) (V m c main_v4) (m ((c : Thread nD τ).loc main_arg8)) := by
  show StableHlo.after hostOps0 _ (Proc.devRef .tc main_v4) = _
  after_results
  rfl

/-! The blocks at an index. -/

variable (c : Dev nD) (t : Fin cfg0.N)

abbrev row (t : Fin cfg0.N) (r : Fin 512) : Fin 32768 := ⟨512 * (t.val / 4) + r.val, by have := lt_N t; have := r.isLt; omega⟩
abbrev col (t : Fin cfg0.N) (n : Fin 512) : Fin 2048 := ⟨512 * (t.val % 4) + n.val, by have := lt_N t; have := n.isLt; omega⟩

theorem blk0 (r : Fin 512) (d : Fin 2048) : (iblk m c 0 t : Vec Ideal S512x2048 .f32) (ix2 r d)
    = (m ((c : Thread nD τ).loc main_arg0) : Vec Ideal S32768x2048 .f32) (ix2 (row t r) d) := by
  show V m c main_arg0 (((cfg0.win 0).blk t).view.emb (ix2 r d)) = _
  rw [V_main_arg0]
  refine congrArg (m ((c : Thread nD τ).loc main_arg0)) ?_
  obtain ⟨⟨e0, e1⟩, -⟩ := idx_facts t
  funext a; apply Fin.ext
  match a with
  | ⟨0, _⟩ => show win0_0.index t (0 : Fin 2) * 512 + 1 * r.val = 512 * (t.val / 4) + r.val; omega
  | ⟨1, _⟩ => show win0_0.index t (1 : Fin 2) * 2048 + 1 * d.val = d.val; omega

theorem blk1 (r : Fin 512) (d : Fin 2048) : (iblk m c 1 t : Vec Ideal S512x2048 .bf16) (ix2 r d)
    = (m ((c : Thread nD τ).loc main_arg1) : Vec Ideal S32768x2048 .bf16) (ix2 (row t r) d) := by
  show V m c main_arg1 (((cfg0.win 1).blk t).view.emb (ix2 r d)) = _
  rw [V_main_arg1]
  refine congrArg (m ((c : Thread nD τ).loc main_arg1)) ?_
  obtain ⟨-, ⟨e0, e1⟩, -⟩ := idx_facts t
  funext a; apply Fin.ext
  match a with
  | ⟨0, _⟩ => show win0_1.index t (0 : Fin 2) * 512 + 1 * r.val = 512 * (t.val / 4) + r.val; omega
  | ⟨1, _⟩ => show win0_1.index t (1 : Fin 2) * 2048 + 1 * d.val = d.val; omega

theorem blk2 (r : Fin 512) (k : Fin 512) : (iblk m c 2 t : Vec Ideal S512x512 .bf16) (ix2 r k)
    = (m ((c : Thread nD τ).loc main_arg2) : Vec Ideal S32768x512 .bf16) (ix2 (row t r) k) := by
  show V m c main_arg2 (((cfg0.win 2).blk t).view.emb (ix2 r k)) = _
  rw [V_main_arg2]
  refine congrArg (m ((c : Thread nD τ).loc main_arg2)) ?_
  obtain ⟨-, -, ⟨e0, e1⟩, -⟩ := idx_facts t
  funext a; apply Fin.ext
  match a with
  | ⟨0, _⟩ => show win0_2.index t (0 : Fin 2) * 512 + 1 * r.val = 512 * (t.val / 4) + r.val; omega
  | ⟨1, _⟩ => show win0_2.index t (1 : Fin 2) * 512 + 1 * k.val = k.val; omega

theorem blk3 (r : Fin 512) (k : Fin 512) : (iblk m c 3 t : Vec Ideal S512x512 .bf16) (ix2 r k)
    = (m ((c : Thread nD τ).loc main_arg3) : Vec Ideal S32768x512 .bf16) (ix2 (row t r) k) := by
  show V m c main_arg3 (((cfg0.win 3).blk t).view.emb (ix2 r k)) = _
  rw [V_main_arg3]
  refine congrArg (m ((c : Thread nD τ).loc main_arg3)) ?_
  obtain ⟨-, -, -, ⟨e0, e1⟩, -⟩ := idx_facts t
  funext a; apply Fin.ext
  match a with
  | ⟨0, _⟩ => show win0_3.index t (0 : Fin 2) * 512 + 1 * r.val = 512 * (t.val / 4) + r.val; omega
  | ⟨1, _⟩ => show win0_3.index t (1 : Fin 2) * 512 + 1 * k.val = k.val; omega

theorem blk4 (r : Fin 512) (k : Fin 512) : (iblk m c 4 t : Vec Ideal S512x512 .bf16) (ix2 r k)
    = (m ((c : Thread nD τ).loc main_arg4) : Vec Ideal S32768x512 .bf16) (ix2 (row t r) k) := by
  show V m c main_arg4 (((cfg0.win 4).blk t).view.emb (ix2 r k)) = _
  rw [V_main_arg4]
  refine congrArg (m ((c : Thread nD τ).loc main_arg4)) ?_
  obtain ⟨-, -, -, -, ⟨e0, e1⟩, -⟩ := idx_facts t
  funext a; apply Fin.ext
  match a with
  | ⟨0, _⟩ => show win0_4.index t (0 : Fin 2) * 512 + 1 * r.val = 512 * (t.val / 4) + r.val; omega
  | ⟨1, _⟩ => show win0_4.index t (1 : Fin 2) * 512 + 1 * k.val = k.val; omega

theorem blk5 (k : Fin 2048) (n : Fin 512) : (iblk m c 5 t : Vec Ideal S1x2048x512 .bf16) (ix3 0 k n)
    = (m ((c : Thread nD τ).loc main_arg5) : Vec Ideal S2x2048x12292 .f32) (ix3 1 k ⟨6148 + (0 + (col t n).val), by have := (col t n).isLt; omega⟩) := by
  show V m c main_v1 (((cfg0.win 5).blk t).view.emb (ix3 0 k n)) = _
  refine Eq.trans ?_ (gateCols_apply (m ((c : Thread nD τ).loc main_arg5)) 1 k ⟨0 + (col t n).val, by have := (col t n).isLt; omega⟩)
  rw [V_main_v1]
  refine congrArg (gateCols (m ((c : Thread nD τ).loc main_arg5))) ?_
  obtain ⟨-, -, -, -, -, ⟨e0, e1, e2⟩, -⟩ := idx_facts t
  funext a; apply Fin.ext
  match a with
  | ⟨0, _⟩ => show win0_5.index t (0 : Fin 3) * 1 + 1 * 0 = 1; omega
  | ⟨1, _⟩ => show win0_5.index t (1 : Fin 3) * 2048 + 1 * k.val = k.val; omega
  | ⟨2, _⟩ => show win0_5.index t (2 : Fin 3) * 512 + 1 * n.val = 0 + (512 * (t.val % 4) + n.val); omega

theorem blk6 (k : Fin 2048) (n : Fin 512) : (iblk m c 6 t : Vec Ideal S1x2048x512 .bf16) (ix3 0 k n)
    = (m ((c : Thread nD τ).loc main_arg5) : Vec Ideal S2x2048x12292 .f32) (ix3 1 k ⟨6148 + (2048 + (col t n).val), by have := (col t n).isLt; omega⟩) := by
  show V m c main_v1 (((cfg0.win 6).blk t).view.emb (ix3 0 k n)) = _
  refine Eq.trans ?_ (gateCols_apply (m ((c : Thread nD τ).loc main_arg5)) 1 k ⟨2048 + (col t n).val, by have := (col t n).isLt; omega⟩)
  rw [V_main_v1]
  refine congrArg (gateCols (m ((c : Thread nD τ).loc main_arg5))) ?_
  obtain ⟨-, -, -, -, -, -, ⟨e0, e1, e2⟩, -⟩ := idx_facts t
  funext a; apply Fin.ext
  match a with
  | ⟨0, _⟩ => show win0_6.index t (0 : Fin 3) * 1 + 1 * 0 = 1; omega
  | ⟨1, _⟩ => show win0_6.index t (1 : Fin 3) * 2048 + 1 * k.val = k.val; omega
  | ⟨2, _⟩ => show win0_6.index t (2 : Fin 3) * 512 + 1 * n.val = 2048 + (512 * (t.val % 4) + n.val); omega

theorem blk7 (k : Fin 2048) (n : Fin 512) : (iblk m c 7 t : Vec Ideal S1x2048x512 .bf16) (ix3 0 k n)
    = (m ((c : Thread nD τ).loc main_arg5) : Vec Ideal S2x2048x12292 .f32) (ix3 1 k ⟨6148 + (4096 + (col t n).val), by have := (col t n).isLt; omega⟩) := by
  show V m c main_v1 (((cfg0.win 7).blk t).view.emb (ix3 0 k n)) = _
  refine Eq.trans ?_ (gateCols_apply (m ((c : Thread nD τ).loc main_arg5)) 1 k ⟨4096 + (col t n).val, by have := (col t n).isLt; omega⟩)
  rw [V_main_v1]
  refine congrArg (gateCols (m ((c : Thread nD τ).loc main_arg5))) ?_
  obtain ⟨-, -, -, -, -, -, -, ⟨e0, e1, e2⟩, -⟩ := idx_facts t
  funext a; apply Fin.ext
  match a with
  | ⟨0, _⟩ => show win0_7.index t (0 : Fin 3) * 1 + 1 * 0 = 1; omega
  | ⟨1, _⟩ => show win0_7.index t (1 : Fin 3) * 2048 + 1 * k.val = k.val; omega
  | ⟨2, _⟩ => show win0_7.index t (2 : Fin 3) * 512 + 1 * n.val = 4096 + (512 * (t.val % 4) + n.val); omega

theorem blk8 (n : Fin 512) : (iblk m c 8 t : Vec Ideal S1x1x512 .f32) (ix3 0 0 n)
    = (m ((c : Thread nD τ).loc main_arg6) : Vec Ideal S2x6144 .f32) (ix2 1 ⟨0 + (col t n).val, by have := (col t n).isLt; omega⟩) := by
  show V m c main_v2 (((cfg0.win 8).blk t).view.emb (ix3 0 0 n)) = _
  refine Eq.trans ?_ (gateBias_apply (m ((c : Thread nD τ).loc main_arg6)) 1 ⟨0 + (col t n).val, by have := (col t n).isLt; omega⟩)
  rw [V_main_v2]
  refine congrArg (gateBias (m ((c : Thread nD τ).loc main_arg6))) ?_
  obtain ⟨-, -, -, -, -, -, -, -, ⟨e0, e1, e2⟩, -⟩ := idx_facts t
  funext a; apply Fin.ext
  match a with
  | ⟨0, _⟩ => show win0_8.index t (0 : Fin 3) * 1 + 1 * 0 = 1; omega
  | ⟨1, _⟩ => show win0_8.index t (1 : Fin 3) * 1 + 1 * 0 = 0; omega
  | ⟨2, _⟩ => show win0_8.index t (2 : Fin 3) * 512 + 1 * n.val = 0 + (512 * (t.val % 4) + n.val); omega

theorem blk9 (n : Fin 512) : (iblk m c 9 t : Vec Ideal S1x1x512 .f32) (ix3 0 0 n)
    = (m ((c : Thread nD τ).loc main_arg6) : Vec Ideal S2x6144 .f32) (ix2 1 ⟨2048 + (col t n).val, by have := (col t n).isLt; omega⟩) := by
  show V m c main_v2 (((cfg0.win 9).blk t).view.emb (ix3 0 0 n)) = _
  refine Eq.trans ?_ (gateBias_apply (m ((c : Thread nD τ).loc main_arg6)) 1 ⟨2048 + (col t n).val, by have := (col t n).isLt; omega⟩)
  rw [V_main_v2]
  refine congrArg (gateBias (m ((c : Thread nD τ).loc main_arg6))) ?_
  obtain ⟨-, -, -, -, -, -, -, -, -, ⟨e0, e1, e2⟩, -⟩ := idx_facts t
  funext a; apply Fin.ext
  match a with
  | ⟨0, _⟩ => show win0_9.index t (0 : Fin 3) * 1 + 1 * 0 = 1; omega
  | ⟨1, _⟩ => show win0_9.index t (1 : Fin 3) * 1 + 1 * 0 = 0; omega
  | ⟨2, _⟩ => show win0_9.index t (2 : Fin 3) * 512 + 1 * n.val = 2048 + (512 * (t.val % 4) + n.val); omega

theorem blk10 (n : Fin 512) : (iblk m c 10 t : Vec Ideal S1x1x512 .f32) (ix3 0 0 n)
    = (m ((c : Thread nD τ).loc main_arg6) : Vec Ideal S2x6144 .f32) (ix2 1 ⟨4096 + (col t n).val, by have := (col t n).isLt; omega⟩) := by
  show V m c main_v2 (((cfg0.win 10).blk t).view.emb (ix3 0 0 n)) = _
  refine Eq.trans ?_ (gateBias_apply (m ((c : Thread nD τ).loc main_arg6)) 1 ⟨4096 + (col t n).val, by have := (col t n).isLt; omega⟩)
  rw [V_main_v2]
  refine congrArg (gateBias (m ((c : Thread nD τ).loc main_arg6))) ?_
  obtain ⟨-, -, -, -, -, -, -, -, -, -, ⟨e0, e1, e2⟩, -⟩ := idx_facts t
  funext a; apply Fin.ext
  match a with
  | ⟨0, _⟩ => show win0_10.index t (0 : Fin 3) * 1 + 1 * 0 = 1; omega
  | ⟨1, _⟩ => show win0_10.index t (1 : Fin 3) * 1 + 1 * 0 = 0; omega
  | ⟨2, _⟩ => show win0_10.index t (2 : Fin 3) * 512 + 1 * n.val = 4096 + (512 * (t.val % 4) + n.val); omega

theorem blk11 (b : Fin 3) (k : Fin 512) (n : Fin 512) : (iblk m c 11 t : Vec Ideal S1x3x512x512 .bf16) (ix4 0 b k n)
    = (m ((c : Thread nD τ).loc main_arg7) : Vec Ideal S2x3x512x2048 .f32) (ix4 1 b k (col t n)) := by
  show V m c main_v3 (((cfg0.win 11).blk t).view.emb (ix4 0 b k n)) = _
  rw [V_main_v3]
  refine congrArg (m ((c : Thread nD τ).loc main_arg7)) ?_
  obtain ⟨-, -, -, -, -, -, -, -, -, -, -, ⟨e0, e1, e2, e3⟩, -⟩ := idx_facts t
  funext a; apply Fin.ext
  match a with
  | ⟨0, _⟩ => show win0_11.index t (0 : Fin 4) * 1 + 1 * 0 = 1; omega
  | ⟨1, _⟩ => show win0_11.index t (1 : Fin 4) * 3 + 1 * b.val = b.val; omega
  | ⟨2, _⟩ => show win0_11.index t (2 : Fin 4) * 512 + 1 * k.val = k.val; omega
  | ⟨3, _⟩ => show win0_11.index t (3 : Fin 4) * 512 + 1 * n.val = 512 * (t.val % 4) + n.val; omega

theorem blk12 (n : Fin 512) (d : Fin 2048) : (iblk m c 12 t : Vec Ideal S1x512x2048 .bf16) (ix3 0 n d)
    = (m ((c : Thread nD τ).loc main_arg8) : Vec Ideal S2x2048x2048 .f32) (ix3 1 (col t n) d) := by
  show V m c main_v4 (((cfg0.win 12).blk t).view.emb (ix3 0 n d)) = _
  rw [V_main_v4]
  refine congrArg (m ((c : Thread nD τ).loc main_arg8)) ?_
  obtain ⟨-, -, -, -, -, -, -, -, -, -, -, -, ⟨e0, e1, e2⟩, -⟩ := idx_facts t
  funext a; apply Fin.ext
  match a with
  | ⟨0, _⟩ => show win0_12.index t (0 : Fin 3) * 1 + 1 * 0 = 1; omega
  | ⟨1, _⟩ => show win0_12.index t (1 : Fin 3) * 512 + 1 * n.val = 512 * (t.val % 4) + n.val; omega
  | ⟨2, _⟩ => show win0_12.index t (2 : Fin 3) * 2048 + 1 * d.val = d.val; omega

end Cert.TailIdeal.Blocks

end
-- ==== Proof.TailSum.lean ====
/-
  THE MERGE TAIL as one formula: the residual stream plus the output projection of the three gated branches' sum, at an
  element, over the layer and the nine arguments. Both programs' results are read to this array.
-/
module

public import proofs.«01_k».proof.Proof.TailStep

@[expose] public section

noncomputable section

namespace Cert.TailIdeal.Sum

open Cert.TailIdeal Cert.TailIdeal.Gen Cert.TailIdeal.Step Idealize.ShloMosaic Idealize.ShloMosaic.TcCoe

variable (a : Fin 2) (x0 : FVec Ideal S32768x2048 .f32) (x1 : FVec Ideal S32768x2048 .bf16) (x2 x3 x4 : FVec Ideal S32768x512 .bf16)
  (x5 : FVec Ideal S2x2048x12292 .f32) (x6 : FVec Ideal S2x6144 .f32) (x7 : FVec Ideal S2x3x512x2048 .f32) (x8 : FVec Ideal S2x2048x2048 .f32)

/-- The merged branches' column `n` at row `r`, times the output weight at `(n, d)`. -/
def term (r : Fin 32768) (d n : Fin 2048) : EReal :=
  (gated ((∑ k : Fin 2048, x1 (ix2 r k) * x5 (ix3 a k ⟨6148 + (0 + n.val), by have := n.isLt; omega⟩)) + x6 (ix2 a ⟨0 + n.val, by have := n.isLt; omega⟩))
      (∑ k : Fin 512, x2 (ix2 r k) * x7 (ix4 a 0 k n))
    + gated ((∑ k : Fin 2048, x1 (ix2 r k) * x5 (ix3 a k ⟨6148 + (2048 + n.val), by have := n.isLt; omega⟩)) + x6 (ix2 a ⟨2048 + n.val, by have := n.isLt; omega⟩))
      (∑ k : Fin 512, x3 (ix2 r k) * x7 (ix4 a 1 k n))
    + gated ((∑ k : Fin 2048, x1 (ix2 r k) * x5 (ix3 a k ⟨6148 + (4096 + n.val), by have := n.isLt; omega⟩)) + x6 (ix2 a ⟨4096 + n.val, by have := n.isLt; omega⟩))
      (∑ k : Fin 512, x4 (ix2 r k) * x7 (ix4 a 2 k n)))
  * x8 (ix3 a n d)

/-- The result's element. -/
def elem (r : Fin 32768) (d : Fin 2048) : EReal := x0 (ix2 r d) + ∑ n : Fin 2048, term a x1 x2 x3 x4 x5 x6 x7 x8 r d n

/-- The result. -/
def total : FVec Ideal S32768x2048 .f32 := fun i => elem a x0 x1 x2 x3 x4 x5 x6 x7 x8 (i 0) (i 1)

/-- The sum over column tile `j`. -/
def tile (r : Fin 32768) (d : Fin 2048) (j : ℕ) : EReal :=
  ∑ n : Fin 512, if h : 512 * j + n.val < 2048 then term a x1 x2 x3 x4 x5 x6 x7 x8 r d ⟨512 * j + n.val, h⟩ else 0

/-- The four tiles make up the sum. -/
theorem elem_eq (r : Fin 32768) (d : Fin 2048) :
    elem a x0 x1 x2 x3 x4 x5 x6 x7 x8 r d = x0 (ix2 r d) + ∑ j ∈ Finset.range 4, tile a x1 x2 x3 x4 x5 x6 x7 x8 r d j := by
  unfold elem
  rw [Fin.sum_univ_tiles 4 512 rfl, Finset.sum_range]
  refine congrArg (x0 (ix2 r d) + ·) (Finset.sum_congr rfl fun j _ => ?_)
  unfold tile
  refine Finset.sum_congr rfl fun n _ => ?_
  have hj := j.isLt
  have hn := n.isLt
  rw [dif_pos (by omega)]
  refine congrArg (term a x1 x2 x3 x4 x5 x6 x7 x8 r d) (Fin.ext ?_)
  show j.val * 512 + n.val = 512 * j.val + n.val
  omega

end Cert.TailIdeal.Sum

end
-- ==== Proof.TailRef.lean ====
/-
  THE MERGE TAIL'S REFERENCE at an index: the plain program's result is the formula's array.
-/
module

public import proofs.«01_k».proof.Proof.TailSum
public import proofs.«01_k».proof.Proof.Gen.TailRefIdeal.Read
public import Idealize.ShloMosaic.Lib.Pointwise

@[expose] public section

noncomputable section

namespace Cert.TailRefIdeal.AtIndex

open Cert.TailRefIdeal Cert.TailRefIdeal.Gen Cert.TailRefIdeal.Read Idealize.ShloMosaic Idealize.ShloMosaic.TcCoe

theorem ref_apply (x0 : FVec Ideal S32768x2048 .f32) (x1 : FVec Ideal S32768x2048 .bf16) (x2 x3 x4 : FVec Ideal S32768x512 .bf16)
    (x5 : FVec Ideal S2x2048x12292 .f32) (x6 : FVec Ideal S2x6144 .f32) (x7 : FVec Ideal S2x3x512x2048 .f32) (x8 : FVec Ideal S2x2048x2048 .f32)
    (r : Fin 32768) (d : Fin 2048) :
    val_main_v32 (F := Ideal) x0 x1 x2 x3 x4 x5 x6 x7 x8 (ix2 r d)
      = Cert.TailIdeal.Sum.elem 1 x0 x1 x2 x3 x4 x5 x6 x7 x8 r d := by
  pointwise [val_main_v0, val_main_v1, val_main_v2, val_main_v3, val_main_v4, val_main_v5, val_main_v6, val_main_v7, val_main_v8, val_main_v9, val_main_v10, val_main_v11, val_main_v12, val_main_v13, val_main_cst, val_main_v14, val_main_v15, val_main_cst_0, val_main_v16, val_main_v17, val_main_v18, val_main_v19, val_main_v20, val_main_v21, val_main_v22, val_main_v23, val_main_v24, val_main_v25, val_main_v26, val_main_v27, val_main_cst_1, val_main_v28, val_main_v29, val_main_v30, val_main_v31, val_main_v32]
  unfold Cert.TailIdeal.Sum.elem
  refine congrArg (x0 (ix2 r d) + ·) (Finset.sum_congr rfl fun n _ => ?_)
  have e0 : (0 : Fin 3).val = 0 := rfl
  have e1 : (1 : Fin 3).val = 1 := rfl
  have e2 : (2 : Fin 3).val = 2 := rfl
  simp only [Fin.sum_univ_three, e0, e1, e2]
  simp only [mul_comm (x7 _) _]
  rfl

/-- The reference's result is the formula's array. -/
theorem ref_eq (x0 : FVec Ideal S32768x2048 .f32) (x1 : FVec Ideal S32768x2048 .bf16) (x2 x3 x4 : FVec Ideal S32768x512 .bf16)
    (x5 : FVec Ideal S2x2048x12292 .f32) (x6 : FVec Ideal S2x6144 .f32) (x7 : FVec Ideal S2x3x512x2048 .f32) (x8 : FVec Ideal S2x2048x2048 .f32) :
    val_main_v32 (F := Ideal) x0 x1 x2 x3 x4 x5 x6 x7 x8 = Cert.TailIdeal.Sum.total 1 x0 x1 x2 x3 x4 x5 x6 x7 x8 := by
  funext i
  obtain ⟨r, d, rfl⟩ : ∃ (r : Fin 32768) (d : Fin 2048), i = ix2 r d := ⟨i 0, i 1, eq_ix2 i⟩
  exact ref_apply x0 x1 x2 x3 x4 x5 x6 x7 x8 r d

end Cert.TailRefIdeal.AtIndex

end
-- ==== Proof.TailValue.lean ====
/-
  THE MERGE TAIL's result array: four column tiles accumulated into each row tile's block make the formula's array, and
  the plain reference ends at the same array.
-/
module

public import proofs.«01_k».proof.Proof.TailBlocks
public import proofs.«01_k».proof.Proof.TailRef
public import proofs.«01_k».proof.Proof.Gen.TailRefIdeal.Run
public import proofs.«01_k».proof.Defs

@[expose] public section

noncomputable section

namespace Cert.TailIdeal.Final

open Cert.TailIdeal Cert.TailIdeal.Gen Cert.TailIdeal.Body Cert.TailIdeal.Step Cert.TailIdeal.Blocks Cert.TailIdeal.Sum
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The formula's array over the program's arguments; -/
abbrev result : FVec Ideal S32768x2048 .f32 :=
  total 1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- the residual stream; -/
abbrev resid : FVec Ideal S32768x2048 .f32 := m ((c : Thread nD τ).loc main_arg0)

/-- and a column tile's sum. -/
abbrev part (r : Fin 32768) (d : Fin 2048) (j : ℕ) : EReal :=
  tile 1 (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) r d j

/-- One point's step adds its column tile's sum. -/
theorem step_blk (t : Fin cfg0.N) (acc : Vec Ideal S512x2048 .f32) (r : Fin 512) (d : Fin 2048) :
    step (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) acc (ix2 r d)
      = acc (ix2 r d) + part m c (row t r) d (t.val % 4) := by
  rw [step_apply]
  refine congrArg (acc (ix2 r d) + ·) ?_
  unfold part tile
  refine Finset.sum_congr rfl fun n _ => ?_
  have hn := n.isLt
  rw [dif_pos (by omega : 512 * (t.val % 4) + n.val < 2048)]
  unfold term
  simp only [blk1 m c t, blk2 m c t, blk3 m c t, blk4 m c t, blk5 m c t, blk6 m c t, blk7 m c t, blk8 m c t, blk9 m c t, blk10 m c t,
    blk11 m c t, blk12 m c t]

/-- After point `t` the block holds the residual stream plus the sums of the column tiles so far. -/
theorem outsAt_eq : ∀ (n : ℕ) (h : n < cfg0.N) (r : Fin 512) (d : Fin 2048),
    outsAt0 m c n h (ix2 r d)
      = resid m c (ix2 (row ⟨n, h⟩ r) d) + ∑ j ∈ Finset.range (n % 4 + 1), part m c (row ⟨n, h⟩ r) d j := by
  intro n
  induction n with
  | zero =>
    intro h r d
    rw [outsAt0_A m c ⟨0, h⟩ rfl, out_A, step_blk, blk0]
    simp
  | succ n ih =>
    intro h r d
    by_cases h0 : (n + 1) % 4 = 0
    · rw [outsAt0_A m c ⟨n + 1, h⟩ h0, out_A, step_blk, blk0]
      rw [show (n + 1) % 4 + 1 = 1 from by omega, Finset.sum_range_one]
      show _ + part m c _ d ((n + 1) % 4) = _
      rw [h0]
    · rw [outsAt0_B m c ⟨n + 1, h⟩ h0, out_B, step_blk]
      show outsAt0 m c n _ (ix2 r d) + part m c _ d ((n + 1) % 4) = _
      rw [ih]
      have e : row ⟨n, Nat.lt_of_succ_lt h⟩ r = row ⟨n + 1, h⟩ r := by
        apply Fin.ext
        show 512 * (n / 4) + r.val = 512 * ((n + 1) / 4) + r.val
        omega
      rw [e, Finset.sum_range_succ _ ((n + 1) % 4), show n % 4 + 1 = (n + 1) % 4 from by omega, add_assoc]

/-- A flushing point writes its block of the formula's array. -/
theorem flushed_eq (t : Fin cfg0.N) (hf : (cfg0.win 13).flush t = true) :
    (dats m 0 c).flushed 13 t = ((cfg0.win 13).blk t).view.read (Elt Ideal) (result m c) := by
  have h3 := (flush0_13 t).mp hf
  obtain ⟨-, -, -, -, -, -, -, -, -, -, -, -, -, e0, e1⟩ := idx_facts t
  rw [Value.flushed13]
  funext j
  obtain ⟨r, d, rfl⟩ : ∃ (r : Fin 512) (d : Fin 2048), j = ix2 r d := ⟨j 0, j 1, eq_ix2 j⟩
  show outsAt0 m c t.val t.isLt (ix2 r d) = result m c (((cfg0.win 13).blk t).view.emb (ix2 r d))
  rw [outsAt_eq, h3]
  refine (elem_eq 1 _ _ _ _ _ _ _ _ _ _ _).symm.trans ?_
  show elem 1 _ _ _ _ _ _ _ _ _ _ _ = elem 1 _ _ _ _ _ _ _ _ _ _ _
  congr 1
  · apply Fin.ext
    show 512 * (t.val / 4) + r.val = win0_13.index t (0 : Fin 2) * 512 + 1 * r.val
    omega
  · apply Fin.ext
    show d.val = win0_13.index t (1 : Fin 2) * 2048 + 1 * d.val
    omega

/-- So the result array ends at it: the flushing points' blocks cover the array. -/
theorem final : (dats m 0 c).arrAt 13 cfg0.N = result m c :=
  (dats m 0 c).arrAt_eq_of_cover 13 (result m c) (flushed_eq m c) fun i => by
    have h0 : (i 0 : Nat) < 32768 := (i 0).isLt
    have h1 : (i 1 : Nat) < 2048 := (i 1).isLt
    have hN : grid0.N = 256 := N_0
    have ht : 4 * ((i 0 : Nat) / 512) + 3 < cfg0.N := by show _ < grid0.N; omega
    refine ⟨⟨4 * ((i 0 : Nat) / 512) + 3, ht⟩, (flush0_13 _).mpr (by show (4 * ((i 0 : Nat) / 512) + 3) % 4 = 3; omega), ?_⟩
    generalize hte : (⟨4 * ((i 0 : Nat) / 512) + 3, ht⟩ : Fin cfg0.N) = t
    have htv : t.val = 4 * ((i 0 : Nat) / 512) + 3 := by rw [← hte]
    obtain ⟨-, -, -, -, -, -, -, -, -, -, -, -, -, e0, e1⟩ := idx_facts t
    show i ∈ ((View.whole main_v5).slice (win0_13.rect t)).set
    rw [View.set_slice_whole, Rect.mem_set_unit]
    intro a
    match a with
    | ⟨0, _⟩ => show win0_13.index t (0 : Fin 2) * 512 ≤ (i 0 : Nat) ∧ (i 0 : Nat) < win0_13.index t (0 : Fin 2) * 512 + 512
                omega
    | ⟨1, _⟩ => show win0_13.index t (1 : Fin 2) * 2048 ≤ (i 1 : Nat) ∧ (i 1 : Nat) < win0_13.index t (1 : Fin 2) * 2048 + 2048
                omega

end Cert.TailIdeal.Final

namespace Cert.Proof.TailClaims

open Idealize.ShloMosaic Idealize.SL.Sem

theorem frame_ref : Cert.quiescent_TailRefIdeal := fun m ρ _ =>
  (θ_run Cert.TailRefIdeal.defs _ _).mono
    (fun r h => ⟨fun c => (h c).2, Idealize.ShloMosaic.sem_eq_zero_of_no_sems (by decide) r.2⟩)
    (Cert.TailRefIdeal.Value.run (F := Ideal) m ρ)

/-- Over the extended reals the merge tail's kernel and its plain reference end at one array. -/
theorem algebraic : Cert.algebraic_TailIdeal_TailRefIdeal := by
  intro m ρ m' ρ' _ hag
  refine ⟨fun c => Cert.TailIdeal.Final.result m c, ?_, ?_⟩
  · exact (θ_run Cert.TailIdeal.defs _ _).mono (fun _ h c => ⟨(h c).1.trans (Cert.TailIdeal.Final.final m c), (h c).2⟩)
      (Cert.TailIdeal.Value.run_blocks m ρ)
  · refine (θ_run Cert.TailRefIdeal.defs _ _).mono (fun _ h c => ⟨(h c).1.trans ?_, (h c).2⟩) (Cert.TailRefIdeal.Value.run (F := Ideal) m' ρ')
    obtain ⟨a0, a1, a2, a3, a4, a5, a6, a7, a8⟩ := hag c
    rw [a0, a1, a2, a3, a4, a5, a6, a7, a8]
    exact (Cert.TailRefIdeal.Read.val_main_v32_eq _ _ _ _ _ _ _ _ _).trans (Cert.TailRefIdeal.AtIndex.ref_eq _ _ _ _ _ _ _ _ _)

end Cert.Proof.TailClaims

end
-- ==== Proof.Tail0Body.lean ====
/-
  THE FIRST LAYER'S MERGE TAIL, one grid point. What a point leaves in the result's block: the block it found there (the residual
  stream's block at a row tile's first point, the point before's result otherwise) plus the product of the merged,
  gated branches of one column tile with that tile's rows of the output weights.
-/
module

public import proofs.«01_k».proof.Proof.Gen.Tail0Ideal.Value
public import Idealize.ShloMosaic.Lib.Pipeline.Value
public import Idealize.ShloMosaic.Lib.Pipeline.ValueKit.Tiles
public import Idealize.ShloMosaic.Lib.Tactic

@[expose] public section

noncomputable section

namespace Cert.Tail0Ideal.Body

open Cert.Tail0Ideal Cert.Tail0Ideal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One point's result over what the block held: `acc` plus the product of the merged tile with its rows of the output
    weights. -/
def step (x1 : Vec F S512x2048 .bf16) (x2 x3 x4 : Vec F S512x512 .bf16) (x5 x6 x7 : Vec F S1x2048x512 .bf16)
    (x8 x9 x10 : Vec F S1x1x512 .f32) (x11 : Vec F S1x3x512x512 .bf16) (x12 : Vec F S1x512x2048 .bf16)
    (acc : Vec F S512x2048 .f32) : Vec F S512x2048 .f32 :=
  k0_pay1
    (k0_pay5
      (k0_pay2 x1 x5 x8 x2 (View.ld x11 (Rect.unit (s := S1x3x512x512) ![0, 0, 0, 0] S1x1x512x512.size inb_S1x3x512x512_S1x1x512x512_0_0_0_0)))
      (k0_pay3 x1 x6) (k0_pay4 x9) x3
      (View.ld x11 (Rect.unit (s := S1x3x512x512) ![0, 1, 0, 0] S1x1x512x512.size inb_S1x3x512x512_S1x1x512x512_0_1_0_0)))
    (k0_pay6 x1 x7 x10 x4 (View.ld x11 (Rect.unit (s := S1x3x512x512) ![0, 2, 0, 0] S1x1x512x512.size inb_S1x3x512x512_S1x1x512x512_0_2_0_0)))
    acc x12

/-- At a point that is not its row tile's first, the block's new contents are one step over its old ones. -/
theorem out_B (c : Dev nD) (i : grid0.Coords) (a0 : Memref sig .tc .vmem S512x2048 .f32) (h0 : a0.IsWhole) (a1 : Memref sig .tc .vmem S512x2048 .bf16) (h1 : a1.IsWhole) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S1x2048x512 .bf16) (h5 : a5.IsWhole) (a6 : Memref sig .tc .vmem S1x2048x512 .bf16) (h6 : a6.IsWhole) (a7 : Memref sig .tc .vmem S1x2048x512 .bf16) (h7 : a7.IsWhole) (a8 : Memref sig .tc .vmem S1x1x512 .f32) (h8 : a8.IsWhole) (a9 : Memref sig .tc .vmem S1x1x512 .f32) (h9 : a9.IsWhole) (a10 : Memref sig .tc .vmem S1x1x512 .f32) (h10 : a10.IsWhole) (a11 : Memref sig .tc .vmem S1x3x512x512 .bf16) (h11 : a11.IsWhole) (a12 : Memref sig .tc .vmem S1x512x2048 .bf16) (h12 : a12.IsWhole) (a13 : Memref sig .tc .vmem S512x2048 .f32) (h13 : a13.IsWhole) (hc : ¬cond0_0 i) (x0 : Vec F S512x2048 .f32) (x1 : Vec F S512x2048 .bf16) (x2 : Vec F S512x512 .bf16) (x3 : Vec F S512x512 .bf16) (x4 : Vec F S512x512 .bf16) (x5 : Vec F S1x2048x512 .bf16) (x6 : Vec F S1x2048x512 .bf16) (x7 : Vec F S1x2048x512 .bf16) (x8 : Vec F S1x1x512 .f32) (x9 : Vec F S1x1x512 .f32) (x10 : Vec F S1x1x512 .f32) (x11 : Vec F S1x3x512x512 .bf16) (x12 : Vec F S1x512x2048 .bf16) (xo : Vec F S512x2048 .f32) :
    out0_B_13 c i a0 h0 a1 h1 a2 h2 a3 h3 a4 h4 a5 h5 a6 h6 a7 h7 a8 h8 a9 h9 a10 h10 a11 h11 a12 h12 a13 h13 hc x0 x1 x2 x3 x4 x5 x6 x7 x8 x9 x10 x11 x12 xo = step x1 x2 x3 x4 x5 x6 x7 x8 x9 x10 x11 x12 xo := by
  unfold out0_B_13
  rw [View.read_writes_eq_canon _ _ _ (cover0_B_13 c i a0 h0 a1 h1 a2 h2 a3 h3 a4 h4 a5 h5 a6 h6 a7 h7 a8 h8 a9 h9 a10 h10 a11 h11 a12 h12 a13 h13 hc x0 x1 x2 x3 x4 x5 x6 x7 x8 x9 x10 x11 x12 xo)]
  unfold kernelRun0_B
  dsimp only
  sl_unfold_words
  rw [View.canon_unit_zero (S := S512x2048) hz2]
  unfold step
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S512x2048) hz2, View.ld_unit_zero (S := S512x512) hz2, View.ld_unit_zero (S := S1x2048x512) hz3, View.ld_unit_zero (S := S1x1x512) hz3, View.ld_unit_zero (S := S1x512x2048) hz3]

/-- At a row tile's first point, they are one step over the residual stream's block. -/
theorem out_A (c : Dev nD) (i : grid0.Coords) (a0 : Memref sig .tc .vmem S512x2048 .f32) (h0 : a0.IsWhole) (a1 : Memref sig .tc .vmem S512x2048 .bf16) (h1 : a1.IsWhole) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S1x2048x512 .bf16) (h5 : a5.IsWhole) (a6 : Memref sig .tc .vmem S1x2048x512 .bf16) (h6 : a6.IsWhole) (a7 : Memref sig .tc .vmem S1x2048x512 .bf16) (h7 : a7.IsWhole) (a8 : Memref sig .tc .vmem S1x1x512 .f32) (h8 : a8.IsWhole) (a9 : Memref sig .tc .vmem S1x1x512 .f32) (h9 : a9.IsWhole) (a10 : Memref sig .tc .vmem S1x1x512 .f32) (h10 : a10.IsWhole) (a11 : Memref sig .tc .vmem S1x3x512x512 .bf16) (h11 : a11.IsWhole) (a12 : Memref sig .tc .vmem S1x512x2048 .bf16) (h12 : a12.IsWhole) (a13 : Memref sig .tc .vmem S512x2048 .f32) (h13 : a13.IsWhole) (hc : cond0_0 i) (x0 : Vec F S512x2048 .f32) (x1 : Vec F S512x2048 .bf16) (x2 : Vec F S512x512 .bf16) (x3 : Vec F S512x512 .bf16) (x4 : Vec F S512x512 .bf16) (x5 : Vec F S1x2048x512 .bf16) (x6 : Vec F S1x2048x512 .bf16) (x7 : Vec F S1x2048x512 .bf16) (x8 : Vec F S1x1x512 .f32) (x9 : Vec F S1x1x512 .f32) (x10 : Vec F S1x1x512 .f32) (x11 : Vec F S1x3x512x512 .bf16) (x12 : Vec F S1x512x2048 .bf16) :
    out0_A_13 c i a0 h0 a1 h1 a2 h2 a3 h3 a4 h4 a5 h5 a6 h6 a7 h7 a8 h8 a9 h9 a10 h10 a11 h11 a12 h12 a13 h13 hc x0 x1 x2 x3 x4 x5 x6 x7 x8 x9 x10 x11 x12 = step x1 x2 x3 x4 x5 x6 x7 x8 x9 x10 x11 x12 x0 := by
  unfold out0_A_13
  rw [View.read_writes_eq_canon _ _ _ (cover0_A_13 c i a0 h0 a1 h1 a2 h2 a3 h3 a4 h4 a5 h5 a6 h6 a7 h7 a8 h8 a9 h9 a10 h10 a11 h11 a12 h12 a13 h13 hc x0 x1 x2 x3 x4 x5 x6 x7 x8 x9 x10 x11 x12)]
  unfold kernelRun0_A
  dsimp only
  sl_unfold_words
  rw [View.canon_cons_unit_zero (S := S512x2048) hz2, View.readCov_unit_zero (S := S512x2048) _ hz2]
  unfold step
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S512x2048) hz2, View.ld_unit_zero (S := S512x512) hz2, View.ld_unit_zero (S := S1x2048x512) hz3, View.ld_unit_zero (S := S1x1x512) hz3, View.ld_unit_zero (S := S1x512x2048) hz3]

end Cert.Tail0Ideal.Body

end
-- ==== Proof.Tail0Blocks.lean ====
/-
  THE FIRST LAYER'S MERGE TAIL, the windows' blocks read off the arguments: grid point `t` is column tile `t % 4` of row tile `t / 4`.
-/
module

public import proofs.«01_k».proof.Proof.Tail0Body
public import proofs.«01_k».proof.Proof.TailBlocks

@[expose] public section

noncomputable section

namespace Cert.Tail0Ideal.Blocks

open Cert.Tail0Ideal Cert.Tail0Ideal.Gen
open Cert.TailIdeal.Blocks (gateCols gateBias gateCols_apply gateBias_apply)
open Idealize.ShloMosaic Idealize.ShloMosaic.TcCoe

variable (m : (ℓ : Loc nD τ sig) → Buf (Elt Ideal) ℓ)

/-- The printed index maps, decided over the 256 points. -/
theorem idx_facts : ∀ t : Fin cfg0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = t.val / 4 ∧ win0_2.index t (1 : Fin 2) = 0)
    ∧ (win0_3.index t (0 : Fin 2) = t.val / 4 ∧ win0_3.index t (1 : Fin 2) = 0)
    ∧ (win0_4.index t (0 : Fin 2) = t.val / 4 ∧ win0_4.index t (1 : Fin 2) = 0)
    ∧ (win0_5.index t (0 : Fin 3) = 0 ∧ win0_5.index t (1 : Fin 3) = 0 ∧ win0_5.index t (2 : Fin 3) = t.val % 4)
    ∧ (win0_6.index t (0 : Fin 3) = 0 ∧ win0_6.index t (1 : Fin 3) = 0 ∧ win0_6.index t (2 : Fin 3) = 4 + t.val % 4)
    ∧ (win0_7.index t (0 : Fin 3) = 0 ∧ win0_7.index t (1 : Fin 3) = 0 ∧ win0_7.index t (2 : Fin 3) = 8 + t.val % 4)
    ∧ (win0_8.index t (0 : Fin 3) = 0 ∧ win0_8.index t (1 : Fin 3) = 0 ∧ win0_8.index t (2 : Fin 3) = t.val % 4)
    ∧ (win0_9.index t (0 : Fin 3) = 0 ∧ win0_9.index t (1 : Fin 3) = 0 ∧ win0_9.index t (2 : Fin 3) = 4 + t.val % 4)
    ∧ (win0_10.index t (0 : Fin 3) = 0 ∧ win0_10.index t (1 : Fin 3) = 0 ∧ win0_10.index t (2 : Fin 3) = 8 + t.val % 4)
    ∧ (win0_11.index t (0 : Fin 4) = 0 ∧ win0_11.index t (1 : Fin 4) = 0 ∧ win0_11.index t (2 : Fin 4) = 0 ∧ win0_11.index t (3 : Fin 4) = t.val % 4)
    ∧ (win0_12.index t (0 : Fin 3) = 0 ∧ win0_12.index t (1 : Fin 3) = t.val % 4 ∧ win0_12.index t (2 : Fin 3) = 0)
    ∧ (win0_13.index t (0 : Fin 2) = t.val / 4 ∧ win0_13.index t (1 : Fin 2) = 0) :=
  (by decide +kernel : ∀ t : Fin grid0.N, _)

theorem lt_N (t : Fin cfg0.N) : t.val < 256 := lt_of_lt_of_eq t.isLt N_0

/-- What the host hands the kernel: the gates' columns of the projection's weights, cast; -/
theorem V_main_v1 (c : Dev nD) : @Eq (FVec Ideal S2x2048x6144 .bf16) (V m c main_v1) (gateCols (m ((c : Thread nD τ).loc main_arg5))) := by
  show StableHlo.after hostOps0 _ (Proc.devRef .tc main_v1) = _
  after_results
  rfl

/-- the gates' bias; -/
theorem V_main_v2 (c : Dev nD) : @Eq (FVec Ideal S2x1x6144 .f32) (V m c main_v2) (gateBias (m ((c : Thread nD τ).loc main_arg6))) := by
  show StableHlo.after hostOps0 _ (Proc.devRef .tc main_v2) = _
  after_results
  rfl

/-- the up-projections, whose cast is the identity over the extended reals; -/
theorem V_main_v3 (c : Dev nD) : @Eq (FVec Ideal S2x3x512x2048 .f32) (V m c main_v3) (m ((c : Thread nD τ).loc main_arg7)) := by
  show StableHlo.after hostOps0 _ (Proc.devRef .tc main_v3) = _
  after_results
  rfl

/-- the output weights. -/
theorem V_main_v4 (c : Dev nD) : @Eq (FVec Ideal S2x2048x2048 .f32) (V m c main_v4) (m ((c : Thread nD τ).loc main_arg8)) := by
  show StableHlo.after hostOps0 _ (Proc.devRef .tc main_v4) = _
  after_results
  rfl

/-! The blocks at an index. -/

variable (c : Dev nD) (t : Fin cfg0.N)

abbrev row (t : Fin cfg0.N) (r : Fin 512) : Fin 32768 := ⟨512 * (t.val / 4) + r.val, by have := lt_N t; have := r.isLt; omega⟩
abbrev col (t : Fin cfg0.N) (n : Fin 512) : Fin 2048 := ⟨512 * (t.val % 4) + n.val, by have := lt_N t; have := n.isLt; omega⟩

theorem blk0 (r : Fin 512) (d : Fin 2048) : (iblk m c 0 t : Vec Ideal S512x2048 .f32) (ix2 r d)
    = (m ((c : Thread nD τ).loc main_arg0) : Vec Ideal S32768x2048 .f32) (ix2 (row t r) d) := by
  show V m c main_arg0 (((cfg0.win 0).blk t).view.emb (ix2 r d)) = _
  rw [V_main_arg0]
  refine congrArg (m ((c : Thread nD τ).loc main_arg0)) ?_
  obtain ⟨⟨e0, e1⟩, -⟩ := idx_facts t
  funext a; apply Fin.ext
  match a with
  | ⟨0, _⟩ => show win0_0.index t (0 : Fin 2) * 512 + 1 * r.val = 512 * (t.val / 4) + r.val; omega
  | ⟨1, _⟩ => show win0_0.index t (1 : Fin 2) * 2048 + 1 * d.val = d.val; omega

theorem blk1 (r : Fin 512) (d : Fin 2048) : (iblk m c 1 t : Vec Ideal S512x2048 .bf16) (ix2 r d)
    = (m ((c : Thread nD τ).loc main_arg1) : Vec Ideal S32768x2048 .bf16) (ix2 (row t r) d) := by
  show V m c main_arg1 (((cfg0.win 1).blk t).view.emb (ix2 r d)) = _
  rw [V_main_arg1]
  refine congrArg (m ((c : Thread nD τ).loc main_arg1)) ?_
  obtain ⟨-, ⟨e0, e1⟩, -⟩ := idx_facts t
  funext a; apply Fin.ext
  match a with
  | ⟨0, _⟩ => show win0_1.index t (0 : Fin 2) * 512 + 1 * r.val = 512 * (t.val / 4) + r.val; omega
  | ⟨1, _⟩ => show win0_1.index t (1 : Fin 2) * 2048 + 1 * d.val = d.val; omega

theorem blk2 (r : Fin 512) (k : Fin 512) : (iblk m c 2 t : Vec Ideal S512x512 .bf16) (ix2 r k)
    = (m ((c : Thread nD τ).loc main_arg2) : Vec Ideal S32768x512 .bf16) (ix2 (row t r) k) := by
  show V m c main_arg2 (((cfg0.win 2).blk t).view.emb (ix2 r k)) = _
  rw [V_main_arg2]
  refine congrArg (m ((c : Thread nD τ).loc main_arg2)) ?_
  obtain ⟨-, -, ⟨e0, e1⟩, -⟩ := idx_facts t
  funext a; apply Fin.ext
  match a with
  | ⟨0, _⟩ => show win0_2.index t (0 : Fin 2) * 512 + 1 * r.val = 512 * (t.val / 4) + r.val; omega
  | ⟨1, _⟩ => show win0_2.index t (1 : Fin 2) * 512 + 1 * k.val = k.val; omega

theorem blk3 (r : Fin 512) (k : Fin 512) : (iblk m c 3 t : Vec Ideal S512x512 .bf16) (ix2 r k)
    = (m ((c : Thread nD τ).loc main_arg3) : Vec Ideal S32768x512 .bf16) (ix2 (row t r) k) := by
  show V m c main_arg3 (((cfg0.win 3).blk t).view.emb (ix2 r k)) = _
  rw [V_main_arg3]
  refine congrArg (m ((c : Thread nD τ).loc main_arg3)) ?_
  obtain ⟨-, -, -, ⟨e0, e1⟩, -⟩ := idx_facts t
  funext a; apply Fin.ext
  match a with
  | ⟨0, _⟩ => show win0_3.index t (0 : Fin 2) * 512 + 1 * r.val = 512 * (t.val / 4) + r.val; omega
  | ⟨1, _⟩ => show win0_3.index t (1 : Fin 2) * 512 + 1 * k.val = k.val; omega

theorem blk4 (r : Fin 512) (k : Fin 512) : (iblk m c 4 t : Vec Ideal S512x512 .bf16) (ix2 r k)
    = (m ((c : Thread nD τ).loc main_arg4) : Vec Ideal S32768x512 .bf16) (ix2 (row t r) k) := by
  show V m c main_arg4 (((cfg0.win 4).blk t).view.emb (ix2 r k)) = _
  rw [V_main_arg4]
  refine congrArg (m ((c : Thread nD τ).loc main_arg4)) ?_
  obtain ⟨-, -, -, -, ⟨e0, e1⟩, -⟩ := idx_facts t
  funext a; apply Fin.ext
  match a with
  | ⟨0, _⟩ => show win0_4.index t (0 : Fin 2) * 512 + 1 * r.val = 512 * (t.val / 4) + r.val; omega
  | ⟨1, _⟩ => show win0_4.index t (1 : Fin 2) * 512 + 1 * k.val = k.val; omega

theorem blk5 (k : Fin 2048) (n : Fin 512) : (iblk m c 5 t : Vec Ideal S1x2048x512 .bf16) (ix3 0 k n)
    = (m ((c : Thread nD τ).loc main_arg5) : Vec Ideal S2x2048x12292 .f32) (ix3 0 k ⟨6148 + (0 + (col t n).val), by have := (col t n).isLt; omega⟩) := by
  show V m c main_v1 (((cfg0.win 5).blk t).view.emb (ix3 0 k n)) = _
  refine Eq.trans ?_ (gateCols_apply (m ((c : Thread nD τ).loc main_arg5)) 0 k ⟨0 + (col t n).val, by have := (col t n).isLt; omega⟩)
  rw [V_main_v1]
  refine congrArg (gateCols (m ((c : Thread nD τ).loc main_arg5))) ?_
  obtain ⟨-, -, -, -, -, ⟨e0, e1, e2⟩, -⟩ := idx_facts t
  funext a; apply Fin.ext
  match a with
  | ⟨0, _⟩ => show win0_5.index t (0 : Fin 3) * 1 + 1 * 0 = 0; omega
  | ⟨1, _⟩ => show win0_5.index t (1 : Fin 3) * 2048 + 1 * k.val = k.val; omega
  | ⟨2, _⟩ => show win0_5.index t (2 : Fin 3) * 512 + 1 * n.val = 0 + (512 * (t.val % 4) + n.val); omega

theorem blk6 (k : Fin 2048) (n : Fin 512) : (iblk m c 6 t : Vec Ideal S1x2048x512 .bf16) (ix3 0 k n)
    = (m ((c : Thread nD τ).loc main_arg5) : Vec Ideal S2x2048x12292 .f32) (ix3 0 k ⟨6148 + (2048 + (col t n).val), by have := (col t n).isLt; omega⟩) := by
  show V m c main_v1 (((cfg0.win 6).blk t).view.emb (ix3 0 k n)) = _
  refine Eq.trans ?_ (gateCols_apply (m ((c : Thread nD τ).loc main_arg5)) 0 k ⟨2048 + (col t n).val, by have := (col t n).isLt; omega⟩)
  rw [V_main_v1]
  refine congrArg (gateCols (m ((c : Thread nD τ).loc main_arg5))) ?_
  obtain ⟨-, -, -, -, -, -, ⟨e0, e1, e2⟩, -⟩ := idx_facts t
  funext a; apply Fin.ext
  match a with
  | ⟨0, _⟩ => show win0_6.index t (0 : Fin 3) * 1 + 1 * 0 = 0; omega
  | ⟨1, _⟩ => show win0_6.index t (1 : Fin 3) * 2048 + 1 * k.val = k.val; omega
  | ⟨2, _⟩ => show win0_6.index t (2 : Fin 3) * 512 + 1 * n.val = 2048 + (512 * (t.val % 4) + n.val); omega

theorem blk7 (k : Fin 2048) (n : Fin 512) : (iblk m c 7 t : Vec Ideal S1x2048x512 .bf16) (ix3 0 k n)
    = (m ((c : Thread nD τ).loc main_arg5) : Vec Ideal S2x2048x12292 .f32) (ix3 0 k ⟨6148 + (4096 + (col t n).val), by have := (col t n).isLt; omega⟩) := by
  show V m c main_v1 (((cfg0.win 7).blk t).view.emb (ix3 0 k n)) = _
  refine Eq.trans ?_ (gateCols_apply (m ((c : Thread nD τ).loc main_arg5)) 0 k ⟨4096 + (col t n).val, by have := (col t n).isLt; omega⟩)
  rw [V_main_v1]
  refine congrArg (gateCols (m ((c : Thread nD τ).loc main_arg5))) ?_
  obtain ⟨-, -, -, -, -, -, -, ⟨e0, e1, e2⟩, -⟩ := idx_facts t
  funext a; apply Fin.ext
  match a with
  | ⟨0, _⟩ => show win0_7.index t (0 : Fin 3) * 1 + 1 * 0 = 0; omega
  | ⟨1, _⟩ => show win0_7.index t (1 : Fin 3) * 2048 + 1 * k.val = k.val; omega
  | ⟨2, _⟩ => show win0_7.index t (2 : Fin 3) * 512 + 1 * n.val = 4096 + (512 * (t.val % 4) + n.val); omega

theorem blk8 (n : Fin 512) : (iblk m c 8 t : Vec Ideal S1x1x512 .f32) (ix3 0 0 n)
    = (m ((c : Thread nD τ).loc main_arg6) : Vec Ideal S2x6144 .f32) (ix2 0 ⟨0 + (col t n).val, by have := (col t n).isLt; omega⟩) := by
  show V m c main_v2 (((cfg0.win 8).blk t).view.emb (ix3 0 0 n)) = _
  refine Eq.trans ?_ (gateBias_apply (m ((c : Thread nD τ).loc main_arg6)) 0 ⟨0 + (col t n).val, by have := (col t n).isLt; omega⟩)
  rw [V_main_v2]
  refine congrArg (gateBias (m ((c : Thread nD τ).loc main_arg6))) ?_
  obtain ⟨-, -, -, -, -, -, -, -, ⟨e0, e1, e2⟩, -⟩ := idx_facts t
  funext a; apply Fin.ext
  match a with
  | ⟨0, _⟩ => show win0_8.index t (0 : Fin 3) * 1 + 1 * 0 = 0; omega
  | ⟨1, _⟩ => show win0_8.index t (1 : Fin 3) * 1 + 1 * 0 = 0; omega
  | ⟨2, _⟩ => show win0_8.index t (2 : Fin 3) * 512 + 1 * n.val = 0 + (512 * (t.val % 4) + n.val); omega

theorem blk9 (n : Fin 512) : (iblk m c 9 t : Vec Ideal S1x1x512 .f32) (ix3 0 0 n)
    = (m ((c : Thread nD τ).loc main_arg6) : Vec Ideal S2x6144 .f32) (ix2 0 ⟨2048 + (col t n).val, by have := (col t n).isLt; omega⟩) := by
  show V m c main_v2 (((cfg0.win 9).blk t).view.emb (ix3 0 0 n)) = _
  refine Eq.trans ?_ (gateBias_apply (m ((c : Thread nD τ).loc main_arg6)) 0 ⟨2048 + (col t n).val, by have := (col t n).isLt; omega⟩)
  rw [V_main_v2]
  refine congrArg (gateBias (m ((c : Thread nD τ).loc main_arg6))) ?_
  obtain ⟨-, -, -, -, -, -, -, -, -, ⟨e0, e1, e2⟩, -⟩ := idx_facts t
  funext a; apply Fin.ext
  match a with
  | ⟨0, _⟩ => show win0_9.index t (0 : Fin 3) * 1 + 1 * 0 = 0; omega
  | ⟨1, _⟩ => show win0_9.index t (1 : Fin 3) * 1 + 1 * 0 = 0; omega
  | ⟨2, _⟩ => show win0_9.index t (2 : Fin 3) * 512 + 1 * n.val = 2048 + (512 * (t.val % 4) + n.val); omega

theorem blk10 (n : Fin 512) : (iblk m c 10 t : Vec Ideal S1x1x512 .f32) (ix3 0 0 n)
    = (m ((c : Thread nD τ).loc main_arg6) : Vec Ideal S2x6144 .f32) (ix2 0 ⟨4096 + (col t n).val, by have := (col t n).isLt; omega⟩) := by
  show V m c main_v2 (((cfg0.win 10).blk t).view.emb (ix3 0 0 n)) = _
  refine Eq.trans ?_ (gateBias_apply (m ((c : Thread nD τ).loc main_arg6)) 0 ⟨4096 + (col t n).val, by have := (col t n).isLt; omega⟩)
  rw [V_main_v2]
  refine congrArg (gateBias (m ((c : Thread nD τ).loc main_arg6))) ?_
  obtain ⟨-, -, -, -, -, -, -, -, -, -, ⟨e0, e1, e2⟩, -⟩ := idx_facts t
  funext a; apply Fin.ext
  match a with
  | ⟨0, _⟩ => show win0_10.index t (0 : Fin 3) * 1 + 1 * 0 = 0; omega
  | ⟨1, _⟩ => show win0_10.index t (1 : Fin 3) * 1 + 1 * 0 = 0; omega
  | ⟨2, _⟩ => show win0_10.index t (2 : Fin 3) * 512 + 1 * n.val = 4096 + (512 * (t.val % 4) + n.val); omega

theorem blk11 (b : Fin 3) (k : Fin 512) (n : Fin 512) : (iblk m c 11 t : Vec Ideal S1x3x512x512 .bf16) (ix4 0 b k n)
    = (m ((c : Thread nD τ).loc main_arg7) : Vec Ideal S2x3x512x2048 .f32) (ix4 0 b k (col t n)) := by
  show V m c main_v3 (((cfg0.win 11).blk t).view.emb (ix4 0 b k n)) = _
  rw [V_main_v3]
  refine congrArg (m ((c : Thread nD τ).loc main_arg7)) ?_
  obtain ⟨-, -, -, -, -, -, -, -, -, -, -, ⟨e0, e1, e2, e3⟩, -⟩ := idx_facts t
  funext a; apply Fin.ext
  match a with
  | ⟨0, _⟩ => show win0_11.index t (0 : Fin 4) * 1 + 1 * 0 = 0; omega
  | ⟨1, _⟩ => show win0_11.index t (1 : Fin 4) * 3 + 1 * b.val = b.val; omega
  | ⟨2, _⟩ => show win0_11.index t (2 : Fin 4) * 512 + 1 * k.val = k.val; omega
  | ⟨3, _⟩ => show win0_11.index t (3 : Fin 4) * 512 + 1 * n.val = 512 * (t.val % 4) + n.val; omega

theorem blk12 (n : Fin 512) (d : Fin 2048) : (iblk m c 12 t : Vec Ideal S1x512x2048 .bf16) (ix3 0 n d)
    = (m ((c : Thread nD τ).loc main_arg8) : Vec Ideal S2x2048x2048 .f32) (ix3 0 (col t n) d) := by
  show V m c main_v4 (((cfg0.win 12).blk t).view.emb (ix3 0 n d)) = _
  rw [V_main_v4]
  refine congrArg (m ((c : Thread nD τ).loc main_arg8)) ?_
  obtain ⟨-, -, -, -, -, -, -, -, -, -, -, -, ⟨e0, e1, e2⟩, -⟩ := idx_facts t
  funext a; apply Fin.ext
  match a with
  | ⟨0, _⟩ => show win0_12.index t (0 : Fin 3) * 1 + 1 * 0 = 0; omega
  | ⟨1, _⟩ => show win0_12.index t (1 : Fin 3) * 512 + 1 * n.val = 512 * (t.val % 4) + n.val; omega
  | ⟨2, _⟩ => show win0_12.index t (2 : Fin 3) * 2048 + 1 * d.val = d.val; omega

end Cert.Tail0Ideal.Blocks

end
-- ==== Proof.Tail0Ref.lean ====
/-
  THE FIRST LAYER'S MERGE TAIL'S REFERENCE at an index: the plain program's result is the formula's array.
-/
module

public import proofs.«01_k».proof.Proof.TailSum
public import proofs.«01_k».proof.Proof.Gen.TailRef0Ideal.Read
public import Idealize.ShloMosaic.Lib.Pointwise

@[expose] public section

noncomputable section

namespace Cert.TailRef0Ideal.AtIndex

open Cert.TailRef0Ideal Cert.TailRef0Ideal.Gen Cert.TailRef0Ideal.Read Idealize.ShloMosaic Idealize.ShloMosaic.TcCoe

theorem ref_apply (x0 : FVec Ideal S32768x2048 .f32) (x1 : FVec Ideal S32768x2048 .bf16) (x2 x3 x4 : FVec Ideal S32768x512 .bf16)
    (x5 : FVec Ideal S2x2048x12292 .f32) (x6 : FVec Ideal S2x6144 .f32) (x7 : FVec Ideal S2x3x512x2048 .f32) (x8 : FVec Ideal S2x2048x2048 .f32)
    (r : Fin 32768) (d : Fin 2048) :
    val_main_v32 (F := Ideal) x0 x1 x2 x3 x4 x5 x6 x7 x8 (ix2 r d)
      = Cert.TailIdeal.Sum.elem 0 x0 x1 x2 x3 x4 x5 x6 x7 x8 r d := by
  pointwise [val_main_v0, val_main_v1, val_main_v2, val_main_v3, val_main_v4, val_main_v5, val_main_v6, val_main_v7, val_main_v8, val_main_v9, val_main_v10, val_main_v11, val_main_v12, val_main_v13, val_main_cst, val_main_v14, val_main_v15, val_main_cst_0, val_main_v16, val_main_v17, val_main_v18, val_main_v19, val_main_v20, val_main_v21, val_main_v22, val_main_v23, val_main_v24, val_main_v25, val_main_v26, val_main_v27, val_main_cst_1, val_main_v28, val_main_v29, val_main_v30, val_main_v31, val_main_v32]
  unfold Cert.TailIdeal.Sum.elem
  refine congrArg (x0 (ix2 r d) + ·) (Finset.sum_congr rfl fun n _ => ?_)
  have e0 : (0 : Fin 3).val = 0 := rfl
  have e1 : (1 : Fin 3).val = 1 := rfl
  have e2 : (2 : Fin 3).val = 2 := rfl
  simp only [Fin.sum_univ_three, e0, e1, e2]
  simp only [mul_comm (x7 _) _]
  rfl

/-- The reference's result is the formula's array. -/
theorem ref_eq (x0 : FVec Ideal S32768x2048 .f32) (x1 : FVec Ideal S32768x2048 .bf16) (x2 x3 x4 : FVec Ideal S32768x512 .bf16)
    (x5 : FVec Ideal S2x2048x12292 .f32) (x6 : FVec Ideal S2x6144 .f32) (x7 : FVec Ideal S2x3x512x2048 .f32) (x8 : FVec Ideal S2x2048x2048 .f32) :
    val_main_v32 (F := Ideal) x0 x1 x2 x3 x4 x5 x6 x7 x8 = Cert.TailIdeal.Sum.total 0 x0 x1 x2 x3 x4 x5 x6 x7 x8 := by
  funext i
  obtain ⟨r, d, rfl⟩ : ∃ (r : Fin 32768) (d : Fin 2048), i = ix2 r d := ⟨i 0, i 1, eq_ix2 i⟩
  exact ref_apply x0 x1 x2 x3 x4 x5 x6 x7 x8 r d

end Cert.TailRef0Ideal.AtIndex

end
-- ==== Proof.Tail0Value.lean ====
/-
  THE FIRST LAYER'S MERGE TAIL's result array: four column tiles accumulated into each row tile's block make the formula's array, and
  the plain reference ends at the same array.
-/
module

public import proofs.«01_k».proof.Proof.Tail0Blocks
public import proofs.«01_k».proof.Proof.Tail0Ref
public import proofs.«01_k».proof.Proof.Gen.TailRef0Ideal.Run
public import proofs.«01_k».proof.Defs

@[expose] public section

noncomputable section

namespace Cert.Tail0Ideal.Final

open Cert.Tail0Ideal Cert.Tail0Ideal.Gen Cert.Tail0Ideal.Body Cert.TailIdeal.Step Cert.Tail0Ideal.Blocks Cert.TailIdeal.Sum
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The formula's array over the program's arguments; -/
abbrev result : FVec Ideal S32768x2048 .f32 :=
  total 0 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- the residual stream; -/
abbrev resid : FVec Ideal S32768x2048 .f32 := m ((c : Thread nD τ).loc main_arg0)

/-- and a column tile's sum. -/
abbrev part (r : Fin 32768) (d : Fin 2048) (j : ℕ) : EReal :=
  tile 0 (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) r d j

/-- One point's step adds its column tile's sum. -/
theorem step_blk (t : Fin cfg0.N) (acc : Vec Ideal S512x2048 .f32) (r : Fin 512) (d : Fin 2048) :
    step (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) acc (ix2 r d)
      = acc (ix2 r d) + part m c (row t r) d (t.val % 4) := by
  refine (step_apply (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) acc r d).trans ?_
  refine congrArg (acc (ix2 r d) + ·) ?_
  unfold part tile
  refine Finset.sum_congr rfl fun n _ => ?_
  have hn := n.isLt
  rw [dif_pos (by omega : 512 * (t.val % 4) + n.val < 2048)]
  unfold term
  simp only [blk1 m c t, blk2 m c t, blk3 m c t, blk4 m c t, blk5 m c t, blk6 m c t, blk7 m c t, blk8 m c t, blk9 m c t, blk10 m c t,
    blk11 m c t, blk12 m c t]

/-- After point `t` the block holds the residual stream plus the sums of the column tiles so far. -/
theorem outsAt_eq : ∀ (n : ℕ) (h : n < cfg0.N) (r : Fin 512) (d : Fin 2048),
    outsAt0 m c n h (ix2 r d)
      = resid m c (ix2 (row ⟨n, h⟩ r) d) + ∑ j ∈ Finset.range (n % 4 + 1), part m c (row ⟨n, h⟩ r) d j := by
  intro n
  induction n with
  | zero =>
    intro h r d
    rw [outsAt0_A m c ⟨0, h⟩ rfl, out_A, step_blk, blk0]
    simp
  | succ n ih =>
    intro h r d
    by_cases h0 : (n + 1) % 4 = 0
    · rw [outsAt0_A m c ⟨n + 1, h⟩ h0, out_A, step_blk, blk0]
      rw [show (n + 1) % 4 + 1 = 1 from by omega, Finset.sum_range_one]
      show _ + part m c _ d ((n + 1) % 4) = _
      rw [h0]
    · rw [outsAt0_B m c ⟨n + 1, h⟩ h0, out_B, step_blk]
      show outsAt0 m c n _ (ix2 r d) + part m c _ d ((n + 1) % 4) = _
      rw [ih]
      have e : row ⟨n, Nat.lt_of_succ_lt h⟩ r = row ⟨n + 1, h⟩ r := by
        apply Fin.ext
        show 512 * (n / 4) + r.val = 512 * ((n + 1) / 4) + r.val
        omega
      rw [e, Finset.sum_range_succ _ ((n + 1) % 4), show n % 4 + 1 = (n + 1) % 4 from by omega, add_assoc]

/-- A flushing point writes its block of the formula's array. -/
theorem flushed_eq (t : Fin cfg0.N) (hf : (cfg0.win 13).flush t = true) :
    (dats m 0 c).flushed 13 t = ((cfg0.win 13).blk t).view.read (Elt Ideal) (result m c) := by
  have h3 := (flush0_13 t).mp hf
  obtain ⟨-, -, -, -, -, -, -, -, -, -, -, -, -, e0, e1⟩ := idx_facts t
  rw [Value.flushed13]
  funext j
  obtain ⟨r, d, rfl⟩ : ∃ (r : Fin 512) (d : Fin 2048), j = ix2 r d := ⟨j 0, j 1, eq_ix2 j⟩
  show outsAt0 m c t.val t.isLt (ix2 r d) = result m c (((cfg0.win 13).blk t).view.emb (ix2 r d))
  rw [outsAt_eq, h3]
  refine (elem_eq 0 _ _ _ _ _ _ _ _ _ _ _).symm.trans ?_
  show elem 0 _ _ _ _ _ _ _ _ _ _ _ = elem 0 _ _ _ _ _ _ _ _ _ _ _
  congr 1
  · apply Fin.ext
    show 512 * (t.val / 4) + r.val = win0_13.index t (0 : Fin 2) * 512 + 1 * r.val
    omega
  · apply Fin.ext
    show d.val = win0_13.index t (1 : Fin 2) * 2048 + 1 * d.val
    omega

/-- So the result array ends at it: the flushing points' blocks cover the array. -/
theorem final : (dats m 0 c).arrAt 13 cfg0.N = result m c :=
  (dats m 0 c).arrAt_eq_of_cover 13 (result m c) (flushed_eq m c) fun i => by
    have h0 : (i 0 : Nat) < 32768 := (i 0).isLt
    have h1 : (i 1 : Nat) < 2048 := (i 1).isLt
    have hN : grid0.N = 256 := N_0
    have ht : 4 * ((i 0 : Nat) / 512) + 3 < cfg0.N := by show _ < grid0.N; omega
    refine ⟨⟨4 * ((i 0 : Nat) / 512) + 3, ht⟩, (flush0_13 _).mpr (by show (4 * ((i 0 : Nat) / 512) + 3) % 4 = 3; omega), ?_⟩
    generalize hte : (⟨4 * ((i 0 : Nat) / 512) + 3, ht⟩ : Fin cfg0.N) = t
    have htv : t.val = 4 * ((i 0 : Nat) / 512) + 3 := by rw [← hte]
    obtain ⟨-, -, -, -, -, -, -, -, -, -, -, -, -, e0, e1⟩ := idx_facts t
    show i ∈ ((View.whole main_v5).slice (win0_13.rect t)).set
    rw [View.set_slice_whole, Rect.mem_set_unit]
    intro a
    match a with
    | ⟨0, _⟩ => show win0_13.index t (0 : Fin 2) * 512 ≤ (i 0 : Nat) ∧ (i 0 : Nat) < win0_13.index t (0 : Fin 2) * 512 + 512
                omega
    | ⟨1, _⟩ => show win0_13.index t (1 : Fin 2) * 2048 ≤ (i 1 : Nat) ∧ (i 1 : Nat) < win0_13.index t (1 : Fin 2) * 2048 + 2048
                omega

end Cert.Tail0Ideal.Final

namespace Cert.Proof.Tail0Claims

open Idealize.ShloMosaic Idealize.SL.Sem

theorem frame_ref : Cert.quiescent_TailRef0Ideal := fun m ρ _ =>
  (θ_run Cert.TailRef0Ideal.defs _ _).mono
    (fun r h => ⟨fun c => (h c).2, Idealize.ShloMosaic.sem_eq_zero_of_no_sems (by decide) r.2⟩)
    (Cert.TailRef0Ideal.Value.run (F := Ideal) m ρ)

/-- Over the extended reals the merge tail's kernel and its plain reference end at one array. -/
theorem algebraic : Cert.algebraic_Tail0Ideal_TailRef0Ideal := by
  intro m ρ m' ρ' _ hag
  refine ⟨fun c => Cert.Tail0Ideal.Final.result m c, ?_, ?_⟩
  · exact (θ_run Cert.Tail0Ideal.defs _ _).mono (fun _ h c => ⟨(h c).1.trans (Cert.Tail0Ideal.Final.final m c), (h c).2⟩)
      (Cert.Tail0Ideal.Value.run_blocks m ρ)
  · refine (θ_run Cert.TailRef0Ideal.defs _ _).mono (fun _ h c => ⟨(h c).1.trans ?_, (h c).2⟩) (Cert.TailRef0Ideal.Value.run (F := Ideal) m' ρ')
    obtain ⟨a0, a1, a2, a3, a4, a5, a6, a7, a8⟩ := hag c
    rw [a0, a1, a2, a3, a4, a5, a6, a7, a8]
    exact (Cert.TailRef0Ideal.Read.val_main_v32_eq _ _ _ _ _ _ _ _ _).trans (Cert.TailRef0Ideal.AtIndex.ref_eq _ _ _ _ _ _ _ _ _)

end Cert.Proof.Tail0Claims

end
-- ==== Proof.ChunkPiece.lean ====
/-
  The chunk attention's block, row by row: each of the eight stores of the kernel's body, read at one
  element, is a softmax over the keys of two stretches of rows, times the gate.
-/
module

public import proofs.«01_k».proof.Proof.Gen.KernelIdeal.Value
public import Idealize.ShloMosaic.Lib.Pointwise

@[expose] public section

noncomputable section

namespace Cert.KernelIdeal.Chunk

open Cert.KernelIdeal Cert.KernelIdeal.Gen Idealize.ShloMosaic Idealize.ShloMosaic.TcCoe

/-- The softmax of the logits `sp` and `sc` taken together, applied to the values `vp` and `vc`: powers
    of two above the largest logit, and one division at the end. -/
def soft {A B : ℕ} (sp vp : Fin A → Ideal .f32) (sc vc : Fin B → Ideal .f32) : Ideal .f32 :=
  Ideal.div
    ((∑ x, FloatOps.exp2 (sp x - max (Finset.univ.fold max (Ideal.ofBits FTy.f32 0xFF800000#32) sp)
        (Finset.univ.fold max (Ideal.ofBits FTy.f32 0xFF800000#32) sc)) * vp x)
      + ∑ x, FloatOps.exp2 (sc x - max (Finset.univ.fold max (Ideal.ofBits FTy.f32 0xFF800000#32) sp)
        (Finset.univ.fold max (Ideal.ofBits FTy.f32 0xFF800000#32) sc)) * vc x)
    ((∑ x, FloatOps.exp2 (sp x - max (Finset.univ.fold max (Ideal.ofBits FTy.f32 0xFF800000#32) sp)
        (Finset.univ.fold max (Ideal.ofBits FTy.f32 0xFF800000#32) sc)))
      + ∑ x, FloatOps.exp2 (sc x - max (Finset.univ.fold max (Ideal.ofBits FTy.f32 0xFF800000#32) sp)
        (Finset.univ.fold max (Ideal.ofBits FTy.f32 0xFF800000#32) sc)))

/-- One logit: query row `r` against key row `k`, with the bias table's entry at `(br, bw)`. -/
def logit {K : ℕ} (x0 : Vec Ideal S1x2048x128 .bf16) (xk : Vec Ideal ⟨3, ![1, K, 128]⟩ .bf16)
    (x5 : Vec Ideal S1x512x1024 .f32) (r : Fin 2048) (k : Fin K) (br : Fin 512) (bw : Fin 1024) :
    Ideal .f32 :=
  (∑ d : Fin 128, x0 (ix3 0 r d) * Named.named (F := Ideal) κ "scale2" (φ := .f32) 0x3E0293EE#32
      * xk (ix3 0 k d))
    + x5 (ix3 0 br bw) * Named.named (F := Ideal) κ "log2e" (φ := .f32) 0x3FB8AA3B#32

/-- The logit of a key of the previous stretch in a block's first rows: masked where the block is the
    first of its sequence. -/
def masked (i : grid0.Coords) (x : Ideal .f32) : Ideal .f32 :=
  Scalar.select (Scalar.cmpi CmpIPredicate.sgt (BitVec.ofNat 32 (i 2).val) 0#32) x
    (Named.named (F := Ideal) κ "mask" (φ := .f32) 0xF149F2CA#32)

/-- The store of rows 0 … 255. -/
theorem piece0 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    ((k0_pay6 (k0_pay3 (View.ld x0 r0_0) (View.ld (shapeCast S512x128 (View.ld x2 r0_4)
      squeezes_S1x512x128_S512x128.numel_eq) r0_5) (View.ld x5 r0_6)) (k0_pay4 i (View.ld x0 r0_0)
      (View.ld (shapeCast S512x128 (View.ld x1 r0_1) squeezes_S1x512x128_S512x128.numel_eq) r0_2)
      (View.ld x5 r0_3)) (k0_pay5 i (View.ld x0 r0_0) (View.ld (shapeCast S512x128 (View.ld x1 r0_1)
      squeezes_S1x512x128_S512x128.numel_eq) r0_2) (View.ld x5 r0_3)) (View.ld (shapeCast S512x128
      (View.ld x3 r0_1) squeezes_S1x512x128_S512x128.numel_eq) r0_2) (View.ld (shapeCast S512x128
      (View.ld x4 r0_4) squeezes_S1x512x128_S512x128.numel_eq) r0_5) (View.ld x6 r0_0)) : FVec Ideal S1x256x128 .bf16) (ix3 0 r d)
      = soft (fun j : Fin 512 => masked i (logit x0 x1 x5 ⟨r.val, by omega⟩ ⟨j.val, by omega⟩ ⟨r.val, by omega⟩ ⟨j.val, by omega⟩))
          (fun j => x3 (ix3 0 ⟨j.val, by omega⟩ d))
          (fun j : Fin 256 => logit x0 x2 x5 ⟨r.val, by omega⟩ ⟨j.val, by omega⟩ ⟨r.val, by omega⟩ ⟨512 + j.val, by omega⟩)
          (fun j => x4 (ix3 0 ⟨j.val, by omega⟩ d))
        * x6 (ix3 0 ⟨r.val, by omega⟩ d) := by
  pointwise [k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69]
  rfl

/-- The store of rows 256 … 511. -/
theorem piece256 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    ((k0_pay14 (k0_pay12 (BitVec.ofNat 32 (i 2).val) (k0_pay63 i x0 x1 x2 x3 x4 x5 x6) (View.ld
      (shapeCast S512x128 (View.ld x1 r0_1) squeezes_S1x512x128_S512x128.numel_eq) r0_8) (View.ld x5
      r0_9) (View.ld (shapeCast S512x128 (View.ld x2 r0_4) squeezes_S1x512x128_S512x128.numel_eq)
      r0_2) (View.ld x5 r0_10)) (k0_pay13 (BitVec.ofNat 32 (i 2).val) (k0_pay63 i x0 x1 x2 x3 x4 x5
      x6) (View.ld (shapeCast S512x128 (View.ld x1 r0_1) squeezes_S1x512x128_S512x128.numel_eq)
      r0_8) (View.ld x5 r0_9) (View.ld (shapeCast S512x128 (View.ld x2 r0_4)
      squeezes_S1x512x128_S512x128.numel_eq) r0_2) (View.ld x5 r0_10)) (View.ld (shapeCast S512x128
      (View.ld x3 r0_1) squeezes_S1x512x128_S512x128.numel_eq) r0_8) (View.ld (shapeCast S512x128
      (View.ld x4 r0_4) squeezes_S1x512x128_S512x128.numel_eq) r0_2) (View.ld x6 r0_7)) : FVec Ideal S1x256x128 .bf16) (ix3 0 r d)
      = soft (fun j : Fin 256 => masked i (logit x0 x1 x5 ⟨256 + r.val, by omega⟩ ⟨256 + j.val, by omega⟩ ⟨256 + r.val, by omega⟩ ⟨256 + j.val, by omega⟩))
          (fun j => x3 (ix3 0 ⟨256 + j.val, by omega⟩ d))
          (fun j : Fin 512 => logit x0 x2 x5 ⟨256 + r.val, by omega⟩ ⟨j.val, by omega⟩ ⟨256 + r.val, by omega⟩ ⟨512 + j.val, by omega⟩)
          (fun j => x4 (ix3 0 ⟨j.val, by omega⟩ d))
        * x6 (ix3 0 ⟨256 + r.val, by omega⟩ d) := by
  pointwise [k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69]
  rfl

/-- The store of rows 512 … 767. -/
theorem piece512 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    ((k0_pay23 (k0_pay20 (k0_pay64 i x0 x1 x2 x3 x4 x5 x6) (View.ld (shapeCast S512x128 (View.ld x2
      r0_4) squeezes_S1x512x128_S512x128.numel_eq) r0_2) (View.ld x5 r0_3) (View.ld (shapeCast
      S512x128 (View.ld x2 r0_12) squeezes_S1x512x128_S512x128.numel_eq) r0_5) (View.ld x5 r0_6))
      (k0_pay21 (k0_pay64 i x0 x1 x2 x3 x4 x5 x6) (View.ld (shapeCast S512x128 (View.ld x2 r0_4)
      squeezes_S1x512x128_S512x128.numel_eq) r0_2) (View.ld x5 r0_3) (View.ld (shapeCast S512x128
      (View.ld x2 r0_12) squeezes_S1x512x128_S512x128.numel_eq) r0_5) (View.ld x5 r0_6)) (k0_pay22
      (k0_pay64 i x0 x1 x2 x3 x4 x5 x6) (View.ld (shapeCast S512x128 (View.ld x2 r0_4)
      squeezes_S1x512x128_S512x128.numel_eq) r0_2) (View.ld x5 r0_3) (View.ld (shapeCast S512x128
      (View.ld x2 r0_12) squeezes_S1x512x128_S512x128.numel_eq) r0_5) (View.ld x5 r0_6)) (View.ld
      (shapeCast S512x128 (View.ld x4 r0_4) squeezes_S1x512x128_S512x128.numel_eq) r0_2) (View.ld
      (shapeCast S512x128 (View.ld x4 r0_12) squeezes_S1x512x128_S512x128.numel_eq) r0_5) (View.ld
      x6 r0_11)) : FVec Ideal S1x256x128 .bf16) (ix3 0 r d)
      = soft (fun j : Fin 512 => logit x0 x2 x5 ⟨512 + r.val, by omega⟩ ⟨j.val, by omega⟩ ⟨r.val, by omega⟩ ⟨j.val, by omega⟩)
          (fun j => x4 (ix3 0 ⟨j.val, by omega⟩ d))
          (fun j : Fin 256 => logit x0 x2 x5 ⟨512 + r.val, by omega⟩ ⟨512 + j.val, by omega⟩ ⟨r.val, by omega⟩ ⟨512 + j.val, by omega⟩)
          (fun j => x4 (ix3 0 ⟨512 + j.val, by omega⟩ d))
        * x6 (ix3 0 ⟨512 + r.val, by omega⟩ d) := by
  pointwise [k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69]
  rfl

/-- The store of rows 768 … 1023. -/
theorem piece768 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    ((k0_pay35 (k0_pay32 (k0_pay65 i x0 x1 x2 x3 x4 x5 x6) (k0_pay66 i x0 x1 x2 x3 x4 x5 x6)
      (k0_pay67 i x0 x1 x2 x3 x4 x5 x6) (Named.named κ "log2e" 0x3FB8AA3B#32) (View.ld (shapeCast
      S512x128 (View.ld x2 r0_12) squeezes_S1x512x128_S512x128.numel_eq) r0_2) (View.ld x5 r0_10))
      (k0_pay33 (k0_pay65 i x0 x1 x2 x3 x4 x5 x6) (k0_pay66 i x0 x1 x2 x3 x4 x5 x6) (k0_pay67 i x0
      x1 x2 x3 x4 x5 x6) (Named.named κ "log2e" 0x3FB8AA3B#32) (View.ld (shapeCast S512x128 (View.ld
      x2 r0_12) squeezes_S1x512x128_S512x128.numel_eq) r0_2) (View.ld x5 r0_10) (View.ld (shapeCast
      S512x128 (View.ld x4 r0_4) squeezes_S1x512x128_S512x128.numel_eq) r0_8)) (k0_pay34 (k0_pay65 i
      x0 x1 x2 x3 x4 x5 x6) (k0_pay66 i x0 x1 x2 x3 x4 x5 x6) (k0_pay67 i x0 x1 x2 x3 x4 x5 x6)
      (Named.named κ "log2e" 0x3FB8AA3B#32) (View.ld (shapeCast S512x128 (View.ld x2 r0_12)
      squeezes_S1x512x128_S512x128.numel_eq) r0_2) (View.ld x5 r0_10)) (View.ld (shapeCast S512x128
      (View.ld x4 r0_12) squeezes_S1x512x128_S512x128.numel_eq) r0_2) (View.ld x6 r0_13)) : FVec Ideal S1x256x128 .bf16) (ix3 0 r d)
      = soft (fun j : Fin 256 => logit x0 x2 x5 ⟨768 + r.val, by omega⟩ ⟨256 + j.val, by omega⟩ ⟨256 + r.val, by omega⟩ ⟨256 + j.val, by omega⟩)
          (fun j => x4 (ix3 0 ⟨256 + j.val, by omega⟩ d))
          (fun j : Fin 512 => logit x0 x2 x5 ⟨768 + r.val, by omega⟩ ⟨512 + j.val, by omega⟩ ⟨256 + r.val, by omega⟩ ⟨512 + j.val, by omega⟩)
          (fun j => x4 (ix3 0 ⟨512 + j.val, by omega⟩ d))
        * x6 (ix3 0 ⟨768 + r.val, by omega⟩ d) := by
  pointwise [k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69]
  rfl

/-- The store of rows 1024 … 1279. -/
theorem piece1024 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    ((k0_pay40 (k0_pay39 (k0_pay37 (View.ld x0 r0_14) (View.ld (shapeCast S512x128 (View.ld x2
      r0_12) squeezes_S1x512x128_S512x128.numel_eq) r0_2) (View.ld x5 r0_3)) (k0_pay38 (View.ld x0
      r0_14) (View.ld (shapeCast S512x128 (View.ld x2 r0_15) squeezes_S1x512x128_S512x128.numel_eq)
      r0_5)) (View.ld x5 r0_6) (View.ld (shapeCast S512x128 (View.ld x4 r0_12)
      squeezes_S1x512x128_S512x128.numel_eq) r0_2) (View.ld (shapeCast S512x128 (View.ld x4 r0_15)
      squeezes_S1x512x128_S512x128.numel_eq) r0_5) (View.ld x6 r0_14))) : FVec Ideal S1x256x128 .bf16) (ix3 0 r d)
      = soft (fun j : Fin 512 => logit x0 x2 x5 ⟨1024 + r.val, by omega⟩ ⟨512 + j.val, by omega⟩ ⟨r.val, by omega⟩ ⟨j.val, by omega⟩)
          (fun j => x4 (ix3 0 ⟨512 + j.val, by omega⟩ d))
          (fun j : Fin 256 => logit x0 x2 x5 ⟨1024 + r.val, by omega⟩ ⟨1024 + j.val, by omega⟩ ⟨r.val, by omega⟩ ⟨512 + j.val, by omega⟩)
          (fun j => x4 (ix3 0 ⟨1024 + j.val, by omega⟩ d))
        * x6 (ix3 0 ⟨1024 + r.val, by omega⟩ d) := by
  pointwise [k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69]
  rfl

/-- The store of rows 1280 … 1535. -/
theorem piece1280 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    ((k0_pay45 (k0_pay42 (View.ld x0 r0_16) (View.ld (shapeCast S512x128 (View.ld x2 r0_12)
      squeezes_S1x512x128_S512x128.numel_eq) r0_8) (View.ld x5 r0_9)) (k0_pay43 (View.ld x0 r0_16)
      (View.ld (shapeCast S512x128 (View.ld x2 r0_15) squeezes_S1x512x128_S512x128.numel_eq) r0_2)
      (View.ld x5 r0_10)) (k0_pay44 (View.ld x0 r0_16) (View.ld (shapeCast S512x128 (View.ld x2
      r0_12) squeezes_S1x512x128_S512x128.numel_eq) r0_8) (View.ld x5 r0_9)) (View.ld (shapeCast
      S512x128 (View.ld x4 r0_12) squeezes_S1x512x128_S512x128.numel_eq) r0_8) (View.ld (shapeCast
      S512x128 (View.ld x4 r0_15) squeezes_S1x512x128_S512x128.numel_eq) r0_2) (View.ld x6 r0_16)) : FVec Ideal S1x256x128 .bf16) (ix3 0 r d)
      = soft (fun j : Fin 256 => logit x0 x2 x5 ⟨1280 + r.val, by omega⟩ ⟨512 + (256 + j.val), by omega⟩ ⟨256 + r.val, by omega⟩ ⟨256 + j.val, by omega⟩)
          (fun j => x4 (ix3 0 ⟨512 + (256 + j.val), by omega⟩ d))
          (fun j : Fin 512 => logit x0 x2 x5 ⟨1280 + r.val, by omega⟩ ⟨1024 + j.val, by omega⟩ ⟨256 + r.val, by omega⟩ ⟨512 + j.val, by omega⟩)
          (fun j => x4 (ix3 0 ⟨1024 + j.val, by omega⟩ d))
        * x6 (ix3 0 ⟨1280 + r.val, by omega⟩ d) := by
  pointwise [k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69]
  rfl

/-- The store of rows 1536 … 1791. -/
theorem piece1536 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    ((k0_pay54 (k0_pay51 (k0_pay68 i x0 x1 x2 x3 x4 x5 x6) (View.ld (shapeCast S512x128 (View.ld x2
      r0_15) squeezes_S1x512x128_S512x128.numel_eq) r0_2) (View.ld x5 r0_3) (View.ld (shapeCast
      S512x128 (View.ld x2 r0_18) squeezes_S1x512x128_S512x128.numel_eq) r0_5) (View.ld x5 r0_6))
      (k0_pay52 (k0_pay68 i x0 x1 x2 x3 x4 x5 x6) (View.ld (shapeCast S512x128 (View.ld x2 r0_15)
      squeezes_S1x512x128_S512x128.numel_eq) r0_2) (View.ld x5 r0_3) (View.ld (shapeCast S512x128
      (View.ld x2 r0_18) squeezes_S1x512x128_S512x128.numel_eq) r0_5) (View.ld x5 r0_6)) (k0_pay53
      (k0_pay68 i x0 x1 x2 x3 x4 x5 x6) (View.ld (shapeCast S512x128 (View.ld x2 r0_15)
      squeezes_S1x512x128_S512x128.numel_eq) r0_2) (View.ld x5 r0_3) (View.ld (shapeCast S512x128
      (View.ld x2 r0_18) squeezes_S1x512x128_S512x128.numel_eq) r0_5) (View.ld x5 r0_6)) (View.ld
      (shapeCast S512x128 (View.ld x4 r0_15) squeezes_S1x512x128_S512x128.numel_eq) r0_2) (View.ld
      (shapeCast S512x128 (View.ld x4 r0_18) squeezes_S1x512x128_S512x128.numel_eq) r0_5) (View.ld
      x6 r0_17)) : FVec Ideal S1x256x128 .bf16) (ix3 0 r d)
      = soft (fun j : Fin 512 => logit x0 x2 x5 ⟨1536 + r.val, by omega⟩ ⟨1024 + j.val, by omega⟩ ⟨r.val, by omega⟩ ⟨j.val, by omega⟩)
          (fun j => x4 (ix3 0 ⟨1024 + j.val, by omega⟩ d))
          (fun j : Fin 256 => logit x0 x2 x5 ⟨1536 + r.val, by omega⟩ ⟨1536 + j.val, by omega⟩ ⟨r.val, by omega⟩ ⟨512 + j.val, by omega⟩)
          (fun j => x4 (ix3 0 ⟨1536 + j.val, by omega⟩ d))
        * x6 (ix3 0 ⟨1536 + r.val, by omega⟩ d) := by
  pointwise [k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69]
  rfl

/-- The store of rows 1792 … 2047. -/
theorem piece1792 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    ((k0_pay1 (k0_pay60 (k0_pay69 i x0 x1 x2 x3 x4 x5 x6) (View.ld (shapeCast S512x128 (View.ld x2
      r0_15) squeezes_S1x512x128_S512x128.numel_eq) r0_8) (View.ld x5 r0_9) (View.ld (shapeCast
      S512x128 (View.ld x2 r0_18) squeezes_S1x512x128_S512x128.numel_eq) r0_2) (View.ld x5 r0_10))
      (k0_pay61 (k0_pay69 i x0 x1 x2 x3 x4 x5 x6) (View.ld (shapeCast S512x128 (View.ld x2 r0_15)
      squeezes_S1x512x128_S512x128.numel_eq) r0_8) (View.ld x5 r0_9) (View.ld (shapeCast S512x128
      (View.ld x2 r0_18) squeezes_S1x512x128_S512x128.numel_eq) r0_2) (View.ld x5 r0_10)) (k0_pay62
      (k0_pay69 i x0 x1 x2 x3 x4 x5 x6) (View.ld (shapeCast S512x128 (View.ld x2 r0_15)
      squeezes_S1x512x128_S512x128.numel_eq) r0_8) (View.ld x5 r0_9) (View.ld (shapeCast S512x128
      (View.ld x2 r0_18) squeezes_S1x512x128_S512x128.numel_eq) r0_2) (View.ld x5 r0_10)) (View.ld
      (shapeCast S512x128 (View.ld x4 r0_15) squeezes_S1x512x128_S512x128.numel_eq) r0_8) (constant
      S256x128 .f32 0x00000000#32) (View.ld (shapeCast S512x128 (View.ld x4 r0_18)
      squeezes_S1x512x128_S512x128.numel_eq) r0_2) (View.ld x6 r0_19)) : FVec Ideal S1x256x128 .bf16) (ix3 0 r d)
      = soft (fun j : Fin 256 => logit x0 x2 x5 ⟨1792 + r.val, by omega⟩ ⟨1024 + (256 + j.val), by omega⟩ ⟨256 + r.val, by omega⟩ ⟨256 + j.val, by omega⟩)
          (fun j => x4 (ix3 0 ⟨1024 + (256 + j.val), by omega⟩ d))
          (fun j : Fin 512 => logit x0 x2 x5 ⟨1792 + r.val, by omega⟩ ⟨1536 + j.val, by omega⟩ ⟨256 + r.val, by omega⟩ ⟨512 + j.val, by omega⟩)
          (fun j => x4 (ix3 0 ⟨1536 + j.val, by omega⟩ d))
        * x6 (ix3 0 ⟨1792 + r.val, by omega⟩ d) := by
  pointwise [k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69]
  rfl

end Cert.KernelIdeal.Chunk

end
-- ==== Proof.ChunkRef.lean ====
/-
  The chunk attention's reference at an index: a softmax over the row's band of 576 keys, times the gate.
-/
module

public import proofs.«01_k».proof.Proof.Gen.ReferenceIdeal.Read
public import Idealize.ShloMosaic.Lib.Pointwise
public import Idealize.ShloMosaic.Lib.Tactic.WordOmega

@[expose] public section

noncomputable section

namespace Cert.ReferenceIdeal.AtIndex

open Cert.ReferenceIdeal Cert.ReferenceIdeal.Gen Cert.ReferenceIdeal.Read Idealize.ShloMosaic Idealize.ShloMosaic.TcCoe

/-! The three parts of the projection's output: queries, padded keys, padded values. -/

theorem q_apply (x0 : FVec Ideal S2x16384x4608 .bf16) (b : Fin 2) (h : Fin 4) (c : Fin 256) (r : Fin 64) (d : Fin 128) :
    val_main_v42 (F := Ideal) x0 (ix5 b h c r d)
      = x0 (ix3 b ⟨c.val * 64 + r.val, by omega⟩ ⟨1536 + (h.val * 128 + d.val), by omega⟩) := by
  pointwise [val_main_v0, val_main_v1, val_main_v5, val_main_v6, val_main_v7, val_main_v8, val_main_v42]

theorem pad_k_apply (x0 : FVec Ideal S2x16384x4608 .bf16) (b : Fin 2) (h : Fin 4) (n : Fin 16896) (d : Fin 128) (hn : 512 ≤ n.val) :
    val_main_v17 (F := Ideal) x0 (ix4 b h n d)
      = x0 (ix3 b ⟨n.val - 512, by omega⟩ ⟨2048 + (h.val * 128 + d.val), by omega⟩) := by
  pointwise [val_main_v0, val_main_v1, val_main_v9, val_main_v10, val_main_v11, val_main_v12, val_main_c, val_main_call0_v0, val_main_v17]
  rw [dif_pos (by omega)]

theorem pad_v_apply (x0 : FVec Ideal S2x16384x4608 .bf16) (b : Fin 2) (h : Fin 4) (n : Fin 16896) (d : Fin 128) (hn : 512 ≤ n.val) :
    val_main_v18 (F := Ideal) x0 (ix4 b h n d)
      = x0 (ix3 b ⟨n.val - 512, by omega⟩ ⟨2560 + (h.val * 128 + d.val), by omega⟩) := by
  pointwise [val_main_v0, val_main_v1, val_main_v13, val_main_v14, val_main_v15, val_main_v16, val_main_c_0, val_main_call1_v0, val_main_v18]
  rw [dif_pos (by omega)]

/-! The gathers' start indices. -/

theorem key_index (c : Fin 256) (p : Fin 576) :
    (val_main_call4_v0 (F := Ideal) (ix3 c p 0)).toInt.toNat = c.val * 64 + p.val := by
  have e : val_main_call4_v0 (F := Ideal) (ix3 c p 0) = IntOp.addi (IntOp.muli (BitVec.ofNat 32 c.val) 64#32) (BitVec.ofNat 32 p.val) := by
    pointwise [val_main_v32, val_main_v20, val_main_c_5, val_main_v33, val_main_v34, val_main_v35, val_main_v36, val_main_v37,
      val_main_v38, val_main_v39, val_main_call4_v0]
  have hc := c.isLt
  have hp := p.isLt
  rw [e, WordCmp.muli_ofNat, WordCmp.addi_ofNat, BitVec.toInt_eq_toNat_cond, BitVec.toNat_ofNat]
  rw [Nat.mod_eq_of_lt (by omega), if_pos (by omega)]
  rfl

theorem value_index : val_main_call5_v0 (F := Ideal) = val_main_call4_v0 (F := Ideal) := rfl

theorem clamp_word : ∀ n : Fin 640, (IntOp.addi (IntOp.minsi 128#32 (IntOp.maxsi 4294967168#32 (BitVec.ofNat 32 n.val - 64#32))) 128#32).toInt.toNat
    = min (n.val + 64) 256 := by decide +kernel

theorem bias_index (r : Fin 64) (p : Fin 576) :
    (val_main_call3_v0 (F := Ideal) (ix3 r p 0)).toInt.toNat = min (640 + r.val - p.val) 256 := by
  have e : val_main_call3_v0 (F := Ideal) (ix3 r p 0) = IntOp.addi (IntOp.minsi 128#32 (IntOp.maxsi 4294967168#32
      (IntOp.subi (IntOp.addi 512#32 (BitVec.ofNat 32 r.val)) (BitVec.ofNat 32 p.val)))) 128#32 := by
    pointwise [val_main_v19, val_main_v20, val_main_c_1, val_main_v21, val_main_v22, val_main_v23, val_main_v24, val_main_v25,
      val_main_v26, val_main_v27, val_main_c_2, val_main_c_3, val_main_call2_v0, val_main_call2_v1, val_main_call2_v2,
      val_main_call2_v3, val_main_call2_v4, val_main_v28, val_main_c_4, val_main_v29, val_main_v30, val_main_call3_v0]
    rfl
  have hc := r.isLt
  have hp := p.isLt
  have ew : IntOp.subi (IntOp.addi 512#32 (BitVec.ofNat 32 r.val)) (BitVec.ofNat 32 p.val) = BitVec.ofNat 32 (576 + r.val - p.val) - 64#32 := by
    show 512#32 + BitVec.ofNat 32 r.val - BitVec.ofNat 32 p.val = BitVec.ofNat 32 (576 + r.val - p.val) - 64#32
    bv_omega
  rw [e, ew]
  have := clamp_word ⟨576 + r.val - p.val, by omega⟩
  refine this.trans ?_
  show min (576 + r.val - p.val + 64) 256 = _
  congr 1
  omega

/-! The gathers. -/

theorem gather_bias (x : FVec Ideal S4x257 .f32) (idx : IVec S64x576x1 32) (h : Fin 4) (r : Fin 64) (p : Fin 576) :
    Host.gather gather_S4x257_S64x576x1_S4x64x576_0_1_n_n_1_2_41 x idx (ix3 h r p)
      = x (ix2 h ⟨min (idx (ix3 r p 0)).toInt.toNat 256, by omega⟩) := by
  unfold Host.gather
  refine congrArg x ?_
  funext a
  refine Fin.ext ?_
  show GatherDims.start gather_S4x257_S64x576x1_S4x64x576_0_1_n_n_1_2_41 (ix3 h r p) idx a + GatherDims.batchCoord gather_S4x257_S64x576x1_S4x64x576_0_1_n_n_1_2_41 (ix3 h r p) a + GatherDims.offCoord gather_S4x257_S64x576x1_S4x64x576_0_1_n_n_1_2_41 (ix3 h r p) a = _
  match a with
  | ⟨0, _⟩ =>
    show GatherDims.start gather_S4x257_S64x576x1_S4x64x576_0_1_n_n_1_2_41 (ix3 h r p) idx (0 : Fin 2) + GatherDims.batchCoord gather_S4x257_S64x576x1_S4x64x576_0_1_n_n_1_2_41 (ix3 h r p) (0 : Fin 2) + GatherDims.offCoord gather_S4x257_S64x576x1_S4x64x576_0_1_n_n_1_2_41 (ix3 h r p) (0 : Fin 2) = _
    rw [GatherDims.batchCoord_eq_zero _ _ _ List.not_mem_nil]
    unfold GatherDims.start
    rw [dif_neg (by decide)]
    unfold GatherDims.offCoord
    rw [dif_pos (by decide)]
    show 0 + 0 + h.val = h.val
    omega
  | ⟨1, _⟩ =>
    show GatherDims.start gather_S4x257_S64x576x1_S4x64x576_0_1_n_n_1_2_41 (ix3 h r p) idx (1 : Fin 2) + GatherDims.batchCoord gather_S4x257_S64x576x1_S4x64x576_0_1_n_n_1_2_41 (ix3 h r p) (1 : Fin 2) + GatherDims.offCoord gather_S4x257_S64x576x1_S4x64x576_0_1_n_n_1_2_41 (ix3 h r p) (1 : Fin 2) = _
    rw [GatherDims.batchCoord_eq_zero _ _ _ List.not_mem_nil, GatherDims.offCoord_eq_zero _ _ _ (by decide)]
    unfold GatherDims.start
    rw [dif_pos (by decide)]
    simp only [Nat.add_zero]
    refine congrArg (fun k => min (idx k).toInt.toNat 256) ?_
    funext b; refine Fin.ext ?_
    match b with
    | ⟨0, _⟩ => rfl
    | ⟨1, _⟩ => rfl
    | ⟨2, _⟩ => rfl

theorem gather_rows (x : FVec Ideal S2x4x16896x128 .f32) (idx : IVec S256x576x1 32) (b : Fin 2) (h : Fin 4) (c : Fin 256) (p : Fin 576) (d : Fin 128) :
    Host.gather gather_S2x4x16896x128_S256x576x1_S2x4x256x576x128_014_2_n_n_2_2_241128 x idx (ix5 b h c p d)
      = x (ix4 b h ⟨min (idx (ix3 c p 0)).toInt.toNat 16895, by omega⟩ d) := by
  unfold Host.gather
  refine congrArg x ?_
  funext a
  refine Fin.ext ?_
  show GatherDims.start gather_S2x4x16896x128_S256x576x1_S2x4x256x576x128_014_2_n_n_2_2_241128 (ix5 b h c p d) idx a + GatherDims.batchCoord gather_S2x4x16896x128_S256x576x1_S2x4x256x576x128_014_2_n_n_2_2_241128 (ix5 b h c p d) a + GatherDims.offCoord gather_S2x4x16896x128_S256x576x1_S2x4x256x576x128_014_2_n_n_2_2_241128 (ix5 b h c p d) a = _
  match a with
  | ⟨0, _⟩ =>
    show GatherDims.start gather_S2x4x16896x128_S256x576x1_S2x4x256x576x128_014_2_n_n_2_2_241128 (ix5 b h c p d) idx (0 : Fin 4) + GatherDims.batchCoord gather_S2x4x16896x128_S256x576x1_S2x4x256x576x128_014_2_n_n_2_2_241128 (ix5 b h c p d) (0 : Fin 4) + GatherDims.offCoord gather_S2x4x16896x128_S256x576x1_S2x4x256x576x128_014_2_n_n_2_2_241128 (ix5 b h c p d) (0 : Fin 4) = _
    rw [GatherDims.batchCoord_eq_zero _ _ _ List.not_mem_nil]
    unfold GatherDims.start
    rw [dif_neg (by decide)]
    unfold GatherDims.offCoord
    rw [dif_pos (by decide)]
    show 0 + 0 + b.val = b.val
    omega
  | ⟨1, _⟩ =>
    show GatherDims.start gather_S2x4x16896x128_S256x576x1_S2x4x256x576x128_014_2_n_n_2_2_241128 (ix5 b h c p d) idx (1 : Fin 4) + GatherDims.batchCoord gather_S2x4x16896x128_S256x576x1_S2x4x256x576x128_014_2_n_n_2_2_241128 (ix5 b h c p d) (1 : Fin 4) + GatherDims.offCoord gather_S2x4x16896x128_S256x576x1_S2x4x256x576x128_014_2_n_n_2_2_241128 (ix5 b h c p d) (1 : Fin 4) = _
    rw [GatherDims.batchCoord_eq_zero _ _ _ List.not_mem_nil]
    unfold GatherDims.start
    rw [dif_neg (by decide)]
    unfold GatherDims.offCoord
    rw [dif_pos (by decide)]
    show 0 + 0 + h.val = h.val
    omega
  | ⟨3, _⟩ =>
    show GatherDims.start gather_S2x4x16896x128_S256x576x1_S2x4x256x576x128_014_2_n_n_2_2_241128 (ix5 b h c p d) idx (3 : Fin 4) + GatherDims.batchCoord gather_S2x4x16896x128_S256x576x1_S2x4x256x576x128_014_2_n_n_2_2_241128 (ix5 b h c p d) (3 : Fin 4) + GatherDims.offCoord gather_S2x4x16896x128_S256x576x1_S2x4x256x576x128_014_2_n_n_2_2_241128 (ix5 b h c p d) (3 : Fin 4) = _
    rw [GatherDims.batchCoord_eq_zero _ _ _ List.not_mem_nil]
    unfold GatherDims.start
    rw [dif_neg (by decide)]
    unfold GatherDims.offCoord
    rw [dif_pos (by decide)]
    show 0 + 0 + d.val = d.val
    omega
  | ⟨2, _⟩ =>
    show GatherDims.start gather_S2x4x16896x128_S256x576x1_S2x4x256x576x128_014_2_n_n_2_2_241128 (ix5 b h c p d) idx (2 : Fin 4) + GatherDims.batchCoord gather_S2x4x16896x128_S256x576x1_S2x4x256x576x128_014_2_n_n_2_2_241128 (ix5 b h c p d) (2 : Fin 4) + GatherDims.offCoord gather_S2x4x16896x128_S256x576x1_S2x4x256x576x128_014_2_n_n_2_2_241128 (ix5 b h c p d) (2 : Fin 4) = _
    rw [GatherDims.batchCoord_eq_zero _ _ _ List.not_mem_nil, GatherDims.offCoord_eq_zero _ _ _ (by decide)]
    unfold GatherDims.start
    rw [dif_pos (by decide)]
    simp only [Nat.add_zero]
    refine congrArg (fun k => min (idx k).toInt.toNat 16895) ?_
    funext b; refine Fin.ext ?_
    match b with
    | ⟨0, _⟩ => rfl
    | ⟨1, _⟩ => rfl
    | ⟨2, _⟩ => rfl

theorem bias_apply (x1 : FVec Ideal S4x257 .f32) (h : Fin 4) (r : Fin 64) (p : Fin 576) :
    val_main_v31 (F := Ideal) x1 (ix3 h r p) = x1 (ix2 h ⟨min (640 + r.val - p.val) 256, by omega⟩) := by
  refine (gather_bias x1 _ h r p).trans (congrArg x1 (congrArg (ix2 h) (Fin.ext ?_)))
  show min (val_main_call3_v0 (F := Ideal) (ix3 r p 0)).toInt.toNat 256 = _
  rw [bias_index]
  show min _ 256 = min (640 + r.val - p.val) 256
  omega

theorem k_apply (x0 : FVec Ideal S2x16384x4608 .bf16) (b : Fin 2) (h : Fin 4) (c : Fin 256) (p : Fin 576) (d : Fin 128)
    (hn : 512 ≤ c.val * 64 + p.val) :
    val_main_v40 (F := Ideal) x0 (ix5 b h c p d)
      = x0 (ix3 b ⟨c.val * 64 + p.val - 512, by omega⟩ ⟨2048 + (h.val * 128 + d.val), by omega⟩) := by
  refine (gather_rows _ _ b h c p d).trans ?_
  have e : (⟨min (val_main_call4_v0 (F := Ideal) (ix3 c p 0)).toInt.toNat 16895, by omega⟩ : Fin 16896) = ⟨c.val * 64 + p.val, by omega⟩ :=
    Fin.ext (by show min _ 16895 = c.val * 64 + p.val; rw [key_index]; omega)
  rw [e]
  exact pad_k_apply x0 b h _ d hn

theorem v_apply (x0 : FVec Ideal S2x16384x4608 .bf16) (b : Fin 2) (h : Fin 4) (c : Fin 256) (p : Fin 576) (d : Fin 128)
    (hn : 512 ≤ c.val * 64 + p.val) :
    val_main_v41 (F := Ideal) x0 (ix5 b h c p d)
      = x0 (ix3 b ⟨c.val * 64 + p.val - 512, by omega⟩ ⟨2560 + (h.val * 128 + d.val), by omega⟩) := by
  refine (gather_rows _ _ b h c p d).trans ?_
  have e : (⟨min (val_main_call5_v0 (F := Ideal) (ix3 c p 0)).toInt.toNat 16895, by omega⟩ : Fin 16896) = ⟨c.val * 64 + p.val, by omega⟩ :=
    Fin.ext (by show min _ 16895 = c.val * 64 + p.val; rw [value_index, key_index]; omega)
  rw [e]
  exact pad_v_apply x0 b h _ d hn

/-! The logits. -/

theorem valid_word (c : Fin 256) (p : Fin 576) :
    IntOp.cmpi CmpIPredicate.sge (IntOp.subi (IntOp.addi (IntOp.muli (BitVec.ofNat 32 c.val) 64#32) (BitVec.ofNat 32 p.val)) 512#32) 0#32
      = if 512 ≤ c.val * 64 + p.val then 1#1 else 0#1 := by
  have hc := c.isLt
  have hp := p.isLt
  rw [show (64#32) = BitVec.ofNat 32 64 from rfl, WordCmp.muli_ofNat, WordCmp.addi_ofNat]
  show IntOp.cmpi CmpIPredicate.sge (BitVec.ofNat 32 (c.val * 64 + p.val) - 512#32) 0#32 = _
  rw [WordCmp.cmpi_sge_zero]
  have e : (BitVec.ofNat 32 (c.val * 64 + p.val) - 512#32).toNat = (4294967296 - 512 + (c.val * 64 + p.val)) % 4294967296 := by
    rw [BitVec.toNat_sub, BitVec.toNat_ofNat, BitVec.toNat_ofNat]; omega
  rw [e]
  by_cases hn : 512 ≤ c.val * 64 + p.val
  · rw [if_pos hn, decide_eq_true (by omega)]; rfl
  · rw [if_neg hn, decide_eq_false (by omega)]; rfl

theorem logit_valid (x0 : FVec Ideal S2x16384x4608 .bf16) (x1 : FVec Ideal S4x257 .f32) (b : Fin 2) (h : Fin 4) (c : Fin 256) (r : Fin 64) (p : Fin 576)
    (hn : 512 ≤ c.val * 64 + p.val) :
    val_main_v55 (F := Ideal) x0 x1 (ix5 b h c r p)
      = Ideal.div (∑ d : Fin 128, x0 (ix3 b ⟨c.val * 64 + r.val, by omega⟩ ⟨1536 + (h.val * 128 + d.val), by omega⟩)
          * x0 (ix3 b ⟨c.val * 64 + p.val - 512, by omega⟩ ⟨2048 + (h.val * 128 + d.val), by omega⟩))
          (Ideal.sqrt (Ideal.ofBits FTy.f32 0x43000000#32))
        + x1 (ix2 h ⟨min (640 + r.val - p.val) 256, by omega⟩) := by
  pointwise [val_main_cst, val_main_v43, val_main_v44, val_main_v45, val_main_v46, val_main_v47, val_main_v48, val_main_v49, val_main_c_6,
    val_main_v50, val_main_v51, val_main_c_7, val_main_v52, val_main_v53, val_main_v54, val_main_v55, val_main_call6_v0,
    val_main_call6_v1, val_main_call6_v2, val_main_cst_8, val_main_v32, val_main_v20, val_main_c_5, val_main_v33, val_main_v34,
    val_main_v35, val_main_v36, val_main_v37, val_main_v38, val_main_v39]
  rw [valid_word, if_pos hn, bias_apply]
  simp only [q_apply, k_apply x0 b h c p _ hn]
  rfl

theorem logit_invalid (x0 : FVec Ideal S2x16384x4608 .bf16) (x1 : FVec Ideal S4x257 .f32) (b : Fin 2) (h : Fin 4) (c : Fin 256) (r : Fin 64) (p : Fin 576)
    (hn : ¬ 512 ≤ c.val * 64 + p.val) :
    val_main_v55 (F := Ideal) x0 x1 (ix5 b h c r p) = Ideal.ofBits FTy.f32 0xFF800000#32 := by
  pointwise [val_main_cst, val_main_v43, val_main_v44, val_main_v45, val_main_v46, val_main_v47, val_main_v48, val_main_v49, val_main_c_6,
    val_main_v50, val_main_v51, val_main_c_7, val_main_v52, val_main_v53, val_main_v54, val_main_v55, val_main_call6_v0,
    val_main_call6_v1, val_main_call6_v2, val_main_cst_8, val_main_v32, val_main_v20, val_main_c_5, val_main_v33, val_main_v34,
    val_main_v35, val_main_v36, val_main_v37, val_main_v38, val_main_v39]
  rw [valid_word, if_neg hn]
  rfl

end Cert.ReferenceIdeal.AtIndex

end
-- ==== Proof.ChunkRefAt.lean ====
/-
  The chunk attention's reference at an index: a softmax over the row's band of 576 keys, times the gate.
-/
module

public import proofs.«01_k».proof.Proof.ChunkRef
public import Idealize.ShloMosaic.Lib.Pointwise
public import Idealize.ShloMosaic.Lib.Tactic.WordOmega

@[expose] public section

noncomputable section

namespace Cert.ReferenceIdeal.AtIndex

open Cert.ReferenceIdeal Cert.ReferenceIdeal.Gen Cert.ReferenceIdeal.Read Idealize.ShloMosaic Idealize.ShloMosaic.TcCoe

/-- The maximum the reference subtracts. -/
def top (a : Fin 576 → Ideal .f32) : Ideal .f32 :=
  max (Ideal.ofBits FTy.f32 0xFF800000#32) (Finset.univ.fold max (Ideal.ofBits FTy.f32 0xFF800000#32) a)

variable (x0 : FVec Ideal S2x16384x4608 .bf16) (x1 : FVec Ideal S4x257 .f32) (x2 : FVec Ideal S2x16384x1536 .f32)

theorem red_apply (L : FVec Ideal S2x4x256x64x576 .f32) (z : FVec Ideal S_ .f32) (b : Fin 2) (h : Fin 4) (c : Fin 256) (r : Fin 64) :
    Host.reduce FloatOps.maximumf L z reducesTo_S2x4x256x64x576_S2x4x256x64_d4 h_S_ (ix4 b h c r)
     = Finset.univ.fold max (z ix0) (fun p : Fin 576 => L (ix5 b h c r p)) := by
  pointwise []
  rw [show Shape.Idx.first h_S_ = ix0 from funext (fun a => a.elim0)]

theorem top_apply (b : Fin 2) (h : Fin 4) (c : Fin 256) (r : Fin 64) :
    val_main_v58 (F := Ideal) x0 x1 (ix4 b h c r) = top (fun p => val_main_v55 (F := Ideal) x0 x1 (ix5 b h c r p)) := by
  rw [val_main_v58_apply, val_main_v57_apply]
  exact congrArg (max _) (red_apply _ _ b h c r)

theorem exp_apply (b : Fin 2) (h : Fin 4) (c : Fin 256) (r : Fin 64) (p : Fin 576) :
    val_main_v62 (F := Ideal) x0 x1 (ix5 b h c r p)
      = Ideal.exp (val_main_v55 (F := Ideal) x0 x1 (ix5 b h c r p) - val_main_v58 (F := Ideal) x0 x1 (ix4 b h c r)) := by
  pointwise [val_main_v59, val_main_v60, val_main_v61, val_main_v62]

theorem weight_apply (b : Fin 2) (h : Fin 4) (c : Fin 256) (r : Fin 64) (p : Fin 576) :
    val_main_v66 (F := Ideal) x0 x1 (ix5 b h c r p)
      = Ideal.div (val_main_v62 (F := Ideal) x0 x1 (ix5 b h c r p)) (∑ p : Fin 576, val_main_v62 (F := Ideal) x0 x1 (ix5 b h c r p)) := by
  pointwise [val_main_cst_11, val_main_v63, val_main_v64, val_main_v65, val_main_v66]

theorem mix_apply (b : Fin 2) (h : Fin 4) (c : Fin 256) (r : Fin 64) (d : Fin 128) :
    val_main_v67 (F := Ideal) x0 x1 (ix5 b h c r d)
      = ∑ p : Fin 576, val_main_v66 (F := Ideal) x0 x1 (ix5 b h c r p) * val_main_v41 (F := Ideal) x0 (ix5 b h c p d) := by
  pointwise [val_main_v67]

theorem gate_apply (b : Fin 2) (R : Fin 16384) (D : Fin 512) :
    val_main_v4 (F := Ideal) x2 (ix3 b R D) = x2 (ix3 b R ⟨512 + D.val, by omega⟩) := by
  pointwise [val_main_v2, val_main_v3, val_main_v4]

theorem out_apply (b : Fin 2) (R : Fin 16384) (h : Fin 4) (d : Fin 128) :
    val_main_v70 (F := Ideal) x0 x1 (ix3 b R ⟨h.val * 128 + d.val, by omega⟩)
      = val_main_v67 (F := Ideal) x0 x1 (ix5 b h ⟨R.val / 64, by omega⟩ ⟨R.val % 64, by omega⟩ d) := by
  have hb := b.isLt
  have hR := R.isLt
  have hh := h.isLt
  have hd := d.isLt
  have e70 : idx_main_v70 (ix3 b R ⟨h.val * 128 + d.val, by omega⟩) = ix4 b R h d := by
    funext a; apply Fin.ext
    match a with
    | ⟨0, _⟩ => show ((b.val * 16384 + R.val) * 512 + (h.val * 128 + d.val)) / 8388608 = b.val; omega
    | ⟨1, _⟩ => show ((b.val * 16384 + R.val) * 512 + (h.val * 128 + d.val)) / 512 % 16384 = R.val; omega
    | ⟨2, _⟩ => show ((b.val * 16384 + R.val) * 512 + (h.val * 128 + d.val)) / 128 % 4 = h.val; omega
    | ⟨3, _⟩ => show ((b.val * 16384 + R.val) * 512 + (h.val * 128 + d.val)) % 128 = d.val; omega
  have e69 : idx_main_v69 (ix4 b R h d) = ix4 b h R d := by
    funext a; apply Fin.ext
    match a with
    | ⟨0, _⟩ => rfl
    | ⟨1, _⟩ => rfl
    | ⟨2, _⟩ => rfl
    | ⟨3, _⟩ => rfl
  have e68 : idx_main_v68 (ix4 b h R d) = ix5 b h ⟨R.val / 64, by omega⟩ ⟨R.val % 64, by omega⟩ d := by
    funext a; apply Fin.ext
    match a with
    | ⟨0, _⟩ => show (((b.val * 4 + h.val) * 16384 + R.val) * 128 + d.val) / 8388608 = b.val; omega
    | ⟨1, _⟩ => show (((b.val * 4 + h.val) * 16384 + R.val) * 128 + d.val) / 2097152 % 4 = h.val; omega
    | ⟨2, _⟩ => show (((b.val * 4 + h.val) * 16384 + R.val) * 128 + d.val) / 8192 % 256 = R.val / 64; omega
    | ⟨3, _⟩ => show (((b.val * 4 + h.val) * 16384 + R.val) * 128 + d.val) / 128 % 64 = R.val % 64; omega
    | ⟨4, _⟩ => show (((b.val * 4 + h.val) * 16384 + R.val) * 128 + d.val) % 128 = d.val; omega
  rw [val_main_v70_apply, e70, val_main_v69_apply, e69, val_main_v68_apply, e68]

/-- The result at row `R`, column `128 h + d`, over the row's logits and the band's values. -/
theorem ref_apply (b : Fin 2) (R : Fin 16384) (h : Fin 4) (d : Fin 128) (a : Fin 576 → Ideal .f32)
    (ha : ∀ p, val_main_v55 (F := Ideal) x0 x1 (ix5 b h ⟨R.val / 64, by omega⟩ ⟨R.val % 64, by omega⟩ p) = a p) :
    val_main_v72 (F := Ideal) x0 x1 x2 (ix3 b R ⟨h.val * 128 + d.val, by omega⟩)
      = (∑ p : Fin 576, Ideal.div (Ideal.exp (a p - top a)) (∑ p : Fin 576, Ideal.exp (a p - top a))
          * val_main_v41 (F := Ideal) x0 (ix5 b h ⟨R.val / 64, by omega⟩ p d))
        * x2 (ix3 b R ⟨512 + (h.val * 128 + d.val), by omega⟩) := by
  have e72 : val_main_v72 (F := Ideal) x0 x1 x2 (ix3 b R ⟨h.val * 128 + d.val, by omega⟩)
      = val_main_v70 (F := Ideal) x0 x1 (ix3 b R ⟨h.val * 128 + d.val, by omega⟩) * val_main_v4 (F := Ideal) x2 (ix3 b R ⟨h.val * 128 + d.val, by omega⟩) := by
    rw [val_main_v72_apply, val_main_v71_apply]
    rfl
  rw [e72, out_apply, gate_apply, mix_apply]
  simp only [weight_apply, exp_apply, top_apply, ha]

end Cert.ReferenceIdeal.AtIndex

end
-- ==== Proof.ChunkAlg.lean ====
/-
  The algebra of the chunk attention: powers of two over a window of keys, divided once at the end, are the plain
  softmax over the band of keys that the window holds.
-/
module

public import proofs.«01_k».proof.Proof.ChunkPiece
public import proofs.«01_k».proof.Proof.ChunkRefAt

@[expose] public section

noncomputable section

namespace Cert.KernelIdeal.Chunk

open Idealize.ShloMosaic

/-- The reciprocal of the logarithm of 2, the factor of the kernel's logits. -/
abbrev perLog2 : ℝ := (Real.log 2)⁻¹

theorem perLog2_pos : 0 < perLog2 := inv_pos.mpr (Real.log_pos (by norm_num))

theorem negInf : Ideal.ofBits FTy.f32 0xFF800000#32 = (⊥ : EReal) := by
  simp [Ideal.ofBits, Ideal.ieee]

/-- A sum of reals, cast. -/
theorem coe_sum {ι : Type*} (s : Finset ι) (e : ι → ℝ) : ((∑ i ∈ s, e i : ℝ) : EReal) = ∑ i ∈ s, (e i : EReal) := by
  classical
  induction s using Finset.induction_on with
  | empty => simp
  | insert i s h ih => rw [Finset.sum_insert h, Finset.sum_insert h, EReal.coe_add, ih]

/-- A nonnegative real factor goes into a sum of extended reals. -/
theorem sum_mul_real {ι : Type*} (s : Finset ι) (f : ι → EReal) (q : ℝ) (hq : 0 ≤ q) :
    (∑ i ∈ s, f i) * (q : EReal) = ∑ i ∈ s, f i * (q : EReal) := by
  classical
  induction s using Finset.induction_on with
  | empty => simp
  | insert i s h ih =>
    rw [Finset.sum_insert h, Finset.sum_insert h,
      EReal.right_distrib_of_nonneg_of_ne_top (EReal.coe_nonneg.mpr hq) (EReal.coe_ne_top q), ih]

/-- The two stretches' sums are one sum over the band, where the summand vanishes off it. -/
theorem window_sum {A B o : ℕ} (hA : o + A = 512) (k : ℕ) (hk : o ≤ k) (hk2 : k + 576 ≤ 512 + B) (g : ℕ → EReal)
    (hz : ∀ w, o ≤ w → w < 512 + B → (w < k ∨ k + 576 ≤ w) → g w = 0) :
    (∑ j : Fin A, g (o + j.val)) + ∑ j : Fin B, g (512 + j.val) = ∑ p : Fin 576, g (k + p.val) := by
  have e1 : ∑ j : Fin A, g (o + j.val) = ∑ w ∈ Finset.Ico o 512, g w := by
    rw [Finset.sum_Ico_eq_sum_range, Finset.sum_range, show 512 - o = A by omega]
  have e2 : ∑ j : Fin B, g (512 + j.val) = ∑ w ∈ Finset.Ico 512 (512 + B), g w := by
    rw [Finset.sum_Ico_eq_sum_range, Finset.sum_range, show 512 + B - 512 = B by omega]
  have e3 : ∑ p : Fin 576, g (k + p.val) = ∑ w ∈ Finset.Ico k (k + 576), g w := by
    rw [Finset.sum_Ico_eq_sum_range, Finset.sum_range, show k + 576 - k = 576 by omega]
  rw [e1, e2, e3, Finset.sum_Ico_consecutive _ (by omega) (by omega)]
  refine (Finset.sum_subset (Finset.Ico_subset_Ico hk hk2) fun w hw hn => ?_).symm
  rw [Finset.mem_Ico] at hw hn
  exact hz w hw.1 hw.2 (by omega)

/-- One power of two is a real multiple of the exponential, with one multiple for all logits. -/
theorem exp2_shift (x : EReal) (hx : x ≠ ⊤) (M m : ℝ) :
    Ideal.exp2 (x * (perLog2 : ℝ) - (m : EReal)) = ((Real.exp (M - m * Real.log 2) : ℝ) : EReal) * Ideal.exp (x - (M : EReal)) := by
  induction x using EReal.rec with
  | top => exact absurd rfl hx
  | bot =>
    rw [EReal.bot_mul_coe_of_pos perLog2_pos, EReal.bot_sub, EReal.bot_sub, Ideal.exp2_bot, Ideal.exp_bot, mul_zero]
  | coe x =>
    rw [← EReal.coe_mul, ← EReal.coe_sub, ← EReal.coe_sub, Ideal.exp2_coe, Ideal.exp_coe, ← EReal.coe_mul]
    refine congrArg _ ?_
    show (2 : ℝ) ^ (x * perLog2 - m) = _
    rw [Real.rpow_def_of_pos (by norm_num), ← Real.exp_add]
    refine congrArg _ ?_
    have h : Real.log 2 ≠ 0 := (Real.log_pos (by norm_num)).ne'
    unfold perLog2
    field_simp
    ring

/-- An exponential of a logit below ⊤ is a nonnegative real, 0 only where the logit is ⊥. -/
theorem exp_real (x : EReal) (hx : x ≠ ⊤) (M : ℝ) :
    ∃ e : ℝ, 0 ≤ e ∧ Ideal.exp (x - (M : EReal)) = (e : EReal) ∧ (x ≠ ⊥ → 0 < e) ∧ (x = ⊥ → e = 0) := by
  induction x using EReal.rec with
  | top => exact absurd rfl hx
  | bot => exact ⟨0, le_rfl, by rw [EReal.bot_sub, Ideal.exp_bot]; rfl, fun h => absurd rfl h, fun _ => rfl⟩
  | coe x =>
    exact ⟨Real.exp (x - M), (Real.exp_pos _).le, by rw [← EReal.coe_sub, Ideal.exp_coe], fun _ => Real.exp_pos _,
      fun h => absurd h (EReal.coe_ne_bot x)⟩

/-- The largest of finitely many logits below ⊤ is below ⊤. -/
theorem fold_ne_top {ι : Type*} (s : Finset ι) (f : ι → EReal) (hf : ∀ i ∈ s, f i ≠ ⊤) : s.fold max ⊥ f ≠ ⊤ :=
  ((Finset.fold_max_lt ⊤).mpr ⟨bot_lt_top, fun i hi => lt_top_iff_ne_top.mpr (hf i hi)⟩).ne

theorem le_fold {ι : Type*} (s : Finset ι) (f : ι → EReal) (i : ι) (hi : i ∈ s) : f i ≤ s.fold max ⊥ f :=
  (Finset.le_fold_max (f i)).mpr (Or.inr ⟨i, hi, le_rfl⟩)

theorem mul_perLog2_ne_top (x : EReal) (hx : x ≠ ⊤) : x * (perLog2 : EReal) ≠ ⊤ := by
  induction x using EReal.rec with
  | top => exact absurd rfl hx
  | bot => rw [EReal.bot_mul_coe_of_pos perLog2_pos]; exact bot_ne_top
  | coe x => rw [← EReal.coe_mul]; exact EReal.coe_ne_top _

theorem mul_perLog2_ne_bot (x : EReal) (hx : x ≠ ⊥) (ht : x ≠ ⊤) : x * (perLog2 : EReal) ≠ ⊥ := by
  induction x using EReal.rec with
  | top => exact absurd rfl ht
  | bot => exact absurd rfl hx
  | coe x => rw [← EReal.coe_mul]; exact EReal.coe_ne_bot _

/-- The kernel's softmax over its window is the plain softmax over the band. -/
theorem soft_eq {A B o : ℕ} (hA : o + A = 512) (S V : ℕ → EReal) (a v : Fin 576 → EReal) (k : ℕ) (hk : o ≤ k) (hk2 : k + 576 ≤ 512 + B)
    (hS : ∀ p : Fin 576, S (k + p.val) = a p * (perLog2 : EReal))
    (hout : ∀ w, o ≤ w → w < 512 + B → (w < k ∨ k + 576 ≤ w) → S w = ⊥)
    (hV : ∀ p : Fin 576, a p ≠ ⊥ → V (k + p.val) = v p) (hat : ∀ p, a p ≠ ⊤) (p0 : Fin 576) (hp0 : a p0 ≠ ⊥) :
    soft (fun j : Fin A => S (o + j.val)) (fun j => V (o + j.val)) (fun j : Fin B => S (512 + j.val)) (fun j => V (512 + j.val))
      = ∑ p : Fin 576, Ideal.div (Ideal.exp (a p - Cert.ReferenceIdeal.AtIndex.top a))
          (∑ p : Fin 576, Ideal.exp (a p - Cert.ReferenceIdeal.AtIndex.top a)) * v p := by
  have hSt : ∀ w, o ≤ w → w < 512 + B → S w ≠ ⊤ := by
    intro w h1 h2
    by_cases hb : w < k ∨ k + 576 ≤ w
    · rw [hout w h1 h2 hb]; exact bot_ne_top
    · have e := hS ⟨w - k, by omega⟩
      rw [show k + (⟨w - k, by omega⟩ : Fin 576).val = w by show k + (w - k) = w; omega] at e
      rw [e]
      exact mul_perLog2_ne_top _ (hat _)
  -- the two maxima are real
  obtain ⟨M, hM⟩ : ∃ M : ℝ, Cert.ReferenceIdeal.AtIndex.top a = (M : EReal) := by
    unfold Cert.ReferenceIdeal.AtIndex.top
    rw [negInf]
    refine ⟨_, (EReal.coe_toReal ?_ ?_).symm⟩
    · rw [max_eq_right bot_le]
      exact fold_ne_top _ _ fun p _ => hat p
    · intro h
      have := (le_fold Finset.univ a p0 (Finset.mem_univ _)).trans ((le_max_right ⊥ _).trans_eq h)
      exact hp0 (le_bot_iff.mp this)
  obtain ⟨m, hm⟩ : ∃ m : ℝ, max (Finset.univ.fold max (Ideal.ofBits FTy.f32 0xFF800000#32) (fun j : Fin A => S (o + j.val)))
      (Finset.univ.fold max (Ideal.ofBits FTy.f32 0xFF800000#32) (fun j : Fin B => S (512 + j.val))) = (m : EReal) := by
    rw [negInf]
    refine ⟨_, (EReal.coe_toReal ?_ ?_).symm⟩
    · refine (max_lt (lt_top_iff_ne_top.mpr (fold_ne_top _ _ fun j _ => ?_)) (lt_top_iff_ne_top.mpr (fold_ne_top _ _ fun j _ => ?_))).ne
      · have := j.isLt
        exact hSt _ (by omega) (by omega)
      · have := j.isLt
        exact hSt _ (by omega) (by omega)
    · intro h
      have hne := mul_perLog2_ne_bot _ hp0 (hat p0)
      rw [← hS p0] at hne
      have hlt := p0.isLt
      by_cases hc : k + p0.val < 512
      · have h1 := le_fold Finset.univ (fun j : Fin A => S (o + j.val)) ⟨k + p0.val - o, by omega⟩ (Finset.mem_univ _)
        have h2 := h1.trans ((le_max_left _ _).trans_eq h)
        refine hne (le_bot_iff.mp ?_)
        rw [← show o + (k + p0.val - o) = k + p0.val by omega]
        exact h2
      · have h1 := le_fold Finset.univ (fun j : Fin B => S (512 + j.val)) ⟨k + p0.val - 512, by omega⟩ (Finset.mem_univ _)
        have h2 := h1.trans ((le_max_right _ _).trans_eq h)
        refine hne (le_bot_iff.mp ?_)
        rw [← show 512 + (k + p0.val - 512) = k + p0.val by omega]
        exact h2
  rw [hM]
  choose e he0 he hepos hezero using fun p => exp_real (a p) (hat p) M
  have hZpos : 0 < ∑ p, e p := Finset.sum_pos' (fun p _ => he0 p) ⟨p0, Finset.mem_univ _, hepos p0 hp0⟩
  generalize hκ : Real.exp (M - m * Real.log 2) = κ'
  have hκpos : 0 < κ' := hκ ▸ Real.exp_pos _
  have hband : ∀ p : Fin 576, Ideal.exp2 (S (k + p.val) - (m : EReal)) = ((κ' * e p : ℝ) : EReal) := by
    intro p
    rw [hS, exp2_shift _ (hat p) M m, he, hκ, EReal.coe_mul]
  have hoff : ∀ w, o ≤ w → w < 512 + B → (w < k ∨ k + 576 ≤ w) → Ideal.exp2 (S w - (m : EReal)) = 0 := by
    intro w h1 h2 h3
    rw [hout w h1 h2 h3, EReal.bot_sub, Ideal.exp2_bot]
  unfold soft
  rw [hm]
  show Ideal.div ((∑ j : Fin A, Ideal.exp2 (S (o + j.val) - (m : EReal)) * V (o + j.val))
      + ∑ j : Fin B, Ideal.exp2 (S (512 + j.val) - (m : EReal)) * V (512 + j.val))
    ((∑ j : Fin A, Ideal.exp2 (S (o + j.val) - (m : EReal))) + ∑ j : Fin B, Ideal.exp2 (S (512 + j.val) - (m : EReal))) = _
  rw [window_sum hA k hk hk2 (fun w => Ideal.exp2 (S w - (m : EReal)) * V w) (fun w h1 h2 h3 => by rw [hoff w h1 h2 h3, zero_mul]),
    window_sum hA k hk hk2 (fun w => Ideal.exp2 (S w - (m : EReal))) hoff]
  simp only [hband, he]
  rw [← coe_sum, ← coe_sum, Ideal.div_coe (by rw [← Finset.mul_sum]; exact (mul_pos hκpos hZpos).ne'),
    sum_mul_real _ _ _ (by rw [← Finset.mul_sum]; exact (one_div_pos.mpr (mul_pos hκpos hZpos)).le)]
  refine Finset.sum_congr rfl fun p _ => ?_
  rw [Ideal.div_coe hZpos.ne', ← Finset.mul_sum]
  by_cases hb : a p = ⊥
  · rw [hezero p hb]
    simp
  · rw [hV p hb, mul_right_comm, ← EReal.coe_mul, ← EReal.coe_mul]
    refine congrArg (fun q : ℝ => (q : EReal) * v p) ?_
    have := hκpos.ne'
    have := hZpos.ne'
    field_simp

end Cert.KernelIdeal.Chunk

end
-- ==== Proof.ChunkBias.lean ====
/-
  The chunk attention's bias table, which the host builds from `rel_bias`: read at an entry, it is the
  relative bias inside the row's band of 576 keys and minus infinity outside.
-/
module

public import proofs.«01_k».proof.Proof.Gen.KernelIdeal.Value
public import Idealize.ShloMosaic.Lib.Pointwise

@[expose] public section

noncomputable section

namespace Cert.KernelIdeal.Chunk

open Cert.KernelIdeal Cert.KernelIdeal.Gen Idealize.ShloMosaic Idealize.ShloMosaic.TcCoe

variable (m : (ℓ : Loc nD τ sig) → Buf (Elt Ideal) ℓ)

/-- The biases by falling distance: the far ones repeat the last. -/
def falling (x : FVec Ideal S4x257 .f32) : FVec Ideal S4x639 .f32 :=
  Host.reverse [1] (concatenate S4x639 1
    [⟨S4x192, extractStridedSlice S4x192 ![0, 65] x slices_S4x257_S4x192_0_65⟩,
     ⟨S4x447, broadcastInDim S4x447 ![0, 1] bcast_S4x1_S4x447_0_1
        (extractStridedSlice S4x1 ![0, 256] x slices_S4x257_S4x1_0_256)⟩]
    concatenates_S4x192_S4x447_S4x639_d1)

theorem slices_row (k : Fin 64) : S4x639.Slices ![0, 63 - k.val] S4x576 :=
  ⟨rfl, fun a => match a with
    | ⟨0, _⟩ => by show 0 + 4 ≤ 4; omega
    | ⟨1, _⟩ => by show 63 - k.val + 576 ≤ 639; omega⟩

/-- Row `k` of a chunk's band: the distances from row `k`. -/
def bandRow (y : FVec Ideal S4x639 .f32) (k : Fin 64) : FVec Ideal S4x1x576 .f32 :=
  broadcastInDim S4x1x576 ![0, 2] bcast_S4x576_S4x1x576_0_2
    (extractStridedSlice S4x576 ![0, 63 - k.val] y (slices_row k))

/-- Sixteen of those rows; -/
def band16 (y : FVec Ideal S4x639 .f32) (g : Fin 4) : FVec Ideal S4x16x576 .f32 :=
  concatenate S4x16x576 1
    (List.ofFn fun j : Fin 16 => (⟨S4x1x576, bandRow y ⟨16 * g.val + j.val, by omega⟩⟩ : (s : Shape) × (s.Idx → Ideal .f32)))
    concatenates_S4x1x576_S4x1x576_S4x1x576_S4x1x576_S4x1x576_S4x1x576_S4x1x576_S4x1x576_S4x1x576_S4x1x576_S4x1x576_S4x1x576_S4x1x576_S4x1x576_S4x1x576_S4x1x576_S4x16x576_d1

/-- and all sixty-four. -/
def band (y : FVec Ideal S4x639 .f32) : FVec Ideal S4x64x576 .f32 :=
  concatenate S4x64x576 1 [⟨S4x16x576, band16 y 0⟩, ⟨S4x16x576, band16 y 1⟩, ⟨S4x16x576, band16 y 2⟩, ⟨S4x16x576, band16 y 3⟩]
    concatenates_S4x16x576_S4x16x576_S4x16x576_S4x16x576_S4x64x576_d1

/-- The table: the band of chunk `c` of eight begins at column `64 c`. -/
def table (z : FVec Ideal S4x64x576 .f32) : FVec Ideal S4x512x1024 .f32 :=
  let v : FVec Ideal S_ .f32 := constant S_ .f32 0xFF800000#32
  concatenate S4x512x1024 1
    [⟨S4x64x1024, pad S4x64x1024 ![0, 0, 0] ![0, 0, 448] ![0, 0, 0] z v pads_S4x64x576_S4x64x1024_000_000_04480 h_S_⟩,
     ⟨S4x64x1024, pad S4x64x1024 ![0, 0, 64] ![0, 0, 384] ![0, 0, 0] z v pads_S4x64x576_S4x64x1024_000_000_643840 h_S_⟩,
     ⟨S4x64x1024, pad S4x64x1024 ![0, 0, 128] ![0, 0, 320] ![0, 0, 0] z v pads_S4x64x576_S4x64x1024_000_000_1283200 h_S_⟩,
     ⟨S4x64x1024, pad S4x64x1024 ![0, 0, 192] ![0, 0, 256] ![0, 0, 0] z v pads_S4x64x576_S4x64x1024_000_000_1922560 h_S_⟩,
     ⟨S4x64x1024, pad S4x64x1024 ![0, 0, 256] ![0, 0, 192] ![0, 0, 0] z v pads_S4x64x576_S4x64x1024_000_000_2561920 h_S_⟩,
     ⟨S4x64x1024, pad S4x64x1024 ![0, 0, 320] ![0, 0, 128] ![0, 0, 0] z v pads_S4x64x576_S4x64x1024_000_000_3201280 h_S_⟩,
     ⟨S4x64x1024, pad S4x64x1024 ![0, 0, 384] ![0, 0, 64] ![0, 0, 0] z v pads_S4x64x576_S4x64x1024_000_000_384640 h_S_⟩,
     ⟨S4x64x1024, pad S4x64x1024 ![0, 0, 448] ![0, 0, 0] ![0, 0, 0] z v pads_S4x64x576_S4x64x1024_000_000_44800 h_S_⟩]
    concatenates_S4x64x1024_S4x64x1024_S4x64x1024_S4x64x1024_S4x64x1024_S4x64x1024_S4x64x1024_S4x64x1024_S4x512x1024_d1

theorem falling_apply (x : FVec Ideal S4x257 .f32) (h : Fin 4) (n : Fin 639) :
    falling x (ix2 h n) = x (ix2 h ⟨min (703 - n.val) 256, by omega⟩) := by
  pointwise [falling]
  show (if h_1 : n.rev.val < 192 then x (ix2 h ⟨65 + n.rev.val, by omega⟩) else x (ix2 h 256)) = _
  split <;> refine congrArg x (congrArg (ix2 h) (Fin.ext ?_))
  · rename_i hlt
    show 65 + n.rev.val = min (703 - n.val) 256
    rw [Fin.val_rev] at hlt ⊢
    omega
  · rename_i hlt
    show 256 = min (703 - n.val) 256
    rw [Fin.val_rev] at hlt
    omega

theorem band_apply (y : FVec Ideal S4x639 .f32) (h : Fin 4) (r : Fin 64) (p : Fin 576) :
    band y (ix3 h r p) = y (ix2 h ⟨63 - r.val + p.val, by omega⟩) := by
  pointwise [band, band16, bandRow]
  split_ifs <;> refine congrArg y (congrArg (ix2 h) (Fin.ext ?_)) <;> simp only [] <;> omega

theorem table_apply (z : FVec Ideal S4x64x576 .f32) (h : Fin 4) (r : Fin 512) (w : Fin 1024) :
    table z (ix3 h r w) = if hb : 64 * (r.val / 64) ≤ w.val ∧ w.val < 64 * (r.val / 64) + 576 then
      z (ix3 h ⟨r.val % 64, by omega⟩ ⟨w.val - 64 * (r.val / 64), by omega⟩) else Ideal.ofBits .f32 0xFF800000#32 := by
  have row : ∀ (k a : ℕ) (ha : a < 64) (P : Prop) [Decidable P] (hi : P → w.val - k < 576)
      (hP : P ↔ (k ≤ w.val ∧ w.val < k + 576)) (hk : k = 64 * (r.val / 64)) (hr : a = r.val % 64),
      (if hp : P then z (ix3 h ⟨a, ha⟩ ⟨w.val - k, hi hp⟩) else Ideal.ofBits .f32 0xFF800000#32)
        = if hb : 64 * (r.val / 64) ≤ w.val ∧ w.val < 64 * (r.val / 64) + 576 then
          z (ix3 h ⟨r.val % 64, by omega⟩ ⟨w.val - 64 * (r.val / 64), by omega⟩) else Ideal.ofBits .f32 0xFF800000#32 := by
    intro k a ha P _ hi hP hk hr
    subst hk hr
    by_cases hp : P
    · rw [dif_pos hp, dif_pos (hP.1 hp)]
    · rw [dif_neg hp, dif_neg (fun hb => hp (hP.2 hb))]
  pointwise [table]
  by_cases h0 : r.val < 64
  · rw [dif_pos h0]
    exact row 0 (r.val) h0 _ _ (by omega) (by omega) (by omega)
  rw [dif_neg h0]
  by_cases h1 : r.val - 64 < 64
  · rw [dif_pos h1]
    exact row 64 (r.val - 64) h1 _ _ (by omega) (by omega) (by omega)
  rw [dif_neg h1]
  by_cases h2 : r.val - 64 - 64 < 64
  · rw [dif_pos h2]
    exact row 128 (r.val - 64 - 64) h2 _ _ (by omega) (by omega) (by omega)
  rw [dif_neg h2]
  by_cases h3 : r.val - 64 - 64 - 64 < 64
  · rw [dif_pos h3]
    exact row 192 (r.val - 64 - 64 - 64) h3 _ _ (by omega) (by omega) (by omega)
  rw [dif_neg h3]
  by_cases h4 : r.val - 64 - 64 - 64 - 64 < 64
  · rw [dif_pos h4]
    exact row 256 (r.val - 64 - 64 - 64 - 64) h4 _ _ (by omega) (by omega) (by omega)
  rw [dif_neg h4]
  by_cases h5 : r.val - 64 - 64 - 64 - 64 - 64 < 64
  · rw [dif_pos h5]
    exact row 320 (r.val - 64 - 64 - 64 - 64 - 64) h5 _ _ (by omega) (by omega) (by omega)
  rw [dif_neg h5]
  by_cases h6 : r.val - 64 - 64 - 64 - 64 - 64 - 64 < 64
  · rw [dif_pos h6]
    exact row 384 (r.val - 64 - 64 - 64 - 64 - 64 - 64) h6 _ _ (by omega) (by omega) (by omega)
  rw [dif_neg h6]
  exact row 448 (r.val - 64 - 64 - 64 - 64 - 64 - 64 - 64) (by omega) _ _ (by omega) (by omega) (by omega)

end Cert.KernelIdeal.Chunk

end
-- ==== Proof.ChunkWindow.lean ====
/-
  The window of 1024 keys from which the kernel takes a row's band: its logits and values over the arguments, and
  that its softmax is the reference's row, where the queries, the keys and the bias are finite.
-/
module

public import proofs.«01_k».proof.Proof.ChunkAlg
public import proofs.«01_k».proof.Proof.ChunkBias

@[expose] public section

noncomputable section

namespace Cert.KernelIdeal.Chunk

open Cert.KernelIdeal Cert.KernelIdeal.Gen Idealize.ShloMosaic Idealize.ShloMosaic.TcCoe

/-- The projection's output at natural indices; -/
def at3 (x : FVec Ideal S2x16384x4608 .bf16) (b n c : ℕ) : EReal :=
  if h : b < 2 ∧ n < 16384 ∧ c < 4608 then x (ix3 ⟨b, h.1⟩ ⟨n, h.2.1⟩ ⟨c, h.2.2⟩) else 0

/-- the bias table at natural indices. -/
def tab (z : FVec Ideal S4x512x1024 .f32) (h r w : ℕ) : EReal :=
  if hh : h < 4 ∧ r < 512 ∧ w < 1024 then z (ix3 ⟨h, hh.1⟩ ⟨r, hh.2.1⟩ ⟨w, hh.2.2⟩) else ⊥

theorem at3_eq (x : FVec Ideal S2x16384x4608 .bf16) (b : Fin 2) (n : Fin 16384) (c : Fin 4608) : x (ix3 b n c) = at3 x b.val n.val c.val := by
  unfold at3
  rw [dif_pos ⟨b.isLt, n.isLt, c.isLt⟩]

theorem tab_eq (z : FVec Ideal S4x512x1024 .f32) (h : Fin 4) (r : Fin 512) (w : Fin 1024) : z (ix3 h r w) = tab z h.val r.val w.val := by
  unfold tab
  rw [dif_pos ⟨h.isLt, r.isLt, w.isLt⟩]

/-- The factor of the kernel's queries. -/
abbrev scale2 : ℝ := (Real.sqrt 128)⁻¹ * (Real.log 2)⁻¹

theorem scale2_val : Named.named (F := Ideal) κ "scale2" (φ := .f32) 0x3E0293EE#32 = (scale2 : EReal) :=
  IdealRules.named_const.ideal_named_scalar _ _ _ _ rfl

theorem log2e_val : Named.named (F := Ideal) κ "log2e" (φ := .f32) 0x3FB8AA3B#32 = (perLog2 : EReal) :=
  IdealRules.named_const.ideal_named_scalar _ _ _ _ rfl

theorem mask_val : Named.named (F := Ideal) κ "mask" (φ := .f32) 0xF149F2CA#32 = (⊥ : EReal) :=
  IdealRules.named_const.ideal_named_scalar _ _ _ _ rfl

/-- The logit of row `n` against row `k`, with the table's entry at `(r, w)`. -/
def lg (x : FVec Ideal S2x16384x4608 .bf16) (z : FVec Ideal S4x512x1024 .f32) (b h n k r w : ℕ) : EReal :=
  (∑ d : Fin 128, at3 x b n (1536 + (h * 128 + d.val)) * (scale2 : EReal) * at3 x b k (2048 + (h * 128 + d.val)))
    + tab z h r w * (perLog2 : EReal)

/-- The row of the key at place `w` of row `n`'s window. -/
def key (n w : ℕ) : ℕ := if w < 512 then 512 * (n / 512 - 1) + w else 512 * (n / 512) + (w - 512)

/-- The window's logits: ⊥ before the sequence's start; -/
def winS (x : FVec Ideal S2x16384x4608 .bf16) (z : FVec Ideal S4x512x1024 .f32) (b h n w : ℕ) : EReal :=
  if w < 512 ∧ n / 512 = 0 then ⊥ else lg x z b h n (key n w) (n % 512) w

/-- the window's values. -/
def winV (x : FVec Ideal S2x16384x4608 .bf16) (b h n : ℕ) (d : Fin 128) (w : ℕ) : EReal := at3 x b (key n w) (2560 + (h * 128 + d.val))

/-- An extended real that is a real. -/
abbrev Fin' (x : EReal) : Prop := x ≠ ⊤ ∧ x ≠ ⊥

section

open Cert.ReferenceIdeal.AtIndex Cert.ReferenceIdeal.Read

variable (x : FVec Ideal S2x16384x4608 .bf16) (y : FVec Ideal S4x257 .f32)
  (hx : ∀ (b : Fin 2) (n : Fin 16384) (c : Fin 4608), 1536 ≤ c.val → c.val < 2560 → Fin' (x (ix3 b n c)))
  (hy : ∀ (h : Fin 4) (k : Fin 257), Fin' (y (ix2 h k)))

include hx in
/-- Queries and keys are reals. -/
theorem at3_real (b n c : ℕ) (h1 : 1536 ≤ c) (h2 : c < 2560) : ∃ r : ℝ, at3 x b n c = (r : EReal) := by
  unfold at3
  by_cases h : b < 2 ∧ n < 16384 ∧ c < 4608
  · rw [dif_pos h]
    have f := hx ⟨b, h.1⟩ ⟨n, h.2.1⟩ ⟨c, h.2.2⟩ h1 h2
    exact ⟨_, (EReal.coe_toReal f.1 f.2).symm⟩
  · rw [dif_neg h]
    exact ⟨0, rfl⟩

include hx in
/-- The products' sum is a real, the scale factored out. -/
theorem dot_real (b h n k : ℕ) (hh : h < 4) : ∃ r : ℝ,
    (∑ d : Fin 128, at3 x b n (1536 + (h * 128 + d.val)) * at3 x b k (2048 + (h * 128 + d.val))) = (r : EReal)
    ∧ (∑ d : Fin 128, at3 x b n (1536 + (h * 128 + d.val)) * (scale2 : EReal) * at3 x b k (2048 + (h * 128 + d.val))) = ((r * scale2 : ℝ) : EReal) := by
  choose q hq using fun d : Fin 128 => at3_real x hx b n (1536 + (h * 128 + d.val)) (by omega) (by have := d.isLt; omega)
  choose e he using fun d : Fin 128 => at3_real x hx b k (2048 + (h * 128 + d.val)) (by omega) (by have := d.isLt; omega)
  refine ⟨∑ d, q d * e d, ?_, ?_⟩
  · rw [coe_sum]
    exact Finset.sum_congr rfl fun d _ => by rw [hq, he, EReal.coe_mul]
  · rw [Finset.sum_mul, coe_sum]
    refine Finset.sum_congr rfl fun d _ => ?_
    rw [hq, he, ← EReal.coe_mul, ← EReal.coe_mul]
    exact congrArg _ (mul_right_comm _ _ _)

/-- The table in the band holds the bias; -/
theorem tab_band (h : Fin 4) (r : ℕ) (hr : r < 512) (p : Fin 576) :
    tab (table (band (falling y))) h.val r (64 * (r / 64) + p.val) = y (ix2 h ⟨min (640 + r % 64 - p.val) 256, by omega⟩) := by
  have hp := p.isLt
  have e := tab_eq (table (band (falling y))) h ⟨r, hr⟩ ⟨64 * (r / 64) + p.val, by omega⟩
  simp only [] at e
  rw [← e, table_apply, dif_pos (by constructor <;> (simp only []; omega)), band_apply, falling_apply]
  refine congrArg y (congrArg (ix2 h) (Fin.ext ?_))
  show min (703 - (63 - r % 64 + (64 * (r / 64) + p.val - 64 * (r / 64)))) 256 = min (640 + r % 64 - p.val) 256
  congr 1
  omega

/-- off the band it holds ⊥. -/
theorem tab_off (h r w : ℕ) (hb : w < 64 * (r / 64) ∨ 64 * (r / 64) + 576 ≤ w) : tab (table (band (falling y))) h r w = ⊥ := by
  unfold tab
  by_cases hh : h < 4 ∧ r < 512 ∧ w < 1024
  · rw [dif_pos hh, table_apply, dif_neg (by simp only []; omega), negInf]
  · rw [dif_neg hh]

theorem sqrt128 : Ideal.sqrt (Ideal.ofBits FTy.f32 0x43000000#32) = ((Real.sqrt 128 : ℝ) : EReal) := by
  have e : Ideal.ofBits FTy.f32 0x43000000#32 = ((128 : ℝ) : EReal) := by
    simp [Ideal.ofBits, Ideal.ieee, -EReal.coe_mul]
    norm_num
  rw [e]
  show (if (128 : ℝ) < 0 then (⊥ : EReal) else ((Real.sqrt 128 : ℝ) : EReal)) = _
  rw [if_neg (by norm_num)]

set_option maxHeartbeats 1000000 in
include hx hy in
/-- A key of the band, not before the sequence's start: its logit is a real, and the window holds it, times the factor, with the key's value. -/
theorem band_logit (b : Fin 2) (h : Fin 4) (n : Fin 16384) (d : Fin 128) (p : Fin 576) (hv : 512 ≤ n.val / 64 * 64 + p.val) : ∃ r : ℝ,
      val_main_v55 (F := Ideal) x y (ix5 b h ⟨n.val / 64, by omega⟩ ⟨n.val % 64, by omega⟩ p) = (r : EReal)
      ∧ winS x (table (band (falling y))) b.val h.val n.val (64 * (n.val % 512 / 64) + p.val) = (r : EReal) * (perLog2 : EReal)
      ∧ winV x b.val h.val n.val d (64 * (n.val % 512 / 64) + p.val)
        = val_main_v41 (F := Ideal) x (ix5 b h ⟨n.val / 64, by omega⟩ p d) := by
    have hn := n.isLt
    have hh := h.isLt
    have hp := p.isLt
    have hk : key n.val (64 * (n.val % 512 / 64) + p.val) = n.val / 64 * 64 + p.val - 512 := by
      unfold key
      split <;> omega
    obtain ⟨r, e1, e2⟩ := dot_real x hx b.val h.val n.val (n.val / 64 * 64 + p.val - 512) hh
    have f := hy h ⟨min (640 + n.val % 64 - p.val) 256, by omega⟩
    obtain ⟨s, hs⟩ : ∃ s : ℝ, y (ix2 h ⟨min (640 + n.val % 64 - p.val) 256, by omega⟩) = (s : EReal) := ⟨_, (EReal.coe_toReal f.1 f.2).symm⟩
    have h128 : Real.sqrt 128 ≠ 0 := (Real.sqrt_pos.mpr (by norm_num)).ne'
    refine ⟨r * (Real.sqrt 128)⁻¹ + s, ?_, ?_, ?_⟩
    · rw [logit_valid x y b h ⟨n.val / 64, by omega⟩ ⟨n.val % 64, by omega⟩ p hv]
      simp only [at3_eq]
      rw [show n.val / 64 * 64 + n.val % 64 = n.val by omega, e1, sqrt128, Ideal.div_coe h128, hs, ← EReal.coe_mul, ← EReal.coe_add, one_div]
    · unfold winS lg
      rw [if_neg (by omega), hk, e2, show 64 * (n.val % 512 / 64) + p.val = 64 * (n.val % 512 / 64) + p.val from rfl,
        tab_band y h (n.val % 512) (by omega) p]
      have e64 : n.val % 512 % 64 = n.val % 64 := by omega
      simp only [e64]
      rw [hs, ← EReal.coe_mul, ← EReal.coe_mul, ← EReal.coe_add]
      refine congrArg _ ?_
      unfold scale2 perLog2
      ring
    · unfold winV
      rw [hk]
      exact ((v_apply x b h ⟨n.val / 64, by omega⟩ p d hv).trans (at3_eq x _ _ _)).symm

set_option maxHeartbeats 1000000 in
include hx hy in
/-- The softmax over the window is the reference's row. -/
theorem soft_window (b : Fin 2) (h : Fin 4) (n : Fin 16384) (d : Fin 128) {A B : ℕ} (o : ℕ) (hA : o + A = 512) (hB : 512 + B = 768 + o)
    (ho : o = 256 * (n.val / 256 % 2)) (x2 : FVec Ideal S2x16384x1536 .f32) :
    soft (fun j : Fin A => winS x (table (band (falling y))) b.val h.val n.val (o + j.val)) (fun j => winV x b.val h.val n.val d (o + j.val))
        (fun j : Fin B => winS x (table (band (falling y))) b.val h.val n.val (512 + j.val)) (fun j => winV x b.val h.val n.val d (512 + j.val))
      * x2 (ix3 b n ⟨512 + (h.val * 128 + d.val), by omega⟩)
      = val_main_v72 (F := Ideal) x y x2 (ix3 b n ⟨h.val * 128 + d.val, by omega⟩) := by
  have hn := n.isLt
  have hh := h.isLt
  rw [ref_apply x y x2 b n h d _ (fun _ => rfl)]
  refine congrArg (· * _) ?_
  have hvalid := band_logit x y hx hy b h n d
  have hinv : ∀ p : Fin 576, ¬ 512 ≤ n.val / 64 * 64 + p.val →
      val_main_v55 (F := Ideal) x y (ix5 b h ⟨n.val / 64, by omega⟩ ⟨n.val % 64, by omega⟩ p) = (⊥ : EReal) := by
    intro p hv
    rw [logit_invalid x y b h ⟨n.val / 64, by omega⟩ ⟨n.val % 64, by omega⟩ p hv, negInf]
  refine soft_eq hA (winS x (table (band (falling y))) b.val h.val n.val) (winV x b.val h.val n.val d) _ _ (64 * (n.val % 512 / 64)) (by omega) (by omega)
    ?_ ?_ ?_ ?_ ⟨512 + n.val % 64, by omega⟩ ?_
  · intro p
    by_cases hv : 512 ≤ n.val / 64 * 64 + p.val
    · obtain ⟨r, e1, e2, -⟩ := hvalid p hv
      rw [e1, e2]
    · rw [hinv p hv, EReal.bot_mul_coe_of_pos perLog2_pos]
      unfold winS
      rw [if_pos (by omega)]
  · intro w h1 h2 h3
    unfold winS lg
    by_cases hm : w < 512 ∧ n.val / 512 = 0
    · rw [if_pos hm]
    · rw [if_neg hm, tab_off y h.val (n.val % 512) w h3, EReal.bot_mul_coe_of_pos perLog2_pos, EReal.add_bot]
  · intro p hne
    by_cases hv : 512 ≤ n.val / 64 * 64 + p.val
    · obtain ⟨r, -, -, e⟩ := hvalid p hv
      exact e
    · exact absurd (hinv p hv) hne
  · intro p
    by_cases hv : 512 ≤ n.val / 64 * 64 + p.val
    · obtain ⟨r, e1, -⟩ := hvalid p hv
      rw [e1]
      exact EReal.coe_ne_top r
    · rw [hinv p hv]
      exact bot_ne_top
  · obtain ⟨r, e1, -⟩ := hvalid ⟨512 + n.val % 64, by omega⟩ (by show 512 ≤ n.val / 64 * 64 + (512 + n.val % 64); omega)
    rw [e1]
    exact EReal.coe_ne_bot r

end

end Cert.KernelIdeal.Chunk

end
-- ==== Proof.ChunkHost.lean ====
/-
  The chunk attention's bias table, as the host operations before the launch leave it.
-/
module

public import proofs.«01_k».proof.Proof.ChunkBias

@[expose] public section

noncomputable section

namespace Cert.KernelIdeal.Chunk

open Cert.KernelIdeal Cert.KernelIdeal.Gen Idealize.ShloMosaic Idealize.ShloMosaic.TcCoe

open StableHlo in
/-- Sixteen rows stacked. -/
def stack16 (f : Fin 16 → FVec Ideal S4x1x576 .f32) : FVec Ideal S4x16x576 .f32 :=
  concatenate S4x16x576 1 [⟨S4x1x576, f 0⟩, ⟨S4x1x576, f 1⟩, ⟨S4x1x576, f 2⟩, ⟨S4x1x576, f 3⟩, ⟨S4x1x576, f 4⟩, ⟨S4x1x576, f 5⟩, ⟨S4x1x576, f 6⟩, ⟨S4x1x576, f 7⟩, ⟨S4x1x576, f 8⟩, ⟨S4x1x576, f 9⟩, ⟨S4x1x576, f 10⟩, ⟨S4x1x576, f 11⟩, ⟨S4x1x576, f 12⟩, ⟨S4x1x576, f 13⟩, ⟨S4x1x576, f 14⟩, ⟨S4x1x576, f 15⟩]
    concatenates_S4x1x576_S4x1x576_S4x1x576_S4x1x576_S4x1x576_S4x1x576_S4x1x576_S4x1x576_S4x1x576_S4x1x576_S4x1x576_S4x1x576_S4x1x576_S4x1x576_S4x1x576_S4x1x576_S4x16x576_d1

/-- Four of those stacks joined. -/
def join4 (a b c d : FVec Ideal S4x16x576 .f32) : FVec Ideal S4x64x576 .f32 :=
  concatenate S4x64x576 1 [⟨S4x16x576, a⟩, ⟨S4x16x576, b⟩, ⟨S4x16x576, c⟩, ⟨S4x16x576, d⟩]
    concatenates_S4x16x576_S4x16x576_S4x16x576_S4x16x576_S4x64x576_d1

variable (W : Valuation τ sig (Elt Ideal))

/-- The sixty-four rows' contents. -/
def rows : Fin 64 → FVec Ideal S4x1x576 .f32 :=
  ![W (Proc.devRef .tc main_v69), W (Proc.devRef .tc main_v70), W (Proc.devRef .tc main_v71), W (Proc.devRef .tc main_v72), W (Proc.devRef .tc main_v73), W (Proc.devRef .tc main_v74), W (Proc.devRef .tc main_v75), W (Proc.devRef .tc main_v76), W (Proc.devRef .tc main_v77), W (Proc.devRef .tc main_v78), W (Proc.devRef .tc main_v79), W (Proc.devRef .tc main_v80), W (Proc.devRef .tc main_v81), W (Proc.devRef .tc main_v82), W (Proc.devRef .tc main_v83), W (Proc.devRef .tc main_v84), W (Proc.devRef .tc main_v85), W (Proc.devRef .tc main_v86), W (Proc.devRef .tc main_v87), W (Proc.devRef .tc main_v88), W (Proc.devRef .tc main_v89), W (Proc.devRef .tc main_v90), W (Proc.devRef .tc main_v91), W (Proc.devRef .tc main_v92), W (Proc.devRef .tc main_v93), W (Proc.devRef .tc main_v94), W (Proc.devRef .tc main_v95), W (Proc.devRef .tc main_v96), W (Proc.devRef .tc main_v97), W (Proc.devRef .tc main_v98), W (Proc.devRef .tc main_v99), W (Proc.devRef .tc main_v100), W (Proc.devRef .tc main_v101), W (Proc.devRef .tc main_v102), W (Proc.devRef .tc main_v103), W (Proc.devRef .tc main_v104), W (Proc.devRef .tc main_v105), W (Proc.devRef .tc main_v106), W (Proc.devRef .tc main_v107), W (Proc.devRef .tc main_v108), W (Proc.devRef .tc main_v109), W (Proc.devRef .tc main_v110), W (Proc.devRef .tc main_v111), W (Proc.devRef .tc main_v112), W (Proc.devRef .tc main_v113), W (Proc.devRef .tc main_v114), W (Proc.devRef .tc main_v115), W (Proc.devRef .tc main_v116), W (Proc.devRef .tc main_v117), W (Proc.devRef .tc main_v118), W (Proc.devRef .tc main_v119), W (Proc.devRef .tc main_v120), W (Proc.devRef .tc main_v121), W (Proc.devRef .tc main_v122), W (Proc.devRef .tc main_v123), W (Proc.devRef .tc main_v124), W (Proc.devRef .tc main_v125), W (Proc.devRef .tc main_v126), W (Proc.devRef .tc main_v127), W (Proc.devRef .tc main_v128), W (Proc.devRef .tc main_v129), W (Proc.devRef .tc main_v130), W (Proc.devRef .tc main_v131), W (Proc.devRef .tc main_v132)]

theorem stage_falling : @Eq (FVec Ideal S4x639 .f32) (StableHlo.after (hostOps0.take 5) W (Proc.devRef .tc main_v4))
    (falling (W (Proc.devRef .tc main_arg1))) := by
  simp only [hostOps0, List.take_succ_cons, List.take_zero]
  after_results
  rfl

theorem stage_join : @Eq (FVec Ideal S4x64x576 .f32) (StableHlo.after ((hostOps0.drop 133).take 5) W (Proc.devRef .tc main_v137))
    (join4 (stack16 fun k => rows W ⟨0 + k.val, by omega⟩) (stack16 fun k => rows W ⟨16 + k.val, by omega⟩) (stack16 fun k => rows W ⟨32 + k.val, by omega⟩) (stack16 fun k => rows W ⟨48 + k.val, by omega⟩)) := by
  simp only [hostOps0, List.drop_succ_cons, List.drop_zero, List.take_succ_cons, List.take_zero]
  after_results
  rfl

theorem stage_table : @Eq (FVec Ideal S4x512x1024 .f32)
    (StableHlo.after (hostOps0.drop 138 ++ List.flatten [hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16]) W (Proc.devRef .tc main_v146))
    (table (W (Proc.devRef .tc main_v137))) := by
  simp only [hostOps0, List.drop_succ_cons, List.drop_zero, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results
  rfl

end Cert.KernelIdeal.Chunk

end
-- ==== Proof.ChunkRows.lean ====
/-
  The chunk attention's bias table, row by row: the host's sixty-four slices.
-/
module

public import proofs.«01_k».proof.Proof.ChunkHost

@[expose] public section

noncomputable section

namespace Cert.KernelIdeal.Chunk

open Cert.KernelIdeal Cert.KernelIdeal.Gen Idealize.ShloMosaic Idealize.ShloMosaic.TcCoe

variable (W : Valuation τ sig (Elt Ideal))

theorem row0 : @Eq (FVec Ideal S4x1x576 .f32)
    (StableHlo.after ((hostOps0.drop 5).take 128) W (Proc.devRef .tc main_v69))
    (bandRow (W (Proc.devRef .tc main_v4)) 0) := by
  simp only [hostOps0, List.drop_succ_cons, List.drop_zero, List.take_succ_cons, List.take_zero]
  after_results
  rfl

theorem row1 : @Eq (FVec Ideal S4x1x576 .f32)
    (StableHlo.after ((hostOps0.drop 5).take 128) W (Proc.devRef .tc main_v70))
    (bandRow (W (Proc.devRef .tc main_v4)) 1) := by
  simp only [hostOps0, List.drop_succ_cons, List.drop_zero, List.take_succ_cons, List.take_zero]
  after_results
  rfl

theorem row2 : @Eq (FVec Ideal S4x1x576 .f32)
    (StableHlo.after ((hostOps0.drop 5).take 128) W (Proc.devRef .tc main_v71))
    (bandRow (W (Proc.devRef .tc main_v4)) 2) := by
  simp only [hostOps0, List.drop_succ_cons, List.drop_zero, List.take_succ_cons, List.take_zero]
  after_results
  rfl

theorem row3 : @Eq (FVec Ideal S4x1x576 .f32)
    (StableHlo.after ((hostOps0.drop 5).take 128) W (Proc.devRef .tc main_v72))
    (bandRow (W (Proc.devRef .tc main_v4)) 3) := by
  simp only [hostOps0, List.drop_succ_cons, List.drop_zero, List.take_succ_cons, List.take_zero]
  after_results
  rfl

theorem row4 : @Eq (FVec Ideal S4x1x576 .f32)
    (StableHlo.after ((hostOps0.drop 5).take 128) W (Proc.devRef .tc main_v73))
    (bandRow (W (Proc.devRef .tc main_v4)) 4) := by
  simp only [hostOps0, List.drop_succ_cons, List.drop_zero, List.take_succ_cons, List.take_zero]
  after_results
  rfl

theorem row5 : @Eq (FVec Ideal S4x1x576 .f32)
    (StableHlo.after ((hostOps0.drop 5).take 128) W (Proc.devRef .tc main_v74))
    (bandRow (W (Proc.devRef .tc main_v4)) 5) := by
  simp only [hostOps0, List.drop_succ_cons, List.drop_zero, List.take_succ_cons, List.take_zero]
  after_results
  rfl

theorem row6 : @Eq (FVec Ideal S4x1x576 .f32)
    (StableHlo.after ((hostOps0.drop 5).take 128) W (Proc.devRef .tc main_v75))
    (bandRow (W (Proc.devRef .tc main_v4)) 6) := by
  simp only [hostOps0, List.drop_succ_cons, List.drop_zero, List.take_succ_cons, List.take_zero]
  after_results
  rfl

theorem row7 : @Eq (FVec Ideal S4x1x576 .f32)
    (StableHlo.after ((hostOps0.drop 5).take 128) W (Proc.devRef .tc main_v76))
    (bandRow (W (Proc.devRef .tc main_v4)) 7) := by
  simp only [hostOps0, List.drop_succ_cons, List.drop_zero, List.take_succ_cons, List.take_zero]
  after_results
  rfl

theorem row8 : @Eq (FVec Ideal S4x1x576 .f32)
    (StableHlo.after ((hostOps0.drop 5).take 128) W (Proc.devRef .tc main_v77))
    (bandRow (W (Proc.devRef .tc main_v4)) 8) := by
  simp only [hostOps0, List.drop_succ_cons, List.drop_zero, List.take_succ_cons, List.take_zero]
  after_results
  rfl

theorem row9 : @Eq (FVec Ideal S4x1x576 .f32)
    (StableHlo.after ((hostOps0.drop 5).take 128) W (Proc.devRef .tc main_v78))
    (bandRow (W (Proc.devRef .tc main_v4)) 9) := by
  simp only [hostOps0, List.drop_succ_cons, List.drop_zero, List.take_succ_cons, List.take_zero]
  after_results
  rfl

theorem row10 : @Eq (FVec Ideal S4x1x576 .f32)
    (StableHlo.after ((hostOps0.drop 5).take 128) W (Proc.devRef .tc main_v79))
    (bandRow (W (Proc.devRef .tc main_v4)) 10) := by
  simp only [hostOps0, List.drop_succ_cons, List.drop_zero, List.take_succ_cons, List.take_zero]
  after_results
  rfl

theorem row11 : @Eq (FVec Ideal S4x1x576 .f32)
    (StableHlo.after ((hostOps0.drop 5).take 128) W (Proc.devRef .tc main_v80))
    (bandRow (W (Proc.devRef .tc main_v4)) 11) := by
  simp only [hostOps0, List.drop_succ_cons, List.drop_zero, List.take_succ_cons, List.take_zero]
  after_results
  rfl

theorem row12 : @Eq (FVec Ideal S4x1x576 .f32)
    (StableHlo.after ((hostOps0.drop 5).take 128) W (Proc.devRef .tc main_v81))
    (bandRow (W (Proc.devRef .tc main_v4)) 12) := by
  simp only [hostOps0, List.drop_succ_cons, List.drop_zero, List.take_succ_cons, List.take_zero]
  after_results
  rfl

theorem row13 : @Eq (FVec Ideal S4x1x576 .f32)
    (StableHlo.after ((hostOps0.drop 5).take 128) W (Proc.devRef .tc main_v82))
    (bandRow (W (Proc.devRef .tc main_v4)) 13) := by
  simp only [hostOps0, List.drop_succ_cons, List.drop_zero, List.take_succ_cons, List.take_zero]
  after_results
  rfl

theorem row14 : @Eq (FVec Ideal S4x1x576 .f32)
    (StableHlo.after ((hostOps0.drop 5).take 128) W (Proc.devRef .tc main_v83))
    (bandRow (W (Proc.devRef .tc main_v4)) 14) := by
  simp only [hostOps0, List.drop_succ_cons, List.drop_zero, List.take_succ_cons, List.take_zero]
  after_results
  rfl

theorem row15 : @Eq (FVec Ideal S4x1x576 .f32)
    (StableHlo.after ((hostOps0.drop 5).take 128) W (Proc.devRef .tc main_v84))
    (bandRow (W (Proc.devRef .tc main_v4)) 15) := by
  simp only [hostOps0, List.drop_succ_cons, List.drop_zero, List.take_succ_cons, List.take_zero]
  after_results
  rfl

theorem row16 : @Eq (FVec Ideal S4x1x576 .f32)
    (StableHlo.after ((hostOps0.drop 5).take 128) W (Proc.devRef .tc main_v85))
    (bandRow (W (Proc.devRef .tc main_v4)) 16) := by
  simp only [hostOps0, List.drop_succ_cons, List.drop_zero, List.take_succ_cons, List.take_zero]
  after_results
  rfl

theorem row17 : @Eq (FVec Ideal S4x1x576 .f32)
    (StableHlo.after ((hostOps0.drop 5).take 128) W (Proc.devRef .tc main_v86))
    (bandRow (W (Proc.devRef .tc main_v4)) 17) := by
  simp only [hostOps0, List.drop_succ_cons, List.drop_zero, List.take_succ_cons, List.take_zero]
  after_results
  rfl

theorem row18 : @Eq (FVec Ideal S4x1x576 .f32)
    (StableHlo.after ((hostOps0.drop 5).take 128) W (Proc.devRef .tc main_v87))
    (bandRow (W (Proc.devRef .tc main_v4)) 18) := by
  simp only [hostOps0, List.drop_succ_cons, List.drop_zero, List.take_succ_cons, List.take_zero]
  after_results
  rfl

theorem row19 : @Eq (FVec Ideal S4x1x576 .f32)
    (StableHlo.after ((hostOps0.drop 5).take 128) W (Proc.devRef .tc main_v88))
    (bandRow (W (Proc.devRef .tc main_v4)) 19) := by
  simp only [hostOps0, List.drop_succ_cons, List.drop_zero, List.take_succ_cons, List.take_zero]
  after_results
  rfl

theorem row20 : @Eq (FVec Ideal S4x1x576 .f32)
    (StableHlo.after ((hostOps0.drop 5).take 128) W (Proc.devRef .tc main_v89))
    (bandRow (W (Proc.devRef .tc main_v4)) 20) := by
  simp only [hostOps0, List.drop_succ_cons, List.drop_zero, List.take_succ_cons, List.take_zero]
  after_results
  rfl

theorem row21 : @Eq (FVec Ideal S4x1x576 .f32)
    (StableHlo.after ((hostOps0.drop 5).take 128) W (Proc.devRef .tc main_v90))
    (bandRow (W (Proc.devRef .tc main_v4)) 21) := by
  simp only [hostOps0, List.drop_succ_cons, List.drop_zero, List.take_succ_cons, List.take_zero]
  after_results
  rfl

theorem row22 : @Eq (FVec Ideal S4x1x576 .f32)
    (StableHlo.after ((hostOps0.drop 5).take 128) W (Proc.devRef .tc main_v91))
    (bandRow (W (Proc.devRef .tc main_v4)) 22) := by
  simp only [hostOps0, List.drop_succ_cons, List.drop_zero, List.take_succ_cons, List.take_zero]
  after_results
  rfl

theorem row23 : @Eq (FVec Ideal S4x1x576 .f32)
    (StableHlo.after ((hostOps0.drop 5).take 128) W (Proc.devRef .tc main_v92))
    (bandRow (W (Proc.devRef .tc main_v4)) 23) := by
  simp only [hostOps0, List.drop_succ_cons, List.drop_zero, List.take_succ_cons, List.take_zero]
  after_results
  rfl

theorem row24 : @Eq (FVec Ideal S4x1x576 .f32)
    (StableHlo.after ((hostOps0.drop 5).take 128) W (Proc.devRef .tc main_v93))
    (bandRow (W (Proc.devRef .tc main_v4)) 24) := by
  simp only [hostOps0, List.drop_succ_cons, List.drop_zero, List.take_succ_cons, List.take_zero]
  after_results
  rfl

theorem row25 : @Eq (FVec Ideal S4x1x576 .f32)
    (StableHlo.after ((hostOps0.drop 5).take 128) W (Proc.devRef .tc main_v94))
    (bandRow (W (Proc.devRef .tc main_v4)) 25) := by
  simp only [hostOps0, List.drop_succ_cons, List.drop_zero, List.take_succ_cons, List.take_zero]
  after_results
  rfl

theorem row26 : @Eq (FVec Ideal S4x1x576 .f32)
    (StableHlo.after ((hostOps0.drop 5).take 128) W (Proc.devRef .tc main_v95))
    (bandRow (W (Proc.devRef .tc main_v4)) 26) := by
  simp only [hostOps0, List.drop_succ_cons, List.drop_zero, List.take_succ_cons, List.take_zero]
  after_results
  rfl

theorem row27 : @Eq (FVec Ideal S4x1x576 .f32)
    (StableHlo.after ((hostOps0.drop 5).take 128) W (Proc.devRef .tc main_v96))
    (bandRow (W (Proc.devRef .tc main_v4)) 27) := by
  simp only [hostOps0, List.drop_succ_cons, List.drop_zero, List.take_succ_cons, List.take_zero]
  after_results
  rfl

theorem row28 : @Eq (FVec Ideal S4x1x576 .f32)
    (StableHlo.after ((hostOps0.drop 5).take 128) W (Proc.devRef .tc main_v97))
    (bandRow (W (Proc.devRef .tc main_v4)) 28) := by
  simp only [hostOps0, List.drop_succ_cons, List.drop_zero, List.take_succ_cons, List.take_zero]
  after_results
  rfl

theorem row29 : @Eq (FVec Ideal S4x1x576 .f32)
    (StableHlo.after ((hostOps0.drop 5).take 128) W (Proc.devRef .tc main_v98))
    (bandRow (W (Proc.devRef .tc main_v4)) 29) := by
  simp only [hostOps0, List.drop_succ_cons, List.drop_zero, List.take_succ_cons, List.take_zero]
  after_results
  rfl

theorem row30 : @Eq (FVec Ideal S4x1x576 .f32)
    (StableHlo.after ((hostOps0.drop 5).take 128) W (Proc.devRef .tc main_v99))
    (bandRow (W (Proc.devRef .tc main_v4)) 30) := by
  simp only [hostOps0, List.drop_succ_cons, List.drop_zero, List.take_succ_cons, List.take_zero]
  after_results
  rfl

theorem row31 : @Eq (FVec Ideal S4x1x576 .f32)
    (StableHlo.after ((hostOps0.drop 5).take 128) W (Proc.devRef .tc main_v100))
    (bandRow (W (Proc.devRef .tc main_v4)) 31) := by
  simp only [hostOps0, List.drop_succ_cons, List.drop_zero, List.take_succ_cons, List.take_zero]
  after_results
  rfl

theorem row32 : @Eq (FVec Ideal S4x1x576 .f32)
    (StableHlo.after ((hostOps0.drop 5).take 128) W (Proc.devRef .tc main_v101))
    (bandRow (W (Proc.devRef .tc main_v4)) 32) := by
  simp only [hostOps0, List.drop_succ_cons, List.drop_zero, List.take_succ_cons, List.take_zero]
  after_results
  rfl

theorem row33 : @Eq (FVec Ideal S4x1x576 .f32)
    (StableHlo.after ((hostOps0.drop 5).take 128) W (Proc.devRef .tc main_v102))
    (bandRow (W (Proc.devRef .tc main_v4)) 33) := by
  simp only [hostOps0, List.drop_succ_cons, List.drop_zero, List.take_succ_cons, List.take_zero]
  after_results
  rfl

theorem row34 : @Eq (FVec Ideal S4x1x576 .f32)
    (StableHlo.after ((hostOps0.drop 5).take 128) W (Proc.devRef .tc main_v103))
    (bandRow (W (Proc.devRef .tc main_v4)) 34) := by
  simp only [hostOps0, List.drop_succ_cons, List.drop_zero, List.take_succ_cons, List.take_zero]
  after_results
  rfl

theorem row35 : @Eq (FVec Ideal S4x1x576 .f32)
    (StableHlo.after ((hostOps0.drop 5).take 128) W (Proc.devRef .tc main_v104))
    (bandRow (W (Proc.devRef .tc main_v4)) 35) := by
  simp only [hostOps0, List.drop_succ_cons, List.drop_zero, List.take_succ_cons, List.take_zero]
  after_results
  rfl

theorem row36 : @Eq (FVec Ideal S4x1x576 .f32)
    (StableHlo.after ((hostOps0.drop 5).take 128) W (Proc.devRef .tc main_v105))
    (bandRow (W (Proc.devRef .tc main_v4)) 36) := by
  simp only [hostOps0, List.drop_succ_cons, List.drop_zero, List.take_succ_cons, List.take_zero]
  after_results
  rfl

theorem row37 : @Eq (FVec Ideal S4x1x576 .f32)
    (StableHlo.after ((hostOps0.drop 5).take 128) W (Proc.devRef .tc main_v106))
    (bandRow (W (Proc.devRef .tc main_v4)) 37) := by
  simp only [hostOps0, List.drop_succ_cons, List.drop_zero, List.take_succ_cons, List.take_zero]
  after_results
  rfl

theorem row38 : @Eq (FVec Ideal S4x1x576 .f32)
    (StableHlo.after ((hostOps0.drop 5).take 128) W (Proc.devRef .tc main_v107))
    (bandRow (W (Proc.devRef .tc main_v4)) 38) := by
  simp only [hostOps0, List.drop_succ_cons, List.drop_zero, List.take_succ_cons, List.take_zero]
  after_results
  rfl

theorem row39 : @Eq (FVec Ideal S4x1x576 .f32)
    (StableHlo.after ((hostOps0.drop 5).take 128) W (Proc.devRef .tc main_v108))
    (bandRow (W (Proc.devRef .tc main_v4)) 39) := by
  simp only [hostOps0, List.drop_succ_cons, List.drop_zero, List.take_succ_cons, List.take_zero]
  after_results
  rfl

theorem row40 : @Eq (FVec Ideal S4x1x576 .f32)
    (StableHlo.after ((hostOps0.drop 5).take 128) W (Proc.devRef .tc main_v109))
    (bandRow (W (Proc.devRef .tc main_v4)) 40) := by
  simp only [hostOps0, List.drop_succ_cons, List.drop_zero, List.take_succ_cons, List.take_zero]
  after_results
  rfl

theorem row41 : @Eq (FVec Ideal S4x1x576 .f32)
    (StableHlo.after ((hostOps0.drop 5).take 128) W (Proc.devRef .tc main_v110))
    (bandRow (W (Proc.devRef .tc main_v4)) 41) := by
  simp only [hostOps0, List.drop_succ_cons, List.drop_zero, List.take_succ_cons, List.take_zero]
  after_results
  rfl

theorem row42 : @Eq (FVec Ideal S4x1x576 .f32)
    (StableHlo.after ((hostOps0.drop 5).take 128) W (Proc.devRef .tc main_v111))
    (bandRow (W (Proc.devRef .tc main_v4)) 42) := by
  simp only [hostOps0, List.drop_succ_cons, List.drop_zero, List.take_succ_cons, List.take_zero]
  after_results
  rfl

theorem row43 : @Eq (FVec Ideal S4x1x576 .f32)
    (StableHlo.after ((hostOps0.drop 5).take 128) W (Proc.devRef .tc main_v112))
    (bandRow (W (Proc.devRef .tc main_v4)) 43) := by
  simp only [hostOps0, List.drop_succ_cons, List.drop_zero, List.take_succ_cons, List.take_zero]
  after_results
  rfl

theorem row44 : @Eq (FVec Ideal S4x1x576 .f32)
    (StableHlo.after ((hostOps0.drop 5).take 128) W (Proc.devRef .tc main_v113))
    (bandRow (W (Proc.devRef .tc main_v4)) 44) := by
  simp only [hostOps0, List.drop_succ_cons, List.drop_zero, List.take_succ_cons, List.take_zero]
  after_results
  rfl

theorem row45 : @Eq (FVec Ideal S4x1x576 .f32)
    (StableHlo.after ((hostOps0.drop 5).take 128) W (Proc.devRef .tc main_v114))
    (bandRow (W (Proc.devRef .tc main_v4)) 45) := by
  simp only [hostOps0, List.drop_succ_cons, List.drop_zero, List.take_succ_cons, List.take_zero]
  after_results
  rfl

theorem row46 : @Eq (FVec Ideal S4x1x576 .f32)
    (StableHlo.after ((hostOps0.drop 5).take 128) W (Proc.devRef .tc main_v115))
    (bandRow (W (Proc.devRef .tc main_v4)) 46) := by
  simp only [hostOps0, List.drop_succ_cons, List.drop_zero, List.take_succ_cons, List.take_zero]
  after_results
  rfl

theorem row47 : @Eq (FVec Ideal S4x1x576 .f32)
    (StableHlo.after ((hostOps0.drop 5).take 128) W (Proc.devRef .tc main_v116))
    (bandRow (W (Proc.devRef .tc main_v4)) 47) := by
  simp only [hostOps0, List.drop_succ_cons, List.drop_zero, List.take_succ_cons, List.take_zero]
  after_results
  rfl

theorem row48 : @Eq (FVec Ideal S4x1x576 .f32)
    (StableHlo.after ((hostOps0.drop 5).take 128) W (Proc.devRef .tc main_v117))
    (bandRow (W (Proc.devRef .tc main_v4)) 48) := by
  simp only [hostOps0, List.drop_succ_cons, List.drop_zero, List.take_succ_cons, List.take_zero]
  after_results
  rfl

theorem row49 : @Eq (FVec Ideal S4x1x576 .f32)
    (StableHlo.after ((hostOps0.drop 5).take 128) W (Proc.devRef .tc main_v118))
    (bandRow (W (Proc.devRef .tc main_v4)) 49) := by
  simp only [hostOps0, List.drop_succ_cons, List.drop_zero, List.take_succ_cons, List.take_zero]
  after_results
  rfl

theorem row50 : @Eq (FVec Ideal S4x1x576 .f32)
    (StableHlo.after ((hostOps0.drop 5).take 128) W (Proc.devRef .tc main_v119))
    (bandRow (W (Proc.devRef .tc main_v4)) 50) := by
  simp only [hostOps0, List.drop_succ_cons, List.drop_zero, List.take_succ_cons, List.take_zero]
  after_results
  rfl

theorem row51 : @Eq (FVec Ideal S4x1x576 .f32)
    (StableHlo.after ((hostOps0.drop 5).take 128) W (Proc.devRef .tc main_v120))
    (bandRow (W (Proc.devRef .tc main_v4)) 51) := by
  simp only [hostOps0, List.drop_succ_cons, List.drop_zero, List.take_succ_cons, List.take_zero]
  after_results
  rfl

theorem row52 : @Eq (FVec Ideal S4x1x576 .f32)
    (StableHlo.after ((hostOps0.drop 5).take 128) W (Proc.devRef .tc main_v121))
    (bandRow (W (Proc.devRef .tc main_v4)) 52) := by
  simp only [hostOps0, List.drop_succ_cons, List.drop_zero, List.take_succ_cons, List.take_zero]
  after_results
  rfl

theorem row53 : @Eq (FVec Ideal S4x1x576 .f32)
    (StableHlo.after ((hostOps0.drop 5).take 128) W (Proc.devRef .tc main_v122))
    (bandRow (W (Proc.devRef .tc main_v4)) 53) := by
  simp only [hostOps0, List.drop_succ_cons, List.drop_zero, List.take_succ_cons, List.take_zero]
  after_results
  rfl

theorem row54 : @Eq (FVec Ideal S4x1x576 .f32)
    (StableHlo.after ((hostOps0.drop 5).take 128) W (Proc.devRef .tc main_v123))
    (bandRow (W (Proc.devRef .tc main_v4)) 54) := by
  simp only [hostOps0, List.drop_succ_cons, List.drop_zero, List.take_succ_cons, List.take_zero]
  after_results
  rfl

theorem row55 : @Eq (FVec Ideal S4x1x576 .f32)
    (StableHlo.after ((hostOps0.drop 5).take 128) W (Proc.devRef .tc main_v124))
    (bandRow (W (Proc.devRef .tc main_v4)) 55) := by
  simp only [hostOps0, List.drop_succ_cons, List.drop_zero, List.take_succ_cons, List.take_zero]
  after_results
  rfl

theorem row56 : @Eq (FVec Ideal S4x1x576 .f32)
    (StableHlo.after ((hostOps0.drop 5).take 128) W (Proc.devRef .tc main_v125))
    (bandRow (W (Proc.devRef .tc main_v4)) 56) := by
  simp only [hostOps0, List.drop_succ_cons, List.drop_zero, List.take_succ_cons, List.take_zero]
  after_results
  rfl

theorem row57 : @Eq (FVec Ideal S4x1x576 .f32)
    (StableHlo.after ((hostOps0.drop 5).take 128) W (Proc.devRef .tc main_v126))
    (bandRow (W (Proc.devRef .tc main_v4)) 57) := by
  simp only [hostOps0, List.drop_succ_cons, List.drop_zero, List.take_succ_cons, List.take_zero]
  after_results
  rfl

theorem row58 : @Eq (FVec Ideal S4x1x576 .f32)
    (StableHlo.after ((hostOps0.drop 5).take 128) W (Proc.devRef .tc main_v127))
    (bandRow (W (Proc.devRef .tc main_v4)) 58) := by
  simp only [hostOps0, List.drop_succ_cons, List.drop_zero, List.take_succ_cons, List.take_zero]
  after_results
  rfl

theorem row59 : @Eq (FVec Ideal S4x1x576 .f32)
    (StableHlo.after ((hostOps0.drop 5).take 128) W (Proc.devRef .tc main_v128))
    (bandRow (W (Proc.devRef .tc main_v4)) 59) := by
  simp only [hostOps0, List.drop_succ_cons, List.drop_zero, List.take_succ_cons, List.take_zero]
  after_results
  rfl

theorem row60 : @Eq (FVec Ideal S4x1x576 .f32)
    (StableHlo.after ((hostOps0.drop 5).take 128) W (Proc.devRef .tc main_v129))
    (bandRow (W (Proc.devRef .tc main_v4)) 60) := by
  simp only [hostOps0, List.drop_succ_cons, List.drop_zero, List.take_succ_cons, List.take_zero]
  after_results
  rfl

theorem row61 : @Eq (FVec Ideal S4x1x576 .f32)
    (StableHlo.after ((hostOps0.drop 5).take 128) W (Proc.devRef .tc main_v130))
    (bandRow (W (Proc.devRef .tc main_v4)) 61) := by
  simp only [hostOps0, List.drop_succ_cons, List.drop_zero, List.take_succ_cons, List.take_zero]
  after_results
  rfl

theorem row62 : @Eq (FVec Ideal S4x1x576 .f32)
    (StableHlo.after ((hostOps0.drop 5).take 128) W (Proc.devRef .tc main_v131))
    (bandRow (W (Proc.devRef .tc main_v4)) 62) := by
  simp only [hostOps0, List.drop_succ_cons, List.drop_zero, List.take_succ_cons, List.take_zero]
  after_results
  rfl

theorem row63 : @Eq (FVec Ideal S4x1x576 .f32)
    (StableHlo.after ((hostOps0.drop 5).take 128) W (Proc.devRef .tc main_v132))
    (bandRow (W (Proc.devRef .tc main_v4)) 63) := by
  simp only [hostOps0, List.drop_succ_cons, List.drop_zero, List.take_succ_cons, List.take_zero]
  after_results
  rfl

end Cert.KernelIdeal.Chunk

end
-- ==== Proof.ChunkTable.lean ====
/-
  The chunk attention's bias table, put together.
-/
module

public import proofs.«01_k».proof.Proof.ChunkRows

@[expose] public section

noncomputable section

namespace Cert.KernelIdeal.Chunk

open Cert.KernelIdeal Cert.KernelIdeal.Gen Idealize.ShloMosaic Idealize.ShloMosaic.TcCoe

variable (W : Valuation τ sig (Elt Ideal))

/-! The rows, sixteen at a time. -/

set_option maxHeartbeats 4000000 in
theorem rows_eq0 : ∀ j : Fin 16, rows (StableHlo.after ((hostOps0.drop 5).take 128) W) ⟨0 + j.val, by omega⟩
    = bandRow (W (Proc.devRef .tc main_v4)) ⟨16 * (0 : Fin 4).val + j.val, by have : (0 : Fin 4).val = 0 := rfl; omega⟩ := fun j => match j with
  | ⟨0, _⟩ => row0 W
  | ⟨1, _⟩ => row1 W
  | ⟨2, _⟩ => row2 W
  | ⟨3, _⟩ => row3 W
  | ⟨4, _⟩ => row4 W
  | ⟨5, _⟩ => row5 W
  | ⟨6, _⟩ => row6 W
  | ⟨7, _⟩ => row7 W
  | ⟨8, _⟩ => row8 W
  | ⟨9, _⟩ => row9 W
  | ⟨10, _⟩ => row10 W
  | ⟨11, _⟩ => row11 W
  | ⟨12, _⟩ => row12 W
  | ⟨13, _⟩ => row13 W
  | ⟨14, _⟩ => row14 W
  | ⟨15, _⟩ => row15 W
  | ⟨n + 16, h⟩ => absurd h (by omega)

set_option maxHeartbeats 4000000 in
theorem rows_eq1 : ∀ j : Fin 16, rows (StableHlo.after ((hostOps0.drop 5).take 128) W) ⟨16 + j.val, by omega⟩
    = bandRow (W (Proc.devRef .tc main_v4)) ⟨16 * (1 : Fin 4).val + j.val, by have : (1 : Fin 4).val = 1 := rfl; omega⟩ := fun j => match j with
  | ⟨0, _⟩ => row16 W
  | ⟨1, _⟩ => row17 W
  | ⟨2, _⟩ => row18 W
  | ⟨3, _⟩ => row19 W
  | ⟨4, _⟩ => row20 W
  | ⟨5, _⟩ => row21 W
  | ⟨6, _⟩ => row22 W
  | ⟨7, _⟩ => row23 W
  | ⟨8, _⟩ => row24 W
  | ⟨9, _⟩ => row25 W
  | ⟨10, _⟩ => row26 W
  | ⟨11, _⟩ => row27 W
  | ⟨12, _⟩ => row28 W
  | ⟨13, _⟩ => row29 W
  | ⟨14, _⟩ => row30 W
  | ⟨15, _⟩ => row31 W
  | ⟨n + 16, h⟩ => absurd h (by omega)

set_option maxHeartbeats 4000000 in
theorem rows_eq2 : ∀ j : Fin 16, rows (StableHlo.after ((hostOps0.drop 5).take 128) W) ⟨32 + j.val, by omega⟩
    = bandRow (W (Proc.devRef .tc main_v4)) ⟨16 * (2 : Fin 4).val + j.val, by have : (2 : Fin 4).val = 2 := rfl; omega⟩ := fun j => match j with
  | ⟨0, _⟩ => row32 W
  | ⟨1, _⟩ => row33 W
  | ⟨2, _⟩ => row34 W
  | ⟨3, _⟩ => row35 W
  | ⟨4, _⟩ => row36 W
  | ⟨5, _⟩ => row37 W
  | ⟨6, _⟩ => row38 W
  | ⟨7, _⟩ => row39 W
  | ⟨8, _⟩ => row40 W
  | ⟨9, _⟩ => row41 W
  | ⟨10, _⟩ => row42 W
  | ⟨11, _⟩ => row43 W
  | ⟨12, _⟩ => row44 W
  | ⟨13, _⟩ => row45 W
  | ⟨14, _⟩ => row46 W
  | ⟨15, _⟩ => row47 W
  | ⟨n + 16, h⟩ => absurd h (by omega)

set_option maxHeartbeats 4000000 in
theorem rows_eq3 : ∀ j : Fin 16, rows (StableHlo.after ((hostOps0.drop 5).take 128) W) ⟨48 + j.val, by omega⟩
    = bandRow (W (Proc.devRef .tc main_v4)) ⟨16 * (3 : Fin 4).val + j.val, by have : (3 : Fin 4).val = 3 := rfl; omega⟩ := fun j => match j with
  | ⟨0, _⟩ => row48 W
  | ⟨1, _⟩ => row49 W
  | ⟨2, _⟩ => row50 W
  | ⟨3, _⟩ => row51 W
  | ⟨4, _⟩ => row52 W
  | ⟨5, _⟩ => row53 W
  | ⟨6, _⟩ => row54 W
  | ⟨7, _⟩ => row55 W
  | ⟨8, _⟩ => row56 W
  | ⟨9, _⟩ => row57 W
  | ⟨10, _⟩ => row58 W
  | ⟨11, _⟩ => row59 W
  | ⟨12, _⟩ => row60 W
  | ⟨13, _⟩ => row61 W
  | ⟨14, _⟩ => row62 W
  | ⟨15, _⟩ => row63 W
  | ⟨n + 16, h⟩ => absurd h (by omega)

theorem stack16_eq (y : FVec Ideal S4x639 .f32) (g : Fin 4) (f : Fin 16 → FVec Ideal S4x1x576 .f32)
    (hf : ∀ j : Fin 16, f j = bandRow y ⟨16 * g.val + j.val, by omega⟩) : stack16 f = band16 y g := by
  obtain rfl : f = fun j : Fin 16 => bandRow y ⟨16 * g.val + j.val, by omega⟩ := funext hf
  rfl

/-- What the host hands the kernel as its bias table. -/
theorem V_table (m : (ℓ : Loc nD τ sig) → Buf (Elt Ideal) ℓ) (c : Dev nD) :
    @Eq (FVec Ideal S4x512x1024 .f32) (V m c main_v146)
      (table (band (falling (m ((c : Thread nD τ).loc main_arg1))))) := by
  have hsplit : (List.flatten [hostOps0, hostOps0_1, hostOps0_2, hostOps0_3, hostOps0_4, hostOps0_5, hostOps0_6, hostOps0_7,
      hostOps0_8, hostOps0_9, hostOps0_10, hostOps0_11, hostOps0_12, hostOps0_13, hostOps0_14, hostOps0_15, hostOps0_16]
        : List (HloOp τ sig (Elt Ideal)))
      = hostOps0.take 5 ++ ((hostOps0.drop 5).take 128 ++ ((hostOps0.drop 133).take 5 ++ (hostOps0.drop 138 ++
        List.flatten [hostOps0_1, hostOps0_2, hostOps0_3, hostOps0_4, hostOps0_5, hostOps0_6, hostOps0_7,
      hostOps0_8, hostOps0_9, hostOps0_10, hostOps0_11, hostOps0_12, hostOps0_13, hostOps0_14, hostOps0_15, hostOps0_16]))) := by
    rw [List.flatten_cons]
    have h1 : (hostOps0 : List (HloOp τ sig (Elt Ideal))) = hostOps0.take 5 ++ ((hostOps0.drop 5).take 128
        ++ ((hostOps0.drop 133).take 5 ++ hostOps0.drop 138)) := by
      generalize (hostOps0 : List (HloOp τ sig (Elt Ideal))) = l
      have a := (List.take_append_drop 5 l).symm
      have b := (List.take_append_drop 128 (l.drop 5)).symm
      have d := (List.take_append_drop 5 (l.drop 133)).symm
      rw [List.drop_drop] at b d
      rw [← d, ← b]
      exact a
    conv_lhs => rw [h1]
    simp only [List.append_assoc]
  show StableHlo.after (List.flatten _) (fun b => m (c, b)) (Proc.devRef .tc main_v146) = _
  rw [hsplit, StableHlo.after_append, StableHlo.after_append, StableHlo.after_append]
  refine (stage_table _).trans (congrArg table ?_)
  refine (stage_join _).trans ?_
  rw [stack16_eq _ 0 _ (rows_eq0 _), stack16_eq _ 1 _ (rows_eq1 _), stack16_eq _ 2 _ (rows_eq2 _), stack16_eq _ 3 _ (rows_eq3 _)]
  show band _ = _
  exact congrArg band (stage_falling _)

end Cert.KernelIdeal.Chunk

end
-- ==== Proof.ChunkBlocks.lean ====
/-
  The chunk attention's blocks read off the arguments: grid point `t` is row block `t % 8` of head `t / 8 % 4` of
  sequence `t / 32`. With them each store's softmax is the one over its rows' windows.
-/
module

public import proofs.«01_k».proof.Proof.ChunkWindow
public import proofs.«01_k».proof.Proof.ChunkTable

@[expose] public section

noncomputable section

namespace Cert.KernelIdeal.Chunk

open Cert.KernelIdeal Cert.KernelIdeal.Gen Idealize.ShloMosaic Idealize.ShloMosaic.TcCoe

variable (m : (ℓ : Loc nD τ sig) → Buf (Elt Ideal) ℓ)

/-- The printed index maps, decided over the 64 points. -/
theorem idx_facts : ∀ t : Fin cfg0.N,
    (win0_0.index t (0 : Fin 3) = t.val / 32 ∧ win0_0.index t (1 : Fin 3) = t.val % 8 ∧ win0_0.index t (2 : Fin 3) = 12 + t.val / 8 % 4)
    ∧ (win0_1.index t (0 : Fin 3) = t.val / 32 ∧ win0_1.index t (1 : Fin 3) = 4 * (t.val % 8) - 1 ∧ win0_1.index t (2 : Fin 3) = 16 + t.val / 8 % 4)
    ∧ (win0_2.index t (0 : Fin 3) = t.val / 32 ∧ win0_2.index t (1 : Fin 3) = t.val % 8 ∧ win0_2.index t (2 : Fin 3) = 16 + t.val / 8 % 4)
    ∧ (win0_3.index t (0 : Fin 3) = t.val / 32 ∧ win0_3.index t (1 : Fin 3) = 4 * (t.val % 8) - 1 ∧ win0_3.index t (2 : Fin 3) = 20 + t.val / 8 % 4)
    ∧ (win0_4.index t (0 : Fin 3) = t.val / 32 ∧ win0_4.index t (1 : Fin 3) = t.val % 8 ∧ win0_4.index t (2 : Fin 3) = 20 + t.val / 8 % 4)
    ∧ (win0_5.index t (0 : Fin 3) = t.val / 8 % 4 ∧ win0_5.index t (1 : Fin 3) = 0 ∧ win0_5.index t (2 : Fin 3) = 0)
    ∧ (win0_6.index t (0 : Fin 3) = t.val / 32 ∧ win0_6.index t (1 : Fin 3) = t.val % 8 ∧ win0_6.index t (2 : Fin 3) = 4 + t.val / 8 % 4)
    ∧ (win0_7.index t (0 : Fin 3) = t.val / 32 ∧ win0_7.index t (1 : Fin 3) = t.val % 8 ∧ win0_7.index t (2 : Fin 3) = t.val / 8 % 4)
    ∧ ((grid0.coords t) 2).val = t.val % 8 :=
  (by decide +kernel : ∀ t : Fin grid0.N, _)

theorem flush_all : ∀ t : Fin cfg0.N, (cfg0.win 7).flush t = true :=
  (by decide +kernel : ∀ t : Fin grid0.N, _)

theorem lt_N (t : Fin cfg0.N) : t.val < 64 := lt_of_lt_of_eq t.isLt N_0

/-! The arguments. -/

variable (c : Dev nD)

abbrev argX : FVec Ideal S2x16384x4608 .bf16 := m ((c : Thread nD τ).loc main_arg0)
abbrev argY : FVec Ideal S4x257 .f32 := m ((c : Thread nD τ).loc main_arg1)
abbrev argG : FVec Ideal S2x16384x1536 .f32 := m ((c : Thread nD τ).loc main_arg2)
abbrev tbl : FVec Ideal S4x512x1024 .f32 := table (band (falling (argY m c)))

variable (t : Fin cfg0.N)

theorem blk0 (r : Fin 2048) (d : Fin 128) : (iblk m c 0 t : Vec Ideal S1x2048x128 .bf16) (ix3 0 r d)
    = at3 (argX m c) (t.val / 32) (2048 * (t.val % 8) + r.val) (1536 + (t.val / 8 % 4 * 128 + d.val)) := by
  have ht := lt_N t
  refine Eq.trans ?_ (at3_eq (argX m c) ⟨t.val / 32, by omega⟩ ⟨2048 * (t.val % 8) + r.val, by omega⟩ ⟨1536 + (t.val / 8 % 4 * 128 + d.val), by omega⟩)
  show V m c main_arg0 (((cfg0.win 0).blk t).view.emb (ix3 0 r d)) = _
  rw [V_main_arg0]
  refine congrArg (m ((c : Thread nD τ).loc main_arg0)) ?_
  obtain ⟨⟨e0, e1, e2⟩, -⟩ := idx_facts t
  funext a; apply Fin.ext
  match a with
  | ⟨0, _⟩ => show win0_0.index t (0 : Fin 3) * 1 + 1 * 0 = t.val / 32; omega
  | ⟨1, _⟩ => show win0_0.index t (1 : Fin 3) * 2048 + 1 * r.val = 2048 * (t.val % 8) + r.val; omega
  | ⟨2, _⟩ => show win0_0.index t (2 : Fin 3) * 128 + 1 * d.val = 1536 + (t.val / 8 % 4 * 128 + d.val); omega

theorem blk1 (r : Fin 512) (d : Fin 128) : (iblk m c 1 t : Vec Ideal S1x512x128 .bf16) (ix3 0 r d)
    = at3 (argX m c) (t.val / 32) (512 * (4 * (t.val % 8) - 1) + r.val) (2048 + (t.val / 8 % 4 * 128 + d.val)) := by
  have ht := lt_N t
  refine Eq.trans ?_ (at3_eq (argX m c) ⟨t.val / 32, by omega⟩ ⟨512 * (4 * (t.val % 8) - 1) + r.val, by omega⟩ ⟨2048 + (t.val / 8 % 4 * 128 + d.val), by omega⟩)
  show V m c main_arg0 (((cfg0.win 1).blk t).view.emb (ix3 0 r d)) = _
  rw [V_main_arg0]
  refine congrArg (m ((c : Thread nD τ).loc main_arg0)) ?_
  obtain ⟨-, ⟨e0, e1, e2⟩, -⟩ := idx_facts t
  funext a; apply Fin.ext
  match a with
  | ⟨0, _⟩ => show win0_1.index t (0 : Fin 3) * 1 + 1 * 0 = t.val / 32; omega
  | ⟨1, _⟩ => show win0_1.index t (1 : Fin 3) * 512 + 1 * r.val = 512 * (4 * (t.val % 8) - 1) + r.val; omega
  | ⟨2, _⟩ => show win0_1.index t (2 : Fin 3) * 128 + 1 * d.val = 2048 + (t.val / 8 % 4 * 128 + d.val); omega

theorem blk2 (r : Fin 2048) (d : Fin 128) : (iblk m c 2 t : Vec Ideal S1x2048x128 .bf16) (ix3 0 r d)
    = at3 (argX m c) (t.val / 32) (2048 * (t.val % 8) + r.val) (2048 + (t.val / 8 % 4 * 128 + d.val)) := by
  have ht := lt_N t
  refine Eq.trans ?_ (at3_eq (argX m c) ⟨t.val / 32, by omega⟩ ⟨2048 * (t.val % 8) + r.val, by omega⟩ ⟨2048 + (t.val / 8 % 4 * 128 + d.val), by omega⟩)
  show V m c main_arg0 (((cfg0.win 2).blk t).view.emb (ix3 0 r d)) = _
  rw [V_main_arg0]
  refine congrArg (m ((c : Thread nD τ).loc main_arg0)) ?_
  obtain ⟨-, -, ⟨e0, e1, e2⟩, -⟩ := idx_facts t
  funext a; apply Fin.ext
  match a with
  | ⟨0, _⟩ => show win0_2.index t (0 : Fin 3) * 1 + 1 * 0 = t.val / 32; omega
  | ⟨1, _⟩ => show win0_2.index t (1 : Fin 3) * 2048 + 1 * r.val = 2048 * (t.val % 8) + r.val; omega
  | ⟨2, _⟩ => show win0_2.index t (2 : Fin 3) * 128 + 1 * d.val = 2048 + (t.val / 8 % 4 * 128 + d.val); omega

theorem blk3 (r : Fin 512) (d : Fin 128) : (iblk m c 3 t : Vec Ideal S1x512x128 .bf16) (ix3 0 r d)
    = at3 (argX m c) (t.val / 32) (512 * (4 * (t.val % 8) - 1) + r.val) (2560 + (t.val / 8 % 4 * 128 + d.val)) := by
  have ht := lt_N t
  refine Eq.trans ?_ (at3_eq (argX m c) ⟨t.val / 32, by omega⟩ ⟨512 * (4 * (t.val % 8) - 1) + r.val, by omega⟩ ⟨2560 + (t.val / 8 % 4 * 128 + d.val), by omega⟩)
  show V m c main_arg0 (((cfg0.win 3).blk t).view.emb (ix3 0 r d)) = _
  rw [V_main_arg0]
  refine congrArg (m ((c : Thread nD τ).loc main_arg0)) ?_
  obtain ⟨-, -, -, ⟨e0, e1, e2⟩, -⟩ := idx_facts t
  funext a; apply Fin.ext
  match a with
  | ⟨0, _⟩ => show win0_3.index t (0 : Fin 3) * 1 + 1 * 0 = t.val / 32; omega
  | ⟨1, _⟩ => show win0_3.index t (1 : Fin 3) * 512 + 1 * r.val = 512 * (4 * (t.val % 8) - 1) + r.val; omega
  | ⟨2, _⟩ => show win0_3.index t (2 : Fin 3) * 128 + 1 * d.val = 2560 + (t.val / 8 % 4 * 128 + d.val); omega

theorem blk4 (r : Fin 2048) (d : Fin 128) : (iblk m c 4 t : Vec Ideal S1x2048x128 .bf16) (ix3 0 r d)
    = at3 (argX m c) (t.val / 32) (2048 * (t.val % 8) + r.val) (2560 + (t.val / 8 % 4 * 128 + d.val)) := by
  have ht := lt_N t
  refine Eq.trans ?_ (at3_eq (argX m c) ⟨t.val / 32, by omega⟩ ⟨2048 * (t.val % 8) + r.val, by omega⟩ ⟨2560 + (t.val / 8 % 4 * 128 + d.val), by omega⟩)
  show V m c main_arg0 (((cfg0.win 4).blk t).view.emb (ix3 0 r d)) = _
  rw [V_main_arg0]
  refine congrArg (m ((c : Thread nD τ).loc main_arg0)) ?_
  obtain ⟨-, -, -, -, ⟨e0, e1, e2⟩, -⟩ := idx_facts t
  funext a; apply Fin.ext
  match a with
  | ⟨0, _⟩ => show win0_4.index t (0 : Fin 3) * 1 + 1 * 0 = t.val / 32; omega
  | ⟨1, _⟩ => show win0_4.index t (1 : Fin 3) * 2048 + 1 * r.val = 2048 * (t.val % 8) + r.val; omega
  | ⟨2, _⟩ => show win0_4.index t (2 : Fin 3) * 128 + 1 * d.val = 2560 + (t.val / 8 % 4 * 128 + d.val); omega

theorem blk5 (r : Fin 512) (w : Fin 1024) : (iblk m c 5 t : Vec Ideal S1x512x1024 .f32) (ix3 0 r w)
    = tab (tbl m c) (t.val / 8 % 4) r.val w.val := by
  have ht := lt_N t
  refine Eq.trans ?_ (tab_eq (tbl m c) ⟨t.val / 8 % 4, by omega⟩ r w)
  show V m c main_v146 (((cfg0.win 5).blk t).view.emb (ix3 0 r w)) = _
  rw [V_table]
  refine congrArg (tbl m c) ?_
  obtain ⟨-, -, -, -, -, ⟨e0, e1, e2⟩, -⟩ := idx_facts t
  funext a; apply Fin.ext
  match a with
  | ⟨0, _⟩ => show win0_5.index t (0 : Fin 3) * 1 + 1 * 0 = t.val / 8 % 4; omega
  | ⟨1, _⟩ => show win0_5.index t (1 : Fin 3) * 512 + 1 * r.val = r.val; omega
  | ⟨2, _⟩ => show win0_5.index t (2 : Fin 3) * 1024 + 1 * w.val = w.val; omega

/-- Row `r` of the block, among the sequence's; -/
abbrev row (t : Fin cfg0.N) (r : Fin 2048) : Fin 16384 := ⟨2048 * (t.val % 8) + r.val, by have := r.isLt; omega⟩
/-- the block's head, -/
abbrev head (t : Fin cfg0.N) : Fin 4 := ⟨t.val / 8 % 4, by omega⟩
/-- and sequence. -/
abbrev seq (t : Fin cfg0.N) : Fin 2 := ⟨t.val / 32, by have := lt_N t; omega⟩

theorem blk6 (r : Fin 2048) (d : Fin 128) : (iblk m c 6 t : Vec Ideal S1x2048x128 .f32) (ix3 0 r d)
    = argG m c (ix3 (seq t) (row t r) ⟨512 + ((head t).val * 128 + d.val), by have := (head t).isLt; omega⟩) := by
  have ht := lt_N t
  show V m c main_arg2 (((cfg0.win 6).blk t).view.emb (ix3 0 r d)) = _
  rw [V_main_arg2]
  refine congrArg (m ((c : Thread nD τ).loc main_arg2)) ?_
  obtain ⟨-, -, -, -, -, -, ⟨e0, e1, e2⟩, -⟩ := idx_facts t
  funext a; apply Fin.ext
  match a with
  | ⟨0, _⟩ => show win0_6.index t (0 : Fin 3) * 1 + 1 * 0 = t.val / 32; omega
  | ⟨1, _⟩ => show win0_6.index t (1 : Fin 3) * 2048 + 1 * r.val = 2048 * (t.val % 8) + r.val; omega
  | ⟨2, _⟩ => show win0_6.index t (2 : Fin 3) * 128 + 1 * d.val = 512 + (t.val / 8 % 4 * 128 + d.val); omega

/-! The logits over the arguments. -/

/-- Against a key of the block's own rows; -/
theorem logit_cur (r : Fin 2048) (k : Fin 2048) (br : Fin 512) (bw : Fin 1024) :
    logit (iblk m c 0 t) (iblk m c 2 t : Vec Ideal S1x2048x128 .bf16) (iblk m c 5 t) r k br bw
      = lg (argX m c) (tbl m c) (seq t).val (head t).val (row t r).val (2048 * (t.val % 8) + k.val) br.val bw.val := by
  unfold logit lg
  rw [scale2_val, log2e_val, blk5 m c t]
  refine congrArg (· + _) (Finset.sum_congr rfl fun d _ => ?_)
  rw [blk0 m c t, blk2 m c t]

/-- against a key of the stretch before them. -/
theorem logit_prev (r : Fin 2048) (k : Fin 512) (br : Fin 512) (bw : Fin 1024) :
    logit (iblk m c 0 t) (iblk m c 1 t : Vec Ideal S1x512x128 .bf16) (iblk m c 5 t) r k br bw
      = lg (argX m c) (tbl m c) (seq t).val (head t).val (row t r).val (512 * (4 * (t.val % 8) - 1) + k.val) br.val bw.val := by
  unfold logit lg
  rw [scale2_val, log2e_val, blk5 m c t]
  refine congrArg (· + _) (Finset.sum_congr rfl fun d _ => ?_)
  rw [blk0 m c t, blk1 m c t]

/-- A logit at a place of the window, from the key's row. -/
theorem winS_of (n k r w : ℕ) (hm : ¬ (w < 512 ∧ n / 512 = 0)) (hk : k = key n w) (hr : r = n % 512) (b h : ℕ) :
    lg (argX m c) (tbl m c) b h n k r w = winS (argX m c) (tbl m c) b h n w := by
  unfold winS
  rw [if_neg hm, hk, hr]

theorem winV_of (n k w : ℕ) (d : Fin 128) (hk : k = key n w) (b h : ℕ) :
    at3 (argX m c) b k (2560 + (h * 128 + d.val)) = winV (argX m c) b h n d w := by
  unfold winV
  rw [hk]

/-- The masked logit, where the stretch before the block is its sequence's or none. -/
theorem masked_winS (n : ℕ) (hn : n / 512 = 4 * (t.val % 8)) (k r w : ℕ) (hw : w < 512) (hk : k = key n w) (hr : r = n % 512) (b h : ℕ) :
    masked (grid0.coords t) (lg (argX m c) (tbl m c) b h n k r w) = winS (argX m c) (tbl m c) b h n w := by
  have ec : ((grid0.coords t) 2).val = t.val % 8 := (idx_facts t).2.2.2.2.2.2.2.2
  unfold masked
  rw [ec]
  by_cases h0 : t.val % 8 = 0
  · rw [h0]
    unfold winS
    rw [if_pos ⟨hw, by omega⟩]
    exact mask_val
  · have e : Scalar.cmpi CmpIPredicate.sgt (BitVec.ofNat 32 (t.val % 8)) 0#32 = 1#1 := by
      have : ∀ q : Fin 8, q.val ≠ 0 → Scalar.cmpi CmpIPredicate.sgt (BitVec.ofNat 32 q.val) 0#32 = 1#1 := by decide
      exact this ⟨t.val % 8, by omega⟩ h0
    rw [e]
    refine Eq.trans ?_ (winS_of m c n k r w (by omega) hk hr b h)
    rfl

theorem soft_congr {A B : ℕ} {sp sp' vp vp' : Fin A → Ideal .f32} {sc sc' vc vc' : Fin B → Ideal .f32} (h1 : ∀ j, sp j = sp' j)
    (h2 : ∀ j, vp j = vp' j) (h3 : ∀ j, sc j = sc' j) (h4 : ∀ j, vc j = vc' j) : soft sp vp sc vc = soft sp' vp' sc' vc' := by
  rw [funext h1, funext h2, funext h3, funext h4]

/-! What each store holds, over the arguments. -/

/-- The result at a row of the block, over the row's window. -/
def winOut (A B o : ℕ) (n : Fin 16384) (d : Fin 128) : Ideal .f32 :=
  soft (fun j : Fin A => winS (argX m c) (tbl m c) (seq t).val (head t).val n.val (o + j.val))
      (fun j => winV (argX m c) (seq t).val (head t).val n.val d (o + j.val))
      (fun j : Fin B => winS (argX m c) (tbl m c) (seq t).val (head t).val n.val (512 + j.val))
      (fun j => winV (argX m c) (seq t).val (head t).val n.val d (512 + j.val))
    * argG m c (ix3 (seq t) n ⟨512 + ((head t).val * 128 + d.val), by have := (head t).isLt; omega⟩)

theorem out0 (r : Fin 256) (d : Fin 128) :
    soft (fun j : Fin 512 => masked (grid0.coords t) (logit (iblk m c 0 t) (iblk m c 1 t : Vec Ideal S1x512x128 .bf16) (iblk m c 5 t) ⟨r.val, by omega⟩ ⟨j.val, by omega⟩ ⟨r.val, by omega⟩ ⟨j.val, by omega⟩))
          (fun j => (iblk m c 3 t : Vec Ideal S1x512x128 .bf16) (ix3 0 ⟨j.val, by omega⟩ d))
          (fun j : Fin 256 => logit (iblk m c 0 t) (iblk m c 2 t : Vec Ideal S1x2048x128 .bf16) (iblk m c 5 t) ⟨r.val, by omega⟩ ⟨j.val, by omega⟩ ⟨r.val, by omega⟩ ⟨512 + j.val, by omega⟩)
          (fun j => (iblk m c 4 t : Vec Ideal S1x2048x128 .bf16) (ix3 0 ⟨j.val, by omega⟩ d))
        * (iblk m c 6 t : Vec Ideal S1x2048x128 .f32) (ix3 0 ⟨r.val, by omega⟩ d)
      = winOut m c t 512 256 0 (row t ⟨r.val, by omega⟩) d := by
  have ht := lt_N t
  have hr := r.isLt
  unfold winOut
  rw [blk6 m c t]
  refine congrArg (· * _) (soft_congr (fun j => ?_) (fun j => ?_) (fun j => ?_) (fun j => ?_))
  · have hj := j.isLt
    rw [logit_prev m c t]
    rw [Nat.zero_add]
    exact masked_winS m c t _ (by simp only []; omega) _ _ _ (by simp only []; omega) (by simp only [key]; split <;> omega) (by simp only []; omega) _ _
  · have hj := j.isLt
    rw [blk3 m c t]
    exact winV_of m c (row t ⟨r.val, by omega⟩).val _ (0 + j.val) d (by simp only [key]; split <;> omega) _ _
  · have hj := j.isLt
    rw [logit_cur m c t]
    exact winS_of m c _ _ _ _ (by simp only []; omega) (by simp only [key]; split <;> omega) (by simp only []; omega) _ _
  · have hj := j.isLt
    rw [blk4 m c t]
    exact winV_of m c (row t ⟨r.val, by omega⟩).val _ (512 + j.val) d (by simp only [key]; split <;> omega) _ _

theorem out256 (r : Fin 256) (d : Fin 128) :
    soft (fun j : Fin 256 => masked (grid0.coords t) (logit (iblk m c 0 t) (iblk m c 1 t : Vec Ideal S1x512x128 .bf16) (iblk m c 5 t) ⟨256 + r.val, by omega⟩ ⟨256 + j.val, by omega⟩ ⟨256 + r.val, by omega⟩ ⟨256 + j.val, by omega⟩))
          (fun j => (iblk m c 3 t : Vec Ideal S1x512x128 .bf16) (ix3 0 ⟨256 + j.val, by omega⟩ d))
          (fun j : Fin 512 => logit (iblk m c 0 t) (iblk m c 2 t : Vec Ideal S1x2048x128 .bf16) (iblk m c 5 t) ⟨256 + r.val, by omega⟩ ⟨j.val, by omega⟩ ⟨256 + r.val, by omega⟩ ⟨512 + j.val, by omega⟩)
          (fun j => (iblk m c 4 t : Vec Ideal S1x2048x128 .bf16) (ix3 0 ⟨j.val, by omega⟩ d))
        * (iblk m c 6 t : Vec Ideal S1x2048x128 .f32) (ix3 0 ⟨256 + r.val, by omega⟩ d)
      = winOut m c t 256 512 256 (row t ⟨256 + r.val, by omega⟩) d := by
  have ht := lt_N t
  have hr := r.isLt
  unfold winOut
  rw [blk6 m c t]
  refine congrArg (· * _) (soft_congr (fun j => ?_) (fun j => ?_) (fun j => ?_) (fun j => ?_))
  · have hj := j.isLt
    rw [logit_prev m c t]
    exact masked_winS m c t _ (by simp only []; omega) _ _ _ (by simp only []; omega) (by simp only [key]; split <;> omega) (by simp only []; omega) _ _
  · have hj := j.isLt
    rw [blk3 m c t]
    exact winV_of m c (row t ⟨256 + r.val, by omega⟩).val _ (256 + j.val) d (by simp only [key]; split <;> omega) _ _
  · have hj := j.isLt
    rw [logit_cur m c t]
    exact winS_of m c _ _ _ _ (by simp only []; omega) (by simp only [key]; split <;> omega) (by simp only []; omega) _ _
  · have hj := j.isLt
    rw [blk4 m c t]
    exact winV_of m c (row t ⟨256 + r.val, by omega⟩).val _ (512 + j.val) d (by simp only [key]; split <;> omega) _ _

theorem out512 (r : Fin 256) (d : Fin 128) :
    soft (fun j : Fin 512 => logit (iblk m c 0 t) (iblk m c 2 t : Vec Ideal S1x2048x128 .bf16) (iblk m c 5 t) ⟨512 + r.val, by omega⟩ ⟨j.val, by omega⟩ ⟨r.val, by omega⟩ ⟨j.val, by omega⟩)
          (fun j => (iblk m c 4 t : Vec Ideal S1x2048x128 .bf16) (ix3 0 ⟨j.val, by omega⟩ d))
          (fun j : Fin 256 => logit (iblk m c 0 t) (iblk m c 2 t : Vec Ideal S1x2048x128 .bf16) (iblk m c 5 t) ⟨512 + r.val, by omega⟩ ⟨512 + j.val, by omega⟩ ⟨r.val, by omega⟩ ⟨512 + j.val, by omega⟩)
          (fun j => (iblk m c 4 t : Vec Ideal S1x2048x128 .bf16) (ix3 0 ⟨512 + j.val, by omega⟩ d))
        * (iblk m c 6 t : Vec Ideal S1x2048x128 .f32) (ix3 0 ⟨512 + r.val, by omega⟩ d)
      = winOut m c t 512 256 0 (row t ⟨512 + r.val, by omega⟩) d := by
  have ht := lt_N t
  have hr := r.isLt
  unfold winOut
  rw [blk6 m c t]
  refine congrArg (· * _) (soft_congr (fun j => ?_) (fun j => ?_) (fun j => ?_) (fun j => ?_))
  · have hj := j.isLt
    rw [logit_cur m c t]
    rw [Nat.zero_add]
    exact winS_of m c _ _ _ _ (by simp only []; omega) (by simp only [key]; split <;> omega) (by simp only []; omega) _ _
  · have hj := j.isLt
    rw [blk4 m c t]
    exact winV_of m c (row t ⟨512 + r.val, by omega⟩).val _ (0 + j.val) d (by simp only [key]; split <;> omega) _ _
  · have hj := j.isLt
    rw [logit_cur m c t]
    exact winS_of m c _ _ _ _ (by simp only []; omega) (by simp only [key]; split <;> omega) (by simp only []; omega) _ _
  · have hj := j.isLt
    rw [blk4 m c t]
    exact winV_of m c (row t ⟨512 + r.val, by omega⟩).val _ (512 + j.val) d (by simp only [key]; split <;> omega) _ _

theorem out768 (r : Fin 256) (d : Fin 128) :
    soft (fun j : Fin 256 => logit (iblk m c 0 t) (iblk m c 2 t : Vec Ideal S1x2048x128 .bf16) (iblk m c 5 t) ⟨768 + r.val, by omega⟩ ⟨256 + j.val, by omega⟩ ⟨256 + r.val, by omega⟩ ⟨256 + j.val, by omega⟩)
          (fun j => (iblk m c 4 t : Vec Ideal S1x2048x128 .bf16) (ix3 0 ⟨256 + j.val, by omega⟩ d))
          (fun j : Fin 512 => logit (iblk m c 0 t) (iblk m c 2 t : Vec Ideal S1x2048x128 .bf16) (iblk m c 5 t) ⟨768 + r.val, by omega⟩ ⟨512 + j.val, by omega⟩ ⟨256 + r.val, by omega⟩ ⟨512 + j.val, by omega⟩)
          (fun j => (iblk m c 4 t : Vec Ideal S1x2048x128 .bf16) (ix3 0 ⟨512 + j.val, by omega⟩ d))
        * (iblk m c 6 t : Vec Ideal S1x2048x128 .f32) (ix3 0 ⟨768 + r.val, by omega⟩ d)
      = winOut m c t 256 512 256 (row t ⟨768 + r.val, by omega⟩) d := by
  have ht := lt_N t
  have hr := r.isLt
  unfold winOut
  rw [blk6 m c t]
  refine congrArg (· * _) (soft_congr (fun j => ?_) (fun j => ?_) (fun j => ?_) (fun j => ?_))
  · have hj := j.isLt
    rw [logit_cur m c t]
    exact winS_of m c _ _ _ _ (by simp only []; omega) (by simp only [key]; split <;> omega) (by simp only []; omega) _ _
  · have hj := j.isLt
    rw [blk4 m c t]
    exact winV_of m c (row t ⟨768 + r.val, by omega⟩).val _ (256 + j.val) d (by simp only [key]; split <;> omega) _ _
  · have hj := j.isLt
    rw [logit_cur m c t]
    exact winS_of m c _ _ _ _ (by simp only []; omega) (by simp only [key]; split <;> omega) (by simp only []; omega) _ _
  · have hj := j.isLt
    rw [blk4 m c t]
    exact winV_of m c (row t ⟨768 + r.val, by omega⟩).val _ (512 + j.val) d (by simp only [key]; split <;> omega) _ _

theorem out1024 (r : Fin 256) (d : Fin 128) :
    soft (fun j : Fin 512 => logit (iblk m c 0 t) (iblk m c 2 t : Vec Ideal S1x2048x128 .bf16) (iblk m c 5 t) ⟨1024 + r.val, by omega⟩ ⟨512 + j.val, by omega⟩ ⟨r.val, by omega⟩ ⟨j.val, by omega⟩)
          (fun j => (iblk m c 4 t : Vec Ideal S1x2048x128 .bf16) (ix3 0 ⟨512 + j.val, by omega⟩ d))
          (fun j : Fin 256 => logit (iblk m c 0 t) (iblk m c 2 t : Vec Ideal S1x2048x128 .bf16) (iblk m c 5 t) ⟨1024 + r.val, by omega⟩ ⟨1024 + j.val, by omega⟩ ⟨r.val, by omega⟩ ⟨512 + j.val, by omega⟩)
          (fun j => (iblk m c 4 t : Vec Ideal S1x2048x128 .bf16) (ix3 0 ⟨1024 + j.val, by omega⟩ d))
        * (iblk m c 6 t : Vec Ideal S1x2048x128 .f32) (ix3 0 ⟨1024 + r.val, by omega⟩ d)
      = winOut m c t 512 256 0 (row t ⟨1024 + r.val, by omega⟩) d := by
  have ht := lt_N t
  have hr := r.isLt
  unfold winOut
  rw [blk6 m c t]
  refine congrArg (· * _) (soft_congr (fun j => ?_) (fun j => ?_) (fun j => ?_) (fun j => ?_))
  · have hj := j.isLt
    rw [logit_cur m c t]
    rw [Nat.zero_add]
    exact winS_of m c _ _ _ _ (by simp only []; omega) (by simp only [key]; split <;> omega) (by simp only []; omega) _ _
  · have hj := j.isLt
    rw [blk4 m c t]
    exact winV_of m c (row t ⟨1024 + r.val, by omega⟩).val _ (0 + j.val) d (by simp only [key]; split <;> omega) _ _
  · have hj := j.isLt
    rw [logit_cur m c t]
    exact winS_of m c _ _ _ _ (by simp only []; omega) (by simp only [key]; split <;> omega) (by simp only []; omega) _ _
  · have hj := j.isLt
    rw [blk4 m c t]
    exact winV_of m c (row t ⟨1024 + r.val, by omega⟩).val _ (512 + j.val) d (by simp only [key]; split <;> omega) _ _

theorem out1280 (r : Fin 256) (d : Fin 128) :
    soft (fun j : Fin 256 => logit (iblk m c 0 t) (iblk m c 2 t : Vec Ideal S1x2048x128 .bf16) (iblk m c 5 t) ⟨1280 + r.val, by omega⟩ ⟨512 + (256 + j.val), by omega⟩ ⟨256 + r.val, by omega⟩ ⟨256 + j.val, by omega⟩)
          (fun j => (iblk m c 4 t : Vec Ideal S1x2048x128 .bf16) (ix3 0 ⟨512 + (256 + j.val), by omega⟩ d))
          (fun j : Fin 512 => logit (iblk m c 0 t) (iblk m c 2 t : Vec Ideal S1x2048x128 .bf16) (iblk m c 5 t) ⟨1280 + r.val, by omega⟩ ⟨1024 + j.val, by omega⟩ ⟨256 + r.val, by omega⟩ ⟨512 + j.val, by omega⟩)
          (fun j => (iblk m c 4 t : Vec Ideal S1x2048x128 .bf16) (ix3 0 ⟨1024 + j.val, by omega⟩ d))
        * (iblk m c 6 t : Vec Ideal S1x2048x128 .f32) (ix3 0 ⟨1280 + r.val, by omega⟩ d)
      = winOut m c t 256 512 256 (row t ⟨1280 + r.val, by omega⟩) d := by
  have ht := lt_N t
  have hr := r.isLt
  unfold winOut
  rw [blk6 m c t]
  refine congrArg (· * _) (soft_congr (fun j => ?_) (fun j => ?_) (fun j => ?_) (fun j => ?_))
  · have hj := j.isLt
    rw [logit_cur m c t]
    exact winS_of m c _ _ _ _ (by simp only []; omega) (by simp only [key]; split <;> omega) (by simp only []; omega) _ _
  · have hj := j.isLt
    rw [blk4 m c t]
    exact winV_of m c (row t ⟨1280 + r.val, by omega⟩).val _ (256 + j.val) d (by simp only [key]; split <;> omega) _ _
  · have hj := j.isLt
    rw [logit_cur m c t]
    exact winS_of m c _ _ _ _ (by simp only []; omega) (by simp only [key]; split <;> omega) (by simp only []; omega) _ _
  · have hj := j.isLt
    rw [blk4 m c t]
    exact winV_of m c (row t ⟨1280 + r.val, by omega⟩).val _ (512 + j.val) d (by simp only [key]; split <;> omega) _ _

theorem out1536 (r : Fin 256) (d : Fin 128) :
    soft (fun j : Fin 512 => logit (iblk m c 0 t) (iblk m c 2 t : Vec Ideal S1x2048x128 .bf16) (iblk m c 5 t) ⟨1536 + r.val, by omega⟩ ⟨1024 + j.val, by omega⟩ ⟨r.val, by omega⟩ ⟨j.val, by omega⟩)
          (fun j => (iblk m c 4 t : Vec Ideal S1x2048x128 .bf16) (ix3 0 ⟨1024 + j.val, by omega⟩ d))
          (fun j : Fin 256 => logit (iblk m c 0 t) (iblk m c 2 t : Vec Ideal S1x2048x128 .bf16) (iblk m c 5 t) ⟨1536 + r.val, by omega⟩ ⟨1536 + j.val, by omega⟩ ⟨r.val, by omega⟩ ⟨512 + j.val, by omega⟩)
          (fun j => (iblk m c 4 t : Vec Ideal S1x2048x128 .bf16) (ix3 0 ⟨1536 + j.val, by omega⟩ d))
        * (iblk m c 6 t : Vec Ideal S1x2048x128 .f32) (ix3 0 ⟨1536 + r.val, by omega⟩ d)
      = winOut m c t 512 256 0 (row t ⟨1536 + r.val, by omega⟩) d := by
  have ht := lt_N t
  have hr := r.isLt
  unfold winOut
  rw [blk6 m c t]
  refine congrArg (· * _) (soft_congr (fun j => ?_) (fun j => ?_) (fun j => ?_) (fun j => ?_))
  · have hj := j.isLt
    rw [logit_cur m c t]
    rw [Nat.zero_add]
    exact winS_of m c _ _ _ _ (by simp only []; omega) (by simp only [key]; split <;> omega) (by simp only []; omega) _ _
  · have hj := j.isLt
    rw [blk4 m c t]
    exact winV_of m c (row t ⟨1536 + r.val, by omega⟩).val _ (0 + j.val) d (by simp only [key]; split <;> omega) _ _
  · have hj := j.isLt
    rw [logit_cur m c t]
    exact winS_of m c _ _ _ _ (by simp only []; omega) (by simp only [key]; split <;> omega) (by simp only []; omega) _ _
  · have hj := j.isLt
    rw [blk4 m c t]
    exact winV_of m c (row t ⟨1536 + r.val, by omega⟩).val _ (512 + j.val) d (by simp only [key]; split <;> omega) _ _

theorem out1792 (r : Fin 256) (d : Fin 128) :
    soft (fun j : Fin 256 => logit (iblk m c 0 t) (iblk m c 2 t : Vec Ideal S1x2048x128 .bf16) (iblk m c 5 t) ⟨1792 + r.val, by omega⟩ ⟨1024 + (256 + j.val), by omega⟩ ⟨256 + r.val, by omega⟩ ⟨256 + j.val, by omega⟩)
          (fun j => (iblk m c 4 t : Vec Ideal S1x2048x128 .bf16) (ix3 0 ⟨1024 + (256 + j.val), by omega⟩ d))
          (fun j : Fin 512 => logit (iblk m c 0 t) (iblk m c 2 t : Vec Ideal S1x2048x128 .bf16) (iblk m c 5 t) ⟨1792 + r.val, by omega⟩ ⟨1536 + j.val, by omega⟩ ⟨256 + r.val, by omega⟩ ⟨512 + j.val, by omega⟩)
          (fun j => (iblk m c 4 t : Vec Ideal S1x2048x128 .bf16) (ix3 0 ⟨1536 + j.val, by omega⟩ d))
        * (iblk m c 6 t : Vec Ideal S1x2048x128 .f32) (ix3 0 ⟨1792 + r.val, by omega⟩ d)
      = winOut m c t 256 512 256 (row t ⟨1792 + r.val, by omega⟩) d := by
  have ht := lt_N t
  have hr := r.isLt
  unfold winOut
  rw [blk6 m c t]
  refine congrArg (· * _) (soft_congr (fun j => ?_) (fun j => ?_) (fun j => ?_) (fun j => ?_))
  · have hj := j.isLt
    rw [logit_cur m c t]
    exact winS_of m c _ _ _ _ (by simp only []; omega) (by simp only [key]; split <;> omega) (by simp only []; omega) _ _
  · have hj := j.isLt
    rw [blk4 m c t]
    exact winV_of m c (row t ⟨1792 + r.val, by omega⟩).val _ (256 + j.val) d (by simp only [key]; split <;> omega) _ _
  · have hj := j.isLt
    rw [logit_cur m c t]
    exact winS_of m c _ _ _ _ (by simp only []; omega) (by simp only [key]; split <;> omega) (by simp only []; omega) _ _
  · have hj := j.isLt
    rw [blk4 m c t]
    exact winV_of m c (row t ⟨1792 + r.val, by omega⟩).val _ (512 + j.val) d (by simp only [key]; split <;> omega) _ _

end Cert.KernelIdeal.Chunk

end
-- ==== Proof.ChunkBody.lean ====
/-
  The chunk attention's block as its eight stores fill it.
-/
module

public import proofs.«01_k».proof.Proof.ChunkPiece

@[expose] public section

noncomputable section

namespace Cert.KernelIdeal.Chunk

open Cert.KernelIdeal Cert.KernelIdeal.Gen Idealize.ShloMosaic Idealize.ShloMosaic.TcCoe Idealize.SL.Sem
open Idealize.ShloMosaic.Pipeline (Dat)

/-! Eight stores of 256 rows each, the last first: a row is read from its own store. -/

theorem not_mem_rows (T : ℕ) (inb : ∀ a, (![0, T, 0] : Fin 3 → ℕ) a + S1x256x128.size a ≤ S1x2048x128.size a) (q : Fin 2048) (d : Fin 128)
    (hq : q.val < T ∨ T + 256 ≤ q.val) :
    (ix3 0 q d : S1x2048x128.Idx) ∉ (Rect.unit (s := S1x2048x128) ![0, T, 0] S1x256x128.size inb).set := by
  rw [Rect.mem_set_unit]
  intro h
  have h1 := h (1 : Fin 3)
  have a1 : T ≤ q.val := h1.1
  have a2 : q.val < T + 256 := h1.2
  omega

theorem emb_rows (T : ℕ) (inb : ∀ a, (![0, T, 0] : Fin 3 → ℕ) a + S1x256x128.size a ≤ S1x2048x128.size a) (r : Fin 256) (d : Fin 128) (hT : T + r.val < 2048) :
    (ix3 0 ⟨T + r.val, hT⟩ d : S1x2048x128.Idx) = (Rect.unit (s := S1x2048x128) ![0, T, 0] S1x256x128.size inb).emb (ix3 0 r d) := by
  funext a; apply Fin.ext
  match a with
  | ⟨0, _⟩ => show 0 = 0 + 1 * 0; rfl
  | ⟨1, _⟩ => show T + r.val = T + 1 * r.val; omega
  | ⟨2, _⟩ => show d.val = 0 + 1 * d.val; omega

theorem canon_skip (T : ℕ) (inb : ∀ a, (![0, T, 0] : Fin 3 → ℕ) a + S1x256x128.size a ≤ S1x2048x128.size a) (p : Vec Ideal S1x256x128 .bf16)
    (L : List (View.Piece (Elt Ideal) S1x2048x128 .bf16)) (q : Fin 2048) (d : Fin 128) (hq : q.val < T ∨ T + 256 ≤ q.val) :
    View.canon ((⟨Rect.unit (s := S1x2048x128) ![0, T, 0] S1x256x128.size inb, p⟩ : View.Piece (Elt Ideal) S1x2048x128 .bf16) :: L) (ix3 0 q d)
      = View.canon L (ix3 0 q d) :=
  View.canon_cons_of_not_mem _ _ (not_mem_rows T inb q d hq)

theorem canon_here (T : ℕ) (inb : ∀ a, (![0, T, 0] : Fin 3 → ℕ) a + S1x256x128.size a ≤ S1x2048x128.size a) (p : Vec Ideal S1x256x128 .bf16)
    (L : List (View.Piece (Elt Ideal) S1x2048x128 .bf16)) (r : Fin 256) (d : Fin 128) (hT : T + r.val < 2048) :
    View.canon ((⟨Rect.unit (s := S1x2048x128) ![0, T, 0] S1x256x128.size inb, p⟩ : View.Piece (Elt Ideal) S1x2048x128 .bf16) :: L)
      (ix3 0 ⟨T + r.val, hT⟩ d) = p (ix3 0 r d) := by
  rw [emb_rows T inb r d hT]
  exact View.canon_cons_emb _ _ _ _

/-! The body's block, row by row. -/

theorem body0 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    out0_7 i x0 x1 x2 x3 x4 x5 x6 (ix3 0 ⟨r.val, by omega⟩ d)
      = soft (fun j : Fin 512 => masked i (logit x0 x1 x5 ⟨r.val, by omega⟩ ⟨j.val, by omega⟩ ⟨r.val, by omega⟩ ⟨j.val, by omega⟩))
          (fun j => x3 (ix3 0 ⟨j.val, by omega⟩ d))
          (fun j : Fin 256 => logit x0 x2 x5 ⟨r.val, by omega⟩ ⟨j.val, by omega⟩ ⟨r.val, by omega⟩ ⟨512 + j.val, by omega⟩)
          (fun j => x4 (ix3 0 ⟨j.val, by omega⟩ d))
        * x6 (ix3 0 ⟨r.val, by omega⟩ d) := by
  have hr := r.isLt
  unfold out0_7
  refine (canon_skip 1792 inb_S1x2048x128_S1x256x128_0_1792_0 _ _ ⟨r.val, by omega⟩ d (Or.inl (by simp only []; omega))).trans ?_
  refine (canon_skip 1536 inb_S1x2048x128_S1x256x128_0_1536_0 _ _ ⟨r.val, by omega⟩ d (Or.inl (by simp only []; omega))).trans ?_
  refine (canon_skip 1280 inb_S1x2048x128_S1x256x128_0_1280_0 _ _ ⟨r.val, by omega⟩ d (Or.inl (by simp only []; omega))).trans ?_
  refine (canon_skip 1024 inb_S1x2048x128_S1x256x128_0_1024_0 _ _ ⟨r.val, by omega⟩ d (Or.inl (by simp only []; omega))).trans ?_
  refine (canon_skip 768 inb_S1x2048x128_S1x256x128_0_768_0 _ _ ⟨r.val, by omega⟩ d (Or.inl (by simp only []; omega))).trans ?_
  refine (canon_skip 512 inb_S1x2048x128_S1x256x128_0_512_0 _ _ ⟨r.val, by omega⟩ d (Or.inl (by simp only []; omega))).trans ?_
  refine (canon_skip 256 inb_S1x2048x128_S1x256x128_0_256_0 _ _ ⟨r.val, by omega⟩ d (Or.inl (by simp only []; omega))).trans ?_
  have e : (⟨r.val, by omega⟩ : Fin 2048) = ⟨0 + r.val, by omega⟩ := Fin.ext (Nat.zero_add _).symm
  refine (congrArg (fun q => View.canon _ (ix3 0 q d)) e).trans ?_
  exact (canon_here 0 inb_S1x2048x128_S1x256x128_0_0_0 _ _ r d (by omega)).trans (piece0 i x0 x1 x2 x3 x4 x5 x6 r d)

theorem body256 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    out0_7 i x0 x1 x2 x3 x4 x5 x6 (ix3 0 ⟨256 + r.val, by omega⟩ d)
      = soft (fun j : Fin 256 => masked i (logit x0 x1 x5 ⟨256 + r.val, by omega⟩ ⟨256 + j.val, by omega⟩ ⟨256 + r.val, by omega⟩ ⟨256 + j.val, by omega⟩))
          (fun j => x3 (ix3 0 ⟨256 + j.val, by omega⟩ d))
          (fun j : Fin 512 => logit x0 x2 x5 ⟨256 + r.val, by omega⟩ ⟨j.val, by omega⟩ ⟨256 + r.val, by omega⟩ ⟨512 + j.val, by omega⟩)
          (fun j => x4 (ix3 0 ⟨j.val, by omega⟩ d))
        * x6 (ix3 0 ⟨256 + r.val, by omega⟩ d) := by
  have hr := r.isLt
  unfold out0_7
  refine (canon_skip 1792 inb_S1x2048x128_S1x256x128_0_1792_0 _ _ ⟨256 + r.val, by omega⟩ d (Or.inl (by simp only []; omega))).trans ?_
  refine (canon_skip 1536 inb_S1x2048x128_S1x256x128_0_1536_0 _ _ ⟨256 + r.val, by omega⟩ d (Or.inl (by simp only []; omega))).trans ?_
  refine (canon_skip 1280 inb_S1x2048x128_S1x256x128_0_1280_0 _ _ ⟨256 + r.val, by omega⟩ d (Or.inl (by simp only []; omega))).trans ?_
  refine (canon_skip 1024 inb_S1x2048x128_S1x256x128_0_1024_0 _ _ ⟨256 + r.val, by omega⟩ d (Or.inl (by simp only []; omega))).trans ?_
  refine (canon_skip 768 inb_S1x2048x128_S1x256x128_0_768_0 _ _ ⟨256 + r.val, by omega⟩ d (Or.inl (by simp only []; omega))).trans ?_
  refine (canon_skip 512 inb_S1x2048x128_S1x256x128_0_512_0 _ _ ⟨256 + r.val, by omega⟩ d (Or.inl (by simp only []; omega))).trans ?_
  exact (canon_here 256 inb_S1x2048x128_S1x256x128_0_256_0 _ _ r d (by omega)).trans (piece256 i x0 x1 x2 x3 x4 x5 x6 r d)

theorem body512 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    out0_7 i x0 x1 x2 x3 x4 x5 x6 (ix3 0 ⟨512 + r.val, by omega⟩ d)
      = soft (fun j : Fin 512 => logit x0 x2 x5 ⟨512 + r.val, by omega⟩ ⟨j.val, by omega⟩ ⟨r.val, by omega⟩ ⟨j.val, by omega⟩)
          (fun j => x4 (ix3 0 ⟨j.val, by omega⟩ d))
          (fun j : Fin 256 => logit x0 x2 x5 ⟨512 + r.val, by omega⟩ ⟨512 + j.val, by omega⟩ ⟨r.val, by omega⟩ ⟨512 + j.val, by omega⟩)
          (fun j => x4 (ix3 0 ⟨512 + j.val, by omega⟩ d))
        * x6 (ix3 0 ⟨512 + r.val, by omega⟩ d) := by
  have hr := r.isLt
  unfold out0_7
  refine (canon_skip 1792 inb_S1x2048x128_S1x256x128_0_1792_0 _ _ ⟨512 + r.val, by omega⟩ d (Or.inl (by simp only []; omega))).trans ?_
  refine (canon_skip 1536 inb_S1x2048x128_S1x256x128_0_1536_0 _ _ ⟨512 + r.val, by omega⟩ d (Or.inl (by simp only []; omega))).trans ?_
  refine (canon_skip 1280 inb_S1x2048x128_S1x256x128_0_1280_0 _ _ ⟨512 + r.val, by omega⟩ d (Or.inl (by simp only []; omega))).trans ?_
  refine (canon_skip 1024 inb_S1x2048x128_S1x256x128_0_1024_0 _ _ ⟨512 + r.val, by omega⟩ d (Or.inl (by simp only []; omega))).trans ?_
  refine (canon_skip 768 inb_S1x2048x128_S1x256x128_0_768_0 _ _ ⟨512 + r.val, by omega⟩ d (Or.inl (by simp only []; omega))).trans ?_
  exact (canon_here 512 inb_S1x2048x128_S1x256x128_0_512_0 _ _ r d (by omega)).trans (piece512 i x0 x1 x2 x3 x4 x5 x6 r d)

theorem body768 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    out0_7 i x0 x1 x2 x3 x4 x5 x6 (ix3 0 ⟨768 + r.val, by omega⟩ d)
      = soft (fun j : Fin 256 => logit x0 x2 x5 ⟨768 + r.val, by omega⟩ ⟨256 + j.val, by omega⟩ ⟨256 + r.val, by omega⟩ ⟨256 + j.val, by omega⟩)
          (fun j => x4 (ix3 0 ⟨256 + j.val, by omega⟩ d))
          (fun j : Fin 512 => logit x0 x2 x5 ⟨768 + r.val, by omega⟩ ⟨512 + j.val, by omega⟩ ⟨256 + r.val, by omega⟩ ⟨512 + j.val, by omega⟩)
          (fun j => x4 (ix3 0 ⟨512 + j.val, by omega⟩ d))
        * x6 (ix3 0 ⟨768 + r.val, by omega⟩ d) := by
  have hr := r.isLt
  unfold out0_7
  refine (canon_skip 1792 inb_S1x2048x128_S1x256x128_0_1792_0 _ _ ⟨768 + r.val, by omega⟩ d (Or.inl (by simp only []; omega))).trans ?_
  refine (canon_skip 1536 inb_S1x2048x128_S1x256x128_0_1536_0 _ _ ⟨768 + r.val, by omega⟩ d (Or.inl (by simp only []; omega))).trans ?_
  refine (canon_skip 1280 inb_S1x2048x128_S1x256x128_0_1280_0 _ _ ⟨768 + r.val, by omega⟩ d (Or.inl (by simp only []; omega))).trans ?_
  refine (canon_skip 1024 inb_S1x2048x128_S1x256x128_0_1024_0 _ _ ⟨768 + r.val, by omega⟩ d (Or.inl (by simp only []; omega))).trans ?_
  exact (canon_here 768 inb_S1x2048x128_S1x256x128_0_768_0 _ _ r d (by omega)).trans (piece768 i x0 x1 x2 x3 x4 x5 x6 r d)

theorem body1024 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    out0_7 i x0 x1 x2 x3 x4 x5 x6 (ix3 0 ⟨1024 + r.val, by omega⟩ d)
      = soft (fun j : Fin 512 => logit x0 x2 x5 ⟨1024 + r.val, by omega⟩ ⟨512 + j.val, by omega⟩ ⟨r.val, by omega⟩ ⟨j.val, by omega⟩)
          (fun j => x4 (ix3 0 ⟨512 + j.val, by omega⟩ d))
          (fun j : Fin 256 => logit x0 x2 x5 ⟨1024 + r.val, by omega⟩ ⟨1024 + j.val, by omega⟩ ⟨r.val, by omega⟩ ⟨512 + j.val, by omega⟩)
          (fun j => x4 (ix3 0 ⟨1024 + j.val, by omega⟩ d))
        * x6 (ix3 0 ⟨1024 + r.val, by omega⟩ d) := by
  have hr := r.isLt
  unfold out0_7
  refine (canon_skip 1792 inb_S1x2048x128_S1x256x128_0_1792_0 _ _ ⟨1024 + r.val, by omega⟩ d (Or.inl (by simp only []; omega))).trans ?_
  refine (canon_skip 1536 inb_S1x2048x128_S1x256x128_0_1536_0 _ _ ⟨1024 + r.val, by omega⟩ d (Or.inl (by simp only []; omega))).trans ?_
  refine (canon_skip 1280 inb_S1x2048x128_S1x256x128_0_1280_0 _ _ ⟨1024 + r.val, by omega⟩ d (Or.inl (by simp only []; omega))).trans ?_
  exact (canon_here 1024 inb_S1x2048x128_S1x256x128_0_1024_0 _ _ r d (by omega)).trans (piece1024 i x0 x1 x2 x3 x4 x5 x6 r d)

theorem body1280 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    out0_7 i x0 x1 x2 x3 x4 x5 x6 (ix3 0 ⟨1280 + r.val, by omega⟩ d)
      = soft (fun j : Fin 256 => logit x0 x2 x5 ⟨1280 + r.val, by omega⟩ ⟨512 + (256 + j.val), by omega⟩ ⟨256 + r.val, by omega⟩ ⟨256 + j.val, by omega⟩)
          (fun j => x4 (ix3 0 ⟨512 + (256 + j.val), by omega⟩ d))
          (fun j : Fin 512 => logit x0 x2 x5 ⟨1280 + r.val, by omega⟩ ⟨1024 + j.val, by omega⟩ ⟨256 + r.val, by omega⟩ ⟨512 + j.val, by omega⟩)
          (fun j => x4 (ix3 0 ⟨1024 + j.val, by omega⟩ d))
        * x6 (ix3 0 ⟨1280 + r.val, by omega⟩ d) := by
  have hr := r.isLt
  unfold out0_7
  refine (canon_skip 1792 inb_S1x2048x128_S1x256x128_0_1792_0 _ _ ⟨1280 + r.val, by omega⟩ d (Or.inl (by simp only []; omega))).trans ?_
  refine (canon_skip 1536 inb_S1x2048x128_S1x256x128_0_1536_0 _ _ ⟨1280 + r.val, by omega⟩ d (Or.inl (by simp only []; omega))).trans ?_
  exact (canon_here 1280 inb_S1x2048x128_S1x256x128_0_1280_0 _ _ r d (by omega)).trans (piece1280 i x0 x1 x2 x3 x4 x5 x6 r d)

theorem body1536 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    out0_7 i x0 x1 x2 x3 x4 x5 x6 (ix3 0 ⟨1536 + r.val, by omega⟩ d)
      = soft (fun j : Fin 512 => logit x0 x2 x5 ⟨1536 + r.val, by omega⟩ ⟨1024 + j.val, by omega⟩ ⟨r.val, by omega⟩ ⟨j.val, by omega⟩)
          (fun j => x4 (ix3 0 ⟨1024 + j.val, by omega⟩ d))
          (fun j : Fin 256 => logit x0 x2 x5 ⟨1536 + r.val, by omega⟩ ⟨1536 + j.val, by omega⟩ ⟨r.val, by omega⟩ ⟨512 + j.val, by omega⟩)
          (fun j => x4 (ix3 0 ⟨1536 + j.val, by omega⟩ d))
        * x6 (ix3 0 ⟨1536 + r.val, by omega⟩ d) := by
  have hr := r.isLt
  unfold out0_7
  refine (canon_skip 1792 inb_S1x2048x128_S1x256x128_0_1792_0 _ _ ⟨1536 + r.val, by omega⟩ d (Or.inl (by simp only []; omega))).trans ?_
  exact (canon_here 1536 inb_S1x2048x128_S1x256x128_0_1536_0 _ _ r d (by omega)).trans (piece1536 i x0 x1 x2 x3 x4 x5 x6 r d)

theorem body1792 (i : grid0.Coords) (x0 : Vec Ideal S1x2048x128 .bf16) (x1 : Vec Ideal S1x512x128 .bf16)
    (x2 : Vec Ideal S1x2048x128 .bf16) (x3 : Vec Ideal S1x512x128 .bf16)
    (x4 : Vec Ideal S1x2048x128 .bf16) (x5 : Vec Ideal S1x512x1024 .f32)
    (x6 : Vec Ideal S1x2048x128 .f32) (r : Fin 256) (d : Fin 128) :
    out0_7 i x0 x1 x2 x3 x4 x5 x6 (ix3 0 ⟨1792 + r.val, by omega⟩ d)
      = soft (fun j : Fin 256 => logit x0 x2 x5 ⟨1792 + r.val, by omega⟩ ⟨1024 + (256 + j.val), by omega⟩ ⟨256 + r.val, by omega⟩ ⟨256 + j.val, by omega⟩)
          (fun j => x4 (ix3 0 ⟨1024 + (256 + j.val), by omega⟩ d))
          (fun j : Fin 512 => logit x0 x2 x5 ⟨1792 + r.val, by omega⟩ ⟨1536 + j.val, by omega⟩ ⟨256 + r.val, by omega⟩ ⟨512 + j.val, by omega⟩)
          (fun j => x4 (ix3 0 ⟨1536 + j.val, by omega⟩ d))
        * x6 (ix3 0 ⟨1792 + r.val, by omega⟩ d) := by
  have hr := r.isLt
  unfold out0_7
  exact (canon_here 1792 inb_S1x2048x128_S1x256x128_0_1792_0 _ _ r d (by omega)).trans (piece1792 i x0 x1 x2 x3 x4 x5 x6 r d)

end Cert.KernelIdeal.Chunk

end
-- ==== Proof.ChunkPre.lean ====
/-
  What the chunk attention's precondition says: the queries, the keys and the bias are finite.
-/
module

public import proofs.«01_k».proof.Proof.ChunkWindow
public import proofs.«01_k».proof.Proof.Gen.Pre_finite_logits
public import proofs.«01_k».proof.Defs
public import Idealize.ShloMosaic.Lib.ReduceAll

@[expose] public section

noncomputable section

namespace Cert.Pre_finite_logits.Read

open Cert.Pre_finite_logits Cert.Pre_finite_logits.Gen Idealize.ShloMosaic Idealize.ShloMosaic.TcCoe

theorem posInf : Ideal.ofBits FTy.f32 0x7F800000#32 = (⊤ : EReal) := by
  simp [Ideal.ofBits, Ideal.ieee]

/-- An extended real whose absolute value is below ⊤ is a real. -/
theorem finite_of_lt (a : EReal) (h : max a (-a) < ⊤) : a ≠ ⊤ ∧ a ≠ ⊥ := by
  refine ⟨fun e => ?_, fun e => ?_⟩
  · rw [e] at h
    exact absurd h (by simp)
  · rw [e] at h
    exact absurd h (by simp)

theorem finite_of_cmp (a : EReal) (h : Ideal.cmp CmpFPredicate.olt (max a (-a)) (Ideal.ofBits FTy.f32 0x7F800000#32) = 1#1) : a ≠ ⊤ ∧ a ≠ ⊥ := by
  rw [posInf] at h
  refine finite_of_lt a ?_
  by_contra hn
  simp [Ideal.cmp, hn] at h

local instance : Facts := Gen.facts

variable (x : FVec Ideal S2x16384x4608 .bf16) (y : FVec Ideal S4x257 .f32) (g : FVec Ideal S2x16384x1536 .f32)
  (h : fn (F := Ideal) x y g = fun _ => 1#1)

include h in
theorem finite_qk (b : Fin 2) (n : Fin 16384) (c : Fin 4608) (h1 : 1536 ≤ c.val) (h2 : c.val < 2560) : x (ix3 b n c) ≠ ⊤ ∧ x (ix3 b n c) ≠ ⊥ := by
  have e := (IntOp.andi_eq_one.1 (congrFun h ix0)).1
  have f := Host.reduce_andi_all _ _ _ _ _ e (ix3 b n ⟨c.val - 1536, by omega⟩)
  have k : (⟨1536 + (c.val - 1536), by omega⟩ : Fin 4608) = c := Fin.ext (by show 1536 + (c.val - 1536) = c.val; omega)
  refine finite_of_cmp _ ?_
  rw [← f]
  symm
  pointwise []
  rw [k]
  rfl

include h in
theorem finite_bias (a : Fin 4) (k : Fin 257) : y (ix2 a k) ≠ ⊤ ∧ y (ix2 a k) ≠ ⊥ := by
  have e := (IntOp.andi_eq_one.1 (congrFun h ix0)).2
  have f := Host.reduce_andi_all _ _ _ _ _ e (ix2 a k)
  refine finite_of_cmp _ ?_
  rw [← f]
  symm
  pointwise []
  rfl

end Cert.Pre_finite_logits.Read

end
-- ==== Proof.ChunkValue.lean ====
/-
  The chunk attention's result array: eight stores fill each block, the 64 blocks fill the array, and what they
  hold is the plain reference's array.
-/
module

public import proofs.«01_k».proof.Proof.ChunkBlocks
public import proofs.«01_k».proof.Proof.ChunkBody
public import proofs.«01_k».proof.Proof.ChunkPre
public import proofs.«01_k».proof.Proof.Gen.ReferenceIdeal.Run

@[expose] public section

noncomputable section

namespace Cert.KernelIdeal.Chunk

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The arguments' queries, keys and bias are finite. -/
def FiniteArgs : Prop :=
  (∀ (b : Fin 2) (n : Fin 16384) (e : Fin 4608), 1536 ≤ e.val → e.val < 2560 → Fin' (argX m c (ix3 b n e)))
    ∧ ∀ (h : Fin 4) (k : Fin 257), Fin' (argY m c (ix2 h k))

/-- The plain reference's array over the kernel's arguments. -/
abbrev result : FVec Ideal S2x16384x512 .bf16 := Cert.ReferenceIdeal.Read.val_main_v72 (F := Ideal) (argX m c) (argY m c) (argG m c)

theorem winOut_eq (hf : FiniteArgs m c) (t : Fin cfg0.N) (A B o : ℕ) (hA : o + A = 512) (hB : 512 + B = 768 + o) (n : Fin 16384) (d : Fin 128)
    (ho : o = 256 * (n.val / 256 % 2)) :
    winOut m c t A B o n d = result m c (ix3 (seq t) n ⟨(head t).val * 128 + d.val, by have := (head t).isLt; omega⟩) :=
  soft_window (argX m c) (argY m c) hf.1 hf.2 (seq t) (head t) n d o hA hB ho (argG m c)

theorem block0 (hf : FiniteArgs m c) (t : Fin cfg0.N) (r : Fin 256) (d : Fin 128) :
    out0_7 (grid0.coords t) (iblk m c 0 t) (iblk m c 1 t) (iblk m c 2 t) (iblk m c 3 t) (iblk m c 4 t) (iblk m c 5 t) (iblk m c 6 t) (ix3 0 ⟨r.val, by omega⟩ d)
      = result m c (ix3 (seq t) (row t ⟨r.val, by omega⟩) ⟨(head t).val * 128 + d.val, by have := (head t).isLt; omega⟩) := by
  have hr := r.isLt
  have ho : 0 = 256 * ((row t ⟨r.val, by omega⟩).val / 256 % 2) := by
    show 0 = 256 * ((2048 * (t.val % 8) + r.val) / 256 % 2)
    omega
  exact (body0 (grid0.coords t) (iblk m c 0 t) (iblk m c 1 t) (iblk m c 2 t) (iblk m c 3 t) (iblk m c 4 t) (iblk m c 5 t) (iblk m c 6 t) r d).trans
    ((out0 m c t r d).trans (winOut_eq m c hf t 512 256 0 (by norm_num) (by norm_num) (row t ⟨r.val, by omega⟩) d ho))

theorem block256 (hf : FiniteArgs m c) (t : Fin cfg0.N) (r : Fin 256) (d : Fin 128) :
    out0_7 (grid0.coords t) (iblk m c 0 t) (iblk m c 1 t) (iblk m c 2 t) (iblk m c 3 t) (iblk m c 4 t) (iblk m c 5 t) (iblk m c 6 t) (ix3 0 ⟨256 + r.val, by omega⟩ d)
      = result m c (ix3 (seq t) (row t ⟨256 + r.val, by omega⟩) ⟨(head t).val * 128 + d.val, by have := (head t).isLt; omega⟩) := by
  have hr := r.isLt
  have ho : 256 = 256 * ((row t ⟨256 + r.val, by omega⟩).val / 256 % 2) := by
    show 256 = 256 * ((2048 * (t.val % 8) + (256 + r.val)) / 256 % 2)
    omega
  exact (body256 (grid0.coords t) (iblk m c 0 t) (iblk m c 1 t) (iblk m c 2 t) (iblk m c 3 t) (iblk m c 4 t) (iblk m c 5 t) (iblk m c 6 t) r d).trans
    ((out256 m c t r d).trans (winOut_eq m c hf t 256 512 256 (by norm_num) (by norm_num) (row t ⟨256 + r.val, by omega⟩) d ho))

theorem block512 (hf : FiniteArgs m c) (t : Fin cfg0.N) (r : Fin 256) (d : Fin 128) :
    out0_7 (grid0.coords t) (iblk m c 0 t) (iblk m c 1 t) (iblk m c 2 t) (iblk m c 3 t) (iblk m c 4 t) (iblk m c 5 t) (iblk m c 6 t) (ix3 0 ⟨512 + r.val, by omega⟩ d)
      = result m c (ix3 (seq t) (row t ⟨512 + r.val, by omega⟩) ⟨(head t).val * 128 + d.val, by have := (head t).isLt; omega⟩) := by
  have hr := r.isLt
  have ho : 0 = 256 * ((row t ⟨512 + r.val, by omega⟩).val / 256 % 2) := by
    show 0 = 256 * ((2048 * (t.val % 8) + (512 + r.val)) / 256 % 2)
    omega
  exact (body512 (grid0.coords t) (iblk m c 0 t) (iblk m c 1 t) (iblk m c 2 t) (iblk m c 3 t) (iblk m c 4 t) (iblk m c 5 t) (iblk m c 6 t) r d).trans
    ((out512 m c t r d).trans (winOut_eq m c hf t 512 256 0 (by norm_num) (by norm_num) (row t ⟨512 + r.val, by omega⟩) d ho))

theorem block768 (hf : FiniteArgs m c) (t : Fin cfg0.N) (r : Fin 256) (d : Fin 128) :
    out0_7 (grid0.coords t) (iblk m c 0 t) (iblk m c 1 t) (iblk m c 2 t) (iblk m c 3 t) (iblk m c 4 t) (iblk m c 5 t) (iblk m c 6 t) (ix3 0 ⟨768 + r.val, by omega⟩ d)
      = result m c (ix3 (seq t) (row t ⟨768 + r.val, by omega⟩) ⟨(head t).val * 128 + d.val, by have := (head t).isLt; omega⟩) := by
  have hr := r.isLt
  have ho : 256 = 256 * ((row t ⟨768 + r.val, by omega⟩).val / 256 % 2) := by
    show 256 = 256 * ((2048 * (t.val % 8) + (768 + r.val)) / 256 % 2)
    omega
  exact (body768 (grid0.coords t) (iblk m c 0 t) (iblk m c 1 t) (iblk m c 2 t) (iblk m c 3 t) (iblk m c 4 t) (iblk m c 5 t) (iblk m c 6 t) r d).trans
    ((out768 m c t r d).trans (winOut_eq m c hf t 256 512 256 (by norm_num) (by norm_num) (row t ⟨768 + r.val, by omega⟩) d ho))

theorem block1024 (hf : FiniteArgs m c) (t : Fin cfg0.N) (r : Fin 256) (d : Fin 128) :
    out0_7 (grid0.coords t) (iblk m c 0 t) (iblk m c 1 t) (iblk m c 2 t) (iblk m c 3 t) (iblk m c 4 t) (iblk m c 5 t) (iblk m c 6 t) (ix3 0 ⟨1024 + r.val, by omega⟩ d)
      = result m c (ix3 (seq t) (row t ⟨1024 + r.val, by omega⟩) ⟨(head t).val * 128 + d.val, by have := (head t).isLt; omega⟩) := by
  have hr := r.isLt
  have ho : 0 = 256 * ((row t ⟨1024 + r.val, by omega⟩).val / 256 % 2) := by
    show 0 = 256 * ((2048 * (t.val % 8) + (1024 + r.val)) / 256 % 2)
    omega
  exact (body1024 (grid0.coords t) (iblk m c 0 t) (iblk m c 1 t) (iblk m c 2 t) (iblk m c 3 t) (iblk m c 4 t) (iblk m c 5 t) (iblk m c 6 t) r d).trans
    ((out1024 m c t r d).trans (winOut_eq m c hf t 512 256 0 (by norm_num) (by norm_num) (row t ⟨1024 + r.val, by omega⟩) d ho))

theorem block1280 (hf : FiniteArgs m c) (t : Fin cfg0.N) (r : Fin 256) (d : Fin 128) :
    out0_7 (grid0.coords t) (iblk m c 0 t) (iblk m c 1 t) (iblk m c 2 t) (iblk m c 3 t) (iblk m c 4 t) (iblk m c 5 t) (iblk m c 6 t) (ix3 0 ⟨1280 + r.val, by omega⟩ d)
      = result m c (ix3 (seq t) (row t ⟨1280 + r.val, by omega⟩) ⟨(head t).val * 128 + d.val, by have := (head t).isLt; omega⟩) := by
  have hr := r.isLt
  have ho : 256 = 256 * ((row t ⟨1280 + r.val, by omega⟩).val / 256 % 2) := by
    show 256 = 256 * ((2048 * (t.val % 8) + (1280 + r.val)) / 256 % 2)
    omega
  exact (body1280 (grid0.coords t) (iblk m c 0 t) (iblk m c 1 t) (iblk m c 2 t) (iblk m c 3 t) (iblk m c 4 t) (iblk m c 5 t) (iblk m c 6 t) r d).trans
    ((out1280 m c t r d).trans (winOut_eq m c hf t 256 512 256 (by norm_num) (by norm_num) (row t ⟨1280 + r.val, by omega⟩) d ho))

theorem block1536 (hf : FiniteArgs m c) (t : Fin cfg0.N) (r : Fin 256) (d : Fin 128) :
    out0_7 (grid0.coords t) (iblk m c 0 t) (iblk m c 1 t) (iblk m c 2 t) (iblk m c 3 t) (iblk m c 4 t) (iblk m c 5 t) (iblk m c 6 t) (ix3 0 ⟨1536 + r.val, by omega⟩ d)
      = result m c (ix3 (seq t) (row t ⟨1536 + r.val, by omega⟩) ⟨(head t).val * 128 + d.val, by have := (head t).isLt; omega⟩) := by
  have hr := r.isLt
  have ho : 0 = 256 * ((row t ⟨1536 + r.val, by omega⟩).val / 256 % 2) := by
    show 0 = 256 * ((2048 * (t.val % 8) + (1536 + r.val)) / 256 % 2)
    omega
  exact (body1536 (grid0.coords t) (iblk m c 0 t) (iblk m c 1 t) (iblk m c 2 t) (iblk m c 3 t) (iblk m c 4 t) (iblk m c 5 t) (iblk m c 6 t) r d).trans
    ((out1536 m c t r d).trans (winOut_eq m c hf t 512 256 0 (by norm_num) (by norm_num) (row t ⟨1536 + r.val, by omega⟩) d ho))

theorem block1792 (hf : FiniteArgs m c) (t : Fin cfg0.N) (r : Fin 256) (d : Fin 128) :
    out0_7 (grid0.coords t) (iblk m c 0 t) (iblk m c 1 t) (iblk m c 2 t) (iblk m c 3 t) (iblk m c 4 t) (iblk m c 5 t) (iblk m c 6 t) (ix3 0 ⟨1792 + r.val, by omega⟩ d)
      = result m c (ix3 (seq t) (row t ⟨1792 + r.val, by omega⟩) ⟨(head t).val * 128 + d.val, by have := (head t).isLt; omega⟩) := by
  have hr := r.isLt
  have ho : 256 = 256 * ((row t ⟨1792 + r.val, by omega⟩).val / 256 % 2) := by
    show 256 = 256 * ((2048 * (t.val % 8) + (1792 + r.val)) / 256 % 2)
    omega
  exact (body1792 (grid0.coords t) (iblk m c 0 t) (iblk m c 1 t) (iblk m c 2 t) (iblk m c 3 t) (iblk m c 4 t) (iblk m c 5 t) (iblk m c 6 t) r d).trans
    ((out1792 m c t r d).trans (winOut_eq m c hf t 256 512 256 (by norm_num) (by norm_num) (row t ⟨1792 + r.val, by omega⟩) d ho))

/-- What a point leaves in its block: the rows of the reference's array. -/
theorem block_eq (hf : FiniteArgs m c) (t : Fin cfg0.N) (q : Fin 2048) (d : Fin 128) :
    out0_7 (grid0.coords t) (iblk m c 0 t) (iblk m c 1 t) (iblk m c 2 t) (iblk m c 3 t) (iblk m c 4 t) (iblk m c 5 t) (iblk m c 6 t) (ix3 0 q d)
      = result m c (ix3 (seq t) (row t q) ⟨(head t).val * 128 + d.val, by have := (head t).isLt; omega⟩) := by
  have hq := q.isLt
  by_cases h0 : q.val < 256
  · have e : q = ⟨(⟨q.val, h0⟩ : Fin 256).val, hq⟩ := rfl
    rw [e]
    exact block0 m c hf t _ d
  by_cases h256 : q.val < 512
  · have e : q = ⟨256 + (⟨q.val - 256, by omega⟩ : Fin 256).val, by simp only []; omega⟩ := Fin.ext (by show q.val = 256 + (q.val - 256); omega)
    rw [e]
    exact block256 m c hf t _ d
  by_cases h512 : q.val < 768
  · have e : q = ⟨512 + (⟨q.val - 512, by omega⟩ : Fin 256).val, by simp only []; omega⟩ := Fin.ext (by show q.val = 512 + (q.val - 512); omega)
    rw [e]
    exact block512 m c hf t _ d
  by_cases h768 : q.val < 1024
  · have e : q = ⟨768 + (⟨q.val - 768, by omega⟩ : Fin 256).val, by simp only []; omega⟩ := Fin.ext (by show q.val = 768 + (q.val - 768); omega)
    rw [e]
    exact block768 m c hf t _ d
  by_cases h1024 : q.val < 1280
  · have e : q = ⟨1024 + (⟨q.val - 1024, by omega⟩ : Fin 256).val, by simp only []; omega⟩ := Fin.ext (by show q.val = 1024 + (q.val - 1024); omega)
    rw [e]
    exact block1024 m c hf t _ d
  by_cases h1280 : q.val < 1536
  · have e : q = ⟨1280 + (⟨q.val - 1280, by omega⟩ : Fin 256).val, by simp only []; omega⟩ := Fin.ext (by show q.val = 1280 + (q.val - 1280); omega)
    rw [e]
    exact block1280 m c hf t _ d
  by_cases h1536 : q.val < 1792
  · have e : q = ⟨1536 + (⟨q.val - 1536, by omega⟩ : Fin 256).val, by simp only []; omega⟩ := Fin.ext (by show q.val = 1536 + (q.val - 1536); omega)
    rw [e]
    exact block1536 m c hf t _ d
  by_cases h1792 : q.val < 2048
  · have e : q = ⟨1792 + (⟨q.val - 1792, by omega⟩ : Fin 256).val, by simp only []; omega⟩ := Fin.ext (by show q.val = 1792 + (q.val - 1792); omega)
    rw [e]
    exact block1792 m c hf t _ d
  omega

/-- A point whose block is an array's rows writes back its block of the array. -/
theorem flushed_of (G : FVec Ideal S2x16384x512 .bf16) (t : Fin cfg0.N)
    (hG : ∀ (q : Fin 2048) (d : Fin 128),
      out0_7 (grid0.coords t) (iblk m c 0 t) (iblk m c 1 t) (iblk m c 2 t) (iblk m c 3 t) (iblk m c 4 t) (iblk m c 5 t) (iblk m c 6 t) (ix3 0 q d)
        = G (ix3 (seq t) (row t q) ⟨(head t).val * 128 + d.val, by have := (head t).isLt; omega⟩)) :
    (dats m 0 c).flushed 7 t = ((cfg0.win 7).blk t).view.read (Elt Ideal) G := by
  obtain ⟨-, -, -, -, -, -, -, ⟨e0, e1, e2⟩, -⟩ := idx_facts t
  have ht := lt_N t
  rw [Value.flushed7]
  funext j
  obtain ⟨q, d, rfl⟩ : ∃ (q : Fin 2048) (d : Fin 128), j = ix3 0 q d := ⟨j 1, j 2, by
    funext a
    match a with
    | ⟨0, _⟩ => exact Subsingleton.elim (α := Fin 1) _ _
    | ⟨1, _⟩ => rfl
    | ⟨2, _⟩ => rfl⟩
  refine (hG q d).trans ?_
  show G _ = G (((cfg0.win 7).blk t).view.emb (ix3 0 q d))
  refine congrArg G ?_
  funext a; apply Fin.ext
  match a with
  | ⟨0, _⟩ => show t.val / 32 = win0_7.index t (0 : Fin 3) * 1 + 1 * 0; omega
  | ⟨1, _⟩ => show 2048 * (t.val % 8) + q.val = win0_7.index t (1 : Fin 3) * 2048 + 1 * q.val; omega
  | ⟨2, _⟩ => show t.val / 8 % 4 * 128 + d.val = win0_7.index t (2 : Fin 3) * 128 + 1 * d.val; omega

/-- So the result array ends at it: the 64 blocks cover the array. -/
theorem final_of (G : FVec Ideal S2x16384x512 .bf16)
    (hG : ∀ (t : Fin cfg0.N) (q : Fin 2048) (d : Fin 128),
      out0_7 (grid0.coords t) (iblk m c 0 t) (iblk m c 1 t) (iblk m c 2 t) (iblk m c 3 t) (iblk m c 4 t) (iblk m c 5 t) (iblk m c 6 t) (ix3 0 q d)
        = G (ix3 (seq t) (row t q) ⟨(head t).val * 128 + d.val, by have := (head t).isLt; omega⟩)) :
    (dats m 0 c).arrAt 7 cfg0.N = G :=
  (dats m 0 c).arrAt_eq_of_cover 7 G (fun t _ => flushed_of m c G t (hG t)) fun i => by
    have h0 : (i 0 : Nat) < 2 := (i 0).isLt
    have h1 : (i 1 : Nat) < 16384 := (i 1).isLt
    have h2 : (i 2 : Nat) < 512 := (i 2).isLt
    have hN : grid0.N = 64 := N_0
    have ht : 32 * (i 0 : Nat) + 8 * ((i 2 : Nat) / 128) + (i 1 : Nat) / 2048 < cfg0.N := by show _ < grid0.N; omega
    refine ⟨⟨32 * (i 0 : Nat) + 8 * ((i 2 : Nat) / 128) + (i 1 : Nat) / 2048, ht⟩, flush_all _, ?_⟩
    generalize hte : (⟨32 * (i 0 : Nat) + 8 * ((i 2 : Nat) / 128) + (i 1 : Nat) / 2048, ht⟩ : Fin cfg0.N) = t
    have htv : t.val = 32 * (i 0 : Nat) + 8 * ((i 2 : Nat) / 128) + (i 1 : Nat) / 2048 := by rw [← hte]
    obtain ⟨-, -, -, -, -, -, -, ⟨e0, e1, e2⟩, -⟩ := idx_facts t
    show i ∈ ((View.whole main_v147).slice (win0_7.rect t)).set
    rw [View.set_slice_whole, Rect.mem_set_unit]
    intro a
    match a with
    | ⟨0, _⟩ => show win0_7.index t (0 : Fin 3) * 1 ≤ (i 0 : Nat) ∧ (i 0 : Nat) < win0_7.index t (0 : Fin 3) * 1 + 1
                omega
    | ⟨1, _⟩ => show win0_7.index t (1 : Fin 3) * 2048 ≤ (i 1 : Nat) ∧ (i 1 : Nat) < win0_7.index t (1 : Fin 3) * 2048 + 2048
                omega
    | ⟨2, _⟩ => show win0_7.index t (2 : Fin 3) * 128 ≤ (i 2 : Nat) ∧ (i 2 : Nat) < win0_7.index t (2 : Fin 3) * 128 + 128
                omega

/-- The result array ends at the plain reference's array. -/
theorem final (hf : FiniteArgs m c) : (dats m 0 c).arrAt 7 cfg0.N = result m c :=
  final_of m c (result m c) (block_eq m c hf)

end Cert.KernelIdeal.Chunk

namespace Cert.Proof.ChunkClaims

open Idealize.ShloMosaic Idealize.SL.Sem

local instance : Cert.Pre_finite_logits.Facts := Cert.Pre_finite_logits.Gen.facts
local instance : Cert.KernelIdeal.Facts := Cert.KernelIdeal.Gen.facts
local instance : Cert.ReferenceIdeal.Facts := Cert.ReferenceIdeal.Gen.facts

theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem finiteArgs (m) (h : Cert.Pre_KernelIdeal_finite_logits m) (c) : Cert.KernelIdeal.Chunk.FiniteArgs m c :=
  ⟨fun b n e h1 h2 => Cert.Pre_finite_logits.Read.finite_qk _ _ _ (h c) b n e h1 h2,
   fun a k => Cert.Pre_finite_logits.Read.finite_bias _ _ _ (h c) a k⟩

/-- Over the extended reals, where queries, keys and bias are finite, the chunk attention's kernel and its plain reference
    end at one array. -/
theorem algebraic : Cert.algebraic_KernelIdeal_ReferenceIdeal_pre_finite_logits := by
  intro m ρ m' ρ' hpre hag
  refine ⟨fun c => Cert.KernelIdeal.Chunk.result m c, ?_, ?_⟩
  · exact (θ_run Cert.KernelIdeal.defs _ _).mono
      (fun _ h c => ⟨(h c).1.trans (Cert.KernelIdeal.Chunk.final m c (finiteArgs m hpre c)), (h c).2⟩)
      (Cert.KernelIdeal.Value.run_blocks m ρ)
  · refine (θ_run Cert.ReferenceIdeal.defs _ _).mono (fun _ h c => ⟨(h c).1.trans ?_, (h c).2⟩) (Cert.ReferenceIdeal.Value.run (F := Ideal) m' ρ')
    obtain ⟨a0, a1, a2⟩ := hag c
    refine (Cert.ReferenceIdeal.Read.val_main_v72_eq m' c).trans ?_
    rw [a0, a1, a2]

end Cert.Proof.ChunkClaims

end
-- ==== Proof.ProjBody.lean ====
/-
  THE INPUT PROJECTION, one grid point and the run. At a row tile's first point the body leaves the normalised rows in a
  scratch buffer and in two of its results; every point multiplies the scratch buffer by its columns of the weights. Two
  results' blocks are then left alone until the row tile's last point writes them back.
-/
module

public import proofs.«01_k».proof.Proof.Gen.ProjIdeal.Frame
public import proofs.«01_k».proof.Proof.Gen.ProjIdeal.Skeleton
public import Idealize.ShloMosaic.Lib.Pipeline.Value
public import Idealize.ShloMosaic.Lib.Claim
public import Idealize.ShloMosaic.Lib.Ring
public import Idealize.ShloMosaic.Lib.Tactic

@[expose] public section

set_option maxRecDepth 16384

noncomputable section

namespace Cert.ProjIdeal.Run

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Whether the point is its row tile's first. -/
abbrev first (i : grid0.Coords) : Prop := (Scalar.cmpi .ne (Scalar.extui (Scalar.cmpi .eq (BitVec.ofNat 32 (i 1).val) 0#32)) 0#32) = 1#1

theorem first_iff (t : Fin cfg0.N) : first (grid0.coords t) ↔ t.val % 3 = 0 := by
  have ht : t.val < 192 := Nat.lt_of_lt_of_eq t.isLt N_0
  have e1 : (grid0.coords t 1).val = t.val / 1 % 3 := Pipeline.Grid.coords_val t 1 (by decide) rfl
  simp only [first, e1]
  word_cmp

/-- The block of queries, keys and values: eight heads' columns scaled, then the values' columns. -/
def cols (i : grid0.Coords) (h : Vec F S512x2048 .bf16) (w : Vec F S1x2048x2048 .bf16) (gn : Vec F S1x1x1536 .f32) : Vec F S512x1536 .bf16 :=
  View.canon [
    ⟨Rect.unit (s := S512x1536) ![0, 1024] S512x512.size inb_S512x1536_S512x512_0_1024, (k0_pay20 (k0_pay5 h w))⟩,
    ⟨Rect.unit (s := S512x1536) ![0, 896] S512x128.size inb_S512x1536_S512x128_0_896, (k0_pay19 (k0_pay4 gn) (Scalar.cmpi .slt (BitVec.ofNat 32 (i 1).val) 2#32) (k0_pay5 h w))⟩,
    ⟨Rect.unit (s := S512x1536) ![0, 768] S512x128.size inb_S512x1536_S512x128_0_768, (k0_pay18 (k0_pay4 gn) (Scalar.cmpi .slt (BitVec.ofNat 32 (i 1).val) 2#32) (k0_pay16 (k0_pay5 h w)) (k0_pay17 (k0_pay5 h w)))⟩,
    ⟨Rect.unit (s := S512x1536) ![0, 640] S512x128.size inb_S512x1536_S512x128_0_640, (k0_pay15 (k0_pay4 gn) (Scalar.cmpi .slt (BitVec.ofNat 32 (i 1).val) 2#32) (k0_pay5 h w))⟩,
    ⟨Rect.unit (s := S512x1536) ![0, 512] S512x128.size inb_S512x1536_S512x128_0_512, (k0_pay14 (k0_pay4 gn) (Scalar.cmpi .slt (BitVec.ofNat 32 (i 1).val) 2#32) (k0_pay5 h w))⟩,
    ⟨Rect.unit (s := S512x1536) ![0, 384] S512x128.size inb_S512x1536_S512x128_0_384, (k0_pay13 (k0_pay12 (k0_pay4 gn) (Scalar.cmpi .slt (BitVec.ofNat 32 (i 1).val) 2#32) (k0_pay5 h w)))⟩,
    ⟨Rect.unit (s := S512x1536) ![0, 256] S512x128.size inb_S512x1536_S512x128_0_256, (k0_pay11 (k0_pay4 gn) (Scalar.cmpi .slt (BitVec.ofNat 32 (i 1).val) 2#32) (k0_pay5 h w))⟩,
    ⟨Rect.unit (s := S512x1536) ![0, 128] S512x128.size inb_S512x1536_S512x128_0_128, (k0_pay10 (k0_pay4 gn) (Scalar.cmpi .slt (BitVec.ofNat 32 (i 1).val) 2#32) (k0_pay7 h w) (k0_pay8 h w) k0_pay9)⟩,
    ⟨Rect.unit (s := S512x1536) ![0, 0] S512x128.size inb_S512x1536_S512x128_0_0, (k0_pay6 i h gn w)⟩]

/-- The gate's block. -/
def gate (h : Vec F S512x2048 .bf16) (w : Vec F S1x2048x2048 .bf16) : Vec F S512x512 .f32 := k0_pay21 (k0_pay5 h w)

set_option maxHeartbeats 1000000 in
/-- A row tile's first point. -/
theorem run_first (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x2048x2048 .bf16) (harg4 : arg4.IsWhole) (arg5 : Memref sig .tc .vmem S1x8x2048 .bf16) (harg5 : arg5.IsWhole) (arg6 : Memref sig .tc .vmem S1x1x1536 .f32) (harg6 : arg6.IsWhole) (arg7 : Memref sig .tc .vmem S512x1536 .bf16) (harg7 : arg7.IsWhole) (arg8 : Memref sig .tc .vmem S512x512 .f32) (harg8 : arg8.IsWhole) (arg9 : Memref sig .tc .vmem S512x2048 .bf16) (harg9 : arg9.IsWhole) (arg10 : Memref sig .tc .vmem S8x512 .f32) (harg10 : arg10.IsWhole) (arg11 : Memref sig .tc .vmem S512x2048 .bf16) (harg11 : arg11.IsWhole) (hc : first i) (x0 : Vec F S512x2048 .f32) (x1 : Vec F S1x1x2048 .f32) (x2 : Vec F S1x2048x2048 .bf16) (x3 : Vec F S1x8x2048 .bf16) (x4 : Vec F S1x1x1536 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (cols i (k0_pay2 x0 x1) x2 x4) ∗ owns (c : Thread nD τ) arg8 fullShare (gate (k0_pay2 x0 x1) x2) ∗ owns (c : Thread nD τ) arg9 fullShare (k0_pay1 x0 x1) ∗ owns (c : Thread nD τ) arg10 fullShare (k0_pay3 x0 x1 x3) ∗ owns (c : Thread nD τ) arg11 fullShare (k0_pay2 x0 x1)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
  simp only [cc0_proj_eq_skeleton]; unfold cc0_proj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_eq_canon _ _ _ (View.cover_of_tiledBy _ ![512, 128] (by sl_kernel_rfl))).trans ?_
    sl_unfold_words
    try simp only [View.readCov_unit_zero (S := S512x2048) _ hz2]
    simp only [View.readAt_eq_ld, harg2.read_unread, harg3.read_unread, harg4.read_unread, harg5.read_unread, harg6.read_unread, harg11.read_unread, View.ld_unit_zero (S := S512x2048) hz2, View.ld_unit_zero (S := S1x1x2048) hz3, View.ld_unit_zero (S := S1x2048x2048) hz3, View.ld_unit_zero (S := S1x8x2048) hz3, View.ld_unit_zero (S := S1x1x1536) hz3]
    rfl
  isplitl [H6]
  · iexists _; isplitr
    swap; · iexact H6
    ipureintro
    refine (View.read_writes_eq_canon _ _ _ (View.cover_of_tiledL _ S512x512.size (by sl_kernel_rfl))).trans ?_
    sl_unfold_words
    rw [View.canon_unit_zero (S := S512x512) hz2]
    try simp only [View.readCov_unit_zero (S := S512x2048) _ hz2]
    simp only [View.readAt_eq_ld, harg2.read_unread, harg3.read_unread, harg4.read_unread, harg5.read_unread, harg6.read_unread, harg11.read_unread, View.ld_unit_zero (S := S512x2048) hz2, View.ld_unit_zero (S := S1x1x2048) hz3, View.ld_unit_zero (S := S1x2048x2048) hz3, View.ld_unit_zero (S := S1x8x2048) hz3, View.ld_unit_zero (S := S1x1x1536) hz3]
    try rfl
  isplitl [H7]
  · iexists _; isplitr
    swap; · iexact H7
    ipureintro
    refine (View.read_writes_eq_canon _ _ _ (View.cover_of_tiledL _ S512x2048.size (by sl_kernel_rfl))).trans ?_
    sl_unfold_words
    rw [View.canon_unit_zero (S := S512x2048) hz2]
    simp only [View.readAt_eq_ld, harg2.read_unread, harg3.read_unread, harg4.read_unread, harg5.read_unread, harg6.read_unread, harg11.read_unread, View.ld_unit_zero (S := S512x2048) hz2, View.ld_unit_zero (S := S1x1x2048) hz3, View.ld_unit_zero (S := S1x2048x2048) hz3, View.ld_unit_zero (S := S1x8x2048) hz3, View.ld_unit_zero (S := S1x1x1536) hz3]
    try rfl
  isplitl [H8]
  · iexists _; isplitr
    swap; · iexact H8
    ipureintro
    refine (View.read_writes_eq_canon _ _ _ (View.cover_of_tiledL _ S8x512.size (by sl_kernel_rfl))).trans ?_
    sl_unfold_words
    rw [View.canon_unit_zero (S := S8x512) hz2]
    simp only [View.readAt_eq_ld, harg2.read_unread, harg3.read_unread, harg4.read_unread, harg5.read_unread, harg6.read_unread, harg11.read_unread, View.ld_unit_zero (S := S512x2048) hz2, View.ld_unit_zero (S := S1x1x2048) hz3, View.ld_unit_zero (S := S1x2048x2048) hz3, View.ld_unit_zero (S := S1x8x2048) hz3, View.ld_unit_zero (S := S1x1x1536) hz3]
    try rfl
  iexists _; isplitr
  swap; · iexact HS0
  ipureintro
  refine (View.read_writes_eq_canon _ _ _ (View.cover_of_tiledL _ S512x2048.size (by sl_kernel_rfl))).trans ?_
  sl_unfold_words
  rw [View.canon_unit_zero (S := S512x2048) hz2]
  simp only [View.readAt_eq_ld, harg2.read_unread, harg3.read_unread, harg4.read_unread, harg5.read_unread, harg6.read_unread, harg11.read_unread, View.ld_unit_zero (S := S512x2048) hz2, View.ld_unit_zero (S := S1x1x2048) hz3, View.ld_unit_zero (S := S1x2048x2048) hz3, View.ld_unit_zero (S := S1x8x2048) hz3, View.ld_unit_zero (S := S1x1x1536) hz3]
  try rfl

set_option maxHeartbeats 1000000 in
/-- A later point of a row tile: the scratch buffer stays as it is, and the two other results' blocks are not touched. -/
theorem run_later (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x2048x2048 .bf16) (harg4 : arg4.IsWhole) (arg5 : Memref sig .tc .vmem S1x8x2048 .bf16) (harg5 : arg5.IsWhole) (arg6 : Memref sig .tc .vmem S1x1x1536 .f32) (harg6 : arg6.IsWhole) (arg7 : Memref sig .tc .vmem S512x1536 .bf16) (harg7 : arg7.IsWhole) (arg8 : Memref sig .tc .vmem S512x512 .f32) (harg8 : arg8.IsWhole) (arg9 : Memref sig .tc .vmem S512x2048 .bf16) (harg9 : arg9.IsWhole) (arg10 : Memref sig .tc .vmem S8x512 .f32) (harg10 : arg10.IsWhole) (arg11 : Memref sig .tc .vmem S512x2048 .bf16) (harg11 : arg11.IsWhole) (hc : ¬first i) (x0 : Vec F S512x2048 .f32) (x1 : Vec F S1x1x2048 .f32) (x2 : Vec F S1x2048x2048 .bf16) (x3 : Vec F S1x8x2048 .bf16) (x4 : Vec F S1x1x1536 .f32) (h : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg11 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (cols i h x2 x4) ∗ owns (c : Thread nD τ) arg8 fullShare (gate h x2) ∗ owns (c : Thread nD τ) arg11 fullShare h) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
  simp only [cc0_proj_eq_skeleton]; unfold cc0_proj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg11.eq_unread hfs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_eq_canon _ _ _ (View.cover_of_tiledBy _ ![512, 128] (by sl_kernel_rfl))).trans ?_
    sl_unfold_words
    simp only [View.readAt_eq_ld, harg2.read_unread, harg3.read_unread, harg4.read_unread, harg5.read_unread, harg6.read_unread, harg11.read_unread, View.ld_unit_zero (S := S512x2048) hz2, View.ld_unit_zero (S := S1x1x2048) hz3, View.ld_unit_zero (S := S1x2048x2048) hz3, View.ld_unit_zero (S := S1x8x2048) hz3, View.ld_unit_zero (S := S1x1x1536) hz3]
    rfl
  isplitl [H6]
  · iexists _; isplitr
    swap; · iexact H6
    ipureintro
    refine (View.read_writes_eq_canon _ _ _ (View.cover_of_tiledL _ S512x512.size (by sl_kernel_rfl))).trans ?_
    sl_unfold_words
    rw [View.canon_unit_zero (S := S512x512) hz2]
    simp only [View.readAt_eq_ld, harg2.read_unread, harg3.read_unread, harg4.read_unread, harg5.read_unread, harg6.read_unread, harg11.read_unread, View.ld_unit_zero (S := S512x2048) hz2, View.ld_unit_zero (S := S1x1x2048) hz3, View.ld_unit_zero (S := S1x2048x2048) hz3, View.ld_unit_zero (S := S1x8x2048) hz3, View.ld_unit_zero (S := S1x1x1536) hz3]
    try rfl
  iexists _; isplitr; · ipureintro; exact harg11.read_unread _
  iexact HS0

end Cert.ProjIdeal.Run

end
-- ==== Proof.ProjSum.lean ====
/-
  THE INPUT PROJECTION's formula: the normalised row, its product with a column of the weights, a head's columns scaled by
  the reciprocal root of their mean square and by a gain, the gate's SiLU, and the forget logits. Indices are natural
  numbers, so that a column reached in two ways is one number.
-/
module

public import proofs.«01_k».proof.Proof.Gen.ProjIdeal.Skeleton
public import Idealize.ShloMosaic.Lib.Pointwise

@[expose] public section

noncomputable section

namespace Cert.ProjIdeal.Sum

open Cert.ProjIdeal Cert.ProjIdeal.Gen Idealize.ShloMosaic Idealize.ShloMosaic.TcCoe

variable (a : Fin 2) (x0 : FVec Ideal S32768x2048 .f32) (x1 : FVec Ideal S2x2048 .f32) (x2 : FVec Ideal S2x2048x12292 .f32)
  (x3 : FVec Ideal S2x4x128 .f32)

/-- The normalised row; -/
def hn (r : Fin 32768) (k : Fin 2048) : EReal :=
  x0 (ix2 r k) * Ideal.rsqrt (Ideal.div (∑ j : Fin 2048, x0 (ix2 r j) * x0 (ix2 r j)) (Ideal.ofBits FTy.f32 0x45000000#32)
    + Ideal.ofBits FTy.f32 0x358637BD#32) * x1 (ix2 a k)

/-- a weight by its column's number; -/
def wt (k : Fin 2048) (e : ℕ) : EReal := if h : e < 12292 then x2 (ix3 a k ⟨e, h⟩) else 0

/-- the row times a column of the weights; -/
def pj (r : Fin 32768) (e : ℕ) : EReal := ∑ k : Fin 2048, hn a x0 x1 r k * wt a x2 k e

/-- a gain by its numbers; -/
def gain (s d : ℕ) : EReal := if h : s < 4 ∧ d < 128 then x3 (ix3 a ⟨s, h.1⟩ ⟨d, h.2⟩) else 0

/-- column `d` of the head that starts at column `e`, normalised over the head and scaled; -/
def head (r : Fin 32768) (e d : ℕ) (g : EReal) : EReal :=
  pj a x0 x1 x2 r (e + d) * Ideal.rsqrt (Ideal.div (∑ j : Fin 128, pj a x0 x1 x2 r (e + j.val) * pj a x0 x1 x2 r (e + j.val))
    (Ideal.ofBits FTy.f32 0x43000000#32) + Ideal.ofBits FTy.f32 0x358637BD#32) * g

/-- column `o` of branch `n`'s queries, keys and values: two branches' queries and keys are normalised by heads; -/
def elem (r : Fin 32768) (n o : ℕ) : EReal :=
  if o < 1024 ∧ n < 2 then head a x0 x1 x2 r (2048 * n + 128 * (o / 128)) (o % 128) (gain a x3 (2 * n + o / 512) (o % 128))
  else pj a x0 x1 x2 r (2048 * n + o)

/-- column `d` of branch `n`'s gate; -/
def silu (r : Fin 32768) (n d : ℕ) : EReal :=
  pj a x0 x1 x2 r (2048 * n + 1536 + d) * Ideal.div 1 (1 + Ideal.exp (-(pj a x0 x1 x2 r (2048 * n + 1536 + d))))

/-- the forget logits, four rows of them and four of zeros. -/
def logits (h : ℕ) (r : Fin 32768) : EReal := if h < 4 then pj a x0 x1 x2 r (6144 + h) else 0

/-! The four results. -/

def qkvs : FVec Ideal S32768x4608 .bf16 := fun i => elem a x0 x1 x2 x3 (i 0) ((i 1).val / 1536) ((i 1).val % 1536)
def gates : FVec Ideal S32768x1536 .f32 := fun i => silu a x0 x1 x2 (i 0) ((i 1).val / 512) ((i 1).val % 512)
def rows : FVec Ideal S32768x2048 .bf16 := fun i => hn a x0 x1 (i 0) (i 1)
def forgets : FVec Ideal S8x32768 .f32 := fun i => logits a x0 x1 x2 (i 0).val (i 1)

end Cert.ProjIdeal.Sum

end
-- ==== Proof.ProjAt.lean ====
/-
  THE INPUT PROJECTION, one grid point's blocks at an index: the normalised rows, the forget logits, the gate, and the
  block of queries, keys and values, whose columns come from nine stores.
-/
module

public import proofs.«01_k».proof.Proof.ProjBody
public import proofs.«01_k».proof.Proof.ProjSum

@[expose] public section

noncomputable section

namespace Cert.ProjIdeal.At

open Cert.ProjIdeal Cert.ProjIdeal.Gen Cert.ProjIdeal.Run Idealize.ShloMosaic Idealize.ShloMosaic.TcCoe

theorem rowsOut_apply (x : Vec Ideal S512x2048 .f32) (g : Vec Ideal S1x1x2048 .f32) (r : Fin 512) (k : Fin 2048) :
    (k0_pay1 x g : FVec Ideal S512x2048 .bf16) (ix2 r k)
      = x (ix2 r k) * Ideal.rsqrt (Ideal.div (∑ j : Fin 2048, x (ix2 r j) * x (ix2 r j)) (Ideal.ofBits FTy.f32 0x45000000#32)
          + Ideal.ofBits FTy.f32 0x358637BD#32) * g (ix3 0 0 k) := by
  pointwise [k0_pay1]

theorem rows_apply (x : Vec Ideal S512x2048 .f32) (g : Vec Ideal S1x1x2048 .f32) (r : Fin 512) (k : Fin 2048) :
    (k0_pay2 x g : FVec Ideal S512x2048 .bf16) (ix2 r k) = (k0_pay1 x g : FVec Ideal S512x2048 .bf16) (ix2 r k) := by
  pointwise [k0_pay2]

theorem forget_apply (x : Vec Ideal S512x2048 .f32) (g : Vec Ideal S1x1x2048 .f32) (w : Vec Ideal S1x8x2048 .bf16) (h : Fin 8) (r : Fin 512) :
    (k0_pay3 x g w : FVec Ideal S8x512 .f32) (ix2 h r) = ∑ j : Fin 2048, w (ix3 0 h j) * (k0_pay1 x g : FVec Ideal S512x2048 .bf16) (ix2 r j) := by
  pointwise [k0_pay3]

theorem prod_apply (h : Vec Ideal S512x2048 .bf16) (w : Vec Ideal S1x2048x2048 .bf16) (r : Fin 512) (k : Fin 2048) :
    (k0_pay5 h w : FVec Ideal S512x2048 .f32) (ix2 r k) = ∑ j : Fin 2048, h (ix2 r j) * w (ix3 0 j k) := by
  pointwise [k0_pay5]

/-- One head's columns: `p` is the product's block, `T` the head's first column. -/
def piece (v6 : BitVec 1) (p : FVec Ideal S512x2048 .f32) (gn : Vec Ideal S1x1x1536 .f32) (r : Fin 512) (T : ℕ) (hT : T + 128 ≤ 1536) (d : Fin 128) : EReal :=
  p (ix2 r ⟨T + d.val, by omega⟩) * Scalar.select v6 (Ideal.rsqrt (Ideal.div (∑ j : Fin 128, p (ix2 r ⟨T + j.val, by omega⟩) * p (ix2 r ⟨T + j.val, by omega⟩))
    (Ideal.ofBits FTy.f32 0x43000000#32) + Ideal.ofBits FTy.f32 0x358637BD#32)) 1 * gn (ix3 0 0 ⟨T + d.val, by omega⟩)

/-- The gate. -/
theorem gate_apply (h : Vec Ideal S512x2048 .bf16) (w : Vec Ideal S1x2048x2048 .bf16) (r : Fin 512) (d : Fin 512) :
    gate h w (ix2 r d) = Ideal.div ((k0_pay5 h w : FVec Ideal S512x2048 .f32) (ix2 r ⟨1536 + d.val, by omega⟩))
      (1 + Ideal.exp (0 - (k0_pay5 h w : FVec Ideal S512x2048 .f32) (ix2 r ⟨1536 + d.val, by omega⟩))) := by
  unfold gate
  generalize (k0_pay5 h w : FVec Ideal S512x2048 .f32) = p
  pointwise [k0_pay21]

/-! Nine stores of columns, the last first: a column is read from its own store. -/

theorem not_mem128 (T : ℕ) (inb : ∀ a, (![0, T] : Fin 2 → ℕ) a + S512x128.size a ≤ S512x1536.size a) (r : Fin 512) (q : Fin 1536)
    (hq : q.val < T ∨ T + 128 ≤ q.val) :
    (ix2 r q : S512x1536.Idx) ∉ (Rect.unit (s := S512x1536) ![0, T] S512x128.size inb).set := by
  rw [Rect.mem_set_unit]
  intro h
  have h1 := h (1 : Fin 2)
  have a1 : T ≤ q.val := h1.1
  have a2 : q.val < T + 128 := h1.2
  omega

theorem emb128 (T : ℕ) (inb : ∀ a, (![0, T] : Fin 2 → ℕ) a + S512x128.size a ≤ S512x1536.size a) (r : Fin 512) (d : Fin 128) (hT : T + d.val < 1536) :
    (ix2 r ⟨T + d.val, hT⟩ : S512x1536.Idx) = (Rect.unit (s := S512x1536) ![0, T] S512x128.size inb).emb (ix2 r d) := by
  funext a; apply Fin.ext
  match a with
  | ⟨0, _⟩ => show r.val = 0 + 1 * r.val; omega
  | ⟨1, _⟩ => show T + d.val = T + 1 * d.val; omega

theorem skip128 (T : ℕ) (inb : ∀ a, (![0, T] : Fin 2 → ℕ) a + S512x128.size a ≤ S512x1536.size a) (p : Vec Ideal S512x128 .bf16)
    (L : List (View.Piece (Elt Ideal) S512x1536 .bf16)) (r : Fin 512) (q : Fin 1536) (hq : q.val < T ∨ T + 128 ≤ q.val) :
    View.canon ((⟨Rect.unit (s := S512x1536) ![0, T] S512x128.size inb, p⟩ : View.Piece (Elt Ideal) S512x1536 .bf16) :: L) (ix2 r q)
      = View.canon L (ix2 r q) :=
  View.canon_cons_of_not_mem _ _ (not_mem128 T inb r q hq)

theorem here128 (T : ℕ) (inb : ∀ a, (![0, T] : Fin 2 → ℕ) a + S512x128.size a ≤ S512x1536.size a) (p : Vec Ideal S512x128 .bf16)
    (L : List (View.Piece (Elt Ideal) S512x1536 .bf16)) (r : Fin 512) (d : Fin 128) (hT : T + d.val < 1536) :
    View.canon ((⟨Rect.unit (s := S512x1536) ![0, T] S512x128.size inb, p⟩ : View.Piece (Elt Ideal) S512x1536 .bf16) :: L)
      (ix2 r ⟨T + d.val, hT⟩) = p (ix2 r d) := by
  rw [emb128 T inb r d hT]
  exact View.canon_cons_emb _ _ _ _

theorem not_mem512 (T : ℕ) (inb : ∀ a, (![0, T] : Fin 2 → ℕ) a + S512x512.size a ≤ S512x1536.size a) (r : Fin 512) (q : Fin 1536)
    (hq : q.val < T ∨ T + 512 ≤ q.val) :
    (ix2 r q : S512x1536.Idx) ∉ (Rect.unit (s := S512x1536) ![0, T] S512x512.size inb).set := by
  rw [Rect.mem_set_unit]
  intro h
  have h1 := h (1 : Fin 2)
  have a1 : T ≤ q.val := h1.1
  have a2 : q.val < T + 512 := h1.2
  omega

theorem emb512 (T : ℕ) (inb : ∀ a, (![0, T] : Fin 2 → ℕ) a + S512x512.size a ≤ S512x1536.size a) (r : Fin 512) (d : Fin 512) (hT : T + d.val < 1536) :
    (ix2 r ⟨T + d.val, hT⟩ : S512x1536.Idx) = (Rect.unit (s := S512x1536) ![0, T] S512x512.size inb).emb (ix2 r d) := by
  funext a; apply Fin.ext
  match a with
  | ⟨0, _⟩ => show r.val = 0 + 1 * r.val; omega
  | ⟨1, _⟩ => show T + d.val = T + 1 * d.val; omega

theorem skip512 (T : ℕ) (inb : ∀ a, (![0, T] : Fin 2 → ℕ) a + S512x512.size a ≤ S512x1536.size a) (p : Vec Ideal S512x512 .bf16)
    (L : List (View.Piece (Elt Ideal) S512x1536 .bf16)) (r : Fin 512) (q : Fin 1536) (hq : q.val < T ∨ T + 512 ≤ q.val) :
    View.canon ((⟨Rect.unit (s := S512x1536) ![0, T] S512x512.size inb, p⟩ : View.Piece (Elt Ideal) S512x1536 .bf16) :: L) (ix2 r q)
      = View.canon L (ix2 r q) :=
  View.canon_cons_of_not_mem _ _ (not_mem512 T inb r q hq)

theorem here512 (T : ℕ) (inb : ∀ a, (![0, T] : Fin 2 → ℕ) a + S512x512.size a ≤ S512x1536.size a) (p : Vec Ideal S512x512 .bf16)
    (L : List (View.Piece (Elt Ideal) S512x1536 .bf16)) (r : Fin 512) (d : Fin 512) (hT : T + d.val < 1536) :
    View.canon ((⟨Rect.unit (s := S512x1536) ![0, T] S512x512.size inb, p⟩ : View.Piece (Elt Ideal) S512x1536 .bf16) :: L)
      (ix2 r ⟨T + d.val, hT⟩) = p (ix2 r d) := by
  rw [emb512 T inb r d hT]
  exact View.canon_cons_emb _ _ _ _

/-! The nine stores' blocks. -/

variable (i : grid0.Coords) (h : Vec Ideal S512x2048 .bf16) (w : Vec Ideal S1x2048x2048 .bf16) (gn : Vec Ideal S1x1x1536 .f32)

/-- The block's columns before the values: head by head; -/
abbrev headAt (r : Fin 512) (T : ℕ) (hT : T + 128 ≤ 1536) (d : Fin 128) : EReal :=
  piece (Scalar.cmpi .slt (BitVec.ofNat 32 (i 1).val) 2#32) (k0_pay5 h w) gn r T hT d

theorem pay0 (r : Fin 512) (d : Fin 128) : (k0_pay6 i h gn w : FVec Ideal S512x128 .bf16) (ix2 r d) = headAt i h w gn r 0 (by omega) d := by
  pointwise [k0_pay6, k0_pay4, headAt, piece]

theorem pay128 (r : Fin 512) (d : Fin 128) : ((k0_pay10 (k0_pay4 gn) (Scalar.cmpi .slt (BitVec.ofNat 32 (i 1).val) 2#32) (k0_pay7 h w) (k0_pay8 h w) k0_pay9) : FVec Ideal S512x128 .bf16) (ix2 r d) = headAt i h w gn r 128 (by omega) d := by
  pointwise [k0_pay7, k0_pay8, k0_pay9, k0_pay10, k0_pay4, headAt, piece]

theorem pay256 (r : Fin 512) (d : Fin 128) : ((k0_pay11 (k0_pay4 gn) (Scalar.cmpi .slt (BitVec.ofNat 32 (i 1).val) 2#32) (k0_pay5 h w)) : FVec Ideal S512x128 .bf16) (ix2 r d) = headAt i h w gn r 256 (by omega) d := by
  pointwise [k0_pay11, k0_pay4, headAt, piece]

theorem pay384 (r : Fin 512) (d : Fin 128) : ((k0_pay13 (k0_pay12 (k0_pay4 gn) (Scalar.cmpi .slt (BitVec.ofNat 32 (i 1).val) 2#32) (k0_pay5 h w))) : FVec Ideal S512x128 .bf16) (ix2 r d) = headAt i h w gn r 384 (by omega) d := by
  pointwise [k0_pay12, k0_pay13, k0_pay4, headAt, piece]

theorem pay512 (r : Fin 512) (d : Fin 128) : ((k0_pay14 (k0_pay4 gn) (Scalar.cmpi .slt (BitVec.ofNat 32 (i 1).val) 2#32) (k0_pay5 h w)) : FVec Ideal S512x128 .bf16) (ix2 r d) = headAt i h w gn r 512 (by omega) d := by
  pointwise [k0_pay14, k0_pay4, headAt, piece]

theorem pay640 (r : Fin 512) (d : Fin 128) : ((k0_pay15 (k0_pay4 gn) (Scalar.cmpi .slt (BitVec.ofNat 32 (i 1).val) 2#32) (k0_pay5 h w)) : FVec Ideal S512x128 .bf16) (ix2 r d) = headAt i h w gn r 640 (by omega) d := by
  pointwise [k0_pay15, k0_pay4, headAt, piece]

theorem pay768 (r : Fin 512) (d : Fin 128) : ((k0_pay18 (k0_pay4 gn) (Scalar.cmpi .slt (BitVec.ofNat 32 (i 1).val) 2#32) (k0_pay16 (k0_pay5 h w)) (k0_pay17 (k0_pay5 h w))) : FVec Ideal S512x128 .bf16) (ix2 r d) = headAt i h w gn r 768 (by omega) d := by
  pointwise [k0_pay16, k0_pay17, k0_pay18, k0_pay4, headAt, piece]

theorem pay896 (r : Fin 512) (d : Fin 128) : ((k0_pay19 (k0_pay4 gn) (Scalar.cmpi .slt (BitVec.ofNat 32 (i 1).val) 2#32) (k0_pay5 h w)) : FVec Ideal S512x128 .bf16) (ix2 r d) = headAt i h w gn r 896 (by omega) d := by
  pointwise [k0_pay19, k0_pay4, headAt, piece]

theorem pay1024 (r : Fin 512) (d : Fin 512) : (k0_pay20 (k0_pay5 h w) : FVec Ideal S512x512 .bf16) (ix2 r d) = (k0_pay5 h w : FVec Ideal S512x2048 .f32) (ix2 r ⟨1024 + d.val, by omega⟩) := by
  pointwise [k0_pay20]

/-- the values' columns are the product's. -/
theorem cols_value (r : Fin 512) (d : Fin 512) :
    cols i h w gn (ix2 r ⟨1024 + d.val, by omega⟩) = (k0_pay5 h w : FVec Ideal S512x2048 .f32) (ix2 r ⟨1024 + d.val, by omega⟩) := by
  unfold cols
  exact (here512 1024 _ _ _ r d _).trans (pay1024 h w r d)

theorem cols0 (r : Fin 512) (d : Fin 128) : cols i h w gn (ix2 r ⟨0 + d.val, by omega⟩) = headAt i h w gn r 0 (by omega) d := by
  have hd := d.isLt
  unfold cols
  refine (skip512 1024 _ _ _ r _ (Or.inl (by simp only []; omega))).trans ?_
  refine (skip128 896 _ _ _ r _ (Or.inl (by simp only []; omega))).trans ?_
  refine (skip128 768 _ _ _ r _ (Or.inl (by simp only []; omega))).trans ?_
  refine (skip128 640 _ _ _ r _ (Or.inl (by simp only []; omega))).trans ?_
  refine (skip128 512 _ _ _ r _ (Or.inl (by simp only []; omega))).trans ?_
  refine (skip128 384 _ _ _ r _ (Or.inl (by simp only []; omega))).trans ?_
  refine (skip128 256 _ _ _ r _ (Or.inl (by simp only []; omega))).trans ?_
  refine (skip128 128 _ _ _ r _ (Or.inl (by simp only []; omega))).trans ?_
  exact (here128 0 _ _ _ r d _).trans (pay0 i h w gn r d)

theorem cols128 (r : Fin 512) (d : Fin 128) : cols i h w gn (ix2 r ⟨128 + d.val, by omega⟩) = headAt i h w gn r 128 (by omega) d := by
  have hd := d.isLt
  unfold cols
  refine (skip512 1024 _ _ _ r _ (Or.inl (by simp only []; omega))).trans ?_
  refine (skip128 896 _ _ _ r _ (Or.inl (by simp only []; omega))).trans ?_
  refine (skip128 768 _ _ _ r _ (Or.inl (by simp only []; omega))).trans ?_
  refine (skip128 640 _ _ _ r _ (Or.inl (by simp only []; omega))).trans ?_
  refine (skip128 512 _ _ _ r _ (Or.inl (by simp only []; omega))).trans ?_
  refine (skip128 384 _ _ _ r _ (Or.inl (by simp only []; omega))).trans ?_
  refine (skip128 256 _ _ _ r _ (Or.inl (by simp only []; omega))).trans ?_
  exact (here128 128 _ _ _ r d _).trans (pay128 i h w gn r d)

theorem cols256 (r : Fin 512) (d : Fin 128) : cols i h w gn (ix2 r ⟨256 + d.val, by omega⟩) = headAt i h w gn r 256 (by omega) d := by
  have hd := d.isLt
  unfold cols
  refine (skip512 1024 _ _ _ r _ (Or.inl (by simp only []; omega))).trans ?_
  refine (skip128 896 _ _ _ r _ (Or.inl (by simp only []; omega))).trans ?_
  refine (skip128 768 _ _ _ r _ (Or.inl (by simp only []; omega))).trans ?_
  refine (skip128 640 _ _ _ r _ (Or.inl (by simp only []; omega))).trans ?_
  refine (skip128 512 _ _ _ r _ (Or.inl (by simp only []; omega))).trans ?_
  refine (skip128 384 _ _ _ r _ (Or.inl (by simp only []; omega))).trans ?_
  exact (here128 256 _ _ _ r d _).trans (pay256 i h w gn r d)

theorem cols384 (r : Fin 512) (d : Fin 128) : cols i h w gn (ix2 r ⟨384 + d.val, by omega⟩) = headAt i h w gn r 384 (by omega) d := by
  have hd := d.isLt
  unfold cols
  refine (skip512 1024 _ _ _ r _ (Or.inl (by simp only []; omega))).trans ?_
  refine (skip128 896 _ _ _ r _ (Or.inl (by simp only []; omega))).trans ?_
  refine (skip128 768 _ _ _ r _ (Or.inl (by simp only []; omega))).trans ?_
  refine (skip128 640 _ _ _ r _ (Or.inl (by simp only []; omega))).trans ?_
  refine (skip128 512 _ _ _ r _ (Or.inl (by simp only []; omega))).trans ?_
  exact (here128 384 _ _ _ r d _).trans (pay384 i h w gn r d)

theorem cols512 (r : Fin 512) (d : Fin 128) : cols i h w gn (ix2 r ⟨512 + d.val, by omega⟩) = headAt i h w gn r 512 (by omega) d := by
  have hd := d.isLt
  unfold cols
  refine (skip512 1024 _ _ _ r _ (Or.inl (by simp only []; omega))).trans ?_
  refine (skip128 896 _ _ _ r _ (Or.inl (by simp only []; omega))).trans ?_
  refine (skip128 768 _ _ _ r _ (Or.inl (by simp only []; omega))).trans ?_
  refine (skip128 640 _ _ _ r _ (Or.inl (by simp only []; omega))).trans ?_
  exact (here128 512 _ _ _ r d _).trans (pay512 i h w gn r d)

theorem cols640 (r : Fin 512) (d : Fin 128) : cols i h w gn (ix2 r ⟨640 + d.val, by omega⟩) = headAt i h w gn r 640 (by omega) d := by
  have hd := d.isLt
  unfold cols
  refine (skip512 1024 _ _ _ r _ (Or.inl (by simp only []; omega))).trans ?_
  refine (skip128 896 _ _ _ r _ (Or.inl (by simp only []; omega))).trans ?_
  refine (skip128 768 _ _ _ r _ (Or.inl (by simp only []; omega))).trans ?_
  exact (here128 640 _ _ _ r d _).trans (pay640 i h w gn r d)

theorem cols768 (r : Fin 512) (d : Fin 128) : cols i h w gn (ix2 r ⟨768 + d.val, by omega⟩) = headAt i h w gn r 768 (by omega) d := by
  have hd := d.isLt
  unfold cols
  refine (skip512 1024 _ _ _ r _ (Or.inl (by simp only []; omega))).trans ?_
  refine (skip128 896 _ _ _ r _ (Or.inl (by simp only []; omega))).trans ?_
  exact (here128 768 _ _ _ r d _).trans (pay768 i h w gn r d)

theorem cols896 (r : Fin 512) (d : Fin 128) : cols i h w gn (ix2 r ⟨896 + d.val, by omega⟩) = headAt i h w gn r 896 (by omega) d := by
  have hd := d.isLt
  unfold cols
  refine (skip512 1024 _ _ _ r _ (Or.inl (by simp only []; omega))).trans ?_
  exact (here128 896 _ _ _ r d _).trans (pay896 i h w gn r d)

theorem cols_head (r : Fin 512) (o : Fin 1536) (ho : o.val < 1024) :
    cols i h w gn (ix2 r o) = headAt i h w gn r (128 * (o.val / 128)) (by omega) ⟨o.val % 128, by omega⟩ := by
  obtain ⟨o, ho'⟩ := o
  obtain ⟨q, d, hq, hd, rfl⟩ : ∃ q d : ℕ, q < 8 ∧ d < 128 ∧ o = 128 * q + d := ⟨o / 128, o % 128, by simp only [] at ho; omega, by omega, by omega⟩
  have e1 : (128 * q + d) / 128 = q := by omega
  have e2 : (128 * q + d) % 128 = d := by omega
  simp only [e1, e2]
  interval_cases q
  · exact cols0 i h w gn r ⟨d, hd⟩
  · exact cols128 i h w gn r ⟨d, hd⟩
  · exact cols256 i h w gn r ⟨d, hd⟩
  · exact cols384 i h w gn r ⟨d, hd⟩
  · exact cols512 i h w gn r ⟨d, hd⟩
  · exact cols640 i h w gn r ⟨d, hd⟩
  · exact cols768 i h w gn r ⟨d, hd⟩
  · exact cols896 i h w gn r ⟨d, hd⟩

end Cert.ProjIdeal.At

end
-- ==== Proof.ProjRun.lean ====
/-
  THE INPUT PROJECTION's run: what the windows' blocks and the scratch buffer hold after each point, the body's
  obligation, the launch and the frame.
-/
module

public import proofs.«01_k».proof.Proof.ProjBody

@[expose] public section

set_option maxRecDepth 16384

noncomputable section

namespace Cert.ProjIdeal.Run

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of `t`'s row tile. -/
def base (t : Fin cfg0.N) : Fin cfg0.N := ⟨t.val - t.val % 3, Nat.lt_of_le_of_lt (Nat.sub_le _ _) t.isLt⟩

theorem base_first (t : Fin cfg0.N) (h : t.val % 3 = 0) : base t = t := Fin.ext (by show t.val - t.val % 3 = t.val; omega)

theorem base_later (t s : Fin cfg0.N) (hs : s.val = t.val - 1) (h : ¬t.val % 3 = 0) : base s = base t :=
  Fin.ext (by show s.val - s.val % 3 = t.val - t.val % 3; omega)

/-- The row tile's normalised rows, as the scratch buffer holds them; -/
def rows (c : Dev nD) (t : Fin cfg0.N) : Vec F S512x2048 .bf16 := k0_pay2 (iblk m c 0 (base t)) (iblk m c 1 (base t))

/-- the same as a result's block; -/
def rowsOut (c : Dev nD) (t : Fin cfg0.N) : Vec F S512x2048 .bf16 := k0_pay1 (iblk m c 0 (base t)) (iblk m c 1 (base t))

/-- and the row tile's forget logits. -/
def forget (c : Dev nD) (t : Fin cfg0.N) : Vec F S8x512 .f32 := k0_pay3 (iblk m c 0 (base t)) (iblk m c 1 (base t)) (iblk m c 3 (base t))

/-- The scratch buffer as a memref. -/
abbrev scratch : Memref sig .tc .vmem S512x2048 .bf16 := Memref.whole cc0_scratch0

theorem rest_eq (c : Dev nD) :
    (Pipeline.ΦA spec0 c : sProp 𝕄) = iprop(iprop((∃ d, owns (c : Thread nD τ) scratch fullShare d)) ∗ (∃ r, prngReg c r)) := by
  unfold Pipeline.ΦA; rw [scopedRest0_eq]; simp only [scratch, owns_whole]; try rfl

/-- Between points the scratch buffer holds the rows of the point before's row tile; before the first it may hold anything. -/
def inv (c : Dev nD) : (n : ℕ) → n ≤ cfg0.N → sProp 𝕄
  | 0, _ => Pipeline.ΦA spec0 c
  | n + 1, hn => iprop(iprop(owns (c : Thread nD τ) scratch fullShare (rows m c ⟨n, hn⟩)) ∗ (∃ r, prngReg c r))

theorem inv_zero (c : Dev nD) (n : ℕ) (h : n ≤ cfg0.N) (hz : n = 0) : inv m c n h = Pipeline.ΦA spec0 c := by subst hz; rfl

theorem inv_succ (c : Dev nD) (t : Fin cfg0.N) :
    inv m c (t.val + 1) t.isLt = iprop(iprop(owns (c : Thread nD τ) scratch fullShare (rows m c t)) ∗ (∃ r, prngReg c r)) := rfl

theorem inv_pos (c : Dev nD) (n : ℕ) (h : n ≤ cfg0.N) (hz : n ≠ 0) :
    inv m c n h = iprop(iprop(owns (c : Thread nD τ) scratch fullShare (rows m c ⟨n - 1, by omega⟩)) ∗ (∃ r, prngReg c r)) := by
  cases n with
  | zero => exact absurd rfl hz
  | succ n => rfl

/-- The blocks after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => cols (grid0.coords t) (rows m c t) (X0_2 m c t) (iblk m c 4 t)
    | ⟨6, _⟩ => gate (rows m c t) (X0_2 m c t)
    | ⟨7, _⟩ => rowsOut m c t
    | ⟨8, _⟩ => forget m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = cols (grid0.coords t) (rows m c t) (X0_2 m c t) (iblk m c 4 t) := by dsimp only [dats]
theorem after6 (c : Dev nD) (t : Fin cfg0.N) : (dats m 0 c).after 6 t = gate (rows m c t) (X0_2 m c t) := by dsimp only [dats]
theorem after7 (c : Dev nD) (t : Fin cfg0.N) : (dats m 0 c).after 7 t = rowsOut m c t := by dsimp only [dats]
theorem after8 (c : Dev nD) (t : Fin cfg0.N) : (dats m 0 c).after 8 t = forget m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- A window no block of which is cut is filled whole, whatever it held. -/
theorem fill_whole (w : Pipeline.Window sig grid0) (hc : ∀ i a, w.clip i a = none) (i : grid0.Coords) (d d' : w.block.Idx → Elt F w.elt) (g) :
    w.fill i d g = w.fill i d' g := by
  have hm : ∀ j, w.moved i j = true := fun j => by
    exact (w.moved_iff _ j).mpr fun a => by rw [show w.xsize i a = w.size a by unfold Pipeline.Window.xsize; rw [hc]]; exact (j a).isLt
  funext j; unfold Pipeline.Window.fill; rw [dif_pos (hm j), dif_pos (hm j)]

theorem idle7 (t : Fin cfg0.N) : cfg0.idle 7 (cfg0.grid.coords t) = !(decide (t.val % 3 = 0)) := by
  rw [← decide_eq_decide.mpr (first_iff t)]; rfl

theorem idle8 (t : Fin cfg0.N) : cfg0.idle 8 (cfg0.grid.coords t) = !(decide (t.val % 3 = 0)) := by
  rw [← decide_eq_decide.mpr (first_iff t)]; rfl

theorem found7_step (c : Dev nD) (t s : Fin cfg0.N) (hs : s.val = t.val - 1) (h : ¬t.val % 3 = 0) (d) :
    (dats m 0 c).before 7 t d = (dats m 0 c).left 7 s d := by
  have hz : t.val ≠ 0 := fun e => h (by rw [e])
  obtain rfl : s = ⟨t.val - 1, Nat.lt_of_le_of_lt (Nat.sub_le _ _) t.isLt⟩ := Fin.ext hs
  have hfl : ¬((cfg0.win 7).flush ⟨t.val - 1, Nat.lt_of_le_of_lt (Nat.sub_le _ _) t.isLt⟩ = true) :=
    fun e => by have e' := (flush0_7 _).mp e; dsimp only at e'; omega
  rw [Dat.before_of_pos _ _ _ hz (Pipeline.Window.fetch_out _ rfl t), if_neg hfl]

/-- At a later point of a row tile, the block of result 2 is still as the tile's first point left it: -/
theorem before7 (c : Dev nD) : ∀ (t : Fin cfg0.N) (h : ¬t.val % 3 = 0) (d), (dats m 0 c).before 7 t d = rowsOut m c t := by
  have step1 : ∀ (t : Fin cfg0.N) (h : t.val % 3 = 1) (d), (dats m 0 c).before 7 t d = rowsOut m c t := fun t h d => by
    rw [found7_step m c t ⟨t.val - 1, Nat.lt_of_le_of_lt (Nat.sub_le _ _) t.isLt⟩ rfl (by omega)]
    have hi : cfg0.idle 7 (cfg0.grid.coords ⟨t.val - 1, Nat.lt_of_le_of_lt (Nat.sub_le _ _) t.isLt⟩) = false := by
      rw [idle7]; simp only [Bool.not_eq_false', decide_eq_true_eq]; omega
    unfold Dat.left
    rw [hi]
    dsimp only
    unfold Dat.kept
    rw [fill_whole _ (fun _ _ => rfl) _ _ ((dats m 0 c).after 7 ⟨t.val - 1, Nat.lt_of_le_of_lt (Nat.sub_le _ _) t.isLt⟩), Pipeline.Window.fill_cut, after7]
    unfold rowsOut; rw [base_later t _ rfl (by omega)]
  intro t h d
  by_cases h1 : t.val % 3 = 1
  · exact step1 t h1 d
  · rw [found7_step m c t ⟨t.val - 1, Nat.lt_of_le_of_lt (Nat.sub_le _ _) t.isLt⟩ rfl h]
    have hi : cfg0.idle 7 (cfg0.grid.coords ⟨t.val - 1, Nat.lt_of_le_of_lt (Nat.sub_le _ _) t.isLt⟩) = true := by
      rw [idle7]; simp only [Bool.not_eq_true', decide_eq_false_iff_not]; omega
    unfold Dat.left
    rw [hi]
    dsimp only
    rw [step1 _ (by dsimp only; omega)]
    unfold rowsOut; rw [base_later t _ rfl h]

/-- and so it may be handed back either way. -/
theorem hand7 (c : Dev nD) (t : Fin cfg0.N) :
    owns (c : Thread nD τ) (st0_7 t) fullShare ((dats m 0 c).after 7 t) ⊢ (dats m 0 c).leavesExact 7 t := by
  by_cases h : t.val % 3 = 0
  · have hi : cfg0.idle 7 (cfg0.grid.coords t) = false := by rw [idle7]; simp only [h, decide_true, Bool.not_true]
    unfold Dat.leavesExact; rw [hi]
  · have hi : cfg0.idle 7 (cfg0.grid.coords t) = true := by rw [idle7]; simp only [h, decide_false, Bool.not_false]
    by_cases hf : (cfg0.win 7).flush t = true
    · unfold Dat.leavesExact; rw [hi, hf]
    · rw [Dat.leavesExact_idle _ _ _ hi (Bool.eq_false_iff.mpr hf), after7, ← before7 m c t h ((dats m 0 c).after 7 t)]
      iintro H
      iexists _; iexact H

theorem found8_step (c : Dev nD) (t s : Fin cfg0.N) (hs : s.val = t.val - 1) (h : ¬t.val % 3 = 0) (d) :
    (dats m 0 c).before 8 t d = (dats m 0 c).left 8 s d := by
  have hz : t.val ≠ 0 := fun e => h (by rw [e])
  obtain rfl : s = ⟨t.val - 1, Nat.lt_of_le_of_lt (Nat.sub_le _ _) t.isLt⟩ := Fin.ext hs
  have hfl : ¬((cfg0.win 8).flush ⟨t.val - 1, Nat.lt_of_le_of_lt (Nat.sub_le _ _) t.isLt⟩ = true) :=
    fun e => by have e' := (flush0_8 _).mp e; dsimp only at e'; omega
  rw [Dat.before_of_pos _ _ _ hz (Pipeline.Window.fetch_out _ rfl t), if_neg hfl]

/-- At a later point of a row tile, the block of result 3 is still as the tile's first point left it: -/
theorem before8 (c : Dev nD) : ∀ (t : Fin cfg0.N) (h : ¬t.val % 3 = 0) (d), (dats m 0 c).before 8 t d = forget m c t := by
  have step1 : ∀ (t : Fin cfg0.N) (h : t.val % 3 = 1) (d), (dats m 0 c).before 8 t d = forget m c t := fun t h d => by
    rw [found8_step m c t ⟨t.val - 1, Nat.lt_of_le_of_lt (Nat.sub_le _ _) t.isLt⟩ rfl (by omega)]
    have hi : cfg0.idle 8 (cfg0.grid.coords ⟨t.val - 1, Nat.lt_of_le_of_lt (Nat.sub_le _ _) t.isLt⟩) = false := by
      rw [idle8]; simp only [Bool.not_eq_false', decide_eq_true_eq]; omega
    unfold Dat.left
    rw [hi]
    dsimp only
    unfold Dat.kept
    rw [fill_whole _ (fun _ _ => rfl) _ _ ((dats m 0 c).after 8 ⟨t.val - 1, Nat.lt_of_le_of_lt (Nat.sub_le _ _) t.isLt⟩), Pipeline.Window.fill_cut, after8]
    unfold forget; rw [base_later t _ rfl (by omega)]
  intro t h d
  by_cases h1 : t.val % 3 = 1
  · exact step1 t h1 d
  · rw [found8_step m c t ⟨t.val - 1, Nat.lt_of_le_of_lt (Nat.sub_le _ _) t.isLt⟩ rfl h]
    have hi : cfg0.idle 8 (cfg0.grid.coords ⟨t.val - 1, Nat.lt_of_le_of_lt (Nat.sub_le _ _) t.isLt⟩) = true := by
      rw [idle8]; simp only [Bool.not_eq_true', decide_eq_false_iff_not]; omega
    unfold Dat.left
    rw [hi]
    dsimp only
    rw [step1 _ (by dsimp only; omega)]
    unfold forget; rw [base_later t _ rfl h]

/-- and so it may be handed back either way. -/
theorem hand8 (c : Dev nD) (t : Fin cfg0.N) :
    owns (c : Thread nD τ) (st0_8 t) fullShare ((dats m 0 c).after 8 t) ⊢ (dats m 0 c).leavesExact 8 t := by
  by_cases h : t.val % 3 = 0
  · have hi : cfg0.idle 8 (cfg0.grid.coords t) = false := by rw [idle8]; simp only [h, decide_true, Bool.not_true]
    unfold Dat.leavesExact; rw [hi]
  · have hi : cfg0.idle 8 (cfg0.grid.coords t) = true := by rw [idle8]; simp only [h, decide_false, Bool.not_false]
    by_cases hf : (cfg0.win 8).flush t = true
    · unfold Dat.leavesExact; rw [hi, hf]
    · rw [Dat.leavesExact_idle _ _ _ hi (Bool.eq_false_iff.mpr hf), after8, ← before8 m c t h ((dats m 0 c).after 8 t)]
      iintro H
      iexists _; iexact H

theorem rows_later (c : Dev nD) (t : Fin cfg0.N) (h : ¬t.val % 3 = 0) (hlt : t.val - 1 < cfg0.N) : rows m c ⟨t.val - 1, hlt⟩ = rows m c t := by
  unfold rows; rw [base_later t _ rfl h]

/-- What the body is handed at a point -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5, after6, after7, after8]
  rw [show (dats m 0 c).Φ t.succ = inv m c (t.val + 1) t.isLt from rfl, inv_succ, inv_castSucc]
  by_cases h0 : t.val % 3 = 0
  · have hr : rows m c t = k0_pay2 (iblk m c 0 t) (iblk m c 1 t) := by unfold rows; rw [base_first t h0]
    have ho : rowsOut m c t = k0_pay1 (iblk m c 0 t) (iblk m c 1 t) := by unfold rowsOut; rw [base_first t h0]
    have hf : forget m c t = k0_pay3 (iblk m c 0 t) (iblk m c 1 t) (iblk m c 3 t) := by unfold forget; rw [base_first t h0]
    have hs : inv m c t.val (Nat.le_of_lt t.isLt) ⊢ iprop(iprop((∃ d, owns (c : Thread nD τ) scratch fullShare d)) ∗ (∃ r, prngReg c r)) := by
      by_cases hz : t.val = 0
      · rw [inv_zero m c _ _ hz, rest_eq]
      · rw [inv_pos m c _ _ hz]
        iintro ⟨HS, Hg⟩
        isplitl [HS]
        · iexists _; iexact HS
        iexact Hg
    rw [hr, ho, hf]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ := hs $$ HΦ
    icases HΦ with ⟨HS, Hg⟩
    iapply (run_first c (grid0.coords t) _ _ _ _ _ _ _ _ _ _ _ _ _ _ _ _ _ _ _ _ ((first_iff t).mpr h0) (iblk m c 0 t) (iblk m c 1 t) (X0_2 m c t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := fun e => h0 (by rw [e])
    rw [inv_pos m c _ _ hz, rows_later m c t h0]
    simp only [before7 m c t h0, before8 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later c (grid0.coords t) _ _ _ _ _ _ _ _ _ _ _ _ _ _ _ _ _ _ _ _ (fun h => h0 ((first_iff t).mp h)) (iblk m c 0 t) (iblk m c 1 t) (X0_2 m c t) (iblk m c 3 t) (iblk m c 4 t) (rows m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  refine triple_restated (sound_body m c t) rfl .rfl fun _ => ?_
  unfold bodyPost
  iintro ⟨HΦ, Ho, H0, H1, H2, H3, H4, H5, H6, H7, H8⟩
  ihave H7 := hand7 m c t $$ H7
  ihave H8 := hand8 m c t $$ H8
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem enter (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem leave (c : Dev nD) : (dats m 0 c).Φ (Fin.last cfg0.N) ⊢ Pipeline.ΦA spec0 c := by
  have hN : cfg0.N = 192 := N_0
  rw [show (dats m 0 c).Φ (Fin.last cfg0.N) = inv m c cfg0.N le_rfl from rfl, inv_pos m c _ _ (by omega), rest_eq]
  iintro ⟨HS, Hg⟩
  isplitl [HS]
  · iexists _; iexact HS
  iexact Hg

set_option backward.isDefEq.respectTransparency.types false in
/-- The launch: every array ends at what the blocks make of it, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_post : θ_run defs (onTc (τ := τ) (main (F := F))) (s₀ m ρ) (Pipeline.FramePost cfgs (dats m) 0 (V m)) :=
  (θ_run defs _ _).mono (fun _ h => h.1) (run_quiescent m ρ)

/-- The frame: the arguments end unchanged and the machine is quiescent. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_post m ρ)) ((θ_run defs _ _).mono (fun _ h => h.2) (run_quiescent m ρ))

end Cert.ProjIdeal.Run

end
-- ==== Proof.ProjBlocks.lean ====
/-
  THE INPUT PROJECTION, the windows' blocks read off the arguments: grid point `t` is branch `t % 3` of row tile `t / 3`.
-/
module

public import proofs.«01_k».proof.Proof.ProjRun
public import proofs.«01_k».proof.Proof.ProjSum

@[expose] public section

noncomputable section

namespace Cert.ProjIdeal.Blocks

open Cert.ProjIdeal Cert.ProjIdeal.Gen Cert.ProjIdeal.Run Idealize.ShloMosaic Idealize.ShloMosaic.TcCoe
open Cert.ProjIdeal.Sum (hn wt pj gain)

variable (m : (ℓ : Loc nD τ sig) → Buf (Elt Ideal) ℓ)

/-- The printed index maps, decided over the 192 points. -/
theorem idx_facts : ∀ t : Fin cfg0.N,
    (win0_0.index t (0 : Fin 2) = t.val / 3 ∧ win0_0.index t (1 : Fin 2) = 0)
    ∧ (win0_1.index t (0 : Fin 3) = 1 ∧ win0_1.index t (1 : Fin 3) = 0 ∧ win0_1.index t (2 : Fin 3) = 0)
    ∧ (win0_2.index t (0 : Fin 3) = 1 ∧ win0_2.index t (1 : Fin 3) = 0 ∧ win0_2.index t (2 : Fin 3) = t.val % 3)
    ∧ (win0_3.index t (0 : Fin 3) = 1 ∧ win0_3.index t (1 : Fin 3) = 0 ∧ win0_3.index t (2 : Fin 3) = 0)
    ∧ (win0_4.index t (0 : Fin 3) = t.val % 3 ∧ win0_4.index t (1 : Fin 3) = 0 ∧ win0_4.index t (2 : Fin 3) = 0)
    ∧ (win0_5.index t (0 : Fin 2) = t.val / 3 ∧ win0_5.index t (1 : Fin 2) = t.val % 3)
    ∧ (win0_6.index t (0 : Fin 2) = t.val / 3 ∧ win0_6.index t (1 : Fin 2) = t.val % 3)
    ∧ (win0_7.index t (0 : Fin 2) = t.val / 3 ∧ win0_7.index t (1 : Fin 2) = 0)
    ∧ (win0_8.index t (0 : Fin 2) = 0 ∧ win0_8.index t (1 : Fin 2) = t.val / 3) :=
  (by decide +kernel : ∀ t : Fin grid0.N, _)

theorem lt_N (t : Fin cfg0.N) : t.val < 192 := lt_of_lt_of_eq t.isLt N_0

/-! What the host hands the kernel. -/

/-- The forget gate's columns of the weights, laid out as eight rows of which four are zeros; -/
def forgetRows (x : FVec Ideal S2x2048x12292 .f32) : FVec Ideal S2x8x2048 .bf16 :=
  truncf .bf16 (pad S2x8x2048 ![0, 0, 0] ![0, 4, 0] ![0, 0, 0]
    (transpose S2x4x2048 [0, 2, 1] (extractStridedSlice S2x2048x4 ![0, 0, 6144] x slices_S2x2048x12292_S2x2048x4_0_0_6144) transposes_S2x2048x4_S2x4x2048_0_2_1)
    (sitofp .f32 (constantI S_ 32 0#32) : FVec Ideal S_ .f32) pads_S2x4x2048_S2x8x2048_000_040_000 h_S_) bitsLt_bf16_f32

/-- the norm's gains with an axis of extent 1; -/
def normRows (x : FVec Ideal S2x2048 .f32) : FVec Ideal S2x1x2048 .f32 := shapeCast S2x1x2048 x shapeCasts_S2x2048_S2x1x2048

/-- the layer's four head gains; -/
def headGains (x : FVec Ideal S2x4x128 .f32) : FVec Ideal S4x128 .f32 :=
  shapeCast S4x128 (extractStridedSlice S1x4x128 ![1, 0, 0] x slices_S2x4x128_S1x4x128_1_0_0) shapeCasts_S1x4x128_S4x128

/-- one of them, repeated for four heads; -/
def four (x : FVec Ideal S1x128 .f32) : FVec Ideal S512 .f32 :=
  shapeCast S512 (broadcastInDim S4x128 ![0, 1] bcast_S1x128_S4x128_0_1 (shapeCast S1x128 (shapeCast S128 x shapeCasts_S1x128_S128) shapeCasts_S128_S1x128)) shapeCasts_S4x128_S512

/-- ones; -/
def ones : FVec Ideal S512 .f32 := broadcastInDim S512 ![] bcast_S_S512 (constant S_ .f32 0x3F800000#32)

/-- a branch's gains; -/
def three (x y z : FVec Ideal S512 .f32) : FVec Ideal S1x1536 .f32 :=
  broadcastInDim S1x1536 ![1] bcast_S1536_S1x1536_1 (concatenate S1536 0 [⟨S512, x⟩, ⟨S512, y⟩, ⟨S512, z⟩] concatenates_S512_S512_S512_S1536_d0)

/-- and the three branches' gains. -/
def gains (x : FVec Ideal S2x4x128 .f32) : FVec Ideal S3x1x1536 .f32 :=
  shapeCast S3x1x1536 (concatenate S3x1536 0
    [⟨S1x1536, three (four (extractStridedSlice S1x128 ![0, 0] (headGains x) slices_S4x128_S1x128_0_0)) (four (extractStridedSlice S1x128 ![1, 0] (headGains x) slices_S4x128_S1x128_1_0)) ones⟩,
     ⟨S1x1536, three (four (extractStridedSlice S1x128 ![2, 0] (headGains x) slices_S4x128_S1x128_2_0)) (four (extractStridedSlice S1x128 ![3, 0] (headGains x) slices_S4x128_S1x128_3_0)) ones⟩,
     ⟨S1x1536, three ones ones ones⟩] concatenates_S1x1536_S1x1536_S1x1536_S3x1536_d0) shapeCasts_S3x1536_S3x1x1536

theorem forgetRows_apply (x : FVec Ideal S2x2048x12292 .f32) (a : Fin 2) (h : Fin 8) (k : Fin 2048) :
    forgetRows x (ix3 a h k) = if h.val < 4 then wt a x k (6144 + h.val) else 0 := by
  pointwise [forgetRows]
  split
  · rw [wt, dif_pos (by omega)]
    try rfl
  · show (((0#32 : BitVec 32).toInt : ℝ) : EReal) = 0
    simp

theorem normRows_apply (x : FVec Ideal S2x2048 .f32) (a : Fin 2) (k : Fin 2048) : normRows x (ix3 a 0 k) = x (ix2 a k) := by
  pointwise [normRows]

theorem headGains_apply (x : FVec Ideal S2x4x128 .f32) (s : Fin 4) (d : Fin 128) : headGains x (ix2 s d) = gain 1 x s.val d.val := by
  pointwise [headGains]
  rw [gain, dif_pos ⟨s.isLt, d.isLt⟩]

theorem four_apply (x : FVec Ideal S1x128 .f32) (o : Fin 512) : four x (ix1 o) = x (ix2 0 ⟨o.val % 128, by omega⟩) := by
  pointwise [four]

theorem ones_apply (o : Fin 512) : ones (ix1 o) = 1 := by
  pointwise [ones]

theorem three_apply (x y z : FVec Ideal S512 .f32) (o : Fin 1536) :
    three x y z (ix2 0 o) = if h : o.val < 512 then x (ix1 ⟨o.val, h⟩) else if h : o.val - 512 < 512 then y (ix1 ⟨o.val - 512, h⟩)
      else z (ix1 ⟨o.val - 512 - 512, by omega⟩) := by
  pointwise [three]

theorem row_apply (x y : FVec Ideal S1x128 .f32) (o : Fin 1536) (ho : o.val < 1024) :
    three (four x) (four y) ones (ix2 0 o) = if o.val / 512 = 0 then x (ix2 0 ⟨o.val % 128, by omega⟩) else y (ix2 0 ⟨o.val % 128, by omega⟩) := by
  rw [three_apply]
  split
  · rw [if_pos (by omega), four_apply]
  · rw [dif_pos (by omega), if_neg (by omega), four_apply]
    refine congrArg y (congrArg (ix2 0) (Fin.ext ?_))
    show (o.val - 512) % 128 = o.val % 128
    omega

theorem gains_apply (x : FVec Ideal S2x4x128 .f32) (n : Fin 3) (o : Fin 1536) (ho : o.val < 1024) :
    gains x (ix3 n 0 o) = if n.val < 2 then gain 1 x (2 * n.val + o.val / 512) (o.val % 128) else 1 := by
  have s : ∀ (s : Fin 4) (inb : S4x128.Slices ![s.val, 0] S1x128) (d : Fin 128),
      extractStridedSlice S1x128 ![s.val, 0] (headGains x) inb (ix2 0 d) = gain 1 x s.val d.val := fun s inb d => by
    pointwise []
    exact headGains_apply x s d
  have l := lt_or_ge o.val 512
  fin_cases n
  · rw [if_pos (by decide)]
    pointwise [gains]
    rw [row_apply _ _ _ ho]
    split
    · rw [show o.val / 512 = 0 from by omega]; exact s 0 _ _
    · rw [show o.val / 512 = 1 from by omega]; exact s 1 _ _
  · rw [if_pos (by decide)]
    pointwise [gains]
    rw [row_apply _ _ _ ho]
    split
    · rw [show (2 * 1 + o.val / 512) = 2 from by omega]; exact s 2 _ _
    · rw [show (2 * 1 + o.val / 512) = 3 from by omega]; exact s 3 _ _
  · rw [if_neg (by decide)]
    pointwise [gains]
    rw [three_apply]
    split
    · exact ones_apply _
    · rw [dif_pos (by omega)]; exact ones_apply _

theorem V_main_v0 (c : Dev nD) : @Eq (FVec Ideal S2x2048x12292 .f32) (V m c main_v0) (m ((c : Thread nD τ).loc main_arg2)) := by
  show StableHlo.after (List.flatten [hostOps0, hostOps0_1, hostOps0_2]) _ (Proc.devRef .tc main_v0) = _
  simp only [hostOps0, hostOps0_1, hostOps0_2, List.flatten_cons, List.flatten_nil, List.append_nil, List.cons_append, List.nil_append]
  after_results
  rfl

theorem V_main_v4 (c : Dev nD) : @Eq (FVec Ideal S2x8x2048 .bf16) (V m c main_v4) (forgetRows (m ((c : Thread nD τ).loc main_arg2))) := by
  show StableHlo.after (List.flatten [hostOps0, hostOps0_1, hostOps0_2]) _ (Proc.devRef .tc main_v4) = _
  simp only [hostOps0, hostOps0_1, hostOps0_2, List.flatten_cons, List.flatten_nil, List.append_nil, List.cons_append, List.nil_append]
  after_results
  rfl

theorem V_main_v5 (c : Dev nD) : @Eq (FVec Ideal S2x1x2048 .f32) (V m c main_v5) (normRows (m ((c : Thread nD τ).loc main_arg1))) := by
  show StableHlo.after (List.flatten [hostOps0, hostOps0_1, hostOps0_2]) _ (Proc.devRef .tc main_v5) = _
  simp only [hostOps0, hostOps0_1, hostOps0_2, List.flatten_cons, List.flatten_nil, List.append_nil, List.cons_append, List.nil_append]
  after_results
  rfl

theorem V_main_v36 (c : Dev nD) : @Eq (FVec Ideal S3x1x1536 .f32) (V m c main_v36) (gains (m ((c : Thread nD τ).loc main_arg3))) := by
  show StableHlo.after (List.flatten [hostOps0, hostOps0_1, hostOps0_2]) _ (Proc.devRef .tc main_v36) = _
  simp only [hostOps0, hostOps0_1, hostOps0_2, List.flatten_cons, List.flatten_nil, List.append_nil, List.cons_append, List.nil_append]
  after_results
  rfl

/-! The blocks at an index. -/

variable (c : Dev nD) (t : Fin cfg0.N)

abbrev row (t : Fin cfg0.N) (r : Fin 512) : Fin 32768 := ⟨512 * (t.val / 3) + r.val, by have := lt_N t; have := r.isLt; omega⟩

theorem row_base (r : Fin 512) : row (base t) r = row t r := by
  apply Fin.ext
  show 512 * ((t.val - t.val % 3) / 3) + r.val = 512 * (t.val / 3) + r.val
  omega

theorem blk0 (r : Fin 512) (d : Fin 2048) : (iblk m c 0 t : Vec Ideal S512x2048 .f32) (ix2 r d)
    = (m ((c : Thread nD τ).loc main_arg0) : Vec Ideal S32768x2048 .f32) (ix2 (row t r) d) := by
  show V m c main_arg0 (((cfg0.win 0).blk t).view.emb (ix2 r d)) = _
  rw [V_main_arg0]
  refine congrArg (m ((c : Thread nD τ).loc main_arg0)) ?_
  obtain ⟨⟨e0, e1⟩, -⟩ := idx_facts t
  funext a; apply Fin.ext
  match a with
  | ⟨0, _⟩ => show win0_0.index t (0 : Fin 2) * 512 + 1 * r.val = 512 * (t.val / 3) + r.val; omega
  | ⟨1, _⟩ => show win0_0.index t (1 : Fin 2) * 2048 + 1 * d.val = d.val; omega

theorem blk1 (d : Fin 2048) : (iblk m c 1 t : Vec Ideal S1x1x2048 .f32) (ix3 0 0 d)
    = (m ((c : Thread nD τ).loc main_arg1) : Vec Ideal S2x2048 .f32) (ix2 1 d) := by
  show V m c main_v5 (((cfg0.win 1).blk t).view.emb (ix3 0 0 d)) = _
  rw [V_main_v5]
  refine Eq.trans ?_ (normRows_apply (m ((c : Thread nD τ).loc main_arg1)) 1 d)
  refine congrArg (normRows (m ((c : Thread nD τ).loc main_arg1))) ?_
  obtain ⟨-, ⟨e0, e1, e2⟩, -⟩ := idx_facts t
  funext a; apply Fin.ext
  match a with
  | ⟨0, _⟩ => show win0_1.index t (0 : Fin 3) * 1 + 1 * 0 = 1; omega
  | ⟨1, _⟩ => show win0_1.index t (1 : Fin 3) * 1 + 1 * 0 = 0; omega
  | ⟨2, _⟩ => show win0_1.index t (2 : Fin 3) * 2048 + 1 * d.val = d.val; omega

theorem blk2 (k : Fin 2048) (e : Fin 2048) : (X0_2 m c t : Vec Ideal S1x2048x2048 .bf16) (ix3 0 k e)
    = wt 1 (m ((c : Thread nD τ).loc main_arg2)) k (2048 * (t.val % 3) + e.val) := by
  have he := e.isLt
  unfold X0_2 Pipeline.Window.fill
  rw [dif_pos (moved0_2 t _), wt, dif_pos (by omega)]
  show V m c main_v0 (((cfg0.win 2).blk t).view.emb _) = _
  rw [V_main_v0]
  refine congrArg (m ((c : Thread nD τ).loc main_arg2)) ?_
  obtain ⟨-, -, ⟨e0, e1, e2⟩, -⟩ := idx_facts t
  funext a; apply Fin.ext
  match a with
  | ⟨0, _⟩ => show win0_2.index t (0 : Fin 3) * 1 + 1 * 0 = 1; omega
  | ⟨1, _⟩ => show win0_2.index t (1 : Fin 3) * 2048 + 1 * k.val = k.val; omega
  | ⟨2, _⟩ => show win0_2.index t (2 : Fin 3) * 2048 + 1 * e.val = 2048 * (t.val % 3) + e.val; omega

theorem blk3 (h : Fin 8) (k : Fin 2048) : (iblk m c 3 t : Vec Ideal S1x8x2048 .bf16) (ix3 0 h k)
    = if h.val < 4 then wt 1 (m ((c : Thread nD τ).loc main_arg2)) k (6144 + h.val) else 0 := by
  show V m c main_v4 (((cfg0.win 3).blk t).view.emb (ix3 0 h k)) = _
  rw [V_main_v4]
  refine Eq.trans ?_ (forgetRows_apply (m ((c : Thread nD τ).loc main_arg2)) 1 h k)
  refine congrArg (forgetRows (m ((c : Thread nD τ).loc main_arg2))) ?_
  obtain ⟨-, -, -, ⟨e0, e1, e2⟩, -⟩ := idx_facts t
  funext a; apply Fin.ext
  match a with
  | ⟨0, _⟩ => show win0_3.index t (0 : Fin 3) * 1 + 1 * 0 = 1; omega
  | ⟨1, _⟩ => show win0_3.index t (1 : Fin 3) * 8 + 1 * h.val = h.val; omega
  | ⟨2, _⟩ => show win0_3.index t (2 : Fin 3) * 2048 + 1 * k.val = k.val; omega

theorem blk4 (o : Fin 1536) (ho : o.val < 1024) : (iblk m c 4 t : Vec Ideal S1x1x1536 .f32) (ix3 0 0 o)
    = if t.val % 3 < 2 then gain 1 (m ((c : Thread nD τ).loc main_arg3)) (2 * (t.val % 3) + o.val / 512) (o.val % 128) else 1 := by
  show V m c main_v36 (((cfg0.win 4).blk t).view.emb (ix3 0 0 o)) = _
  rw [V_main_v36]
  refine Eq.trans ?_ (gains_apply (m ((c : Thread nD τ).loc main_arg3)) ⟨t.val % 3, by omega⟩ o ho)
  refine congrArg (gains (m ((c : Thread nD τ).loc main_arg3))) ?_
  obtain ⟨-, -, -, -, ⟨e0, e1, e2⟩, -⟩ := idx_facts t
  funext a; apply Fin.ext
  match a with
  | ⟨0, _⟩ => show win0_4.index t (0 : Fin 3) * 1 + 1 * 0 = t.val % 3; omega
  | ⟨1, _⟩ => show win0_4.index t (1 : Fin 3) * 1 + 1 * 0 = 0; omega
  | ⟨2, _⟩ => show win0_4.index t (2 : Fin 3) * 1536 + 1 * o.val = o.val; omega

end Cert.ProjIdeal.Blocks

end
-- ==== Proof.ProjRef.lean ====
/-
  THE INPUT PROJECTION'S REFERENCE at an index: the plain program's four results are the formula's arrays.
-/
module

public import proofs.«01_k».proof.Proof.ProjSum
public import proofs.«01_k».proof.Proof.Gen.ProjRefIdeal.Read

@[expose] public section

noncomputable section

namespace Cert.ProjRefIdeal.AtIndex

open Cert.ProjRefIdeal Cert.ProjRefIdeal.Gen Cert.ProjRefIdeal.Read Idealize.ShloMosaic Idealize.ShloMosaic.TcCoe
open Cert.ProjIdeal.Sum (hn wt pj gain head elem silu logits qkvs gates rows forgets)

variable (x0 : FVec Ideal S32768x2048 .f32) (x1 : FVec Ideal S2x2048 .f32) (x2 : FVec Ideal S2x2048x12292 .f32)
  (x3 : FVec Ideal S2x4x128 .f32)

theorem v14 (r : Fin 32768) (k : Fin 2048) : val_main_v14 (F := Ideal) x0 x1 (ix2 r k) = hn 1 x0 x1 r k := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_call0_cst, val_main_call0_cst_0, val_main_c]
  try rfl

theorem v17 (r : Fin 32768) (e : Fin 6148) : val_main_v17 (F := Ideal) x0 x1 x2 (ix2 r e) = pj 1 x0 x1 x2 r e.val := by
  have he := e.isLt
  pointwise [val_main_v15, val_main_v16, val_main_v17]
  unfold pj
  refine Finset.sum_congr rfl fun k _ => ?_
  rw [v14, wt, dif_pos (by omega)]
  try rfl

/-- The projection's columns laid out by branch and part: the column's number is all that counts. -/
theorem v19 (r : Fin 32768) (n : Fin 3) (p : Fin 4) (o : Fin 512) (e : ℕ) (he : e = 2048 * n.val + 512 * p.val + o.val) :
    val_main_v19 (F := Ideal) x0 x1 x2 (ix4 r n p o) = pj 1 x0 x1 x2 r e := by
  have hn' := n.isLt; have hp := p.isLt; have ho := o.isLt
  pointwise [val_main_v18, val_main_v19]
  rw [v17]
  refine congrArg (pj 1 x0 x1 x2 r) ?_
  show n.val * 2048 + p.val * 512 + o.val = e
  omega

/-! The normalised heads: queries and keys of two branches. -/

theorem zero_word : (Ideal.ofBits FTy.f32 0x00000000#32 : EReal) = 0 := by simp [Ideal.ofBits, Ideal.ieee]
theorem one_word : (Ideal.ofBits FTy.f32 0x3F800000#32 : EReal) = 1 := by simp [Ideal.ofBits, Ideal.ieee, -EReal.coe_mul]; norm_num

theorem v40 (r : Fin 32768) (h : Fin 4) (d : Fin 128) :
    val_main_v40 (F := Ideal) x0 x1 x2 x3 (ix3 r h d)
      = head 1 x0 x1 x2 r (128 * h.val) d.val (x3 (ix3 1 0 d)) := by
  have hh := h.isLt
  pointwise [val_main_v21, val_main_v22, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_call0_cst, val_main_call0_cst_0, val_main_c]
  have E : ∀ (j : Fin 128) (b : h.val * 128 + j.val < 512), val_main_v19 (F := Ideal) x0 x1 x2 (ix4 r 0 0 ⟨h.val * 128 + j.val, b⟩)
      = pj 1 x0 x1 x2 r (128 * h.val + j.val) := fun j b => v19 x0 x1 x2 r _ _ _ _ (by
        show 128 * h.val + j.val = 2048 * 0 + 512 * 0 + (h.val * 128 + j.val); omega)
  simp only [E, zero_word, zero_add]
  try rfl

theorem v41 (r : Fin 32768) (o : Fin 512) (e d : ℕ) (he : e = 128 * (o.val / 128)) (hd : d = o.val % 128) :
    val_main_v41 (F := Ideal) x0 x1 x2 x3 (ix2 r o) = head 1 x0 x1 x2 r e d (gain 1 x3 0 d) := by
  have ho := o.isLt
  subst he hd
  pointwise [val_main_v41]
  rw [v40, gain, dif_pos ⟨by omega, by omega⟩]
  try rfl

theorem v59 (r : Fin 32768) (h : Fin 4) (d : Fin 128) :
    val_main_v59 (F := Ideal) x0 x1 x2 x3 (ix3 r h d)
      = head 1 x0 x1 x2 r (512 + 128 * h.val) d.val (x3 (ix3 1 1 d)) := by
  have hh := h.isLt
  pointwise [val_main_v21, val_main_v22, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_call0_cst, val_main_call0_cst_0, val_main_c]
  have E : ∀ (j : Fin 128) (b : h.val * 128 + j.val < 512), val_main_v19 (F := Ideal) x0 x1 x2 (ix4 r 0 1 ⟨h.val * 128 + j.val, b⟩)
      = pj 1 x0 x1 x2 r (512 + 128 * h.val + j.val) := fun j b => v19 x0 x1 x2 r _ _ _ _ (by
        show 512 + 128 * h.val + j.val = 2048 * 0 + 512 * 1 + (h.val * 128 + j.val); omega)
  simp only [E, zero_word, zero_add]
  try rfl

theorem v60 (r : Fin 32768) (o : Fin 512) (e d : ℕ) (he : e = 512 + 128 * (o.val / 128)) (hd : d = o.val % 128) :
    val_main_v60 (F := Ideal) x0 x1 x2 x3 (ix2 r o) = head 1 x0 x1 x2 r e d (gain 1 x3 1 d) := by
  have ho := o.isLt
  subst he hd
  pointwise [val_main_v60]
  rw [v59, gain, dif_pos ⟨by omega, by omega⟩]
  try rfl

theorem v80 (r : Fin 32768) (h : Fin 4) (d : Fin 128) :
    val_main_v80 (F := Ideal) x0 x1 x2 x3 (ix3 r h d)
      = head 1 x0 x1 x2 r (2048 + 128 * h.val) d.val (x3 (ix3 1 2 d)) := by
  have hh := h.isLt
  pointwise [val_main_v21, val_main_v22, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_call0_cst, val_main_call0_cst_0, val_main_c]
  have E : ∀ (j : Fin 128) (b : h.val * 128 + j.val < 512), val_main_v19 (F := Ideal) x0 x1 x2 (ix4 r 1 0 ⟨h.val * 128 + j.val, b⟩)
      = pj 1 x0 x1 x2 r (2048 + 128 * h.val + j.val) := fun j b => v19 x0 x1 x2 r _ _ _ _ (by
        show 2048 + 128 * h.val + j.val = 2048 * 1 + 512 * 0 + (h.val * 128 + j.val); omega)
  simp only [E, zero_word, zero_add]
  try rfl

theorem v81 (r : Fin 32768) (o : Fin 512) (e d : ℕ) (he : e = 2048 + 128 * (o.val / 128)) (hd : d = o.val % 128) :
    val_main_v81 (F := Ideal) x0 x1 x2 x3 (ix2 r o) = head 1 x0 x1 x2 r e d (gain 1 x3 2 d) := by
  have ho := o.isLt
  subst he hd
  pointwise [val_main_v81]
  rw [v80, gain, dif_pos ⟨by omega, by omega⟩]
  try rfl

theorem v99 (r : Fin 32768) (h : Fin 4) (d : Fin 128) :
    val_main_v99 (F := Ideal) x0 x1 x2 x3 (ix3 r h d)
      = head 1 x0 x1 x2 r (2560 + 128 * h.val) d.val (x3 (ix3 1 3 d)) := by
  have hh := h.isLt
  pointwise [val_main_v21, val_main_v22, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_call0_cst, val_main_call0_cst_0, val_main_c]
  have E : ∀ (j : Fin 128) (b : h.val * 128 + j.val < 512), val_main_v19 (F := Ideal) x0 x1 x2 (ix4 r 1 1 ⟨h.val * 128 + j.val, b⟩)
      = pj 1 x0 x1 x2 r (2560 + 128 * h.val + j.val) := fun j b => v19 x0 x1 x2 r _ _ _ _ (by
        show 2560 + 128 * h.val + j.val = 2048 * 1 + 512 * 1 + (h.val * 128 + j.val); omega)
  simp only [E, zero_word, zero_add]
  try rfl

theorem v100 (r : Fin 32768) (o : Fin 512) (e d : ℕ) (he : e = 2560 + 128 * (o.val / 128)) (hd : d = o.val % 128) :
    val_main_v100 (F := Ideal) x0 x1 x2 x3 (ix2 r o) = head 1 x0 x1 x2 r e d (gain 1 x3 3 d) := by
  have ho := o.isLt
  subst he hd
  pointwise [val_main_v100]
  rw [v99, gain, dif_pos ⟨by omega, by omega⟩]
  try rfl

theorem v62 (r : Fin 32768) (o : Fin 512) (e : ℕ) (he : e = 1024 + o.val) :
    val_main_v62 (F := Ideal) x0 x1 x2 (ix2 r o) = pj 1 x0 x1 x2 r e := by
  pointwise [val_main_v61, val_main_v62]
  refine v19 x0 x1 x2 r _ _ _ e ?_
  subst he
  try rfl

theorem v102 (r : Fin 32768) (o : Fin 512) (e : ℕ) (he : e = 3072 + o.val) :
    val_main_v102 (F := Ideal) x0 x1 x2 (ix2 r o) = pj 1 x0 x1 x2 r e := by
  pointwise [val_main_v101, val_main_v102]
  refine v19 x0 x1 x2 r _ _ _ e ?_
  subst he
  try rfl

theorem v104 (r : Fin 32768) (o : Fin 512) (e : ℕ) (he : e = 4096 + o.val) :
    val_main_v104 (F := Ideal) x0 x1 x2 (ix2 r o) = pj 1 x0 x1 x2 r e := by
  pointwise [val_main_v103, val_main_v104]
  refine v19 x0 x1 x2 r _ _ _ e ?_
  subst he
  try rfl

theorem v106 (r : Fin 32768) (o : Fin 512) (e : ℕ) (he : e = 4608 + o.val) :
    val_main_v106 (F := Ideal) x0 x1 x2 (ix2 r o) = pj 1 x0 x1 x2 r e := by
  pointwise [val_main_v105, val_main_v106]
  refine v19 x0 x1 x2 r _ _ _ e ?_
  subst he
  try rfl

theorem v108 (r : Fin 32768) (o : Fin 512) (e : ℕ) (he : e = 5120 + o.val) :
    val_main_v108 (F := Ideal) x0 x1 x2 (ix2 r o) = pj 1 x0 x1 x2 r e := by
  pointwise [val_main_v107, val_main_v108]
  refine v19 x0 x1 x2 r _ _ _ e ?_
  subst he
  try rfl

/-- The queries, keys and values, part by part. -/
theorem v116 (r : Fin 32768) (c : Fin 4608) :
    val_main_v116 (F := Ideal) x0 x1 x2 x3 (ix2 r c) = elem 1 x0 x1 x2 x3 r (c.val / 1536) (c.val % 1536) := by
  have hc := c.isLt
  pointwise [val_main_v109, val_main_v116]
  unfold elem
  split
  · rw [v41 x0 x1 x2 x3 r _ (2048 * (c.val / 1536) + 128 * (c.val % 1536 / 128)) (c.val % 1536 % 128) (by simp only []; omega) (by simp only []; omega), if_pos (by omega),
      show 2 * (c.val / 1536) + c.val % 1536 / 512 = 0 from by omega]
  split
  · rw [v60 x0 x1 x2 x3 r _ (2048 * (c.val / 1536) + 128 * (c.val % 1536 / 128)) (c.val % 1536 % 128) (by simp only []; omega) (by simp only []; omega), if_pos (by omega),
      show 2 * (c.val / 1536) + c.val % 1536 / 512 = 1 from by omega]
  split
  · rw [v62 x0 x1 x2 r _ (2048 * (c.val / 1536) + c.val % 1536) (by simp only []; omega), if_neg (by omega)]
  split
  · rw [v81 x0 x1 x2 x3 r _ (2048 * (c.val / 1536) + 128 * (c.val % 1536 / 128)) (c.val % 1536 % 128) (by simp only []; omega) (by simp only []; omega), if_pos (by omega),
      show 2 * (c.val / 1536) + c.val % 1536 / 512 = 2 from by omega]
  split
  · rw [v100 x0 x1 x2 x3 r _ (2048 * (c.val / 1536) + 128 * (c.val % 1536 / 128)) (c.val % 1536 % 128) (by simp only []; omega) (by simp only []; omega), if_pos (by omega),
      show 2 * (c.val / 1536) + c.val % 1536 / 512 = 3 from by omega]
  split
  · rw [v102 x0 x1 x2 r _ (2048 * (c.val / 1536) + c.val % 1536) (by simp only []; omega), if_neg (by omega)]
  split
  · rw [v104 x0 x1 x2 r _ (2048 * (c.val / 1536) + c.val % 1536) (by simp only []; omega), if_neg (by omega)]
  split
  · rw [v106 x0 x1 x2 r _ (2048 * (c.val / 1536) + c.val % 1536) (by simp only []; omega), if_neg (by omega)]
  rw [v108 x0 x1 x2 r _ (2048 * (c.val / 1536) + c.val % 1536) (by simp only []; omega), if_neg (by omega)]

/-- The gates. -/
theorem v113 (r : Fin 32768) (o : Fin 1536) :
    val_main_v113 (F := Ideal) x0 x1 x2 (ix2 r o) = silu 1 x0 x1 x2 r (o.val / 512) (o.val % 512) := by
  have ho := o.isLt
  pointwise [val_main_v110, val_main_v111, val_main_v112, val_main_v113, val_main_call0_v0, val_main_call0_v1, val_main_call0_v2, val_main_call0_v3, val_main_call0_v4, val_main_call0_v5, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_call0_cst, val_main_call0_cst_0, val_main_c]
  rw [v19 x0 x1 x2 r _ _ _ (2048 * (o.val / 512) + 1536 + o.val % 512) rfl]
  unfold silu
  simp only [one_word]

/-- The forget logits, padded with zeros. -/
theorem v115 (h : Fin 8) (r : Fin 32768) :
    val_main_v115 (F := Ideal) x0 x1 x2 (ix2 h r) = logits 1 x0 x1 x2 h.val r := by
  pointwise [val_main_v20, val_main_v114, val_main_v115, val_main_call1_v0, val_main_c]
  unfold logits
  split
  · rw [v17]
  · show (((0#32 : BitVec 32).toInt : ℝ) : EReal) = 0
    simp

/-! The results are the formula's arrays. -/

theorem ref116 : val_main_v116 (F := Ideal) x0 x1 x2 x3 = qkvs 1 x0 x1 x2 x3 := by
  funext i
  obtain ⟨r, d, rfl⟩ : ∃ (r : Fin 32768) (d : Fin 4608), i = ix2 r d := ⟨i 0, i 1, eq_ix2 i⟩
  exact v116 x0 x1 x2 x3 r d

theorem ref113 : val_main_v113 (F := Ideal) x0 x1 x2 = gates 1 x0 x1 x2 := by
  funext i
  obtain ⟨r, d, rfl⟩ : ∃ (r : Fin 32768) (d : Fin 1536), i = ix2 r d := ⟨i 0, i 1, eq_ix2 i⟩
  exact v113 x0 x1 x2 r d

theorem ref117 : val_main_v117 (F := Ideal) x0 x1 = rows 1 x0 x1 := by
  funext i
  obtain ⟨r, d, rfl⟩ : ∃ (r : Fin 32768) (d : Fin 2048), i = ix2 r d := ⟨i 0, i 1, eq_ix2 i⟩
  exact v14 x0 x1 r d

theorem ref115 : val_main_v115 (F := Ideal) x0 x1 x2 = forgets 1 x0 x1 x2 := by
  funext i
  obtain ⟨h, r, rfl⟩ : ∃ (h : Fin 8) (r : Fin 32768), i = ix2 h r := ⟨i 0, i 1, eq_ix2 i⟩
  exact v115 x0 x1 x2 h r

end Cert.ProjRefIdeal.AtIndex

end
-- ==== Proof.ProjValue.lean ====
/-
  THE INPUT PROJECTION's four result arrays: every point's blocks of queries, keys and values and of the gate, and a row
  tile's blocks of normalised rows and forget logits, make the formula's arrays, and the plain reference ends at the same.
-/
module

public import proofs.«01_k».proof.Proof.ProjAt
public import proofs.«01_k».proof.Proof.ProjBlocks
public import proofs.«01_k».proof.Proof.ProjRef
public import proofs.«01_k».proof.Proof.Gen.ProjRefIdeal.Run
public import proofs.«01_k».proof.Defs
public import Idealize.ShloMosaic.Lib.IdealHost

@[expose] public section

noncomputable section

namespace Cert.ProjIdeal.Final

open Cert.ProjIdeal Cert.ProjIdeal.Gen Cert.ProjIdeal.Run Cert.ProjIdeal.At Cert.ProjIdeal.Blocks
open Idealize.ShloMosaic Idealize.ShloMosaic.TcCoe Idealize.SL.Sem
open Idealize.ShloMosaic.Pipeline (Dat)
open Cert.ProjIdeal.Sum (hn wt pj gain head elem silu logits qkvs gates forgets)

variable (m : (ℓ : Loc nD τ sig) → Buf (Elt Ideal) ℓ) (ρ : Dev nD → PrngReg) (c : Dev nD) (t : Fin cfg0.N)

/-- The arguments: the residual stream, the norm's gains, the weights and the heads' gains. -/
abbrev A0 : FVec Ideal S32768x2048 .f32 := m ((c : Thread nD τ).loc main_arg0)
abbrev A1 : FVec Ideal S2x2048 .f32 := m ((c : Thread nD τ).loc main_arg1)
abbrev A2 : FVec Ideal S2x2048x12292 .f32 := m ((c : Thread nD τ).loc main_arg2)
abbrev A3 : FVec Ideal S2x4x128 .f32 := m ((c : Thread nD τ).loc main_arg3)

/-! One point's blocks are the formula's. -/

theorem rowsOut_eq (r : Fin 512) (k : Fin 2048) : rowsOut m c t (ix2 r k) = hn 1 (A0 m c) (A1 m c) (row t r) k := by
  unfold rowsOut
  rw [rowsOut_apply]
  simp only [blk0, blk1, row_base]
  rfl

theorem rows_eq (r : Fin 512) (k : Fin 2048) : rows m c t (ix2 r k) = hn 1 (A0 m c) (A1 m c) (row t r) k := by
  refine Eq.trans ?_ (rowsOut_eq m c t r k)
  unfold rows rowsOut
  rw [rows_apply]

theorem forget_eq (h : Fin 8) (r : Fin 512) : forget m c t (ix2 h r) = logits 1 (A0 m c) (A1 m c) (A2 m c) h.val (row t r) := by
  unfold forget
  rw [forget_apply]
  have e1 := fun j => blk3 m c (base t) h j
  have e2 := fun j => rowsOut_eq m c t r j
  unfold rowsOut at e2
  simp only [e1, e2]
  unfold logits pj
  split
  · exact Finset.sum_congr rfl fun j _ => mul_comm _ _
  · exact Finset.sum_eq_zero fun j _ => zero_mul (M₀ := EReal) _

theorem prod_eq (r : Fin 512) (e : Fin 2048) :
    (k0_pay5 (rows m c t) (X0_2 m c t) : FVec Ideal S512x2048 .f32) (ix2 r e)
      = pj 1 (A0 m c) (A1 m c) (A2 m c) (row t r) (2048 * (t.val % 3) + e.val) := by
  rw [prod_apply]
  exact Finset.sum_congr rfl fun j _ => congrArg₂ (· * ·) (rows_eq m c t r j) (blk2 m c t j e)

theorem exp_pos (x : EReal) : 1 + Ideal.exp x ≠ 0 := by
  induction x with
  | bot => show (1 : EReal) + 0 ≠ 0; simp
  | top => show ((1 : ℝ) : EReal) + ⊤ ≠ 0; rw [EReal.add_top_of_ne_bot (EReal.coe_ne_bot 1)]; exact EReal.top_ne_zero
  | coe x =>
    show ((1 : ℝ) : EReal) + ((Real.exp x : ℝ) : EReal) ≠ 0
    rw [← EReal.coe_add]
    have := Real.exp_pos x
    exact EReal.coe_ne_zero.mpr (by positivity)

theorem gate_eq (r : Fin 512) (d : Fin 512) :
    gate (rows m c t) (X0_2 m c t) (ix2 r d) = silu 1 (A0 m c) (A1 m c) (A2 m c) (row t r) (t.val % 3) d.val := by
  rw [gate_apply]
  simp only [prod_eq, zero_sub]
  unfold silu
  rw [← Ideal.mul_one_div (exp_pos _)]
  simp only [add_assoc]

/-- Whether the point's branch is one of the two whose heads are normalised. -/
theorem branch_bit : Scalar.cmpi .slt (BitVec.ofNat 32 (grid0.coords t 1).val) 2#32 = if t.val % 3 < 2 then 1#1 else 0#1 := by
  have e1 : (grid0.coords t 1).val = t.val / 1 % 3 := Pipeline.Grid.coords_val t 1 (by decide) rfl
  rw [e1, Nat.div_one]
  have h : t.val % 3 < 3 := Nat.mod_lt _ (by decide)
  generalize t.val % 3 = n at h
  interval_cases n <;> rfl

theorem head_eq (r : Fin 512) (o : Fin 1536) (ho : o.val < 1024) :
    headAt (grid0.coords t) (rows m c t) (X0_2 m c t) (iblk m c 4 t) r (128 * (o.val / 128)) (by omega) ⟨o.val % 128, by omega⟩
      = elem 1 (A0 m c) (A1 m c) (A2 m c) (A3 m c) (row t r) (t.val % 3) o.val := by
  have e : (⟨128 * (o.val / 128) + o.val % 128, by omega⟩ : Fin 1536) = o := Fin.ext (Nat.div_add_mod _ _)
  unfold headAt At.piece elem
  rw [branch_bit]
  simp only [prod_eq, e, blk4 m c t o ho, Nat.div_add_mod]
  by_cases hb : t.val % 3 < 2
  · rw [if_pos hb, if_pos hb, if_pos ⟨ho, hb⟩]
    unfold head
    simp only [add_assoc, Nat.div_add_mod]
    rfl
  · rw [if_neg hb, if_neg hb, if_neg fun h => hb h.2]
    show _ * 1 * 1 = _
    rw [mul_one, mul_one]

theorem cols_eq (r : Fin 512) (o : Fin 1536) :
    cols (grid0.coords t) (rows m c t) (X0_2 m c t) (iblk m c 4 t) (ix2 r o)
      = elem 1 (A0 m c) (A1 m c) (A2 m c) (A3 m c) (row t r) (t.val % 3) o.val := by
  by_cases ho : o.val < 1024
  · exact (cols_head _ _ _ _ r o ho).trans (head_eq m c t r o ho)
  · have e : (⟨1024 + (⟨o.val - 1024, by omega⟩ : Fin 512).val, by have := o.isLt; show 1024 + (o.val - 1024) < 1536; omega⟩ : Fin 1536) = o :=
      Fin.ext (by show 1024 + (o.val - 1024) = o.val; omega)
    have h := cols_value (grid0.coords t) (rows m c t) (X0_2 m c t) (iblk m c 4 t) r ⟨o.val - 1024, by omega⟩
    rw [e] at h
    have hlt := o.isLt
    refine h.trans ?_
    have q := prod_eq m c t r ⟨1024 + (o.val - 1024), by omega⟩
    refine Eq.trans ?_ (q.trans ?_)
    · refine congrArg (k0_pay5 (rows m c t) (X0_2 m c t) : FVec Ideal S512x2048 .f32) (congrArg (ix2 r) (Fin.ext ?_))
      rfl
    · unfold elem
      rw [if_neg fun h => ho h.1]
      refine congrArg (pj 1 (A0 m c) (A1 m c) (A2 m c) (row t r)) ?_
      show 2048 * (t.val % 3) + (1024 + (o.val - 1024)) = _; omega

/-! The four arrays. -/

theorem flushed5 (hf : (cfg0.win 5).flush t = true) :
    (dats m 0 c).flushed 5 t = ((cfg0.win 5).blk t).view.read (Elt Ideal) (qkvs 1 (A0 m c) (A1 m c) (A2 m c) (A3 m c)) := by
  obtain ⟨-, -, -, -, -, ⟨e0, e1⟩, -⟩ := idx_facts t
  have hN := lt_N t
  show (cfg0.win 5).cut (grid0.coords t) ((dats m 0 c).after 5 t) = _
  rw [after5]
  funext j
  obtain ⟨r, d, rfl⟩ : ∃ (r : Fin 512) (d : Fin 1536), j = ix2 r d := ⟨j 0, j 1, eq_ix2 j⟩
  have hd := d.isLt
  show cols (grid0.coords t) (rows m c t) (X0_2 m c t) (iblk m c 4 t) (ix2 r d) = qkvs 1 _ _ _ _ (((cfg0.win 5).blk t).view.emb (ix2 r d))
  rw [cols_eq]
  show elem 1 _ _ _ _ _ _ _ = elem 1 _ _ _ _ _ _ _
  congr 1
  · apply Fin.ext
    show 512 * (t.val / 3) + r.val = win0_5.index t (0 : Fin 2) * 512 + 1 * r.val
    omega
  · show t.val % 3 = (win0_5.index t (1 : Fin 2) * 1536 + 1 * d.val) / 1536
    omega
  · show d.val = (win0_5.index t (1 : Fin 2) * 1536 + 1 * d.val) % 1536
    omega

theorem final5 : (dats m 0 c).arrAt 5 cfg0.N = qkvs 1 (A0 m c) (A1 m c) (A2 m c) (A3 m c) :=
  (dats m 0 c).arrAt_eq_of_cover 5 (qkvs 1 (A0 m c) (A1 m c) (A2 m c) (A3 m c)) (flushed5 m c) fun i => by
    have h0 : (i 0 : Nat) < 32768 := (i 0).isLt
    have h1 : (i 1 : Nat) < 4608 := (i 1).isLt
    have hN : grid0.N = 192 := N_0
    have ht : 3 * ((i 0 : Nat) / 512) + (i 1 : Nat) / 1536 < cfg0.N := by show _ < grid0.N; omega
    refine ⟨⟨3 * ((i 0 : Nat) / 512) + (i 1 : Nat) / 1536, ht⟩, flush0_5 _, ?_⟩
    generalize hte : (⟨3 * ((i 0 : Nat) / 512) + (i 1 : Nat) / 1536, ht⟩ : Fin cfg0.N) = t
    have htv : t.val = 3 * ((i 0 : Nat) / 512) + (i 1 : Nat) / 1536 := by rw [← hte]
    obtain ⟨-, -, -, -, -, ⟨e0, e1⟩, -⟩ := idx_facts t
    show i ∈ ((View.whole main_v37_0).slice (win0_5.rect t)).set
    rw [View.set_slice_whole, Rect.mem_set_unit]
    intro a
    match a with
    | ⟨0, _⟩ => show win0_5.index t (0 : Fin 2) * 512 ≤ (i 0 : Nat) ∧ (i 0 : Nat) < win0_5.index t (0 : Fin 2) * 512 + 512
                omega
    | ⟨1, _⟩ => show win0_5.index t (1 : Fin 2) * 1536 ≤ (i 1 : Nat) ∧ (i 1 : Nat) < win0_5.index t (1 : Fin 2) * 1536 + 1536
                omega

theorem flushed6 (hf : (cfg0.win 6).flush t = true) :
    (dats m 0 c).flushed 6 t = ((cfg0.win 6).blk t).view.read (Elt Ideal) (gates 1 (A0 m c) (A1 m c) (A2 m c)) := by
  obtain ⟨-, -, -, -, -, -, ⟨e0, e1⟩, -⟩ := idx_facts t
  have hN := lt_N t
  show (cfg0.win 6).cut (grid0.coords t) ((dats m 0 c).after 6 t) = _
  rw [after6]
  funext j
  obtain ⟨r, d, rfl⟩ : ∃ (r : Fin 512) (d : Fin 512), j = ix2 r d := ⟨j 0, j 1, eq_ix2 j⟩
  have hd := d.isLt
  show gate (rows m c t) (X0_2 m c t) (ix2 r d) = gates 1 _ _ _ (((cfg0.win 6).blk t).view.emb (ix2 r d))
  rw [gate_eq]
  show silu 1 _ _ _ _ _ _ = silu 1 _ _ _ _ _ _
  congr 1
  · apply Fin.ext
    show 512 * (t.val / 3) + r.val = win0_6.index t (0 : Fin 2) * 512 + 1 * r.val
    omega
  · show t.val % 3 = (win0_6.index t (1 : Fin 2) * 512 + 1 * d.val) / 512
    omega
  · show d.val = (win0_6.index t (1 : Fin 2) * 512 + 1 * d.val) % 512
    omega

theorem final6 : (dats m 0 c).arrAt 6 cfg0.N = gates 1 (A0 m c) (A1 m c) (A2 m c) :=
  (dats m 0 c).arrAt_eq_of_cover 6 (gates 1 (A0 m c) (A1 m c) (A2 m c)) (flushed6 m c) fun i => by
    have h0 : (i 0 : Nat) < 32768 := (i 0).isLt
    have h1 : (i 1 : Nat) < 1536 := (i 1).isLt
    have hN : grid0.N = 192 := N_0
    have ht : 3 * ((i 0 : Nat) / 512) + (i 1 : Nat) / 512 < cfg0.N := by show _ < grid0.N; omega
    refine ⟨⟨3 * ((i 0 : Nat) / 512) + (i 1 : Nat) / 512, ht⟩, flush0_6 _, ?_⟩
    generalize hte : (⟨3 * ((i 0 : Nat) / 512) + (i 1 : Nat) / 512, ht⟩ : Fin cfg0.N) = t
    have htv : t.val = 3 * ((i 0 : Nat) / 512) + (i 1 : Nat) / 512 := by rw [← hte]
    obtain ⟨-, -, -, -, -, -, ⟨e0, e1⟩, -⟩ := idx_facts t
    show i ∈ ((View.whole main_v37_1).slice (win0_6.rect t)).set
    rw [View.set_slice_whole, Rect.mem_set_unit]
    intro a
    match a with
    | ⟨0, _⟩ => show win0_6.index t (0 : Fin 2) * 512 ≤ (i 0 : Nat) ∧ (i 0 : Nat) < win0_6.index t (0 : Fin 2) * 512 + 512
                omega
    | ⟨1, _⟩ => show win0_6.index t (1 : Fin 2) * 512 ≤ (i 1 : Nat) ∧ (i 1 : Nat) < win0_6.index t (1 : Fin 2) * 512 + 512
                omega

theorem flushed7 (hf : (cfg0.win 7).flush t = true) :
    (dats m 0 c).flushed 7 t = ((cfg0.win 7).blk t).view.read (Elt Ideal) (Sum.rows 1 (A0 m c) (A1 m c)) := by
  obtain ⟨-, -, -, -, -, -, -, ⟨e0, e1⟩, -⟩ := idx_facts t
  have hN := lt_N t
  show (cfg0.win 7).cut (grid0.coords t) ((dats m 0 c).after 7 t) = _
  rw [after7]
  funext j
  obtain ⟨r, d, rfl⟩ : ∃ (r : Fin 512) (d : Fin 2048), j = ix2 r d := ⟨j 0, j 1, eq_ix2 j⟩
  show rowsOut m c t (ix2 r d) = Sum.rows 1 _ _ (((cfg0.win 7).blk t).view.emb (ix2 r d))
  rw [rowsOut_eq]
  show hn 1 _ _ _ _ = hn 1 _ _ _ _
  congr 1
  · apply Fin.ext
    show 512 * (t.val / 3) + r.val = win0_7.index t (0 : Fin 2) * 512 + 1 * r.val
    omega
  · apply Fin.ext
    show d.val = win0_7.index t (1 : Fin 2) * 2048 + 1 * d.val
    omega

theorem final7 : (dats m 0 c).arrAt 7 cfg0.N = Sum.rows 1 (A0 m c) (A1 m c) :=
  (dats m 0 c).arrAt_eq_of_cover 7 (Sum.rows 1 (A0 m c) (A1 m c)) (flushed7 m c) fun i => by
    have h0 : (i 0 : Nat) < 32768 := (i 0).isLt
    have h1 : (i 1 : Nat) < 2048 := (i 1).isLt
    have hN : grid0.N = 192 := N_0
    have ht : 3 * ((i 0 : Nat) / 512) + 2 < cfg0.N := by show _ < grid0.N; omega
    refine ⟨⟨3 * ((i 0 : Nat) / 512) + 2, ht⟩, (flush0_7 _).mpr (by show (3 * ((i 0 : Nat) / 512) + 2) % 3 = 2; omega), ?_⟩
    generalize hte : (⟨3 * ((i 0 : Nat) / 512) + 2, ht⟩ : Fin cfg0.N) = t
    have htv : t.val = 3 * ((i 0 : Nat) / 512) + 2 := by rw [← hte]
    obtain ⟨-, -, -, -, -, -, -, ⟨e0, e1⟩, -⟩ := idx_facts t
    show i ∈ ((View.whole main_v37_2).slice (win0_7.rect t)).set
    rw [View.set_slice_whole, Rect.mem_set_unit]
    intro a
    match a with
    | ⟨0, _⟩ => show win0_7.index t (0 : Fin 2) * 512 ≤ (i 0 : Nat) ∧ (i 0 : Nat) < win0_7.index t (0 : Fin 2) * 512 + 512
                omega
    | ⟨1, _⟩ => show win0_7.index t (1 : Fin 2) * 2048 ≤ (i 1 : Nat) ∧ (i 1 : Nat) < win0_7.index t (1 : Fin 2) * 2048 + 2048
                omega

theorem flushed8 (hf : (cfg0.win 8).flush t = true) :
    (dats m 0 c).flushed 8 t = ((cfg0.win 8).blk t).view.read (Elt Ideal) (forgets 1 (A0 m c) (A1 m c) (A2 m c)) := by
  obtain ⟨-, -, -, -, -, -, -, -, e0, e1⟩ := idx_facts t
  have hN := lt_N t
  show (cfg0.win 8).cut (grid0.coords t) ((dats m 0 c).after 8 t) = _
  rw [after8]
  funext j
  obtain ⟨r, d, rfl⟩ : ∃ (r : Fin 8) (d : Fin 512), j = ix2 r d := ⟨j 0, j 1, eq_ix2 j⟩
  show forget m c t (ix2 r d) = forgets 1 _ _ _ (((cfg0.win 8).blk t).view.emb (ix2 r d))
  rw [forget_eq]
  show logits 1 _ _ _ _ _ = logits 1 _ _ _ _ _
  congr 1
  · show r.val = win0_8.index t (0 : Fin 2) * 8 + 1 * r.val
    omega
  · apply Fin.ext
    show 512 * (t.val / 3) + d.val = win0_8.index t (1 : Fin 2) * 512 + 1 * d.val
    omega

theorem final8 : (dats m 0 c).arrAt 8 cfg0.N = forgets 1 (A0 m c) (A1 m c) (A2 m c) :=
  (dats m 0 c).arrAt_eq_of_cover 8 (forgets 1 (A0 m c) (A1 m c) (A2 m c)) (flushed8 m c) fun i => by
    have h0 : (i 0 : Nat) < 8 := (i 0).isLt
    have h1 : (i 1 : Nat) < 32768 := (i 1).isLt
    have hN : grid0.N = 192 := N_0
    have ht : 3 * ((i 1 : Nat) / 512) + 2 < cfg0.N := by show _ < grid0.N; omega
    refine ⟨⟨3 * ((i 1 : Nat) / 512) + 2, ht⟩, (flush0_8 _).mpr (by show (3 * ((i 1 : Nat) / 512) + 2) % 3 = 2; omega), ?_⟩
    generalize hte : (⟨3 * ((i 1 : Nat) / 512) + 2, ht⟩ : Fin cfg0.N) = t
    have htv : t.val = 3 * ((i 1 : Nat) / 512) + 2 := by rw [← hte]
    obtain ⟨-, -, -, -, -, -, -, -, e0, e1⟩ := idx_facts t
    show i ∈ ((View.whole main_v37_3).slice (win0_8.rect t)).set
    rw [View.set_slice_whole, Rect.mem_set_unit]
    intro a
    match a with
    | ⟨0, _⟩ => show win0_8.index t (0 : Fin 2) * 8 ≤ (i 0 : Nat) ∧ (i 0 : Nat) < win0_8.index t (0 : Fin 2) * 8 + 8
                omega
    | ⟨1, _⟩ => show win0_8.index t (1 : Fin 2) * 512 ≤ (i 1 : Nat) ∧ (i 1 : Nat) < win0_8.index t (1 : Fin 2) * 512 + 512
                omega

/-- The run ends at the four arrays, the arguments unchanged. -/
theorem run_values : θ_run defs (onTc (τ := τ) (main (F := Ideal))) ⟨m, fun _ => 0, ρ⟩ fun r => ∀ c : Dev nD,
      (r.2.mem ((c : Thread nD τ).loc main_v37_0) = qkvs 1 (A0 m c) (A1 m c) (A2 m c) (A3 m c)
      ∧ r.2.mem ((c : Thread nD τ).loc main_v37_1) = gates 1 (A0 m c) (A1 m c) (A2 m c)
      ∧ r.2.mem ((c : Thread nD τ).loc main_v37_2) = Sum.rows 1 (A0 m c) (A1 m c)
      ∧ r.2.mem ((c : Thread nD τ).loc main_v37_3) = forgets 1 (A0 m c) (A1 m c) (A2 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨⟨?_, ?_, ?_, ?_⟩, h.2.1 c⟩) (θ_run_and (run_post m ρ) (frame_run m ρ))
  · exact ((h.1 c).1 5).trans (final5 m c)
  · exact ((h.1 c).1 6).trans (final6 m c)
  · exact ((h.1 c).1 7).trans (final7 m c)
  · exact ((h.1 c).1 8).trans (final8 m c)

end Cert.ProjIdeal.Final

namespace Cert.Proof.ProjClaims

open Idealize.ShloMosaic Idealize.SL.Sem

theorem frame_ref : Cert.quiescent_ProjRefIdeal := fun m ρ _ =>
  (θ_run Cert.ProjRefIdeal.defs _ _).mono
    (fun r h => ⟨fun c => (h c).2.2.2.2, Idealize.ShloMosaic.sem_eq_zero_of_no_sems (by decide) r.2⟩)
    (Cert.ProjRefIdeal.Value.run (F := Ideal) m ρ)

open Cert.ProjRefIdeal.Read Cert.ProjRefIdeal.AtIndex Cert.ProjIdeal.Final in
/-- Over the extended reals the input projection's kernel and its plain reference end at the same four arrays. -/
theorem algebraic : Cert.algebraic_ProjIdeal_ProjRefIdeal := by
  intro m ρ m' ρ' _ hag
  refine ⟨fun c => Cert.ProjIdeal.Sum.qkvs 1 (A0 m c) (A1 m c) (A2 m c) (A3 m c), fun c => Cert.ProjIdeal.Sum.gates 1 (A0 m c) (A1 m c) (A2 m c),
    fun c => Cert.ProjIdeal.Sum.rows 1 (A0 m c) (A1 m c), fun c => Cert.ProjIdeal.Sum.forgets 1 (A0 m c) (A1 m c) (A2 m c), ?_, ?_⟩
  · exact (θ_run Cert.ProjIdeal.defs _ _).mono (fun _ h c => ⟨(h c).1.1, (h c).1.2.1, (h c).1.2.2.1, (h c).1.2.2.2, (h c).2⟩)
      (Cert.ProjIdeal.Final.run_values m ρ)
  · refine (θ_run Cert.ProjRefIdeal.defs _ _).mono
      (fun _ h c => ⟨(h c).1.trans ?_, (h c).2.1.trans ?_, (h c).2.2.1.trans ?_, (h c).2.2.2.1.trans ?_, (h c).2.2.2.2⟩)
      (Cert.ProjRefIdeal.Value.run (F := Ideal) m' ρ')
    all_goals obtain ⟨a0, a1, a2, a3⟩ := hag c
    · refine (val_main_v116_eq m' c).trans ?_
      rw [a0, a1, a2, a3]
      exact ref116 _ _ _ _
    · rw [a0, a1, a2]
      exact (val_main_v113_eq _ _ _).trans (ref113 _ _ _)
    · rw [a0, a1]
      exact (val_main_v117_eq _ _).trans (ref117 _ _)
    · rw [a0, a1, a2]
      exact (val_main_v115_eq _ _ _).trans (ref115 _ _ _)

end Cert.Proof.ProjClaims

end
-- ==== Proof.Proj0Body.lean ====
/-
  THE FIRST LAYER'S INPUT PROJECTION, one grid point and the run. At a row tile's first point the body leaves the normalised rows in a
  scratch buffer and in two of its results; every point multiplies the scratch buffer by its columns of the weights. Two
  results' blocks are then left alone until the row tile's last point writes them back.
-/
module

public import proofs.«01_k».proof.Proof.Gen.Proj0Ideal.Frame
public import proofs.«01_k».proof.Proof.Gen.Proj0Ideal.Skeleton
public import Idealize.ShloMosaic.Lib.Pipeline.Value
public import Idealize.ShloMosaic.Lib.Claim
public import Idealize.ShloMosaic.Lib.Ring
public import Idealize.ShloMosaic.Lib.Tactic

@[expose] public section

set_option maxRecDepth 16384

noncomputable section

namespace Cert.Proj0Ideal.Run

open Cert.Proj0Ideal Cert.Proj0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Whether the point is its row tile's first. -/
abbrev first (i : grid0.Coords) : Prop := (Scalar.cmpi .ne (Scalar.extui (Scalar.cmpi .eq (BitVec.ofNat 32 (i 1).val) 0#32)) 0#32) = 1#1

theorem first_iff (t : Fin cfg0.N) : first (grid0.coords t) ↔ t.val % 3 = 0 := by
  have ht : t.val < 192 := Nat.lt_of_lt_of_eq t.isLt N_0
  have e1 : (grid0.coords t 1).val = t.val / 1 % 3 := Pipeline.Grid.coords_val t 1 (by decide) rfl
  simp only [first, e1]
  word_cmp

/-- The block of queries, keys and values: eight heads' columns scaled, then the values' columns. -/
def cols (i : grid0.Coords) (h : Vec F S512x2048 .bf16) (w : Vec F S1x2048x2048 .bf16) (gn : Vec F S1x1x1536 .f32) : Vec F S512x1536 .bf16 :=
  View.canon [
    ⟨Rect.unit (s := S512x1536) ![0, 1024] S512x512.size inb_S512x1536_S512x512_0_1024, (k0_pay20 (k0_pay5 h w))⟩,
    ⟨Rect.unit (s := S512x1536) ![0, 896] S512x128.size inb_S512x1536_S512x128_0_896, (k0_pay19 (k0_pay4 gn) (Scalar.cmpi .slt (BitVec.ofNat 32 (i 1).val) 2#32) (k0_pay5 h w))⟩,
    ⟨Rect.unit (s := S512x1536) ![0, 768] S512x128.size inb_S512x1536_S512x128_0_768, (k0_pay18 (k0_pay4 gn) (Scalar.cmpi .slt (BitVec.ofNat 32 (i 1).val) 2#32) (k0_pay16 (k0_pay5 h w)) (k0_pay17 (k0_pay5 h w)))⟩,
    ⟨Rect.unit (s := S512x1536) ![0, 640] S512x128.size inb_S512x1536_S512x128_0_640, (k0_pay15 (k0_pay4 gn) (Scalar.cmpi .slt (BitVec.ofNat 32 (i 1).val) 2#32) (k0_pay5 h w))⟩,
    ⟨Rect.unit (s := S512x1536) ![0, 512] S512x128.size inb_S512x1536_S512x128_0_512, (k0_pay14 (k0_pay4 gn) (Scalar.cmpi .slt (BitVec.ofNat 32 (i 1).val) 2#32) (k0_pay5 h w))⟩,
    ⟨Rect.unit (s := S512x1536) ![0, 384] S512x128.size inb_S512x1536_S512x128_0_384, (k0_pay13 (k0_pay12 (k0_pay4 gn) (Scalar.cmpi .slt (BitVec.ofNat 32 (i 1).val) 2#32) (k0_pay5 h w)))⟩,
    ⟨Rect.unit (s := S512x1536) ![0, 256] S512x128.size inb_S512x1536_S512x128_0_256, (k0_pay11 (k0_pay4 gn) (Scalar.cmpi .slt (BitVec.ofNat 32 (i 1).val) 2#32) (k0_pay5 h w))⟩,
    ⟨Rect.unit (s := S512x1536) ![0, 128] S512x128.size inb_S512x1536_S512x128_0_128, (k0_pay10 (k0_pay4 gn) (Scalar.cmpi .slt (BitVec.ofNat 32 (i 1).val) 2#32) (k0_pay7 h w) (k0_pay8 h w) k0_pay9)⟩,
    ⟨Rect.unit (s := S512x1536) ![0, 0] S512x128.size inb_S512x1536_S512x128_0_0, (k0_pay6 i h gn w)⟩]

/-- The gate's block. -/
def gate (h : Vec F S512x2048 .bf16) (w : Vec F S1x2048x2048 .bf16) : Vec F S512x512 .f32 := k0_pay21 (k0_pay5 h w)

set_option maxHeartbeats 1000000 in
/-- A row tile's first point. -/
theorem run_first (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x2048x2048 .bf16) (harg4 : arg4.IsWhole) (arg5 : Memref sig .tc .vmem S1x8x2048 .bf16) (harg5 : arg5.IsWhole) (arg6 : Memref sig .tc .vmem S1x1x1536 .f32) (harg6 : arg6.IsWhole) (arg7 : Memref sig .tc .vmem S512x1536 .bf16) (harg7 : arg7.IsWhole) (arg8 : Memref sig .tc .vmem S512x512 .f32) (harg8 : arg8.IsWhole) (arg9 : Memref sig .tc .vmem S512x2048 .bf16) (harg9 : arg9.IsWhole) (arg10 : Memref sig .tc .vmem S8x512 .f32) (harg10 : arg10.IsWhole) (arg11 : Memref sig .tc .vmem S512x2048 .bf16) (harg11 : arg11.IsWhole) (hc : first i) (x0 : Vec F S512x2048 .f32) (x1 : Vec F S1x1x2048 .f32) (x2 : Vec F S1x2048x2048 .bf16) (x3 : Vec F S1x8x2048 .bf16) (x4 : Vec F S1x1x1536 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (cols i (k0_pay2 x0 x1) x2 x4) ∗ owns (c : Thread nD τ) arg8 fullShare (gate (k0_pay2 x0 x1) x2) ∗ owns (c : Thread nD τ) arg9 fullShare (k0_pay1 x0 x1) ∗ owns (c : Thread nD τ) arg10 fullShare (k0_pay3 x0 x1 x3) ∗ owns (c : Thread nD τ) arg11 fullShare (k0_pay2 x0 x1)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
  simp only [cc0_proj_eq_skeleton]; unfold cc0_proj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_eq_canon _ _ _ (View.cover_of_tiledBy _ ![512, 128] (by sl_kernel_rfl))).trans ?_
    sl_unfold_words
    try simp only [View.readCov_unit_zero (S := S512x2048) _ hz2]
    simp only [View.readAt_eq_ld, harg2.read_unread, harg3.read_unread, harg4.read_unread, harg5.read_unread, harg6.read_unread, harg11.read_unread, View.ld_unit_zero (S := S512x2048) hz2, View.ld_unit_zero (S := S1x1x2048) hz3, View.ld_unit_zero (S := S1x2048x2048) hz3, View.ld_unit_zero (S := S1x8x2048) hz3, View.ld_unit_zero (S := S1x1x1536) hz3]
    rfl
  isplitl [H6]
  · iexists _; isplitr
    swap; · iexact H6
    ipureintro
    refine (View.read_writes_eq_canon _ _ _ (View.cover_of_tiledL _ S512x512.size (by sl_kernel_rfl))).trans ?_
    sl_unfold_words
    rw [View.canon_unit_zero (S := S512x512) hz2]
    try simp only [View.readCov_unit_zero (S := S512x2048) _ hz2]
    simp only [View.readAt_eq_ld, harg2.read_unread, harg3.read_unread, harg4.read_unread, harg5.read_unread, harg6.read_unread, harg11.read_unread, View.ld_unit_zero (S := S512x2048) hz2, View.ld_unit_zero (S := S1x1x2048) hz3, View.ld_unit_zero (S := S1x2048x2048) hz3, View.ld_unit_zero (S := S1x8x2048) hz3, View.ld_unit_zero (S := S1x1x1536) hz3]
    try rfl
  isplitl [H7]
  · iexists _; isplitr
    swap; · iexact H7
    ipureintro
    refine (View.read_writes_eq_canon _ _ _ (View.cover_of_tiledL _ S512x2048.size (by sl_kernel_rfl))).trans ?_
    sl_unfold_words
    rw [View.canon_unit_zero (S := S512x2048) hz2]
    simp only [View.readAt_eq_ld, harg2.read_unread, harg3.read_unread, harg4.read_unread, harg5.read_unread, harg6.read_unread, harg11.read_unread, View.ld_unit_zero (S := S512x2048) hz2, View.ld_unit_zero (S := S1x1x2048) hz3, View.ld_unit_zero (S := S1x2048x2048) hz3, View.ld_unit_zero (S := S1x8x2048) hz3, View.ld_unit_zero (S := S1x1x1536) hz3]
    try rfl
  isplitl [H8]
  · iexists _; isplitr
    swap; · iexact H8
    ipureintro
    refine (View.read_writes_eq_canon _ _ _ (View.cover_of_tiledL _ S8x512.size (by sl_kernel_rfl))).trans ?_
    sl_unfold_words
    rw [View.canon_unit_zero (S := S8x512) hz2]
    simp only [View.readAt_eq_ld, harg2.read_unread, harg3.read_unread, harg4.read_unread, harg5.read_unread, harg6.read_unread, harg11.read_unread, View.ld_unit_zero (S := S512x2048) hz2, View.ld_unit_zero (S := S1x1x2048) hz3, View.ld_unit_zero (S := S1x2048x2048) hz3, View.ld_unit_zero (S := S1x8x2048) hz3, View.ld_unit_zero (S := S1x1x1536) hz3]
    try rfl
  iexists _; isplitr
  swap; · iexact HS0
  ipureintro
  refine (View.read_writes_eq_canon _ _ _ (View.cover_of_tiledL _ S512x2048.size (by sl_kernel_rfl))).trans ?_
  sl_unfold_words
  rw [View.canon_unit_zero (S := S512x2048) hz2]
  simp only [View.readAt_eq_ld, harg2.read_unread, harg3.read_unread, harg4.read_unread, harg5.read_unread, harg6.read_unread, harg11.read_unread, View.ld_unit_zero (S := S512x2048) hz2, View.ld_unit_zero (S := S1x1x2048) hz3, View.ld_unit_zero (S := S1x2048x2048) hz3, View.ld_unit_zero (S := S1x8x2048) hz3, View.ld_unit_zero (S := S1x1x1536) hz3]
  try rfl

set_option maxHeartbeats 1000000 in
/-- A later point of a row tile: the scratch buffer stays as it is, and the two other results' blocks are not touched. -/
theorem run_later (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x2048x2048 .bf16) (harg4 : arg4.IsWhole) (arg5 : Memref sig .tc .vmem S1x8x2048 .bf16) (harg5 : arg5.IsWhole) (arg6 : Memref sig .tc .vmem S1x1x1536 .f32) (harg6 : arg6.IsWhole) (arg7 : Memref sig .tc .vmem S512x1536 .bf16) (harg7 : arg7.IsWhole) (arg8 : Memref sig .tc .vmem S512x512 .f32) (harg8 : arg8.IsWhole) (arg9 : Memref sig .tc .vmem S512x2048 .bf16) (harg9 : arg9.IsWhole) (arg10 : Memref sig .tc .vmem S8x512 .f32) (harg10 : arg10.IsWhole) (arg11 : Memref sig .tc .vmem S512x2048 .bf16) (harg11 : arg11.IsWhole) (hc : ¬first i) (x0 : Vec F S512x2048 .f32) (x1 : Vec F S1x1x2048 .f32) (x2 : Vec F S1x2048x2048 .bf16) (x3 : Vec F S1x8x2048 .bf16) (x4 : Vec F S1x1x1536 .f32) (h : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg11 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (cols i h x2 x4) ∗ owns (c : Thread nD τ) arg8 fullShare (gate h x2) ∗ owns (c : Thread nD τ) arg11 fullShare h) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
  simp only [cc0_proj_eq_skeleton]; unfold cc0_proj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg11.eq_unread hfs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_eq_canon _ _ _ (View.cover_of_tiledBy _ ![512, 128] (by sl_kernel_rfl))).trans ?_
    sl_unfold_words
    simp only [View.readAt_eq_ld, harg2.read_unread, harg3.read_unread, harg4.read_unread, harg5.read_unread, harg6.read_unread, harg11.read_unread, View.ld_unit_zero (S := S512x2048) hz2, View.ld_unit_zero (S := S1x1x2048) hz3, View.ld_unit_zero (S := S1x2048x2048) hz3, View.ld_unit_zero (S := S1x8x2048) hz3, View.ld_unit_zero (S := S1x1x1536) hz3]
    rfl
  isplitl [H6]
  · iexists _; isplitr
    swap; · iexact H6
    ipureintro
    refine (View.read_writes_eq_canon _ _ _ (View.cover_of_tiledL _ S512x512.size (by sl_kernel_rfl))).trans ?_
    sl_unfold_words
    rw [View.canon_unit_zero (S := S512x512) hz2]
    simp only [View.readAt_eq_ld, harg2.read_unread, harg3.read_unread, harg4.read_unread, harg5.read_unread, harg6.read_unread, harg11.read_unread, View.ld_unit_zero (S := S512x2048) hz2, View.ld_unit_zero (S := S1x1x2048) hz3, View.ld_unit_zero (S := S1x2048x2048) hz3, View.ld_unit_zero (S := S1x8x2048) hz3, View.ld_unit_zero (S := S1x1x1536) hz3]
    try rfl
  iexists _; isplitr; · ipureintro; exact harg11.read_unread _
  iexact HS0

end Cert.Proj0Ideal.Run

end
-- ==== Proof.Proj0At.lean ====
/-
  THE FIRST LAYER'S INPUT PROJECTION, one grid point's blocks at an index: the normalised rows, the forget logits, the gate, and the
  block of queries, keys and values, whose columns come from nine stores.
-/
module

public import proofs.«01_k».proof.Proof.Proj0Body
public import proofs.«01_k».proof.Proof.ProjSum

@[expose] public section

noncomputable section

namespace Cert.Proj0Ideal.At

open Cert.Proj0Ideal Cert.Proj0Ideal.Gen Cert.Proj0Ideal.Run Idealize.ShloMosaic Idealize.ShloMosaic.TcCoe

theorem rowsOut_apply (x : Vec Ideal S512x2048 .f32) (g : Vec Ideal S1x1x2048 .f32) (r : Fin 512) (k : Fin 2048) :
    (k0_pay1 x g : FVec Ideal S512x2048 .bf16) (ix2 r k)
      = x (ix2 r k) * Ideal.rsqrt (Ideal.div (∑ j : Fin 2048, x (ix2 r j) * x (ix2 r j)) (Ideal.ofBits FTy.f32 0x45000000#32)
          + Ideal.ofBits FTy.f32 0x358637BD#32) * g (ix3 0 0 k) := by
  pointwise [k0_pay1]

theorem rows_apply (x : Vec Ideal S512x2048 .f32) (g : Vec Ideal S1x1x2048 .f32) (r : Fin 512) (k : Fin 2048) :
    (k0_pay2 x g : FVec Ideal S512x2048 .bf16) (ix2 r k) = (k0_pay1 x g : FVec Ideal S512x2048 .bf16) (ix2 r k) := by
  pointwise [k0_pay2]

theorem forget_apply (x : Vec Ideal S512x2048 .f32) (g : Vec Ideal S1x1x2048 .f32) (w : Vec Ideal S1x8x2048 .bf16) (h : Fin 8) (r : Fin 512) :
    (k0_pay3 x g w : FVec Ideal S8x512 .f32) (ix2 h r) = ∑ j : Fin 2048, w (ix3 0 h j) * (k0_pay1 x g : FVec Ideal S512x2048 .bf16) (ix2 r j) := by
  pointwise [k0_pay3]

theorem prod_apply (h : Vec Ideal S512x2048 .bf16) (w : Vec Ideal S1x2048x2048 .bf16) (r : Fin 512) (k : Fin 2048) :
    (k0_pay5 h w : FVec Ideal S512x2048 .f32) (ix2 r k) = ∑ j : Fin 2048, h (ix2 r j) * w (ix3 0 j k) := by
  pointwise [k0_pay5]

/-- One head's columns: `p` is the product's block, `T` the head's first column. -/
def piece (v6 : BitVec 1) (p : FVec Ideal S512x2048 .f32) (gn : Vec Ideal S1x1x1536 .f32) (r : Fin 512) (T : ℕ) (hT : T + 128 ≤ 1536) (d : Fin 128) : EReal :=
  p (ix2 r ⟨T + d.val, by omega⟩) * Scalar.select v6 (Ideal.rsqrt (Ideal.div (∑ j : Fin 128, p (ix2 r ⟨T + j.val, by omega⟩) * p (ix2 r ⟨T + j.val, by omega⟩))
    (Ideal.ofBits FTy.f32 0x43000000#32) + Ideal.ofBits FTy.f32 0x358637BD#32)) 1 * gn (ix3 0 0 ⟨T + d.val, by omega⟩)

/-- The gate. -/
theorem gate_apply (h : Vec Ideal S512x2048 .bf16) (w : Vec Ideal S1x2048x2048 .bf16) (r : Fin 512) (d : Fin 512) :
    gate h w (ix2 r d) = Ideal.div ((k0_pay5 h w : FVec Ideal S512x2048 .f32) (ix2 r ⟨1536 + d.val, by omega⟩))
      (1 + Ideal.exp (0 - (k0_pay5 h w : FVec Ideal S512x2048 .f32) (ix2 r ⟨1536 + d.val, by omega⟩))) := by
  unfold gate
  generalize (k0_pay5 h w : FVec Ideal S512x2048 .f32) = p
  pointwise [k0_pay21]

/-! Nine stores of columns, the last first: a column is read from its own store. -/

theorem not_mem128 (T : ℕ) (inb : ∀ a, (![0, T] : Fin 2 → ℕ) a + S512x128.size a ≤ S512x1536.size a) (r : Fin 512) (q : Fin 1536)
    (hq : q.val < T ∨ T + 128 ≤ q.val) :
    (ix2 r q : S512x1536.Idx) ∉ (Rect.unit (s := S512x1536) ![0, T] S512x128.size inb).set := by
  rw [Rect.mem_set_unit]
  intro h
  have h1 := h (1 : Fin 2)
  have a1 : T ≤ q.val := h1.1
  have a2 : q.val < T + 128 := h1.2
  omega

theorem emb128 (T : ℕ) (inb : ∀ a, (![0, T] : Fin 2 → ℕ) a + S512x128.size a ≤ S512x1536.size a) (r : Fin 512) (d : Fin 128) (hT : T + d.val < 1536) :
    (ix2 r ⟨T + d.val, hT⟩ : S512x1536.Idx) = (Rect.unit (s := S512x1536) ![0, T] S512x128.size inb).emb (ix2 r d) := by
  funext a; apply Fin.ext
  match a with
  | ⟨0, _⟩ => show r.val = 0 + 1 * r.val; omega
  | ⟨1, _⟩ => show T + d.val = T + 1 * d.val; omega

theorem skip128 (T : ℕ) (inb : ∀ a, (![0, T] : Fin 2 → ℕ) a + S512x128.size a ≤ S512x1536.size a) (p : Vec Ideal S512x128 .bf16)
    (L : List (View.Piece (Elt Ideal) S512x1536 .bf16)) (r : Fin 512) (q : Fin 1536) (hq : q.val < T ∨ T + 128 ≤ q.val) :
    View.canon ((⟨Rect.unit (s := S512x1536) ![0, T] S512x128.size inb, p⟩ : View.Piece (Elt Ideal) S512x1536 .bf16) :: L) (ix2 r q)
      = View.canon L (ix2 r q) :=
  View.canon_cons_of_not_mem _ _ (not_mem128 T inb r q hq)

theorem here128 (T : ℕ) (inb : ∀ a, (![0, T] : Fin 2 → ℕ) a + S512x128.size a ≤ S512x1536.size a) (p : Vec Ideal S512x128 .bf16)
    (L : List (View.Piece (Elt Ideal) S512x1536 .bf16)) (r : Fin 512) (d : Fin 128) (hT : T + d.val < 1536) :
    View.canon ((⟨Rect.unit (s := S512x1536) ![0, T] S512x128.size inb, p⟩ : View.Piece (Elt Ideal) S512x1536 .bf16) :: L)
      (ix2 r ⟨T + d.val, hT⟩) = p (ix2 r d) := by
  rw [emb128 T inb r d hT]
  exact View.canon_cons_emb _ _ _ _

theorem not_mem512 (T : ℕ) (inb : ∀ a, (![0, T] : Fin 2 → ℕ) a + S512x512.size a ≤ S512x1536.size a) (r : Fin 512) (q : Fin 1536)
    (hq : q.val < T ∨ T + 512 ≤ q.val) :
    (ix2 r q : S512x1536.Idx) ∉ (Rect.unit (s := S512x1536) ![0, T] S512x512.size inb).set := by
  rw [Rect.mem_set_unit]
  intro h
  have h1 := h (1 : Fin 2)
  have a1 : T ≤ q.val := h1.1
  have a2 : q.val < T + 512 := h1.2
  omega

theorem emb512 (T : ℕ) (inb : ∀ a, (![0, T] : Fin 2 → ℕ) a + S512x512.size a ≤ S512x1536.size a) (r : Fin 512) (d : Fin 512) (hT : T + d.val < 1536) :
    (ix2 r ⟨T + d.val, hT⟩ : S512x1536.Idx) = (Rect.unit (s := S512x1536) ![0, T] S512x512.size inb).emb (ix2 r d) := by
  funext a; apply Fin.ext
  match a with
  | ⟨0, _⟩ => show r.val = 0 + 1 * r.val; omega
  | ⟨1, _⟩ => show T + d.val = T + 1 * d.val; omega

theorem skip512 (T : ℕ) (inb : ∀ a, (![0, T] : Fin 2 → ℕ) a + S512x512.size a ≤ S512x1536.size a) (p : Vec Ideal S512x512 .bf16)
    (L : List (View.Piece (Elt Ideal) S512x1536 .bf16)) (r : Fin 512) (q : Fin 1536) (hq : q.val < T ∨ T + 512 ≤ q.val) :
    View.canon ((⟨Rect.unit (s := S512x1536) ![0, T] S512x512.size inb, p⟩ : View.Piece (Elt Ideal) S512x1536 .bf16) :: L) (ix2 r q)
      = View.canon L (ix2 r q) :=
  View.canon_cons_of_not_mem _ _ (not_mem512 T inb r q hq)

theorem here512 (T : ℕ) (inb : ∀ a, (![0, T] : Fin 2 → ℕ) a + S512x512.size a ≤ S512x1536.size a) (p : Vec Ideal S512x512 .bf16)
    (L : List (View.Piece (Elt Ideal) S512x1536 .bf16)) (r : Fin 512) (d : Fin 512) (hT : T + d.val < 1536) :
    View.canon ((⟨Rect.unit (s := S512x1536) ![0, T] S512x512.size inb, p⟩ : View.Piece (Elt Ideal) S512x1536 .bf16) :: L)
      (ix2 r ⟨T + d.val, hT⟩) = p (ix2 r d) := by
  rw [emb512 T inb r d hT]
  exact View.canon_cons_emb _ _ _ _

/-! The nine stores' blocks. -/

variable (i : grid0.Coords) (h : Vec Ideal S512x2048 .bf16) (w : Vec Ideal S1x2048x2048 .bf16) (gn : Vec Ideal S1x1x1536 .f32)

/-- The block's columns before the values: head by head; -/
abbrev headAt (r : Fin 512) (T : ℕ) (hT : T + 128 ≤ 1536) (d : Fin 128) : EReal :=
  piece (Scalar.cmpi .slt (BitVec.ofNat 32 (i 1).val) 2#32) (k0_pay5 h w) gn r T hT d

theorem pay0 (r : Fin 512) (d : Fin 128) : (k0_pay6 i h gn w : FVec Ideal S512x128 .bf16) (ix2 r d) = headAt i h w gn r 0 (by omega) d := by
  pointwise [k0_pay6, k0_pay4, headAt, piece]

theorem pay128 (r : Fin 512) (d : Fin 128) : ((k0_pay10 (k0_pay4 gn) (Scalar.cmpi .slt (BitVec.ofNat 32 (i 1).val) 2#32) (k0_pay7 h w) (k0_pay8 h w) k0_pay9) : FVec Ideal S512x128 .bf16) (ix2 r d) = headAt i h w gn r 128 (by omega) d := by
  pointwise [k0_pay7, k0_pay8, k0_pay9, k0_pay10, k0_pay4, headAt, piece]

theorem pay256 (r : Fin 512) (d : Fin 128) : ((k0_pay11 (k0_pay4 gn) (Scalar.cmpi .slt (BitVec.ofNat 32 (i 1).val) 2#32) (k0_pay5 h w)) : FVec Ideal S512x128 .bf16) (ix2 r d) = headAt i h w gn r 256 (by omega) d := by
  pointwise [k0_pay11, k0_pay4, headAt, piece]

theorem pay384 (r : Fin 512) (d : Fin 128) : ((k0_pay13 (k0_pay12 (k0_pay4 gn) (Scalar.cmpi .slt (BitVec.ofNat 32 (i 1).val) 2#32) (k0_pay5 h w))) : FVec Ideal S512x128 .bf16) (ix2 r d) = headAt i h w gn r 384 (by omega) d := by
  pointwise [k0_pay12, k0_pay13, k0_pay4, headAt, piece]

theorem pay512 (r : Fin 512) (d : Fin 128) : ((k0_pay14 (k0_pay4 gn) (Scalar.cmpi .slt (BitVec.ofNat 32 (i 1).val) 2#32) (k0_pay5 h w)) : FVec Ideal S512x128 .bf16) (ix2 r d) = headAt i h w gn r 512 (by omega) d := by
  pointwise [k0_pay14, k0_pay4, headAt, piece]

theorem pay640 (r : Fin 512) (d : Fin 128) : ((k0_pay15 (k0_pay4 gn) (Scalar.cmpi .slt (BitVec.ofNat 32 (i 1).val) 2#32) (k0_pay5 h w)) : FVec Ideal S512x128 .bf16) (ix2 r d) = headAt i h w gn r 640 (by omega) d := by
  pointwise [k0_pay15, k0_pay4, headAt, piece]

theorem pay768 (r : Fin 512) (d : Fin 128) : ((k0_pay18 (k0_pay4 gn) (Scalar.cmpi .slt (BitVec.ofNat 32 (i 1).val) 2#32) (k0_pay16 (k0_pay5 h w)) (k0_pay17 (k0_pay5 h w))) : FVec Ideal S512x128 .bf16) (ix2 r d) = headAt i h w gn r 768 (by omega) d := by
  pointwise [k0_pay16, k0_pay17, k0_pay18, k0_pay4, headAt, piece]

theorem pay896 (r : Fin 512) (d : Fin 128) : ((k0_pay19 (k0_pay4 gn) (Scalar.cmpi .slt (BitVec.ofNat 32 (i 1).val) 2#32) (k0_pay5 h w)) : FVec Ideal S512x128 .bf16) (ix2 r d) = headAt i h w gn r 896 (by omega) d := by
  pointwise [k0_pay19, k0_pay4, headAt, piece]

theorem pay1024 (r : Fin 512) (d : Fin 512) : (k0_pay20 (k0_pay5 h w) : FVec Ideal S512x512 .bf16) (ix2 r d) = (k0_pay5 h w : FVec Ideal S512x2048 .f32) (ix2 r ⟨1024 + d.val, by omega⟩) := by
  pointwise [k0_pay20]

/-- the values' columns are the product's. -/
theorem cols_value (r : Fin 512) (d : Fin 512) :
    cols i h w gn (ix2 r ⟨1024 + d.val, by omega⟩) = (k0_pay5 h w : FVec Ideal S512x2048 .f32) (ix2 r ⟨1024 + d.val, by omega⟩) := by
  unfold cols
  exact (here512 1024 _ _ _ r d _).trans (pay1024 h w r d)

theorem cols0 (r : Fin 512) (d : Fin 128) : cols i h w gn (ix2 r ⟨0 + d.val, by omega⟩) = headAt i h w gn r 0 (by omega) d := by
  have hd := d.isLt
  unfold cols
  refine (skip512 1024 _ _ _ r _ (Or.inl (by simp only []; omega))).trans ?_
  refine (skip128 896 _ _ _ r _ (Or.inl (by simp only []; omega))).trans ?_
  refine (skip128 768 _ _ _ r _ (Or.inl (by simp only []; omega))).trans ?_
  refine (skip128 640 _ _ _ r _ (Or.inl (by simp only []; omega))).trans ?_
  refine (skip128 512 _ _ _ r _ (Or.inl (by simp only []; omega))).trans ?_
  refine (skip128 384 _ _ _ r _ (Or.inl (by simp only []; omega))).trans ?_
  refine (skip128 256 _ _ _ r _ (Or.inl (by simp only []; omega))).trans ?_
  refine (skip128 128 _ _ _ r _ (Or.inl (by simp only []; omega))).trans ?_
  exact (here128 0 _ _ _ r d _).trans (pay0 i h w gn r d)

theorem cols128 (r : Fin 512) (d : Fin 128) : cols i h w gn (ix2 r ⟨128 + d.val, by omega⟩) = headAt i h w gn r 128 (by omega) d := by
  have hd := d.isLt
  unfold cols
  refine (skip512 1024 _ _ _ r _ (Or.inl (by simp only []; omega))).trans ?_
  refine (skip128 896 _ _ _ r _ (Or.inl (by simp only []; omega))).trans ?_
  refine (skip128 768 _ _ _ r _ (Or.inl (by simp only []; omega))).trans ?_
  refine (skip128 640 _ _ _ r _ (Or.inl (by simp only []; omega))).trans ?_
  refine (skip128 512 _ _ _ r _ (Or.inl (by simp only []; omega))).trans ?_
  refine (skip128 384 _ _ _ r _ (Or.inl (by simp only []; omega))).trans ?_
  refine (skip128 256 _ _ _ r _ (Or.inl (by simp only []; omega))).trans ?_
  exact (here128 128 _ _ _ r d _).trans (pay128 i h w gn r d)

theorem cols256 (r : Fin 512) (d : Fin 128) : cols i h w gn (ix2 r ⟨256 + d.val, by omega⟩) = headAt i h w gn r 256 (by omega) d := by
  have hd := d.isLt
  unfold cols
  refine (skip512 1024 _ _ _ r _ (Or.inl (by simp only []; omega))).trans ?_
  refine (skip128 896 _ _ _ r _ (Or.inl (by simp only []; omega))).trans ?_
  refine (skip128 768 _ _ _ r _ (Or.inl (by simp only []; omega))).trans ?_
  refine (skip128 640 _ _ _ r _ (Or.inl (by simp only []; omega))).trans ?_
  refine (skip128 512 _ _ _ r _ (Or.inl (by simp only []; omega))).trans ?_
  refine (skip128 384 _ _ _ r _ (Or.inl (by simp only []; omega))).trans ?_
  exact (here128 256 _ _ _ r d _).trans (pay256 i h w gn r d)

theorem cols384 (r : Fin 512) (d : Fin 128) : cols i h w gn (ix2 r ⟨384 + d.val, by omega⟩) = headAt i h w gn r 384 (by omega) d := by
  have hd := d.isLt
  unfold cols
  refine (skip512 1024 _ _ _ r _ (Or.inl (by simp only []; omega))).trans ?_
  refine (skip128 896 _ _ _ r _ (Or.inl (by simp only []; omega))).trans ?_
  refine (skip128 768 _ _ _ r _ (Or.inl (by simp only []; omega))).trans ?_
  refine (skip128 640 _ _ _ r _ (Or.inl (by simp only []; omega))).trans ?_
  refine (skip128 512 _ _ _ r _ (Or.inl (by simp only []; omega))).trans ?_
  exact (here128 384 _ _ _ r d _).trans (pay384 i h w gn r d)

theorem cols512 (r : Fin 512) (d : Fin 128) : cols i h w gn (ix2 r ⟨512 + d.val, by omega⟩) = headAt i h w gn r 512 (by omega) d := by
  have hd := d.isLt
  unfold cols
  refine (skip512 1024 _ _ _ r _ (Or.inl (by simp only []; omega))).trans ?_
  refine (skip128 896 _ _ _ r _ (Or.inl (by simp only []; omega))).trans ?_
  refine (skip128 768 _ _ _ r _ (Or.inl (by simp only []; omega))).trans ?_
  refine (skip128 640 _ _ _ r _ (Or.inl (by simp only []; omega))).trans ?_
  exact (here128 512 _ _ _ r d _).trans (pay512 i h w gn r d)

theorem cols640 (r : Fin 512) (d : Fin 128) : cols i h w gn (ix2 r ⟨640 + d.val, by omega⟩) = headAt i h w gn r 640 (by omega) d := by
  have hd := d.isLt
  unfold cols
  refine (skip512 1024 _ _ _ r _ (Or.inl (by simp only []; omega))).trans ?_
  refine (skip128 896 _ _ _ r _ (Or.inl (by simp only []; omega))).trans ?_
  refine (skip128 768 _ _ _ r _ (Or.inl (by simp only []; omega))).trans ?_
  exact (here128 640 _ _ _ r d _).trans (pay640 i h w gn r d)

theorem cols768 (r : Fin 512) (d : Fin 128) : cols i h w gn (ix2 r ⟨768 + d.val, by omega⟩) = headAt i h w gn r 768 (by omega) d := by
  have hd := d.isLt
  unfold cols
  refine (skip512 1024 _ _ _ r _ (Or.inl (by simp only []; omega))).trans ?_
  refine (skip128 896 _ _ _ r _ (Or.inl (by simp only []; omega))).trans ?_
  exact (here128 768 _ _ _ r d _).trans (pay768 i h w gn r d)

theorem cols896 (r : Fin 512) (d : Fin 128) : cols i h w gn (ix2 r ⟨896 + d.val, by omega⟩) = headAt i h w gn r 896 (by omega) d := by
  have hd := d.isLt
  unfold cols
  refine (skip512 1024 _ _ _ r _ (Or.inl (by simp only []; omega))).trans ?_
  exact (here128 896 _ _ _ r d _).trans (pay896 i h w gn r d)

theorem cols_head (r : Fin 512) (o : Fin 1536) (ho : o.val < 1024) :
    cols i h w gn (ix2 r o) = headAt i h w gn r (128 * (o.val / 128)) (by omega) ⟨o.val % 128, by omega⟩ := by
  obtain ⟨o, ho'⟩ := o
  obtain ⟨q, d, hq, hd, rfl⟩ : ∃ q d : ℕ, q < 8 ∧ d < 128 ∧ o = 128 * q + d := ⟨o / 128, o % 128, by simp only [] at ho; omega, by omega, by omega⟩
  have e1 : (128 * q + d) / 128 = q := by omega
  have e2 : (128 * q + d) % 128 = d := by omega
  simp only [e1, e2]
  interval_cases q
  · exact cols0 i h w gn r ⟨d, hd⟩
  · exact cols128 i h w gn r ⟨d, hd⟩
  · exact cols256 i h w gn r ⟨d, hd⟩
  · exact cols384 i h w gn r ⟨d, hd⟩
  · exact cols512 i h w gn r ⟨d, hd⟩
  · exact cols640 i h w gn r ⟨d, hd⟩
  · exact cols768 i h w gn r ⟨d, hd⟩
  · exact cols896 i h w gn r ⟨d, hd⟩

end Cert.Proj0Ideal.At

end
-- ==== Proof.Proj0Run.lean ====
/-
  THE FIRST LAYER'S INPUT PROJECTION's run: what the windows' blocks and the scratch buffer hold after each point, the body's
  obligation, the launch and the frame.
-/
module

public import proofs.«01_k».proof.Proof.Proj0Body

@[expose] public section

set_option maxRecDepth 16384

noncomputable section

namespace Cert.Proj0Ideal.Run

open Cert.Proj0Ideal Cert.Proj0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of `t`'s row tile. -/
def base (t : Fin cfg0.N) : Fin cfg0.N := ⟨t.val - t.val % 3, Nat.lt_of_le_of_lt (Nat.sub_le _ _) t.isLt⟩

theorem base_first (t : Fin cfg0.N) (h : t.val % 3 = 0) : base t = t := Fin.ext (by show t.val - t.val % 3 = t.val; omega)

theorem base_later (t s : Fin cfg0.N) (hs : s.val = t.val - 1) (h : ¬t.val % 3 = 0) : base s = base t :=
  Fin.ext (by show s.val - s.val % 3 = t.val - t.val % 3; omega)

/-- The row tile's normalised rows, as the scratch buffer holds them; -/
def rows (c : Dev nD) (t : Fin cfg0.N) : Vec F S512x2048 .bf16 := k0_pay2 (iblk m c 0 (base t)) (iblk m c 1 (base t))

/-- the same as a result's block; -/
def rowsOut (c : Dev nD) (t : Fin cfg0.N) : Vec F S512x2048 .bf16 := k0_pay1 (iblk m c 0 (base t)) (iblk m c 1 (base t))

/-- and the row tile's forget logits. -/
def forget (c : Dev nD) (t : Fin cfg0.N) : Vec F S8x512 .f32 := k0_pay3 (iblk m c 0 (base t)) (iblk m c 1 (base t)) (iblk m c 3 (base t))

/-- The scratch buffer as a memref. -/
abbrev scratch : Memref sig .tc .vmem S512x2048 .bf16 := Memref.whole cc0_scratch0

theorem rest_eq (c : Dev nD) :
    (Pipeline.ΦA spec0 c : sProp 𝕄) = iprop(iprop((∃ d, owns (c : Thread nD τ) scratch fullShare d)) ∗ (∃ r, prngReg c r)) := by
  unfold Pipeline.ΦA; rw [scopedRest0_eq]; simp only [scratch, owns_whole]; try rfl

/-- Between points the scratch buffer holds the rows of the point before's row tile; before the first it may hold anything. -/
def inv (c : Dev nD) : (n : ℕ) → n ≤ cfg0.N → sProp 𝕄
  | 0, _ => Pipeline.ΦA spec0 c
  | n + 1, hn => iprop(iprop(owns (c : Thread nD τ) scratch fullShare (rows m c ⟨n, hn⟩)) ∗ (∃ r, prngReg c r))

theorem inv_zero (c : Dev nD) (n : ℕ) (h : n ≤ cfg0.N) (hz : n = 0) : inv m c n h = Pipeline.ΦA spec0 c := by subst hz; rfl

theorem inv_succ (c : Dev nD) (t : Fin cfg0.N) :
    inv m c (t.val + 1) t.isLt = iprop(iprop(owns (c : Thread nD τ) scratch fullShare (rows m c t)) ∗ (∃ r, prngReg c r)) := rfl

theorem inv_pos (c : Dev nD) (n : ℕ) (h : n ≤ cfg0.N) (hz : n ≠ 0) :
    inv m c n h = iprop(iprop(owns (c : Thread nD τ) scratch fullShare (rows m c ⟨n - 1, by omega⟩)) ∗ (∃ r, prngReg c r)) := by
  cases n with
  | zero => exact absurd rfl hz
  | succ n => rfl

/-- The blocks after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => cols (grid0.coords t) (rows m c t) (X0_2 m c t) (iblk m c 4 t)
    | ⟨6, _⟩ => gate (rows m c t) (X0_2 m c t)
    | ⟨7, _⟩ => rowsOut m c t
    | ⟨8, _⟩ => forget m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = cols (grid0.coords t) (rows m c t) (X0_2 m c t) (iblk m c 4 t) := by dsimp only [dats]
theorem after6 (c : Dev nD) (t : Fin cfg0.N) : (dats m 0 c).after 6 t = gate (rows m c t) (X0_2 m c t) := by dsimp only [dats]
theorem after7 (c : Dev nD) (t : Fin cfg0.N) : (dats m 0 c).after 7 t = rowsOut m c t := by dsimp only [dats]
theorem after8 (c : Dev nD) (t : Fin cfg0.N) : (dats m 0 c).after 8 t = forget m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- A window no block of which is cut is filled whole, whatever it held. -/
theorem fill_whole (w : Pipeline.Window sig grid0) (hc : ∀ i a, w.clip i a = none) (i : grid0.Coords) (d d' : w.block.Idx → Elt F w.elt) (g) :
    w.fill i d g = w.fill i d' g := by
  have hm : ∀ j, w.moved i j = true := fun j => by
    exact (w.moved_iff _ j).mpr fun a => by rw [show w.xsize i a = w.size a by unfold Pipeline.Window.xsize; rw [hc]]; exact (j a).isLt
  funext j; unfold Pipeline.Window.fill; rw [dif_pos (hm j), dif_pos (hm j)]

theorem idle7 (t : Fin cfg0.N) : cfg0.idle 7 (cfg0.grid.coords t) = !(decide (t.val % 3 = 0)) := by
  rw [← decide_eq_decide.mpr (first_iff t)]; rfl

theorem idle8 (t : Fin cfg0.N) : cfg0.idle 8 (cfg0.grid.coords t) = !(decide (t.val % 3 = 0)) := by
  rw [← decide_eq_decide.mpr (first_iff t)]; rfl

theorem found7_step (c : Dev nD) (t s : Fin cfg0.N) (hs : s.val = t.val - 1) (h : ¬t.val % 3 = 0) (d) :
    (dats m 0 c).before 7 t d = (dats m 0 c).left 7 s d := by
  have hz : t.val ≠ 0 := fun e => h (by rw [e])
  obtain rfl : s = ⟨t.val - 1, Nat.lt_of_le_of_lt (Nat.sub_le _ _) t.isLt⟩ := Fin.ext hs
  have hfl : ¬((cfg0.win 7).flush ⟨t.val - 1, Nat.lt_of_le_of_lt (Nat.sub_le _ _) t.isLt⟩ = true) :=
    fun e => by have e' := (flush0_7 _).mp e; dsimp only at e'; omega
  rw [Dat.before_of_pos _ _ _ hz (Pipeline.Window.fetch_out _ rfl t), if_neg hfl]

/-- At a later point of a row tile, the block of result 2 is still as the tile's first point left it: -/
theorem before7 (c : Dev nD) : ∀ (t : Fin cfg0.N) (h : ¬t.val % 3 = 0) (d), (dats m 0 c).before 7 t d = rowsOut m c t := by
  have step1 : ∀ (t : Fin cfg0.N) (h : t.val % 3 = 1) (d), (dats m 0 c).before 7 t d = rowsOut m c t := fun t h d => by
    rw [found7_step m c t ⟨t.val - 1, Nat.lt_of_le_of_lt (Nat.sub_le _ _) t.isLt⟩ rfl (by omega)]
    have hi : cfg0.idle 7 (cfg0.grid.coords ⟨t.val - 1, Nat.lt_of_le_of_lt (Nat.sub_le _ _) t.isLt⟩) = false := by
      rw [idle7]; simp only [Bool.not_eq_false', decide_eq_true_eq]; omega
    unfold Dat.left
    rw [hi]
    dsimp only
    unfold Dat.kept
    rw [fill_whole _ (fun _ _ => rfl) _ _ ((dats m 0 c).after 7 ⟨t.val - 1, Nat.lt_of_le_of_lt (Nat.sub_le _ _) t.isLt⟩), Pipeline.Window.fill_cut, after7]
    unfold rowsOut; rw [base_later t _ rfl (by omega)]
  intro t h d
  by_cases h1 : t.val % 3 = 1
  · exact step1 t h1 d
  · rw [found7_step m c t ⟨t.val - 1, Nat.lt_of_le_of_lt (Nat.sub_le _ _) t.isLt⟩ rfl h]
    have hi : cfg0.idle 7 (cfg0.grid.coords ⟨t.val - 1, Nat.lt_of_le_of_lt (Nat.sub_le _ _) t.isLt⟩) = true := by
      rw [idle7]; simp only [Bool.not_eq_true', decide_eq_false_iff_not]; omega
    unfold Dat.left
    rw [hi]
    dsimp only
    rw [step1 _ (by dsimp only; omega)]
    unfold rowsOut; rw [base_later t _ rfl h]

/-- and so it may be handed back either way. -/
theorem hand7 (c : Dev nD) (t : Fin cfg0.N) :
    owns (c : Thread nD τ) (st0_7 t) fullShare ((dats m 0 c).after 7 t) ⊢ (dats m 0 c).leavesExact 7 t := by
  by_cases h : t.val % 3 = 0
  · have hi : cfg0.idle 7 (cfg0.grid.coords t) = false := by rw [idle7]; simp only [h, decide_true, Bool.not_true]
    unfold Dat.leavesExact; rw [hi]
  · have hi : cfg0.idle 7 (cfg0.grid.coords t) = true := by rw [idle7]; simp only [h, decide_false, Bool.not_false]
    by_cases hf : (cfg0.win 7).flush t = true
    · unfold Dat.leavesExact; rw [hi, hf]
    · rw [Dat.leavesExact_idle _ _ _ hi (Bool.eq_false_iff.mpr hf), after7, ← before7 m c t h ((dats m 0 c).after 7 t)]
      iintro H
      iexists _; iexact H

theorem found8_step (c : Dev nD) (t s : Fin cfg0.N) (hs : s.val = t.val - 1) (h : ¬t.val % 3 = 0) (d) :
    (dats m 0 c).before 8 t d = (dats m 0 c).left 8 s d := by
  have hz : t.val ≠ 0 := fun e => h (by rw [e])
  obtain rfl : s = ⟨t.val - 1, Nat.lt_of_le_of_lt (Nat.sub_le _ _) t.isLt⟩ := Fin.ext hs
  have hfl : ¬((cfg0.win 8).flush ⟨t.val - 1, Nat.lt_of_le_of_lt (Nat.sub_le _ _) t.isLt⟩ = true) :=
    fun e => by have e' := (flush0_8 _).mp e; dsimp only at e'; omega
  rw [Dat.before_of_pos _ _ _ hz (Pipeline.Window.fetch_out _ rfl t), if_neg hfl]

/-- At a later point of a row tile, the block of result 3 is still as the tile's first point left it: -/
theorem before8 (c : Dev nD) : ∀ (t : Fin cfg0.N) (h : ¬t.val % 3 = 0) (d), (dats m 0 c).before 8 t d = forget m c t := by
  have step1 : ∀ (t : Fin cfg0.N) (h : t.val % 3 = 1) (d), (dats m 0 c).before 8 t d = forget m c t := fun t h d => by
    rw [found8_step m c t ⟨t.val - 1, Nat.lt_of_le_of_lt (Nat.sub_le _ _) t.isLt⟩ rfl (by omega)]
    have hi : cfg0.idle 8 (cfg0.grid.coords ⟨t.val - 1, Nat.lt_of_le_of_lt (Nat.sub_le _ _) t.isLt⟩) = false := by
      rw [idle8]; simp only [Bool.not_eq_false', decide_eq_true_eq]; omega
    unfold Dat.left
    rw [hi]
    dsimp only
    unfold Dat.kept
    rw [fill_whole _ (fun _ _ => rfl) _ _ ((dats m 0 c).after 8 ⟨t.val - 1, Nat.lt_of_le_of_lt (Nat.sub_le _ _) t.isLt⟩), Pipeline.Window.fill_cut, after8]
    unfold forget; rw [base_later t _ rfl (by omega)]
  intro t h d
  by_cases h1 : t.val % 3 = 1
  · exact step1 t h1 d
  · rw [found8_step m c t ⟨t.val - 1, Nat.lt_of_le_of_lt (Nat.sub_le _ _) t.isLt⟩ rfl h]
    have hi : cfg0.idle 8 (cfg0.grid.coords ⟨t.val - 1, Nat.lt_of_le_of_lt (Nat.sub_le _ _) t.isLt⟩) = true := by
      rw [idle8]; simp only [Bool.not_eq_true', decide_eq_false_iff_not]; omega
    unfold Dat.left
    rw [hi]
    dsimp only
    rw [step1 _ (by dsimp only; omega)]
    unfold forget; rw [base_later t _ rfl h]

/-- and so it may be handed back either way. -/
theorem hand8 (c : Dev nD) (t : Fin cfg0.N) :
    owns (c : Thread nD τ) (st0_8 t) fullShare ((dats m 0 c).after 8 t) ⊢ (dats m 0 c).leavesExact 8 t := by
  by_cases h : t.val % 3 = 0
  · have hi : cfg0.idle 8 (cfg0.grid.coords t) = false := by rw [idle8]; simp only [h, decide_true, Bool.not_true]
    unfold Dat.leavesExact; rw [hi]
  · have hi : cfg0.idle 8 (cfg0.grid.coords t) = true := by rw [idle8]; simp only [h, decide_false, Bool.not_false]
    by_cases hf : (cfg0.win 8).flush t = true
    · unfold Dat.leavesExact; rw [hi, hf]
    · rw [Dat.leavesExact_idle _ _ _ hi (Bool.eq_false_iff.mpr hf), after8, ← before8 m c t h ((dats m 0 c).after 8 t)]
      iintro H
      iexists _; iexact H

theorem rows_later (c : Dev nD) (t : Fin cfg0.N) (h : ¬t.val % 3 = 0) (hlt : t.val - 1 < cfg0.N) : rows m c ⟨t.val - 1, hlt⟩ = rows m c t := by
  unfold rows; rw [base_later t _ rfl h]

/-- What the body is handed at a point -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5, after6, after7, after8]
  rw [show (dats m 0 c).Φ t.succ = inv m c (t.val + 1) t.isLt from rfl, inv_succ, inv_castSucc]
  by_cases h0 : t.val % 3 = 0
  · have hr : rows m c t = k0_pay2 (iblk m c 0 t) (iblk m c 1 t) := by unfold rows; rw [base_first t h0]
    have ho : rowsOut m c t = k0_pay1 (iblk m c 0 t) (iblk m c 1 t) := by unfold rowsOut; rw [base_first t h0]
    have hf : forget m c t = k0_pay3 (iblk m c 0 t) (iblk m c 1 t) (iblk m c 3 t) := by unfold forget; rw [base_first t h0]
    have hs : inv m c t.val (Nat.le_of_lt t.isLt) ⊢ iprop(iprop((∃ d, owns (c : Thread nD τ) scratch fullShare d)) ∗ (∃ r, prngReg c r)) := by
      by_cases hz : t.val = 0
      · rw [inv_zero m c _ _ hz, rest_eq]
      · rw [inv_pos m c _ _ hz]
        iintro ⟨HS, Hg⟩
        isplitl [HS]
        · iexists _; iexact HS
        iexact Hg
    rw [hr, ho, hf]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ := hs $$ HΦ
    icases HΦ with ⟨HS, Hg⟩
    iapply (run_first c (grid0.coords t) _ _ _ _ _ _ _ _ _ _ _ _ _ _ _ _ _ _ _ _ ((first_iff t).mpr h0) (iblk m c 0 t) (iblk m c 1 t) (X0_2 m c t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := fun e => h0 (by rw [e])
    rw [inv_pos m c _ _ hz, rows_later m c t h0]
    simp only [before7 m c t h0, before8 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later c (grid0.coords t) _ _ _ _ _ _ _ _ _ _ _ _ _ _ _ _ _ _ _ _ (fun h => h0 ((first_iff t).mp h)) (iblk m c 0 t) (iblk m c 1 t) (X0_2 m c t) (iblk m c 3 t) (iblk m c 4 t) (rows m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  refine triple_restated (sound_body m c t) rfl .rfl fun _ => ?_
  unfold bodyPost
  iintro ⟨HΦ, Ho, H0, H1, H2, H3, H4, H5, H6, H7, H8⟩
  ihave H7 := hand7 m c t $$ H7
  ihave H8 := hand8 m c t $$ H8
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem enter (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem leave (c : Dev nD) : (dats m 0 c).Φ (Fin.last cfg0.N) ⊢ Pipeline.ΦA spec0 c := by
  have hN : cfg0.N = 192 := N_0
  rw [show (dats m 0 c).Φ (Fin.last cfg0.N) = inv m c cfg0.N le_rfl from rfl, inv_pos m c _ _ (by omega), rest_eq]
  iintro ⟨HS, Hg⟩
  isplitl [HS]
  · iexists _; iexact HS
  iexact Hg

set_option backward.isDefEq.respectTransparency.types false in
/-- The launch: every array ends at what the blocks make of it, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_post : θ_run defs (onTc (τ := τ) (main (F := F))) (s₀ m ρ) (Pipeline.FramePost cfgs (dats m) 0 (V m)) :=
  (θ_run defs _ _).mono (fun _ h => h.1) (run_quiescent m ρ)

/-- The frame: the arguments end unchanged and the machine is quiescent. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_post m ρ)) ((θ_run defs _ _).mono (fun _ h => h.2) (run_quiescent m ρ))

end Cert.Proj0Ideal.Run

end
-- ==== Proof.Proj0Blocks.lean ====
/-
  THE FIRST LAYER'S INPUT PROJECTION, the windows' blocks read off the arguments: grid point `t` is branch `t % 3` of row tile `t / 3`.
-/
module

public import proofs.«01_k».proof.Proof.Proj0Run
public import proofs.«01_k».proof.Proof.ProjSum

@[expose] public section

noncomputable section

namespace Cert.Proj0Ideal.Blocks

open Cert.Proj0Ideal Cert.Proj0Ideal.Gen Cert.Proj0Ideal.Run Idealize.ShloMosaic Idealize.ShloMosaic.TcCoe
open Cert.ProjIdeal.Sum (hn wt pj gain)

variable (m : (ℓ : Loc nD τ sig) → Buf (Elt Ideal) ℓ)

/-- The printed index maps, decided over the 192 points. -/
theorem idx_facts : ∀ t : Fin cfg0.N,
    (win0_0.index t (0 : Fin 2) = t.val / 3 ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = t.val % 3)
    ∧ (win0_3.index t (0 : Fin 3) = 0 ∧ win0_3.index t (1 : Fin 3) = 0 ∧ win0_3.index t (2 : Fin 3) = 0)
    ∧ (win0_4.index t (0 : Fin 3) = t.val % 3 ∧ win0_4.index t (1 : Fin 3) = 0 ∧ win0_4.index t (2 : Fin 3) = 0)
    ∧ (win0_5.index t (0 : Fin 2) = t.val / 3 ∧ win0_5.index t (1 : Fin 2) = t.val % 3)
    ∧ (win0_6.index t (0 : Fin 2) = t.val / 3 ∧ win0_6.index t (1 : Fin 2) = t.val % 3)
    ∧ (win0_7.index t (0 : Fin 2) = t.val / 3 ∧ win0_7.index t (1 : Fin 2) = 0)
    ∧ (win0_8.index t (0 : Fin 2) = 0 ∧ win0_8.index t (1 : Fin 2) = t.val / 3) :=
  (by decide +kernel : ∀ t : Fin grid0.N, _)

theorem lt_N (t : Fin cfg0.N) : t.val < 192 := lt_of_lt_of_eq t.isLt N_0

/-! What the host hands the kernel. -/

/-- The forget gate's columns of the weights, laid out as eight rows of which four are zeros; -/
def forgetRows (x : FVec Ideal S2x2048x12292 .f32) : FVec Ideal S2x8x2048 .bf16 :=
  truncf .bf16 (pad S2x8x2048 ![0, 0, 0] ![0, 4, 0] ![0, 0, 0]
    (transpose S2x4x2048 [0, 2, 1] (extractStridedSlice S2x2048x4 ![0, 0, 6144] x slices_S2x2048x12292_S2x2048x4_0_0_6144) transposes_S2x2048x4_S2x4x2048_0_2_1)
    (sitofp .f32 (constantI S_ 32 0#32) : FVec Ideal S_ .f32) pads_S2x4x2048_S2x8x2048_000_040_000 h_S_) bitsLt_bf16_f32

/-- the norm's gains with an axis of extent 1; -/
def normRows (x : FVec Ideal S2x2048 .f32) : FVec Ideal S2x1x2048 .f32 := shapeCast S2x1x2048 x shapeCasts_S2x2048_S2x1x2048

/-- the layer's four head gains; -/
def headGains (x : FVec Ideal S2x4x128 .f32) : FVec Ideal S4x128 .f32 :=
  shapeCast S4x128 (extractStridedSlice S1x4x128 ![0, 0, 0] x slices_S2x4x128_S1x4x128_0_0_0) shapeCasts_S1x4x128_S4x128

/-- one of them, repeated for four heads; -/
def four (x : FVec Ideal S1x128 .f32) : FVec Ideal S512 .f32 :=
  shapeCast S512 (broadcastInDim S4x128 ![0, 1] bcast_S1x128_S4x128_0_1 (shapeCast S1x128 (shapeCast S128 x shapeCasts_S1x128_S128) shapeCasts_S128_S1x128)) shapeCasts_S4x128_S512

/-- ones; -/
def ones : FVec Ideal S512 .f32 := broadcastInDim S512 ![] bcast_S_S512 (constant S_ .f32 0x3F800000#32)

/-- a branch's gains; -/
def three (x y z : FVec Ideal S512 .f32) : FVec Ideal S1x1536 .f32 :=
  broadcastInDim S1x1536 ![1] bcast_S1536_S1x1536_1 (concatenate S1536 0 [⟨S512, x⟩, ⟨S512, y⟩, ⟨S512, z⟩] concatenates_S512_S512_S512_S1536_d0)

/-- and the three branches' gains. -/
def gains (x : FVec Ideal S2x4x128 .f32) : FVec Ideal S3x1x1536 .f32 :=
  shapeCast S3x1x1536 (concatenate S3x1536 0
    [⟨S1x1536, three (four (extractStridedSlice S1x128 ![0, 0] (headGains x) slices_S4x128_S1x128_0_0)) (four (extractStridedSlice S1x128 ![1, 0] (headGains x) slices_S4x128_S1x128_1_0)) ones⟩,
     ⟨S1x1536, three (four (extractStridedSlice S1x128 ![2, 0] (headGains x) slices_S4x128_S1x128_2_0)) (four (extractStridedSlice S1x128 ![3, 0] (headGains x) slices_S4x128_S1x128_3_0)) ones⟩,
     ⟨S1x1536, three ones ones ones⟩] concatenates_S1x1536_S1x1536_S1x1536_S3x1536_d0) shapeCasts_S3x1536_S3x1x1536

theorem forgetRows_apply (x : FVec Ideal S2x2048x12292 .f32) (a : Fin 2) (h : Fin 8) (k : Fin 2048) :
    forgetRows x (ix3 a h k) = if h.val < 4 then wt a x k (6144 + h.val) else 0 := by
  pointwise [forgetRows]
  split
  · rw [wt, dif_pos (by omega)]
    try rfl
  · show (((0#32 : BitVec 32).toInt : ℝ) : EReal) = 0
    simp

theorem normRows_apply (x : FVec Ideal S2x2048 .f32) (a : Fin 2) (k : Fin 2048) : normRows x (ix3 a 0 k) = x (ix2 a k) := by
  pointwise [normRows]

theorem headGains_apply (x : FVec Ideal S2x4x128 .f32) (s : Fin 4) (d : Fin 128) : headGains x (ix2 s d) = gain 0 x s.val d.val := by
  pointwise [headGains]
  rw [gain, dif_pos ⟨s.isLt, d.isLt⟩]

theorem four_apply (x : FVec Ideal S1x128 .f32) (o : Fin 512) : four x (ix1 o) = x (ix2 0 ⟨o.val % 128, by omega⟩) := by
  pointwise [four]

theorem ones_apply (o : Fin 512) : ones (ix1 o) = 1 := by
  pointwise [ones]

theorem three_apply (x y z : FVec Ideal S512 .f32) (o : Fin 1536) :
    three x y z (ix2 0 o) = if h : o.val < 512 then x (ix1 ⟨o.val, h⟩) else if h : o.val - 512 < 512 then y (ix1 ⟨o.val - 512, h⟩)
      else z (ix1 ⟨o.val - 512 - 512, by omega⟩) := by
  pointwise [three]

theorem row_apply (x y : FVec Ideal S1x128 .f32) (o : Fin 1536) (ho : o.val < 1024) :
    three (four x) (four y) ones (ix2 0 o) = if o.val / 512 = 0 then x (ix2 0 ⟨o.val % 128, by omega⟩) else y (ix2 0 ⟨o.val % 128, by omega⟩) := by
  rw [three_apply]
  split
  · rw [if_pos (by omega), four_apply]
  · rw [dif_pos (by omega), if_neg (by omega), four_apply]
    refine congrArg y (congrArg (ix2 0) (Fin.ext ?_))
    show (o.val - 512) % 128 = o.val % 128
    omega

theorem gains_apply (x : FVec Ideal S2x4x128 .f32) (n : Fin 3) (o : Fin 1536) (ho : o.val < 1024) :
    gains x (ix3 n 0 o) = if n.val < 2 then gain 0 x (2 * n.val + o.val / 512) (o.val % 128) else 1 := by
  have s : ∀ (s : Fin 4) (inb : S4x128.Slices ![s.val, 0] S1x128) (d : Fin 128),
      extractStridedSlice S1x128 ![s.val, 0] (headGains x) inb (ix2 0 d) = gain 0 x s.val d.val := fun s inb d => by
    pointwise []
    exact headGains_apply x s d
  have l := lt_or_ge o.val 512
  fin_cases n
  · rw [if_pos (by decide)]
    pointwise [gains]
    rw [row_apply _ _ _ ho]
    split
    · rw [show o.val / 512 = 0 from by omega]; exact s 0 _ _
    · rw [show o.val / 512 = 1 from by omega]; exact s 1 _ _
  · rw [if_pos (by decide)]
    pointwise [gains]
    rw [row_apply _ _ _ ho]
    split
    · rw [show (2 * 1 + o.val / 512) = 2 from by omega]; exact s 2 _ _
    · rw [show (2 * 1 + o.val / 512) = 3 from by omega]; exact s 3 _ _
  · rw [if_neg (by decide)]
    pointwise [gains]
    rw [three_apply]
    split
    · exact ones_apply _
    · rw [dif_pos (by omega)]; exact ones_apply _

theorem V_main_v0 (c : Dev nD) : @Eq (FVec Ideal S2x2048x12292 .f32) (V m c main_v0) (m ((c : Thread nD τ).loc main_arg2)) := by
  show StableHlo.after (List.flatten [hostOps0, hostOps0_1, hostOps0_2]) _ (Proc.devRef .tc main_v0) = _
  simp only [hostOps0, hostOps0_1, hostOps0_2, List.flatten_cons, List.flatten_nil, List.append_nil, List.cons_append, List.nil_append]
  after_results
  rfl

theorem V_main_v4 (c : Dev nD) : @Eq (FVec Ideal S2x8x2048 .bf16) (V m c main_v4) (forgetRows (m ((c : Thread nD τ).loc main_arg2))) := by
  show StableHlo.after (List.flatten [hostOps0, hostOps0_1, hostOps0_2]) _ (Proc.devRef .tc main_v4) = _
  simp only [hostOps0, hostOps0_1, hostOps0_2, List.flatten_cons, List.flatten_nil, List.append_nil, List.cons_append, List.nil_append]
  after_results
  rfl

theorem V_main_v5 (c : Dev nD) : @Eq (FVec Ideal S2x1x2048 .f32) (V m c main_v5) (normRows (m ((c : Thread nD τ).loc main_arg1))) := by
  show StableHlo.after (List.flatten [hostOps0, hostOps0_1, hostOps0_2]) _ (Proc.devRef .tc main_v5) = _
  simp only [hostOps0, hostOps0_1, hostOps0_2, List.flatten_cons, List.flatten_nil, List.append_nil, List.cons_append, List.nil_append]
  after_results
  rfl

theorem V_main_v36 (c : Dev nD) : @Eq (FVec Ideal S3x1x1536 .f32) (V m c main_v36) (gains (m ((c : Thread nD τ).loc main_arg3))) := by
  show StableHlo.after (List.flatten [hostOps0, hostOps0_1, hostOps0_2]) _ (Proc.devRef .tc main_v36) = _
  simp only [hostOps0, hostOps0_1, hostOps0_2, List.flatten_cons, List.flatten_nil, List.append_nil, List.cons_append, List.nil_append]
  after_results
  rfl

/-! The blocks at an index. -/

variable (c : Dev nD) (t : Fin cfg0.N)

abbrev row (t : Fin cfg0.N) (r : Fin 512) : Fin 32768 := ⟨512 * (t.val / 3) + r.val, by have := lt_N t; have := r.isLt; omega⟩

theorem row_base (r : Fin 512) : row (base t) r = row t r := by
  apply Fin.ext
  show 512 * ((t.val - t.val % 3) / 3) + r.val = 512 * (t.val / 3) + r.val
  omega

theorem blk0 (r : Fin 512) (d : Fin 2048) : (iblk m c 0 t : Vec Ideal S512x2048 .f32) (ix2 r d)
    = (m ((c : Thread nD τ).loc main_arg0) : Vec Ideal S32768x2048 .f32) (ix2 (row t r) d) := by
  show V m c main_arg0 (((cfg0.win 0).blk t).view.emb (ix2 r d)) = _
  rw [V_main_arg0]
  refine congrArg (m ((c : Thread nD τ).loc main_arg0)) ?_
  obtain ⟨⟨e0, e1⟩, -⟩ := idx_facts t
  funext a; apply Fin.ext
  match a with
  | ⟨0, _⟩ => show win0_0.index t (0 : Fin 2) * 512 + 1 * r.val = 512 * (t.val / 3) + r.val; omega
  | ⟨1, _⟩ => show win0_0.index t (1 : Fin 2) * 2048 + 1 * d.val = d.val; omega

theorem blk1 (d : Fin 2048) : (iblk m c 1 t : Vec Ideal S1x1x2048 .f32) (ix3 0 0 d)
    = (m ((c : Thread nD τ).loc main_arg1) : Vec Ideal S2x2048 .f32) (ix2 0 d) := by
  show V m c main_v5 (((cfg0.win 1).blk t).view.emb (ix3 0 0 d)) = _
  rw [V_main_v5]
  refine Eq.trans ?_ (normRows_apply (m ((c : Thread nD τ).loc main_arg1)) 0 d)
  refine congrArg (normRows (m ((c : Thread nD τ).loc main_arg1))) ?_
  obtain ⟨-, ⟨e0, e1, e2⟩, -⟩ := idx_facts t
  funext a; apply Fin.ext
  match a with
  | ⟨0, _⟩ => show win0_1.index t (0 : Fin 3) * 1 + 1 * 0 = 0; omega
  | ⟨1, _⟩ => show win0_1.index t (1 : Fin 3) * 1 + 1 * 0 = 0; omega
  | ⟨2, _⟩ => show win0_1.index t (2 : Fin 3) * 2048 + 1 * d.val = d.val; omega

theorem blk2 (k : Fin 2048) (e : Fin 2048) : (X0_2 m c t : Vec Ideal S1x2048x2048 .bf16) (ix3 0 k e)
    = wt 0 (m ((c : Thread nD τ).loc main_arg2)) k (2048 * (t.val % 3) + e.val) := by
  have he := e.isLt
  unfold X0_2 Pipeline.Window.fill
  rw [dif_pos (moved0_2 t _), wt, dif_pos (by omega)]
  show V m c main_v0 (((cfg0.win 2).blk t).view.emb _) = _
  rw [V_main_v0]
  refine congrArg (m ((c : Thread nD τ).loc main_arg2)) ?_
  obtain ⟨-, -, ⟨e0, e1, e2⟩, -⟩ := idx_facts t
  funext a; apply Fin.ext
  match a with
  | ⟨0, _⟩ => show win0_2.index t (0 : Fin 3) * 1 + 1 * 0 = 0; omega
  | ⟨1, _⟩ => show win0_2.index t (1 : Fin 3) * 2048 + 1 * k.val = k.val; omega
  | ⟨2, _⟩ => show win0_2.index t (2 : Fin 3) * 2048 + 1 * e.val = 2048 * (t.val % 3) + e.val; omega

theorem blk3 (h : Fin 8) (k : Fin 2048) : (iblk m c 3 t : Vec Ideal S1x8x2048 .bf16) (ix3 0 h k)
    = if h.val < 4 then wt 0 (m ((c : Thread nD τ).loc main_arg2)) k (6144 + h.val) else 0 := by
  show V m c main_v4 (((cfg0.win 3).blk t).view.emb (ix3 0 h k)) = _
  rw [V_main_v4]
  refine Eq.trans ?_ (forgetRows_apply (m ((c : Thread nD τ).loc main_arg2)) 0 h k)
  refine congrArg (forgetRows (m ((c : Thread nD τ).loc main_arg2))) ?_
  obtain ⟨-, -, -, ⟨e0, e1, e2⟩, -⟩ := idx_facts t
  funext a; apply Fin.ext
  match a with
  | ⟨0, _⟩ => show win0_3.index t (0 : Fin 3) * 1 + 1 * 0 = 0; omega
  | ⟨1, _⟩ => show win0_3.index t (1 : Fin 3) * 8 + 1 * h.val = h.val; omega
  | ⟨2, _⟩ => show win0_3.index t (2 : Fin 3) * 2048 + 1 * k.val = k.val; omega

theorem blk4 (o : Fin 1536) (ho : o.val < 1024) : (iblk m c 4 t : Vec Ideal S1x1x1536 .f32) (ix3 0 0 o)
    = if t.val % 3 < 2 then gain 0 (m ((c : Thread nD τ).loc main_arg3)) (2 * (t.val % 3) + o.val / 512) (o.val % 128) else 1 := by
  show V m c main_v36 (((cfg0.win 4).blk t).view.emb (ix3 0 0 o)) = _
  rw [V_main_v36]
  refine Eq.trans ?_ (gains_apply (m ((c : Thread nD τ).loc main_arg3)) ⟨t.val % 3, by omega⟩ o ho)
  refine congrArg (gains (m ((c : Thread nD τ).loc main_arg3))) ?_
  obtain ⟨-, -, -, -, ⟨e0, e1, e2⟩, -⟩ := idx_facts t
  funext a; apply Fin.ext
  match a with
  | ⟨0, _⟩ => show win0_4.index t (0 : Fin 3) * 1 + 1 * 0 = t.val % 3; omega
  | ⟨1, _⟩ => show win0_4.index t (1 : Fin 3) * 1 + 1 * 0 = 0; omega
  | ⟨2, _⟩ => show win0_4.index t (2 : Fin 3) * 1536 + 1 * o.val = o.val; omega

end Cert.Proj0Ideal.Blocks

end
-- ==== Proof.Proj0Ref.lean ====
/-
  THE FIRST LAYER'S INPUT PROJECTION'S REFERENCE at an index: the plain program's four results are the formula's arrays.
-/
module

public import proofs.«01_k».proof.Proof.ProjSum
public import proofs.«01_k».proof.Proof.Gen.ProjRef0Ideal.Read

@[expose] public section

noncomputable section

namespace Cert.ProjRef0Ideal.AtIndex

open Cert.ProjRef0Ideal Cert.ProjRef0Ideal.Gen Cert.ProjRef0Ideal.Read Idealize.ShloMosaic Idealize.ShloMosaic.TcCoe
open Cert.ProjIdeal.Sum (hn wt pj gain head elem silu logits qkvs gates rows forgets)

variable (x0 : FVec Ideal S32768x2048 .f32) (x1 : FVec Ideal S2x2048 .f32) (x2 : FVec Ideal S2x2048x12292 .f32)
  (x3 : FVec Ideal S2x4x128 .f32)

theorem v14 (r : Fin 32768) (k : Fin 2048) : val_main_v14 (F := Ideal) x0 x1 (ix2 r k) = hn 0 x0 x1 r k := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_call0_cst, val_main_call0_cst_0, val_main_c]
  try rfl

theorem v17 (r : Fin 32768) (e : Fin 6148) : val_main_v17 (F := Ideal) x0 x1 x2 (ix2 r e) = pj 0 x0 x1 x2 r e.val := by
  have he := e.isLt
  pointwise [val_main_v15, val_main_v16, val_main_v17]
  unfold pj
  refine Finset.sum_congr rfl fun k _ => ?_
  rw [v14, wt, dif_pos (by omega)]
  try rfl

/-- The projection's columns laid out by branch and part: the column's number is all that counts. -/
theorem v19 (r : Fin 32768) (n : Fin 3) (p : Fin 4) (o : Fin 512) (e : ℕ) (he : e = 2048 * n.val + 512 * p.val + o.val) :
    val_main_v19 (F := Ideal) x0 x1 x2 (ix4 r n p o) = pj 0 x0 x1 x2 r e := by
  have hn' := n.isLt; have hp := p.isLt; have ho := o.isLt
  pointwise [val_main_v18, val_main_v19]
  rw [v17]
  refine congrArg (pj 0 x0 x1 x2 r) ?_
  show n.val * 2048 + p.val * 512 + o.val = e
  omega

/-! The normalised heads: queries and keys of two branches. -/

theorem zero_word : (Ideal.ofBits FTy.f32 0x00000000#32 : EReal) = 0 := by simp [Ideal.ofBits, Ideal.ieee]
theorem one_word : (Ideal.ofBits FTy.f32 0x3F800000#32 : EReal) = 1 := by simp [Ideal.ofBits, Ideal.ieee, -EReal.coe_mul]; norm_num

theorem v40 (r : Fin 32768) (h : Fin 4) (d : Fin 128) :
    val_main_v40 (F := Ideal) x0 x1 x2 x3 (ix3 r h d)
      = head 0 x0 x1 x2 r (128 * h.val) d.val (x3 (ix3 0 0 d)) := by
  have hh := h.isLt
  pointwise [val_main_v21, val_main_v22, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_call0_cst, val_main_call0_cst_0, val_main_c]
  have E : ∀ (j : Fin 128) (b : h.val * 128 + j.val < 512), val_main_v19 (F := Ideal) x0 x1 x2 (ix4 r 0 0 ⟨h.val * 128 + j.val, b⟩)
      = pj 0 x0 x1 x2 r (128 * h.val + j.val) := fun j b => v19 x0 x1 x2 r _ _ _ _ (by
        show 128 * h.val + j.val = 2048 * 0 + 512 * 0 + (h.val * 128 + j.val); omega)
  simp only [E, zero_word, zero_add]
  try rfl

theorem v41 (r : Fin 32768) (o : Fin 512) (e d : ℕ) (he : e = 128 * (o.val / 128)) (hd : d = o.val % 128) :
    val_main_v41 (F := Ideal) x0 x1 x2 x3 (ix2 r o) = head 0 x0 x1 x2 r e d (gain 0 x3 0 d) := by
  have ho := o.isLt
  subst he hd
  pointwise [val_main_v41]
  rw [v40, gain, dif_pos ⟨by omega, by omega⟩]
  try rfl

theorem v59 (r : Fin 32768) (h : Fin 4) (d : Fin 128) :
    val_main_v59 (F := Ideal) x0 x1 x2 x3 (ix3 r h d)
      = head 0 x0 x1 x2 r (512 + 128 * h.val) d.val (x3 (ix3 0 1 d)) := by
  have hh := h.isLt
  pointwise [val_main_v21, val_main_v22, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_call0_cst, val_main_call0_cst_0, val_main_c]
  have E : ∀ (j : Fin 128) (b : h.val * 128 + j.val < 512), val_main_v19 (F := Ideal) x0 x1 x2 (ix4 r 0 1 ⟨h.val * 128 + j.val, b⟩)
      = pj 0 x0 x1 x2 r (512 + 128 * h.val + j.val) := fun j b => v19 x0 x1 x2 r _ _ _ _ (by
        show 512 + 128 * h.val + j.val = 2048 * 0 + 512 * 1 + (h.val * 128 + j.val); omega)
  simp only [E, zero_word, zero_add]
  try rfl

theorem v60 (r : Fin 32768) (o : Fin 512) (e d : ℕ) (he : e = 512 + 128 * (o.val / 128)) (hd : d = o.val % 128) :
    val_main_v60 (F := Ideal) x0 x1 x2 x3 (ix2 r o) = head 0 x0 x1 x2 r e d (gain 0 x3 1 d) := by
  have ho := o.isLt
  subst he hd
  pointwise [val_main_v60]
  rw [v59, gain, dif_pos ⟨by omega, by omega⟩]
  try rfl

theorem v80 (r : Fin 32768) (h : Fin 4) (d : Fin 128) :
    val_main_v80 (F := Ideal) x0 x1 x2 x3 (ix3 r h d)
      = head 0 x0 x1 x2 r (2048 + 128 * h.val) d.val (x3 (ix3 0 2 d)) := by
  have hh := h.isLt
  pointwise [val_main_v21, val_main_v22, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_call0_cst, val_main_call0_cst_0, val_main_c]
  have E : ∀ (j : Fin 128) (b : h.val * 128 + j.val < 512), val_main_v19 (F := Ideal) x0 x1 x2 (ix4 r 1 0 ⟨h.val * 128 + j.val, b⟩)
      = pj 0 x0 x1 x2 r (2048 + 128 * h.val + j.val) := fun j b => v19 x0 x1 x2 r _ _ _ _ (by
        show 2048 + 128 * h.val + j.val = 2048 * 1 + 512 * 0 + (h.val * 128 + j.val); omega)
  simp only [E, zero_word, zero_add]
  try rfl

theorem v81 (r : Fin 32768) (o : Fin 512) (e d : ℕ) (he : e = 2048 + 128 * (o.val / 128)) (hd : d = o.val % 128) :
    val_main_v81 (F := Ideal) x0 x1 x2 x3 (ix2 r o) = head 0 x0 x1 x2 r e d (gain 0 x3 2 d) := by
  have ho := o.isLt
  subst he hd
  pointwise [val_main_v81]
  rw [v80, gain, dif_pos ⟨by omega, by omega⟩]
  try rfl

theorem v99 (r : Fin 32768) (h : Fin 4) (d : Fin 128) :
    val_main_v99 (F := Ideal) x0 x1 x2 x3 (ix3 r h d)
      = head 0 x0 x1 x2 r (2560 + 128 * h.val) d.val (x3 (ix3 0 3 d)) := by
  have hh := h.isLt
  pointwise [val_main_v21, val_main_v22, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_call0_cst, val_main_call0_cst_0, val_main_c]
  have E : ∀ (j : Fin 128) (b : h.val * 128 + j.val < 512), val_main_v19 (F := Ideal) x0 x1 x2 (ix4 r 1 1 ⟨h.val * 128 + j.val, b⟩)
      = pj 0 x0 x1 x2 r (2560 + 128 * h.val + j.val) := fun j b => v19 x0 x1 x2 r _ _ _ _ (by
        show 2560 + 128 * h.val + j.val = 2048 * 1 + 512 * 1 + (h.val * 128 + j.val); omega)
  simp only [E, zero_word, zero_add]
  try rfl

theorem v100 (r : Fin 32768) (o : Fin 512) (e d : ℕ) (he : e = 2560 + 128 * (o.val / 128)) (hd : d = o.val % 128) :
    val_main_v100 (F := Ideal) x0 x1 x2 x3 (ix2 r o) = head 0 x0 x1 x2 r e d (gain 0 x3 3 d) := by
  have ho := o.isLt
  subst he hd
  pointwise [val_main_v100]
  rw [v99, gain, dif_pos ⟨by omega, by omega⟩]
  try rfl

theorem v62 (r : Fin 32768) (o : Fin 512) (e : ℕ) (he : e = 1024 + o.val) :
    val_main_v62 (F := Ideal) x0 x1 x2 (ix2 r o) = pj 0 x0 x1 x2 r e := by
  pointwise [val_main_v61, val_main_v62]
  refine v19 x0 x1 x2 r _ _ _ e ?_
  subst he
  try rfl

theorem v102 (r : Fin 32768) (o : Fin 512) (e : ℕ) (he : e = 3072 + o.val) :
    val_main_v102 (F := Ideal) x0 x1 x2 (ix2 r o) = pj 0 x0 x1 x2 r e := by
  pointwise [val_main_v101, val_main_v102]
  refine v19 x0 x1 x2 r _ _ _ e ?_
  subst he
  try rfl

theorem v104 (r : Fin 32768) (o : Fin 512) (e : ℕ) (he : e = 4096 + o.val) :
    val_main_v104 (F := Ideal) x0 x1 x2 (ix2 r o) = pj 0 x0 x1 x2 r e := by
  pointwise [val_main_v103, val_main_v104]
  refine v19 x0 x1 x2 r _ _ _ e ?_
  subst he
  try rfl

theorem v106 (r : Fin 32768) (o : Fin 512) (e : ℕ) (he : e = 4608 + o.val) :
    val_main_v106 (F := Ideal) x0 x1 x2 (ix2 r o) = pj 0 x0 x1 x2 r e := by
  pointwise [val_main_v105, val_main_v106]
  refine v19 x0 x1 x2 r _ _ _ e ?_
  subst he
  try rfl

theorem v108 (r : Fin 32768) (o : Fin 512) (e : ℕ) (he : e = 5120 + o.val) :
    val_main_v108 (F := Ideal) x0 x1 x2 (ix2 r o) = pj 0 x0 x1 x2 r e := by
  pointwise [val_main_v107, val_main_v108]
  refine v19 x0 x1 x2 r _ _ _ e ?_
  subst he
  try rfl

/-- The queries, keys and values, part by part. -/
theorem v116 (r : Fin 32768) (c : Fin 4608) :
    val_main_v116 (F := Ideal) x0 x1 x2 x3 (ix2 r c) = elem 0 x0 x1 x2 x3 r (c.val / 1536) (c.val % 1536) := by
  have hc := c.isLt
  pointwise [val_main_v109, val_main_v116]
  unfold elem
  split
  · rw [v41 x0 x1 x2 x3 r _ (2048 * (c.val / 1536) + 128 * (c.val % 1536 / 128)) (c.val % 1536 % 128) (by simp only []; omega) (by simp only []; omega), if_pos (by omega),
      show 2 * (c.val / 1536) + c.val % 1536 / 512 = 0 from by omega]
  split
  · rw [v60 x0 x1 x2 x3 r _ (2048 * (c.val / 1536) + 128 * (c.val % 1536 / 128)) (c.val % 1536 % 128) (by simp only []; omega) (by simp only []; omega), if_pos (by omega),
      show 2 * (c.val / 1536) + c.val % 1536 / 512 = 1 from by omega]
  split
  · rw [v62 x0 x1 x2 r _ (2048 * (c.val / 1536) + c.val % 1536) (by simp only []; omega), if_neg (by omega)]
  split
  · rw [v81 x0 x1 x2 x3 r _ (2048 * (c.val / 1536) + 128 * (c.val % 1536 / 128)) (c.val % 1536 % 128) (by simp only []; omega) (by simp only []; omega), if_pos (by omega),
      show 2 * (c.val / 1536) + c.val % 1536 / 512 = 2 from by omega]
  split
  · rw [v100 x0 x1 x2 x3 r _ (2048 * (c.val / 1536) + 128 * (c.val % 1536 / 128)) (c.val % 1536 % 128) (by simp only []; omega) (by simp only []; omega), if_pos (by omega),
      show 2 * (c.val / 1536) + c.val % 1536 / 512 = 3 from by omega]
  split
  · rw [v102 x0 x1 x2 r _ (2048 * (c.val / 1536) + c.val % 1536) (by simp only []; omega), if_neg (by omega)]
  split
  · rw [v104 x0 x1 x2 r _ (2048 * (c.val / 1536) + c.val % 1536) (by simp only []; omega), if_neg (by omega)]
  split
  · rw [v106 x0 x1 x2 r _ (2048 * (c.val / 1536) + c.val % 1536) (by simp only []; omega), if_neg (by omega)]
  rw [v108 x0 x1 x2 r _ (2048 * (c.val / 1536) + c.val % 1536) (by simp only []; omega), if_neg (by omega)]

/-- The gates. -/
theorem v113 (r : Fin 32768) (o : Fin 1536) :
    val_main_v113 (F := Ideal) x0 x1 x2 (ix2 r o) = silu 0 x0 x1 x2 r (o.val / 512) (o.val % 512) := by
  have ho := o.isLt
  pointwise [val_main_v110, val_main_v111, val_main_v112, val_main_v113, val_main_call0_v0, val_main_call0_v1, val_main_call0_v2, val_main_call0_v3, val_main_call0_v4, val_main_call0_v5, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_call0_cst, val_main_call0_cst_0, val_main_c]
  rw [v19 x0 x1 x2 r _ _ _ (2048 * (o.val / 512) + 1536 + o.val % 512) rfl]
  unfold silu
  simp only [one_word]

/-- The forget logits, padded with zeros. -/
theorem v115 (h : Fin 8) (r : Fin 32768) :
    val_main_v115 (F := Ideal) x0 x1 x2 (ix2 h r) = logits 0 x0 x1 x2 h.val r := by
  pointwise [val_main_v20, val_main_v114, val_main_v115, val_main_call1_v0, val_main_c]
  unfold logits
  split
  · rw [v17]
  · show (((0#32 : BitVec 32).toInt : ℝ) : EReal) = 0
    simp

/-! The results are the formula's arrays. -/

theorem ref116 : val_main_v116 (F := Ideal) x0 x1 x2 x3 = qkvs 0 x0 x1 x2 x3 := by
  funext i
  obtain ⟨r, d, rfl⟩ : ∃ (r : Fin 32768) (d : Fin 4608), i = ix2 r d := ⟨i 0, i 1, eq_ix2 i⟩
  exact v116 x0 x1 x2 x3 r d

theorem ref113 : val_main_v113 (F := Ideal) x0 x1 x2 = gates 0 x0 x1 x2 := by
  funext i
  obtain ⟨r, d, rfl⟩ : ∃ (r : Fin 32768) (d : Fin 1536), i = ix2 r d := ⟨i 0, i 1, eq_ix2 i⟩
  exact v113 x0 x1 x2 r d

theorem ref117 : val_main_v117 (F := Ideal) x0 x1 = rows 0 x0 x1 := by
  funext i
  obtain ⟨r, d, rfl⟩ : ∃ (r : Fin 32768) (d : Fin 2048), i = ix2 r d := ⟨i 0, i 1, eq_ix2 i⟩
  exact v14 x0 x1 r d

theorem ref115 : val_main_v115 (F := Ideal) x0 x1 x2 = forgets 0 x0 x1 x2 := by
  funext i
  obtain ⟨h, r, rfl⟩ : ∃ (h : Fin 8) (r : Fin 32768), i = ix2 h r := ⟨i 0, i 1, eq_ix2 i⟩
  exact v115 x0 x1 x2 h r

end Cert.ProjRef0Ideal.AtIndex

end
-- ==== Proof.Proj0Value.lean ====
/-
  THE FIRST LAYER'S INPUT PROJECTION's four result arrays: every point's blocks of queries, keys and values and of the gate, and a row
  tile's blocks of normalised rows and forget logits, make the formula's arrays, and the plain reference ends at the same.
-/
module

public import proofs.«01_k».proof.Proof.Proj0At
public import proofs.«01_k».proof.Proof.Proj0Blocks
public import proofs.«01_k».proof.Proof.Proj0Ref
public import proofs.«01_k».proof.Proof.Gen.ProjRef0Ideal.Run
public import proofs.«01_k».proof.Defs
public import Idealize.ShloMosaic.Lib.IdealHost

@[expose] public section

noncomputable section

namespace Cert.Proj0Ideal.Final

open Cert.Proj0Ideal Cert.Proj0Ideal.Gen Cert.Proj0Ideal.Run Cert.Proj0Ideal.At Cert.Proj0Ideal.Blocks
open Idealize.ShloMosaic Idealize.ShloMosaic.TcCoe Idealize.SL.Sem
open Idealize.ShloMosaic.Pipeline (Dat)
open Cert.ProjIdeal.Sum (hn wt pj gain head elem silu logits qkvs gates forgets)

variable (m : (ℓ : Loc nD τ sig) → Buf (Elt Ideal) ℓ) (ρ : Dev nD → PrngReg) (c : Dev nD) (t : Fin cfg0.N)

/-- The arguments: the residual stream, the norm's gains, the weights and the heads' gains. -/
abbrev A0 : FVec Ideal S32768x2048 .f32 := m ((c : Thread nD τ).loc main_arg0)
abbrev A1 : FVec Ideal S2x2048 .f32 := m ((c : Thread nD τ).loc main_arg1)
abbrev A2 : FVec Ideal S2x2048x12292 .f32 := m ((c : Thread nD τ).loc main_arg2)
abbrev A3 : FVec Ideal S2x4x128 .f32 := m ((c : Thread nD τ).loc main_arg3)

/-! One point's blocks are the formula's. -/

theorem rowsOut_eq (r : Fin 512) (k : Fin 2048) : rowsOut m c t (ix2 r k) = hn 0 (A0 m c) (A1 m c) (row t r) k := by
  unfold rowsOut
  rw [rowsOut_apply]
  simp only [blk0, blk1, row_base]
  rfl

theorem rows_eq (r : Fin 512) (k : Fin 2048) : rows m c t (ix2 r k) = hn 0 (A0 m c) (A1 m c) (row t r) k := by
  refine Eq.trans ?_ (rowsOut_eq m c t r k)
  unfold rows rowsOut
  rw [rows_apply]

theorem forget_eq (h : Fin 8) (r : Fin 512) : forget m c t (ix2 h r) = logits 0 (A0 m c) (A1 m c) (A2 m c) h.val (row t r) := by
  unfold forget
  rw [forget_apply]
  have e1 := fun j => blk3 m c (base t) h j
  have e2 := fun j => rowsOut_eq m c t r j
  unfold rowsOut at e2
  simp only [e1, e2]
  unfold logits pj
  split
  · exact Finset.sum_congr rfl fun j _ => mul_comm _ _
  · exact Finset.sum_eq_zero fun j _ => zero_mul (M₀ := EReal) _

theorem prod_eq (r : Fin 512) (e : Fin 2048) :
    (k0_pay5 (rows m c t) (X0_2 m c t) : FVec Ideal S512x2048 .f32) (ix2 r e)
      = pj 0 (A0 m c) (A1 m c) (A2 m c) (row t r) (2048 * (t.val % 3) + e.val) := by
  rw [prod_apply]
  exact Finset.sum_congr rfl fun j _ => congrArg₂ (· * ·) (rows_eq m c t r j) (blk2 m c t j e)

theorem exp_pos (x : EReal) : 1 + Ideal.exp x ≠ 0 := by
  induction x with
  | bot => show (1 : EReal) + 0 ≠ 0; simp
  | top => show ((1 : ℝ) : EReal) + ⊤ ≠ 0; rw [EReal.add_top_of_ne_bot (EReal.coe_ne_bot 1)]; exact EReal.top_ne_zero
  | coe x =>
    show ((1 : ℝ) : EReal) + ((Real.exp x : ℝ) : EReal) ≠ 0
    rw [← EReal.coe_add]
    have := Real.exp_pos x
    exact EReal.coe_ne_zero.mpr (by positivity)

theorem gate_eq (r : Fin 512) (d : Fin 512) :
    gate (rows m c t) (X0_2 m c t) (ix2 r d) = silu 0 (A0 m c) (A1 m c) (A2 m c) (row t r) (t.val % 3) d.val := by
  rw [gate_apply]
  simp only [prod_eq, zero_sub]
  unfold silu
  rw [← Ideal.mul_one_div (exp_pos _)]
  simp only [add_assoc]

/-- Whether the point's branch is one of the two whose heads are normalised. -/
theorem branch_bit : Scalar.cmpi .slt (BitVec.ofNat 32 (grid0.coords t 1).val) 2#32 = if t.val % 3 < 2 then 1#1 else 0#1 := by
  have e1 : (grid0.coords t 1).val = t.val / 1 % 3 := Pipeline.Grid.coords_val t 1 (by decide) rfl
  rw [e1, Nat.div_one]
  have h : t.val % 3 < 3 := Nat.mod_lt _ (by decide)
  generalize t.val % 3 = n at h
  interval_cases n <;> rfl

theorem head_eq (r : Fin 512) (o : Fin 1536) (ho : o.val < 1024) :
    headAt (grid0.coords t) (rows m c t) (X0_2 m c t) (iblk m c 4 t) r (128 * (o.val / 128)) (by omega) ⟨o.val % 128, by omega⟩
      = elem 0 (A0 m c) (A1 m c) (A2 m c) (A3 m c) (row t r) (t.val % 3) o.val := by
  have e : (⟨128 * (o.val / 128) + o.val % 128, by omega⟩ : Fin 1536) = o := Fin.ext (Nat.div_add_mod _ _)
  unfold headAt At.piece elem
  rw [branch_bit]
  simp only [prod_eq, e, blk4 m c t o ho, Nat.div_add_mod]
  by_cases hb : t.val % 3 < 2
  · rw [if_pos hb, if_pos hb, if_pos ⟨ho, hb⟩]
    unfold head
    simp only [add_assoc, Nat.div_add_mod]
    rfl
  · rw [if_neg hb, if_neg hb, if_neg fun h => hb h.2]
    show _ * 1 * 1 = _
    rw [mul_one, mul_one]

theorem cols_eq (r : Fin 512) (o : Fin 1536) :
    cols (grid0.coords t) (rows m c t) (X0_2 m c t) (iblk m c 4 t) (ix2 r o)
      = elem 0 (A0 m c) (A1 m c) (A2 m c) (A3 m c) (row t r) (t.val % 3) o.val := by
  by_cases ho : o.val < 1024
  · exact (cols_head _ _ _ _ r o ho).trans (head_eq m c t r o ho)
  · have e : (⟨1024 + (⟨o.val - 1024, by omega⟩ : Fin 512).val, by have := o.isLt; show 1024 + (o.val - 1024) < 1536; omega⟩ : Fin 1536) = o :=
      Fin.ext (by show 1024 + (o.val - 1024) = o.val; omega)
    have h := cols_value (grid0.coords t) (rows m c t) (X0_2 m c t) (iblk m c 4 t) r ⟨o.val - 1024, by omega⟩
    rw [e] at h
    have hlt := o.isLt
    refine h.trans ?_
    have q := prod_eq m c t r ⟨1024 + (o.val - 1024), by omega⟩
    refine Eq.trans ?_ (q.trans ?_)
    · refine congrArg (k0_pay5 (rows m c t) (X0_2 m c t) : FVec Ideal S512x2048 .f32) (congrArg (ix2 r) (Fin.ext ?_))
      rfl
    · unfold elem
      rw [if_neg fun h => ho h.1]
      refine congrArg (pj 0 (A0 m c) (A1 m c) (A2 m c) (row t r)) ?_
      show 2048 * (t.val % 3) + (1024 + (o.val - 1024)) = _; omega

/-! The four arrays. -/

theorem flushed5 (hf : (cfg0.win 5).flush t = true) :
    (dats m 0 c).flushed 5 t = ((cfg0.win 5).blk t).view.read (Elt Ideal) (qkvs 0 (A0 m c) (A1 m c) (A2 m c) (A3 m c)) := by
  obtain ⟨-, -, -, -, -, ⟨e0, e1⟩, -⟩ := idx_facts t
  have hN := lt_N t
  show (cfg0.win 5).cut (grid0.coords t) ((dats m 0 c).after 5 t) = _
  rw [after5]
  funext j
  obtain ⟨r, d, rfl⟩ : ∃ (r : Fin 512) (d : Fin 1536), j = ix2 r d := ⟨j 0, j 1, eq_ix2 j⟩
  have hd := d.isLt
  show cols (grid0.coords t) (rows m c t) (X0_2 m c t) (iblk m c 4 t) (ix2 r d) = qkvs 0 _ _ _ _ (((cfg0.win 5).blk t).view.emb (ix2 r d))
  rw [cols_eq]
  show elem 0 _ _ _ _ _ _ _ = elem 0 _ _ _ _ _ _ _
  congr 1
  · apply Fin.ext
    show 512 * (t.val / 3) + r.val = win0_5.index t (0 : Fin 2) * 512 + 1 * r.val
    omega
  · show t.val % 3 = (win0_5.index t (1 : Fin 2) * 1536 + 1 * d.val) / 1536
    omega
  · show d.val = (win0_5.index t (1 : Fin 2) * 1536 + 1 * d.val) % 1536
    omega

theorem final5 : (dats m 0 c).arrAt 5 cfg0.N = qkvs 0 (A0 m c) (A1 m c) (A2 m c) (A3 m c) :=
  (dats m 0 c).arrAt_eq_of_cover 5 (qkvs 0 (A0 m c) (A1 m c) (A2 m c) (A3 m c)) (flushed5 m c) fun i => by
    have h0 : (i 0 : Nat) < 32768 := (i 0).isLt
    have h1 : (i 1 : Nat) < 4608 := (i 1).isLt
    have hN : grid0.N = 192 := N_0
    have ht : 3 * ((i 0 : Nat) / 512) + (i 1 : Nat) / 1536 < cfg0.N := by show _ < grid0.N; omega
    refine ⟨⟨3 * ((i 0 : Nat) / 512) + (i 1 : Nat) / 1536, ht⟩, flush0_5 _, ?_⟩
    generalize hte : (⟨3 * ((i 0 : Nat) / 512) + (i 1 : Nat) / 1536, ht⟩ : Fin cfg0.N) = t
    have htv : t.val = 3 * ((i 0 : Nat) / 512) + (i 1 : Nat) / 1536 := by rw [← hte]
    obtain ⟨-, -, -, -, -, ⟨e0, e1⟩, -⟩ := idx_facts t
    show i ∈ ((View.whole main_v37_0).slice (win0_5.rect t)).set
    rw [View.set_slice_whole, Rect.mem_set_unit]
    intro a
    match a with
    | ⟨0, _⟩ => show win0_5.index t (0 : Fin 2) * 512 ≤ (i 0 : Nat) ∧ (i 0 : Nat) < win0_5.index t (0 : Fin 2) * 512 + 512
                omega
    | ⟨1, _⟩ => show win0_5.index t (1 : Fin 2) * 1536 ≤ (i 1 : Nat) ∧ (i 1 : Nat) < win0_5.index t (1 : Fin 2) * 1536 + 1536
                omega

theorem flushed6 (hf : (cfg0.win 6).flush t = true) :
    (dats m 0 c).flushed 6 t = ((cfg0.win 6).blk t).view.read (Elt Ideal) (gates 0 (A0 m c) (A1 m c) (A2 m c)) := by
  obtain ⟨-, -, -, -, -, -, ⟨e0, e1⟩, -⟩ := idx_facts t
  have hN := lt_N t
  show (cfg0.win 6).cut (grid0.coords t) ((dats m 0 c).after 6 t) = _
  rw [after6]
  funext j
  obtain ⟨r, d, rfl⟩ : ∃ (r : Fin 512) (d : Fin 512), j = ix2 r d := ⟨j 0, j 1, eq_ix2 j⟩
  have hd := d.isLt
  show gate (rows m c t) (X0_2 m c t) (ix2 r d) = gates 0 _ _ _ (((cfg0.win 6).blk t).view.emb (ix2 r d))
  rw [gate_eq]
  show silu 0 _ _ _ _ _ _ = silu 0 _ _ _ _ _ _
  congr 1
  · apply Fin.ext
    show 512 * (t.val / 3) + r.val = win0_6.index t (0 : Fin 2) * 512 + 1 * r.val
    omega
  · show t.val % 3 = (win0_6.index t (1 : Fin 2) * 512 + 1 * d.val) / 512
    omega
  · show d.val = (win0_6.index t (1 : Fin 2) * 512 + 1 * d.val) % 512
    omega

theorem final6 : (dats m 0 c).arrAt 6 cfg0.N = gates 0 (A0 m c) (A1 m c) (A2 m c) :=
  (dats m 0 c).arrAt_eq_of_cover 6 (gates 0 (A0 m c) (A1 m c) (A2 m c)) (flushed6 m c) fun i => by
    have h0 : (i 0 : Nat) < 32768 := (i 0).isLt
    have h1 : (i 1 : Nat) < 1536 := (i 1).isLt
    have hN : grid0.N = 192 := N_0
    have ht : 3 * ((i 0 : Nat) / 512) + (i 1 : Nat) / 512 < cfg0.N := by show _ < grid0.N; omega
    refine ⟨⟨3 * ((i 0 : Nat) / 512) + (i 1 : Nat) / 512, ht⟩, flush0_6 _, ?_⟩
    generalize hte : (⟨3 * ((i 0 : Nat) / 512) + (i 1 : Nat) / 512, ht⟩ : Fin cfg0.N) = t
    have htv : t.val = 3 * ((i 0 : Nat) / 512) + (i 1 : Nat) / 512 := by rw [← hte]
    obtain ⟨-, -, -, -, -, -, ⟨e0, e1⟩, -⟩ := idx_facts t
    show i ∈ ((View.whole main_v37_1).slice (win0_6.rect t)).set
    rw [View.set_slice_whole, Rect.mem_set_unit]
    intro a
    match a with
    | ⟨0, _⟩ => show win0_6.index t (0 : Fin 2) * 512 ≤ (i 0 : Nat) ∧ (i 0 : Nat) < win0_6.index t (0 : Fin 2) * 512 + 512
                omega
    | ⟨1, _⟩ => show win0_6.index t (1 : Fin 2) * 512 ≤ (i 1 : Nat) ∧ (i 1 : Nat) < win0_6.index t (1 : Fin 2) * 512 + 512
                omega

theorem flushed7 (hf : (cfg0.win 7).flush t = true) :
    (dats m 0 c).flushed 7 t = ((cfg0.win 7).blk t).view.read (Elt Ideal) (Cert.ProjIdeal.Sum.rows 0 (A0 m c) (A1 m c)) := by
  obtain ⟨-, -, -, -, -, -, -, ⟨e0, e1⟩, -⟩ := idx_facts t
  have hN := lt_N t
  show (cfg0.win 7).cut (grid0.coords t) ((dats m 0 c).after 7 t) = _
  rw [after7]
  funext j
  obtain ⟨r, d, rfl⟩ : ∃ (r : Fin 512) (d : Fin 2048), j = ix2 r d := ⟨j 0, j 1, eq_ix2 j⟩
  show rowsOut m c t (ix2 r d) = Cert.ProjIdeal.Sum.rows 0 _ _ (((cfg0.win 7).blk t).view.emb (ix2 r d))
  rw [rowsOut_eq]
  show hn 0 _ _ _ _ = hn 0 _ _ _ _
  congr 1
  · apply Fin.ext
    show 512 * (t.val / 3) + r.val = win0_7.index t (0 : Fin 2) * 512 + 1 * r.val
    omega
  · apply Fin.ext
    show d.val = win0_7.index t (1 : Fin 2) * 2048 + 1 * d.val
    omega

theorem final7 : (dats m 0 c).arrAt 7 cfg0.N = Cert.ProjIdeal.Sum.rows 0 (A0 m c) (A1 m c) :=
  (dats m 0 c).arrAt_eq_of_cover 7 (Cert.ProjIdeal.Sum.rows 0 (A0 m c) (A1 m c)) (flushed7 m c) fun i => by
    have h0 : (i 0 : Nat) < 32768 := (i 0).isLt
    have h1 : (i 1 : Nat) < 2048 := (i 1).isLt
    have hN : grid0.N = 192 := N_0
    have ht : 3 * ((i 0 : Nat) / 512) + 2 < cfg0.N := by show _ < grid0.N; omega
    refine ⟨⟨3 * ((i 0 : Nat) / 512) + 2, ht⟩, (flush0_7 _).mpr (by show (3 * ((i 0 : Nat) / 512) + 2) % 3 = 2; omega), ?_⟩
    generalize hte : (⟨3 * ((i 0 : Nat) / 512) + 2, ht⟩ : Fin cfg0.N) = t
    have htv : t.val = 3 * ((i 0 : Nat) / 512) + 2 := by rw [← hte]
    obtain ⟨-, -, -, -, -, -, -, ⟨e0, e1⟩, -⟩ := idx_facts t
    show i ∈ ((View.whole main_v37_2).slice (win0_7.rect t)).set
    rw [View.set_slice_whole, Rect.mem_set_unit]
    intro a
    match a with
    | ⟨0, _⟩ => show win0_7.index t (0 : Fin 2) * 512 ≤ (i 0 : Nat) ∧ (i 0 : Nat) < win0_7.index t (0 : Fin 2) * 512 + 512
                omega
    | ⟨1, _⟩ => show win0_7.index t (1 : Fin 2) * 2048 ≤ (i 1 : Nat) ∧ (i 1 : Nat) < win0_7.index t (1 : Fin 2) * 2048 + 2048
                omega

theorem flushed8 (hf : (cfg0.win 8).flush t = true) :
    (dats m 0 c).flushed 8 t = ((cfg0.win 8).blk t).view.read (Elt Ideal) (forgets 0 (A0 m c) (A1 m c) (A2 m c)) := by
  obtain ⟨-, -, -, -, -, -, -, -, e0, e1⟩ := idx_facts t
  have hN := lt_N t
  show (cfg0.win 8).cut (grid0.coords t) ((dats m 0 c).after 8 t) = _
  rw [after8]
  funext j
  obtain ⟨r, d, rfl⟩ : ∃ (r : Fin 8) (d : Fin 512), j = ix2 r d := ⟨j 0, j 1, eq_ix2 j⟩
  show forget m c t (ix2 r d) = forgets 0 _ _ _ (((cfg0.win 8).blk t).view.emb (ix2 r d))
  rw [forget_eq]
  show logits 0 _ _ _ _ _ = logits 0 _ _ _ _ _
  congr 1
  · show r.val = win0_8.index t (0 : Fin 2) * 8 + 1 * r.val
    omega
  · apply Fin.ext
    show 512 * (t.val / 3) + d.val = win0_8.index t (1 : Fin 2) * 512 + 1 * d.val
    omega

theorem final8 : (dats m 0 c).arrAt 8 cfg0.N = forgets 0 (A0 m c) (A1 m c) (A2 m c) :=
  (dats m 0 c).arrAt_eq_of_cover 8 (forgets 0 (A0 m c) (A1 m c) (A2 m c)) (flushed8 m c) fun i => by
    have h0 : (i 0 : Nat) < 8 := (i 0).isLt
    have h1 : (i 1 : Nat) < 32768 := (i 1).isLt
    have hN : grid0.N = 192 := N_0
    have ht : 3 * ((i 1 : Nat) / 512) + 2 < cfg0.N := by show _ < grid0.N; omega
    refine ⟨⟨3 * ((i 1 : Nat) / 512) + 2, ht⟩, (flush0_8 _).mpr (by show (3 * ((i 1 : Nat) / 512) + 2) % 3 = 2; omega), ?_⟩
    generalize hte : (⟨3 * ((i 1 : Nat) / 512) + 2, ht⟩ : Fin cfg0.N) = t
    have htv : t.val = 3 * ((i 1 : Nat) / 512) + 2 := by rw [← hte]
    obtain ⟨-, -, -, -, -, -, -, -, e0, e1⟩ := idx_facts t
    show i ∈ ((View.whole main_v37_3).slice (win0_8.rect t)).set
    rw [View.set_slice_whole, Rect.mem_set_unit]
    intro a
    match a with
    | ⟨0, _⟩ => show win0_8.index t (0 : Fin 2) * 8 ≤ (i 0 : Nat) ∧ (i 0 : Nat) < win0_8.index t (0 : Fin 2) * 8 + 8
                omega
    | ⟨1, _⟩ => show win0_8.index t (1 : Fin 2) * 512 ≤ (i 1 : Nat) ∧ (i 1 : Nat) < win0_8.index t (1 : Fin 2) * 512 + 512
                omega

/-- The run ends at the four arrays, the arguments unchanged. -/
theorem run_values : θ_run defs (onTc (τ := τ) (main (F := Ideal))) ⟨m, fun _ => 0, ρ⟩ fun r => ∀ c : Dev nD,
      (r.2.mem ((c : Thread nD τ).loc main_v37_0) = qkvs 0 (A0 m c) (A1 m c) (A2 m c) (A3 m c)
      ∧ r.2.mem ((c : Thread nD τ).loc main_v37_1) = gates 0 (A0 m c) (A1 m c) (A2 m c)
      ∧ r.2.mem ((c : Thread nD τ).loc main_v37_2) = Cert.ProjIdeal.Sum.rows 0 (A0 m c) (A1 m c)
      ∧ r.2.mem ((c : Thread nD τ).loc main_v37_3) = forgets 0 (A0 m c) (A1 m c) (A2 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨⟨?_, ?_, ?_, ?_⟩, h.2.1 c⟩) (θ_run_and (run_post m ρ) (frame_run m ρ))
  · exact ((h.1 c).1 5).trans (final5 m c)
  · exact ((h.1 c).1 6).trans (final6 m c)
  · exact ((h.1 c).1 7).trans (final7 m c)
  · exact ((h.1 c).1 8).trans (final8 m c)

end Cert.Proj0Ideal.Final

namespace Cert.Proof.Proj0Claims

open Idealize.ShloMosaic Idealize.SL.Sem

theorem frame_ref : Cert.quiescent_ProjRef0Ideal := fun m ρ _ =>
  (θ_run Cert.ProjRef0Ideal.defs _ _).mono
    (fun r h => ⟨fun c => (h c).2.2.2.2, Idealize.ShloMosaic.sem_eq_zero_of_no_sems (by decide) r.2⟩)
    (Cert.ProjRef0Ideal.Value.run (F := Ideal) m ρ)

open Cert.ProjRef0Ideal.Read Cert.ProjRef0Ideal.AtIndex Cert.Proj0Ideal.Final in
/-- Over the extended reals the input projection's kernel and its plain reference end at the same four arrays. -/
theorem algebraic : Cert.algebraic_Proj0Ideal_ProjRef0Ideal := by
  intro m ρ m' ρ' _ hag
  refine ⟨fun c => Cert.ProjIdeal.Sum.qkvs 0 (A0 m c) (A1 m c) (A2 m c) (A3 m c), fun c => Cert.ProjIdeal.Sum.gates 0 (A0 m c) (A1 m c) (A2 m c),
    fun c => Cert.ProjIdeal.Sum.rows 0 (A0 m c) (A1 m c), fun c => Cert.ProjIdeal.Sum.forgets 0 (A0 m c) (A1 m c) (A2 m c), ?_, ?_⟩
  · exact (θ_run Cert.Proj0Ideal.defs _ _).mono (fun _ h c => ⟨(h c).1.1, (h c).1.2.1, (h c).1.2.2.1, (h c).1.2.2.2, (h c).2⟩)
      (Cert.Proj0Ideal.Final.run_values m ρ)
  · refine (θ_run Cert.ProjRef0Ideal.defs _ _).mono
      (fun _ h c => ⟨(h c).1.trans ?_, (h c).2.1.trans ?_, (h c).2.2.1.trans ?_, (h c).2.2.2.1.trans ?_, (h c).2.2.2.2⟩)
      (Cert.ProjRef0Ideal.Value.run (F := Ideal) m' ρ')
    all_goals obtain ⟨a0, a1, a2, a3⟩ := hag c
    · refine (val_main_v116_eq m' c).trans ?_
      rw [a0, a1, a2, a3]
      exact ref116 _ _ _ _
    · rw [a0, a1, a2]
      exact (val_main_v113_eq _ _ _).trans (ref113 _ _ _)
    · rw [a0, a1]
      exact (val_main_v117_eq _ _).trans (ref117 _ _)
    · rw [a0, a1, a2]
      exact (val_main_v115_eq _ _ _).trans (ref115 _ _ _)

end Cert.Proof.Proj0Claims

end
-- ==== Proof.lean ====
/-
  The certificate: each claim from the module that proves it.
-/
module

public import proofs.«01_k».proof.Proof.Gen.KernelIdeal.Value
public import proofs.«01_k».proof.Proof.Gen.TailIdeal.Value
public import proofs.«01_k».proof.Proof.Gen.TailRefIdeal.Run
public import proofs.«01_k».proof.Proof.Gen.TailRefIdeal.Read
public import proofs.«01_k».proof.Proof.TailValue
public import proofs.«01_k».proof.Proof.Tail0Value
public import proofs.«01_k».proof.Proof.ChunkValue
public import proofs.«01_k».proof.Proof.ProjBitsRun
public import proofs.«01_k».proof.Proof.ProjValue
public import proofs.«01_k».proof.Proof.Proj0BitsRun
public import proofs.«01_k».proof.Proof.Proj0Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_logits
public import proofs.«01_k».proof.Proof.Gen.Proj
public import proofs.«01_k».proof.Proof.Gen.Proj0
public import proofs.«01_k».proof.Proof.Gen.Proj.Skeleton
public import proofs.«01_k».proof.Proof.Gen.Proj0.Skeleton
public import proofs.«01_k».proof.Proof.Gen.Proj.Launch
public import proofs.«01_k».proof.Proof.Gen.Proj0.Launch
public import proofs.«01_k».proof.Proof.Gen.Proj.Points
public import proofs.«01_k».proof.Proof.Gen.Proj0.Points
public import proofs.«01_k».proof.Proof.Gen.Proj.Frame
public import proofs.«01_k».proof.Proof.Gen.Proj0.Frame
public import proofs.«01_k».proof.Proof.Gen.ProjIdeal
public import proofs.«01_k».proof.Proof.Gen.Proj0Ideal
public import proofs.«01_k».proof.Proof.Gen.ProjIdeal.Skeleton
public import proofs.«01_k».proof.Proof.Gen.Proj0Ideal.Skeleton
public import proofs.«01_k».proof.Proof.Gen.ProjIdeal.Launch
public import proofs.«01_k».proof.Proof.Gen.Proj0Ideal.Launch
public import proofs.«01_k».proof.Proof.Gen.ProjIdeal.Points
public import proofs.«01_k».proof.Proof.Gen.Proj0Ideal.Points
public import proofs.«01_k».proof.Proof.Gen.ProjIdeal.Frame
public import proofs.«01_k».proof.Proof.Gen.Proj0Ideal.Frame
public import proofs.«01_k».proof.Proof.Gen.ProjRefIdeal
public import proofs.«01_k».proof.Proof.Gen.ProjRef0Ideal
public import proofs.«01_k».proof.Proof.Gen.ProjRefIdeal.Run
public import proofs.«01_k».proof.Proof.Gen.ProjRef0Ideal.Run
public import proofs.«01_k».proof.Proof.Gen.ProjRefIdeal.Read
public import proofs.«01_k».proof.Proof.Gen.ProjRef0Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Tail
public import proofs.«01_k».proof.Proof.Gen.Tail0
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.Tail0.Frame
public import proofs.«01_k».proof.Proof.Gen.TailIdeal
public import proofs.«01_k».proof.Proof.Gen.Tail0Ideal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.Tail0Ideal.Frame
public import proofs.«01_k».proof.Proof.Gen.TailRefIdeal
public import proofs.«01_k».proof.Proof.Gen.TailRef0Ideal
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Gen.frame m ρ
theorem frame_kernelIdeal : Cert.quiescent_KernelIdeal := fun m ρ _ => Cert.KernelIdeal.Gen.frame m ρ
theorem frame_tail : Cert.quiescent_Tail := fun m ρ _ => Cert.Tail.Gen.frame m ρ
theorem frame_tailIdeal : Cert.quiescent_TailIdeal := fun m ρ _ => Cert.TailIdeal.Gen.frame m ρ

/-- The chunked attention's named constants: each word's real is the one its name stands for. -/
theorem preserves_kernel : Cert.preserves_Kernel_KernelIdeal :=
  ⟨IdealRules.named_const.statement Cert.KernelIdeal.κ "scale2" .f32 0x3E0293EE#32 _ rfl,
   IdealRules.named_const.statement Cert.KernelIdeal.κ "log2e" .f32 0x3FB8AA3B#32 _ rfl,
   IdealRules.named_const.statement Cert.KernelIdeal.κ "mask" .f32 0xF149F2CA#32 _ rfl⟩

theorem frame_tail0 : Cert.quiescent_Tail0 := fun m ρ _ => Cert.Tail0.Gen.frame m ρ
theorem frame_tail0Ideal : Cert.quiescent_Tail0Ideal := fun m ρ _ => Cert.Tail0Ideal.Gen.frame m ρ
theorem preserves_tail0 : Cert.preserves_Tail0_Tail0Ideal := trivial
theorem preserves_tail : Cert.preserves_Tail_TailIdeal := trivial

theorem frame_proj : Cert.quiescent_Proj := fun m ρ _ => Cert.Proj.Run.frame_run m ρ
theorem frame_projIdeal : Cert.quiescent_ProjIdeal := fun m ρ _ => Cert.ProjIdeal.Run.frame_run m ρ
theorem preserves_proj : Cert.preserves_Proj_ProjIdeal := trivial

theorem frame_proj0 : Cert.quiescent_Proj0 := fun m ρ _ => Cert.Proj0.Run.frame_run m ρ
theorem frame_proj0Ideal : Cert.quiescent_Proj0Ideal := fun m ρ _ => Cert.Proj0Ideal.Run.frame_run m ρ
theorem preserves_proj0 : Cert.preserves_Proj0_Proj0Ideal := trivial

theorem claim : Cert.Claim :=
  ⟨Cert.Kernel.Gen.facts, Cert.KernelIdeal.Gen.facts, Cert.ReferenceIdeal.Gen.facts, Cert.Tail.Gen.facts, Cert.TailIdeal.Gen.facts,
    Cert.TailRefIdeal.Gen.facts, Cert.Tail0.Gen.facts, Cert.Tail0Ideal.Gen.facts, Cert.TailRef0Ideal.Gen.facts,
    Cert.Proj.Gen.facts, Cert.ProjIdeal.Gen.facts, Cert.ProjRefIdeal.Gen.facts, Cert.Proj0.Gen.facts, Cert.Proj0Ideal.Gen.facts,
    Cert.ProjRef0Ideal.Gen.facts, Cert.Pre_finite_logits.Gen.facts,
    frame_kernel, frame_kernelIdeal, fun m ρ _ => Cert.KernelIdeal.Gen.frame m ρ,
    ChunkClaims.frame_ref, fun m ρ _ => ChunkClaims.frame_ref m ρ trivial,
    frame_tail, frame_tailIdeal, TailClaims.frame_ref,
    frame_tail0, frame_tail0Ideal, Tail0Claims.frame_ref,
    frame_proj, frame_projIdeal, ProjClaims.frame_ref,
    frame_proj0, frame_proj0Ideal, Proj0Claims.frame_ref,
    preserves_kernel, ChunkClaims.algebraic, preserves_tail, TailClaims.algebraic,
    preserves_tail0, Tail0Claims.algebraic,
    preserves_proj, ProjClaims.algebraic,
    preserves_proj0, Proj0Claims.algebraic⟩

end Cert.Proof

end
